-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_routed : Cert.Pre_routed.Facts] (m : (ℓ : Loc Cert.Kernel3.nD Cert.Kernel3.τ Cert.Kernel3.sig) → Buf (Elt Bits) ℓ) : Prop :=
  ∀ c : Dev Cert.Kernel3.nD,
    (Cert.Pre_routed.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6)) (m ((c.tc : Thread Cert.Kernel3.nD Cert.Kernel3.τ).loc Cert.Kernel3.main_arg7)) (m ((c.tc : Thread Cert.Kernel3.nD Cert.Kernel3.τ).loc Cert.Kernel3.main_arg8))).1 = (fun _ => 1#1)
    ∧ (Cert.Pre_routed.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6)) (m ((c.tc : Thread Cert.Kernel3.nD Cert.Kernel3.τ).loc Cert.Kernel3.main_arg7)) (m ((c.tc : Thread Cert.Kernel3.nD Cert.Kernel3.τ).loc Cert.Kernel3.main_arg8))).2 = (fun _ => 1#1)

def Pre_Kernel3Ideal [hPre_routed : Cert.Pre_routed.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_routed.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).1 = (fun _ => 1#1)
    ∧ (Cert.Pre_routed.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_routed [hPre_routed : Cert.Pre_routed.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_routed.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).1 = (fun _ => 1#1)
    ∧ (Cert.Pre_routed.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite_keys [hPre_finite_keys : Cert.Pre_finite_keys.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite_keys.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite_keys [hPre_finite_keys : Cert.Pre_finite_keys.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite_keys.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] [hPre_routed : Cert.Pre_routed.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] [hPre_routed : Cert.Pre_routed.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Reference3Ideal_pre_routed [hReference3Ideal : Cert.Reference3Ideal.Facts] [hPre_routed : Cert.Pre_routed.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_routed m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Kernel9Ideal_pre_finite_keys [hKernel9Ideal : Cert.Kernel9Ideal.Facts] [hPre_finite_keys : Cert.Pre_finite_keys.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite_keys m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Reference9Ideal_pre_finite_keys [hReference9Ideal : Cert.Reference9Ideal.Facts] [hPre_finite_keys : Cert.Pre_finite_keys.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite_keys m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v22_0)) (v1 : (c : Dev Cert.Kernel2Ideal.nD) → Buf (Elt Ideal) ((c.tc : Thread Cert.Kernel2Ideal.nD Cert.Kernel2Ideal.τ).loc Cert.Kernel2Ideal.main_v22_1)) (v2 : (c : Dev Cert.Kernel2Ideal.nD) → Buf (Elt Ideal) ((c.tc : Thread Cert.Kernel2Ideal.nD Cert.Kernel2Ideal.τ).loc Cert.Kernel2Ideal.main_v22_2)) (v3 : (c : Dev Cert.Kernel2Ideal.nD) → Buf (Elt Ideal) ((c.tc : Thread Cert.Kernel2Ideal.nD Cert.Kernel2Ideal.τ).loc Cert.Kernel2Ideal.main_v22_3)) (v4 : (c : Dev Cert.Kernel2Ideal.nD) → Buf (Elt Ideal) ((c.tc : Thread Cert.Kernel2Ideal.nD Cert.Kernel2Ideal.τ).loc Cert.Kernel2Ideal.main_v22_4)) (v5 : (c : Dev Cert.Kernel2Ideal.nD) → Buf (Elt Ideal) ((c.tc : Thread Cert.Kernel2Ideal.nD Cert.Kernel2Ideal.τ).loc Cert.Kernel2Ideal.main_v22_5)) (v6 : (c : Dev Cert.Kernel2Ideal.nD) → Buf (Elt Ideal) ((c.tc : Thread Cert.Kernel2Ideal.nD Cert.Kernel2Ideal.τ).loc Cert.Kernel2Ideal.main_v22_6)) (v7 : (c : Dev Cert.Kernel2Ideal.nD) → Buf (Elt Ideal) ((c.tc : Thread Cert.Kernel2Ideal.nD Cert.Kernel2Ideal.τ).loc Cert.Kernel2Ideal.main_v22_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v22_0) = v0 c
          ∧ r.2.mem ((c.tc : Thread Cert.Kernel2Ideal.nD Cert.Kernel2Ideal.τ).loc Cert.Kernel2Ideal.main_v22_1) = v1 c
          ∧ r.2.mem ((c.tc : Thread Cert.Kernel2Ideal.nD Cert.Kernel2Ideal.τ).loc Cert.Kernel2Ideal.main_v22_2) = v2 c
          ∧ r.2.mem ((c.tc : Thread Cert.Kernel2Ideal.nD Cert.Kernel2Ideal.τ).loc Cert.Kernel2Ideal.main_v22_3) = v3 c
          ∧ r.2.mem ((c.tc : Thread Cert.Kernel2Ideal.nD Cert.Kernel2Ideal.τ).loc Cert.Kernel2Ideal.main_v22_4) = v4 c
          ∧ r.2.mem ((c.tc : Thread Cert.Kernel2Ideal.nD Cert.Kernel2Ideal.τ).loc Cert.Kernel2Ideal.main_v22_5) = v5 c
          ∧ r.2.mem ((c.tc : Thread Cert.Kernel2Ideal.nD Cert.Kernel2Ideal.τ).loc Cert.Kernel2Ideal.main_v22_6) = v6 c
          ∧ r.2.mem ((c.tc : Thread Cert.Kernel2Ideal.nD Cert.Kernel2Ideal.τ).loc Cert.Kernel2Ideal.main_v22_7) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_v21) = v1 c
          ∧ r.2.mem ((c.tc : Thread Cert.Reference2Ideal.nD Cert.Reference2Ideal.τ).loc Cert.Reference2Ideal.main_v24) = v2 c
          ∧ r.2.mem ((c.tc : Thread Cert.Reference2Ideal.nD Cert.Reference2Ideal.τ).loc Cert.Reference2Ideal.main_v25) = v3 c
          ∧ r.2.mem ((c.tc : Thread Cert.Reference2Ideal.nD Cert.Reference2Ideal.τ).loc Cert.Reference2Ideal.main_v26) = v4 c
          ∧ r.2.mem ((c.tc : Thread Cert.Reference2Ideal.nD Cert.Reference2Ideal.τ).loc Cert.Reference2Ideal.main_v28) = v5 c
          ∧ r.2.mem ((c.tc : Thread Cert.Reference2Ideal.nD Cert.Reference2Ideal.τ).loc Cert.Reference2Ideal.main_v29) = v6 c
          ∧ r.2.mem ((c.tc : Thread Cert.Reference2Ideal.nD Cert.Reference2Ideal.τ).loc Cert.Reference2Ideal.main_v31) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] [hPre_routed : Cert.Pre_routed.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v73) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0_0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v19_4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v19_4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v17) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v0_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def preserves_Kernel9_Kernel9Ideal : Prop :=
  True

def algebraic_Kernel9Ideal_Reference9Ideal_pre_finite_keys [hKernel9Ideal : Cert.Kernel9Ideal.Facts] [hReference9Ideal : Cert.Reference9Ideal.Facts] [hPre_finite_keys : Cert.Pre_finite_keys.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite_keys m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v10_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v10_3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v15) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hPre_routed : Cert.Pre_routed.Facts) (hPre_finite_keys : Cert.Pre_finite_keys.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_routed := hPre_routed)
    ∧ quiescent_Kernel3Ideal (hKernel3Ideal := hKernel3Ideal) (hPre_routed := hPre_routed)
    ∧ quiescent_Reference3Ideal (hReference3Ideal := hReference3Ideal)
    ∧ quiescent_Reference3Ideal_pre_routed (hReference3Ideal := hReference3Ideal) (hPre_routed := hPre_routed)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite_keys (hKernel9Ideal := hKernel9Ideal) (hPre_finite_keys := hPre_finite_keys)
    ∧ quiescent_Reference9Ideal (hReference9Ideal := hReference9Ideal)
    ∧ quiescent_Reference9Ideal_pre_finite_keys (hReference9Ideal := hReference9Ideal) (hPre_finite_keys := hPre_finite_keys)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_routed := hPre_routed)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite_keys (hKernel9Ideal := hKernel9Ideal) (hReference9Ideal := hReference9Ideal) (hPre_finite_keys := hPre_finite_keys)
-- ==== Pre_finite.lean ====
abbrev S8x1024x2304 : Shape := ⟨3, ![8, 1024, 2304]⟩
abbrev S8x2304x1024 : Shape := ⟨3, ![8, 2304, 1024]⟩
abbrev S8x512x2304 : Shape := ⟨3, ![8, 512, 2304]⟩
abbrev S_ : Shape := ⟨0, ![]⟩

class Facts : Prop where
  bitsLt_bf16_f32 : FTy.bits .bf16 < FTy.bits .f32
  bcast_S_S8x1024x2304 : S_.BroadcastsInDim S8x1024x2304 (![] : Fin 0 → Fin S8x1024x2304.rank)
  bcast_S_S8x2304x1024 : S_.BroadcastsInDim S8x2304x1024 (![] : Fin 0 → Fin S8x2304x1024.rank)

variable [Facts]

def fn {F : FTy → Type} [FloatOps F] (main_arg0 : FVec F S8x1024x2304 .bf16) (main_arg1 : FVec F S8x2304x1024 .bf16) (main_arg2 : FVec F S8x512x2304 .bf16) : IVec S8x1024x2304 1 × IVec S8x2304x1024 1 :=
  let main_v0 : FVec F S8x1024x2304 .f32 := (extf .f32 · bitsLt_bf16_f32) main_arg0
  let main_v1 : FVec F S8x1024x2304 .f32 := Host.absf main_v0
  let main_cst : FVec F S_ .f32 := constant S_ .f32 0x7F800000#32
  let main_v2 : FVec F S8x1024x2304 .f32 := broadcastInDim S8x1024x2304 ![] bcast_S_S8x1024x2304 main_cst
  let main_v3 : IVec S8x1024x2304 1 := cmpf .olt main_v1 main_v2
  let main_v4 : FVec F S8x2304x1024 .f32 := (extf .f32 · bitsLt_bf16_f32) main_arg1
  let main_v5 : FVec F S8x2304x1024 .f32 := Host.absf main_v4
  let main_cst_0 : FVec F S_ .f32 := constant S_ .f32 0x7F800000#32
  let main_v6 : FVec F S8x2304x1024 .f32 := broadcastInDim S8x2304x1024 ![] bcast_S_S8x2304x1024 main_cst_0
  let main_v7 : IVec S8x2304x1024 1 := cmpf .olt main_v5 main_v6
  (main_v3, main_v7)
-- ==== Pre_finite_keys.lean ====
abbrev S8x2064x512 : Shape := ⟨3, ![8, 2064, 512]⟩
abbrev S8x2304x128 : Shape := ⟨3, ![8, 2304, 128]⟩
abbrev S1x64 : Shape := ⟨2, ![1, 64]⟩
abbrev S_ : Shape := ⟨0, ![]⟩

class Facts : Prop where
  bcast_S_S8x2064x512 : S_.BroadcastsInDim S8x2064x512 (![] : Fin 0 → Fin S8x2064x512.rank)

variable [Facts]

def fn {F : FTy → Type} [FloatOps F] (main_arg0 : FVec F S8x2064x512 .f32) (main_arg1 : FVec F S8x2064x512 .f32) (main_arg2 : FVec F S8x2064x512 .f32) (main_arg3 : FVec F S8x2304x128 .f32) (main_arg4 : FVec F S1x64 .f32) (main_arg5 : FVec F S1x64 .f32) : IVec S8x2064x512 1 :=
  let main_v0 : FVec F S8x2064x512 .f32 := Host.absf main_arg1
  let main_cst : FVec F S_ .f32 := constant S_ .f32 0x7F800000#32
  let main_v1 : FVec F S8x2064x512 .f32 := broadcastInDim S8x2064x512 ![] bcast_S_S8x2064x512 main_cst
  let main_v2 : IVec S8x2064x512 1 := cmpf .olt main_v0 main_v1
  main_v2
-- ==== Pre_routed.lean ====
abbrev S162 : Shape := ⟨1, ![162]⟩
abbrev S1 : Shape := ⟨1, ![1]⟩
abbrev S82944x1024 : Shape := ⟨2, ![82944, 1024]⟩
abbrev S32x1024x1024 : Shape := ⟨3, ![32, 1024, 1024]⟩
abbrev S32x1x1024 : Shape := ⟨3, ![32, 1, 1024]⟩
abbrev S_ : Shape := ⟨0, ![]⟩

class Facts : Prop where
  bcast_S_S162 : S_.BroadcastsInDim S162 (![] : Fin 0 → Fin S162.rank)
  bcast_S_S1 : S_.BroadcastsInDim S1 (![] : Fin 0 → Fin S1.rank)

variable [Facts]

def fn {F : FTy → Type} [FloatOps F] (main_arg0 : IVec S162 32) (main_arg1 : IVec S1 32) (main_arg2 : FVec F S82944x1024 .f32) (main_arg3 : FVec F S32x1024x1024 .f32) (main_arg4 : FVec F S32x1x1024 .f32) (main_arg5 : FVec F S32x1024x1024 .f32) (main_arg6 : FVec F S32x1x1024 .f32) (main_arg7 : FVec F S32x1024x1024 .f32) (main_arg8 : FVec F S32x1x1024 .f32) : IVec S162 1 × IVec S1 1 :=
  let main_c : IVec S_ 32 := constantI S_ 32 0#32
  let main_v0 : IVec S162 32 := broadcastInDim S162 ![] bcast_S_S162 main_c
  let main_v1 : IVec S162 1 := cmpi .sge main_arg0 main_v0
  let main_c_0 : IVec S_ 32 := constantI S_ 32 32#32
  let main_v2 : IVec S162 32 := broadcastInDim S162 ![] bcast_S_S162 main_c_0
  let main_v3 : IVec S162 1 := cmpi .slt main_arg0 main_v2
  let main_v4 : IVec S162 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  (main_v4, main_v6)
-- ==== Kernel.lean ====
abbrev S8x1024x2304 : Shape := ⟨3, ![8, 1024, 2304]⟩
abbrev S8x2304x1024 : Shape := ⟨3, ![8, 2304, 1024]⟩
abbrev S8x512x2304 : Shape := ⟨3, ![8, 512, 2304]⟩
abbrev S8x2304x512 : Shape := ⟨3, ![8, 2304, 512]⟩
abbrev S1x1024x256 : Shape := ⟨3, ![1, 1024, 256]⟩
abbrev S1x2304x1024 : Shape := ⟨3, ![1, 2304, 1024]⟩
abbrev S1x512x2304 : Shape := ⟨3, ![1, 512, 2304]⟩
abbrev S1x256x512 : Shape := ⟨3, ![1, 256, 512]⟩
abbrev S256x256 : Shape := ⟨2, ![256, 256]⟩
abbrev S1x256 : Shape := ⟨2, ![1, 256]⟩
abbrev S64x256 : Shape := ⟨2, ![64, 256]⟩
abbrev S1x256x128 : Shape := ⟨3, ![1, 256, 128]⟩
abbrev S256x128 : Shape := ⟨2, ![256, 128]⟩
abbrev S1x128x256 : Shape := ⟨3, ![1, 128, 256]⟩
abbrev S128x256 : Shape := ⟨2, ![128, 256]⟩
abbrev S256 : Shape := ⟨1, ![256]⟩
abbrev S1x64x256 : Shape := ⟨3, ![1, 64, 256]⟩

abbrev nBuf : Space → Nat
  | .hbm => 4
  | .vmem => 8
  | .smem => 0
  | _ => 0

abbrev bufTy : (tb : Table) → Fin (tcTables nBuf tb) → BufTy
  | .hbm, ⟨0, _⟩ => ⟨S8x1024x2304, .bf16⟩
  | .hbm, ⟨1, _⟩ => ⟨S8x2304x1024, .bf16⟩
  | .hbm, ⟨2, _⟩ => ⟨S8x512x2304, .bf16⟩
  | .hbm, ⟨3, _⟩ => ⟨S8x2304x512, .bf16⟩
  | .local _ .vmem, ⟨0, _⟩ => ⟨S1x1024x256, .bf16⟩
  | .local _ .vmem, ⟨1, _⟩ => ⟨S1x1024x256, .bf16⟩
  | .local _ .vmem, ⟨2, _⟩ => ⟨S1x2304x1024, .bf16⟩
  | .local _ .vmem, ⟨3, _⟩ => ⟨S1x2304x1024, .bf16⟩
  | .local _ .vmem, ⟨4, _⟩ => ⟨S1x512x2304, .bf16⟩
  | .local _ .vmem, ⟨5, _⟩ => ⟨S1x512x2304, .bf16⟩
  | .local _ .vmem, ⟨6, _⟩ => ⟨S1x256x512, .bf16⟩
  | .local _ .vmem, ⟨7, _⟩ => ⟨S1x256x512, .bf16⟩
  | _, _ => ⟨S8x1024x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 9], ![false, false]⟩

@[reducible] def k0_t1_loop (i : grid0.Coords) : Scf.Loop 32 :=
  let c0_i32 : BitVec 32 := 0#32
  let arg1 : BitVec 32 := BitVec.ofNat 32 (i 1).val
  let v27 : BitVec 32 := Scalar.subi arg1 c0_i32
  let c1_i32 : BitVec 32 := 1#32
  let v29 : BitVec 32 := Scalar.divsi v27 c1_i32
  let v30 : BitVec 32 := Scalar.muli v29 c1_i32
  let v31 : BitVec 32 := Scalar.addi c0_i32 v30
  let c1_i32_23 : BitVec 32 := 1#32
  ⟨c0_i32, v31, c1_i32_23⟩
def k0_mult1 (i : grid0.Coords) (k0_t1 : Fin (k0_t1_loop i).trips) : BitVec 32 :=
  let c0_i32 : BitVec 32 := 0#32
  let c1_i32_23 : BitVec 32 := 1#32
  let arg6 : BitVec 32 := Scf.iv c0_i32 c1_i32_23 k0_t1
  let c256_i32_129 : BitVec 32 := 256#32
  let v316 : BitVec 32 := Scalar.muli arg6 c256_i32_129
  v316
def k0_off1 (i : grid0.Coords) (k0_t1 : Fin (k0_t1_loop i).trips) : Fin 3 → Nat :=
  let c0_130 : Index := 0#32
  let c0_i32 : BitVec 32 := 0#32
  let c1_i32_23 : BitVec 32 := 1#32
  let arg6 : BitVec 32 := Scf.iv c0_i32 c1_i32_23 k0_t1
  let c256_i32_129 : BitVec 32 := 256#32
  let v316 : BitVec 32 := Scalar.muli arg6 c256_i32_129
  let v317 : BitVec 32 := v316
  let v318 : Index := Scalar.indexCast v317
  let c0_131 : Index := 0#32
  ![0, v318.toNat, 0]
def k0_off2 (i : grid0.Coords) (k0_t1 : Fin (k0_t1_loop i).trips) : Fin 3 → Nat :=
  let c0_136 : Index := 0#32
  let c0_i32 : BitVec 32 := 0#32
  let c1_i32_23 : BitVec 32 := 1#32
  let arg6 : BitVec 32 := Scf.iv c0_i32 c1_i32_23 k0_t1
  let c256_i32_129 : BitVec 32 := 256#32
  let v316 : BitVec 32 := Scalar.muli arg6 c256_i32_129
  let v317 : BitVec 32 := v316
  let v324 : Index := Scalar.indexCast v317
  let c128_137 : Index := 128#32
  ![0, v324.toNat, 128]
def k0_off3 (i : grid0.Coords) (k0_t1 : Fin (k0_t1_loop i).trips) : Fin 3 → Nat :=
  let c0_142 : Index := 0#32
  let c0_i32 : BitVec 32 := 0#32
  let c1_i32_23 : BitVec 32 := 1#32
  let arg6 : BitVec 32 := Scf.iv c0_i32 c1_i32_23 k0_t1
  let c256_i32_129 : BitVec 32 := 256#32
  let v316 : BitVec 32 := Scalar.muli arg6 c256_i32_129
  let v317 : BitVec 32 := v316
  let v330 : Index := Scalar.indexCast v317
  let c256_143 : Index := 256#32
  ![0, v330.toNat, 256]
def k0_off4 (i : grid0.Coords) (k0_t1 : Fin (k0_t1_loop i).trips) : Fin 3 → Nat :=
  let c0_148 : Index := 0#32
  let c0_i32 : BitVec 32 := 0#32
  let c1_i32_23 : BitVec 32 := 1#32
  let arg6 : BitVec 32 := Scf.iv c0_i32 c1_i32_23 k0_t1
  let c256_i32_129 : BitVec 32 := 256#32
  let v316 : BitVec 32 := Scalar.muli arg6 c256_i32_129
  let v317 : BitVec 32 := v316
  let v336 : Index := Scalar.indexCast v317
  let c384_149 : Index := 384#32
  ![0, v336.toNat, 384]
def k0_off5 (i : grid0.Coords) (k0_t1 : Fin (k0_t1_loop i).trips) : Fin 3 → Nat :=
  let c0_154 : Index := 0#32
  let c0_i32 : BitVec 32 := 0#32
  let c1_i32_23 : BitVec 32 := 1#32
  let arg6 : BitVec 32 := Scf.iv c0_i32 c1_i32_23 k0_t1
  let c256_i32_129 : BitVec 32 := 256#32
  let v316 : BitVec 32 := Scalar.muli arg6 c256_i32_129
  let v317 : BitVec 32 := v316
  let v342 : Index := Scalar.indexCast v317
  let c512_155 : Index := 512#32
  ![0, v342.toNat, 512]
def k0_off6 (i : grid0.Coords) (k0_t1 : Fin (k0_t1_loop i).trips) : Fin 3 → Nat :=
  let c0_160 : Index := 0#32
  let c0_i32 : BitVec 32 := 0#32
  let c1_i32_23 : BitVec 32 := 1#32
  let arg6 : BitVec 32 := Scf.iv c0_i32 c1_i32_23 k0_t1
  let c256_i32_129 : BitVec 32 := 256#32
  let v316 : BitVec 32 := Scalar.muli arg6 c256_i32_129
  let v317 : BitVec 32 := v316
  let v348 : Index := Scalar.indexCast v317
  let c640_161 : Index := 640#32
  ![0, v348.toNat, 640]
def k0_off7 (i : grid0.Coords) (k0_t1 : Fin (k0_t1_loop i).trips) : Fin 3 → Nat :=
  let c0_166 : Index := 0#32
  let c0_i32 : BitVec 32 := 0#32
  let c1_i32_23 : BitVec 32 := 1#32
  let arg6 : BitVec 32 := Scf.iv c0_i32 c1_i32_23 k0_t1
  let c256_i32_129 : BitVec 32 := 256#32
  let v316 : BitVec 32 := Scalar.muli arg6 c256_i32_129
  let v317 : BitVec 32 := v316
  let v354 : Index := Scalar.indexCast v317
  let c768_167 : Index := 768#32
  ![0, v354.toNat, 768]
def k0_off8 (i : grid0.Coords) (k0_t1 : Fin (k0_t1_loop i).trips) : Fin 3 → Nat :=
  let c0_172 : Index := 0#32
  let c0_i32 : BitVec 32 := 0#32
  let c1_i32_23 : BitVec 32 := 1#32
  let arg6 : BitVec 32 := Scf.iv c0_i32 c1_i32_23 k0_t1
  let c256_i32_129 : BitVec 32 := 256#32
  let v316 : BitVec 32 := Scalar.muli arg6 c256_i32_129
  let v317 : BitVec 32 := v316
  let v360 : Index := Scalar.indexCast v317
  let c896_173 : Index := 896#32
  ![0, v360.toNat, 896]
def k0_off9 (i : grid0.Coords) (k0_t1 : Fin (k0_t1_loop i).trips) : Fin 3 → Nat :=
  let c0_194 : Index := 0#32
  let c0_195 : Index := 0#32
  let c0_i32 : BitVec 32 := 0#32
  let c1_i32_23 : BitVec 32 := 1#32
  let arg6 : BitVec 32 := Scf.iv c0_i32 c1_i32_23 k0_t1
  let c256_i32_129 : BitVec 32 := 256#32
  let v316 : BitVec 32 := Scalar.muli arg6 c256_i32_129
  let v317 : BitVec 32 := v316
  let v472 : Index := Scalar.indexCast v317
  ![0, 0, v472.toNat]
def k0_off10 (i : grid0.Coords) (k0_t1 : Fin (k0_t1_loop i).trips) : Fin 3 → Nat :=
  let c0_197 : Index := 0#32
  let c64_198 : Index := 64#32
  let c0_i32 : BitVec 32 := 0#32
  let c1_i32_23 : BitVec 32 := 1#32
  let arg6 : BitVec 32 := Scf.iv c0_i32 c1_i32_23 k0_t1
  let c256_i32_129 : BitVec 32 := 256#32
  let v316 : BitVec 32 := Scalar.muli arg6 c256_i32_129
  let v317 : BitVec 32 := v316
  let v479 : Index := Scalar.indexCast v317
  ![0, 64, v479.toNat]
def k0_off11 (i : grid0.Coords) (k0_t1 : Fin (k0_t1_loop i).trips) : Fin 3 → Nat :=
  let c0_200 : Index := 0#32
  let c128_201 : Index := 128#32
  let c0_i32 : BitVec 32 := 0#32
  let c1_i32_23 : BitVec 32 := 1#32
  let arg6 : BitVec 32 := Scf.iv c0_i32 c1_i32_23 k0_t1
  let c256_i32_129 : BitVec 32 := 256#32
  let v316 : BitVec 32 := Scalar.muli arg6 c256_i32_129
  let v317 : BitVec 32 := v316
  let v486 : Index := Scalar.indexCast v317
  ![0, 128, v486.toNat]
def k0_off12 (i : grid0.Coords) (k0_t1 : Fin (k0_t1_loop i).trips) : Fin 3 → Nat :=
  let c0_203 : Index := 0#32
  let c192_204 : Index := 192#32
  let c0_i32 : BitVec 32 := 0#32
  let c1_i32_23 : BitVec 32 := 1#32
  let arg6 : BitVec 32 := Scf.iv c0_i32 c1_i32_23 k0_t1
  let c256_i32_129 : BitVec 32 := 256#32
  let v316 : BitVec 32 := Scalar.muli arg6 c256_i32_129
  let v317 : BitVec 32 := v316
  let v493 : Index := Scalar.indexCast v317
  ![0, 192, v493.toNat]
def k0_off13 (i : grid0.Coords) (k0_t1 : Fin (k0_t1_loop i).trips) : Fin 3 → Nat :=
  let c0_206 : Index := 0#32
  let c256_207 : Index := 256#32
  let c0_i32 : BitVec 32 := 0#32
  let c1_i32_23 : BitVec 32 := 1#32
  let arg6 : BitVec 32 := Scf.iv c0_i32 c1_i32_23 k0_t1
  let c256_i32_129 : BitVec 32 := 256#32
  let v316 : BitVec 32 := Scalar.muli arg6 c256_i32_129
  let v317 : BitVec 32 := v316
  let v500 : Index := Scalar.indexCast v317
  ![0, 256, v500.toNat]
def k0_off14 (i : grid0.Coords) (k0_t1 : Fin (k0_t1_loop i).trips) : Fin 3 → Nat :=
  let c0_209 : Index := 0#32
  let c320_210 : Index := 320#32
  let c0_i32 : BitVec 32 := 0#32
  let c1_i32_23 : BitVec 32 := 1#32
  let arg6 : BitVec 32 := Scf.iv c0_i32 c1_i32_23 k0_t1
  let c256_i32_129 : BitVec 32 := 256#32
  let v316 : BitVec 32 := Scalar.muli arg6 c256_i32_129
  let v317 : BitVec 32 := v316
  let v507 : Index := Scalar.indexCast v317
  ![0, 320, v507.toNat]
def k0_off15 (i : grid0.Coords) (k0_t1 : Fin (k0_t1_loop i).trips) : Fin 3 → Nat :=
  let c0_212 : Index := 0#32
  let c384_213 : Index := 384#32
  let c0_i32 : BitVec 32 := 0#32
  let c1_i32_23 : BitVec 32 := 1#32
  let arg6 : BitVec 32 := Scf.iv c0_i32 c1_i32_23 k0_t1
  let c256_i32_129 : BitVec 32 := 256#32
  let v316 : BitVec 32 := Scalar.muli arg6 c256_i32_129
  let v317 : BitVec 32 := v316
  let v514 : Index := Scalar.indexCast v317
  ![0, 384, v514.toNat]
def k0_off16 (i : grid0.Coords) (k0_t1 : Fin (k0_t1_loop i).trips) : Fin 3 → Nat :=
  let c0_215 : Index := 0#32
  let c448_216 : Index := 448#32
  let c0_i32 : BitVec 32 := 0#32
  let c1_i32_23 : BitVec 32 := 1#32
  let arg6 : BitVec 32 := Scf.iv c0_i32 c1_i32_23 k0_t1
  let c256_i32_129 : BitVec 32 := 256#32
  let v316 : BitVec 32 := Scalar.muli arg6 c256_i32_129
  let v317 : BitVec 32 := v316
  let v521 : Index := Scalar.indexCast v317
  ![0, 448, v521.toNat]
@[reducible] def k0_t2_loop (i : grid0.Coords) : Scf.Loop 32 :=
  let c0_i32 : BitVec 32 := 0#32
  let arg1 : BitVec 32 := BitVec.ofNat 32 (i 1).val
  let v27 : BitVec 32 := Scalar.subi arg1 c0_i32
  let c1_i32 : BitVec 32 := 1#32
  let v29 : BitVec 32 := Scalar.divsi v27 c1_i32
  let v30 : BitVec 32 := Scalar.muli v29 c1_i32
  let v31 : BitVec 32 := Scalar.addi c0_i32 v30
  let v28 : BitVec 32 := Scalar.addi c0_i32 v27
  let c1_i32_24 : BitVec 32 := 1#32
  ⟨v31, v28, c1_i32_24⟩
def k0_mult2 (i : grid0.Coords) (k0_t2 : Fin (k0_t2_loop i).trips) : BitVec 32 :=
  let c0_i32 : BitVec 32 := 0#32
  let arg1 : BitVec 32 := BitVec.ofNat 32 (i 1).val
  let v27 : BitVec 32 := Scalar.subi arg1 c0_i32
  let c1_i32 : BitVec 32 := 1#32
  let v29 : BitVec 32 := Scalar.divsi v27 c1_i32
  let v30 : BitVec 32 := Scalar.muli v29 c1_i32
  let v31 : BitVec 32 := Scalar.addi c0_i32 v30
  let c1_i32_24 : BitVec 32 := 1#32
  let arg6 : BitVec 32 := Scf.iv v31 c1_i32_24 k0_t2
  let c256_i32_129 : BitVec 32 := 256#32
  let v316 : BitVec 32 := Scalar.muli arg6 c256_i32_129
  v316
def k0_off17 (i : grid0.Coords) (k0_t2 : Fin (k0_t2_loop i).trips) : Fin 3 → Nat :=
  let c0_130 : Index := 0#32
  let c0_i32 : BitVec 32 := 0#32
  let arg1 : BitVec 32 := BitVec.ofNat 32 (i 1).val
  let v27 : BitVec 32 := Scalar.subi arg1 c0_i32
  let c1_i32 : BitVec 32 := 1#32
  let v29 : BitVec 32 := Scalar.divsi v27 c1_i32
  let v30 : BitVec 32 := Scalar.muli v29 c1_i32
  let v31 : BitVec 32 := Scalar.addi c0_i32 v30
  let c1_i32_24 : BitVec 32 := 1#32
  let arg6 : BitVec 32 := Scf.iv v31 c1_i32_24 k0_t2
  let c256_i32_129 : BitVec 32 := 256#32
  let v316 : BitVec 32 := Scalar.muli arg6 c256_i32_129
  let v317 : BitVec 32 := v316
  let v318 : Index := Scalar.indexCast v317
  let c0_131 : Index := 0#32
  ![0, v318.toNat, 0]
def k0_off18 (i : grid0.Coords) (k0_t2 : Fin (k0_t2_loop i).trips) : Fin 3 → Nat :=
  let c0_136 : Index := 0#32
  let c0_i32 : BitVec 32 := 0#32
  let arg1 : BitVec 32 := BitVec.ofNat 32 (i 1).val
  let v27 : BitVec 32 := Scalar.subi arg1 c0_i32
  let c1_i32 : BitVec 32 := 1#32
  let v29 : BitVec 32 := Scalar.divsi v27 c1_i32
  let v30 : BitVec 32 := Scalar.muli v29 c1_i32
  let v31 : BitVec 32 := Scalar.addi c0_i32 v30
  let c1_i32_24 : BitVec 32 := 1#32
  let arg6 : BitVec 32 := Scf.iv v31 c1_i32_24 k0_t2
  let c256_i32_129 : BitVec 32 := 256#32
  let v316 : BitVec 32 := Scalar.muli arg6 c256_i32_129
  let v317 : BitVec 32 := v316
  let v324 : Index := Scalar.indexCast v317
  let c128_137 : Index := 128#32
  ![0, v324.toNat, 128]
def k0_off19 (i : grid0.Coords) (k0_t2 : Fin (k0_t2_loop i).trips) : Fin 3 → Nat :=
  let c0_142 : Index := 0#32
  let c0_i32 : BitVec 32 := 0#32
  let arg1 : BitVec 32 := BitVec.ofNat 32 (i 1).val
  let v27 : BitVec 32 := Scalar.subi arg1 c0_i32
  let c1_i32 : BitVec 32 := 1#32
  let v29 : BitVec 32 := Scalar.divsi v27 c1_i32
  let v30 : BitVec 32 := Scalar.muli v29 c1_i32
  let v31 : BitVec 32 := Scalar.addi c0_i32 v30
  let c1_i32_24 : BitVec 32 := 1#32
  let arg6 : BitVec 32 := Scf.iv v31 c1_i32_24 k0_t2
  let c256_i32_129 : BitVec 32 := 256#32
  let v316 : BitVec 32 := Scalar.muli arg6 c256_i32_129
  let v317 : BitVec 32 := v316
  let v330 : Index := Scalar.indexCast v317
  let c256_143 : Index := 256#32
  ![0, v330.toNat, 256]
def k0_off20 (i : grid0.Coords) (k0_t2 : Fin (k0_t2_loop i).trips) : Fin 3 → Nat :=
  let c0_148 : Index := 0#32
  let c0_i32 : BitVec 32 := 0#32
  let arg1 : BitVec 32 := BitVec.ofNat 32 (i 1).val
  let v27 : BitVec 32 := Scalar.subi arg1 c0_i32
  let c1_i32 : BitVec 32 := 1#32
  let v29 : BitVec 32 := Scalar.divsi v27 c1_i32
  let v30 : BitVec 32 := Scalar.muli v29 c1_i32
  let v31 : BitVec 32 := Scalar.addi c0_i32 v30
  let c1_i32_24 : BitVec 32 := 1#32
  let arg6 : BitVec 32 := Scf.iv v31 c1_i32_24 k0_t2
  let c256_i32_129 : BitVec 32 := 256#32
  let v316 : BitVec 32 := Scalar.muli arg6 c256_i32_129
  let v317 : BitVec 32 := v316
  let v336 : Index := Scalar.indexCast v317
  let c384_149 : Index := 384#32
  ![0, v336.toNat, 384]
def k0_off21 (i : grid0.Coords) (k0_t2 : Fin (k0_t2_loop i).trips) : Fin 3 → Nat :=
  let c0_154 : Index := 0#32
  let c0_i32 : BitVec 32 := 0#32
  let arg1 : BitVec 32 := BitVec.ofNat 32 (i 1).val
  let v27 : BitVec 32 := Scalar.subi arg1 c0_i32
  let c1_i32 : BitVec 32 := 1#32
  let v29 : BitVec 32 := Scalar.divsi v27 c1_i32
  let v30 : BitVec 32 := Scalar.muli v29 c1_i32
  let v31 : BitVec 32 := Scalar.addi c0_i32 v30
  let c1_i32_24 : BitVec 32 := 1#32
  let arg6 : BitVec 32 := Scf.iv v31 c1_i32_24 k0_t2
  let c256_i32_129 : BitVec 32 := 256#32
  let v316 : BitVec 32 := Scalar.muli arg6 c256_i32_129
  let v317 : BitVec 32 := v316
  let v342 : Index := Scalar.indexCast v317
  let c512_155 : Index := 512#32
  ![0, v342.toNat, 512]
def k0_off22 (i : grid0.Coords) (k0_t2 : Fin (k0_t2_loop i).trips) : Fin 3 → Nat :=
  let c0_160 : Index := 0#32
  let c0_i32 : BitVec 32 := 0#32
  let arg1 : BitVec 32 := BitVec.ofNat 32 (i 1).val
  let v27 : BitVec 32 := Scalar.subi arg1 c0_i32
  let c1_i32 : BitVec 32 := 1#32
  let v29 : BitVec 32 := Scalar.divsi v27 c1_i32
  let v30 : BitVec 32 := Scalar.muli v29 c1_i32
  let v31 : BitVec 32 := Scalar.addi c0_i32 v30
  let c1_i32_24 : BitVec 32 := 1#32
  let arg6 : BitVec 32 := Scf.iv v31 c1_i32_24 k0_t2
  let c256_i32_129 : BitVec 32 := 256#32
  let v316 : BitVec 32 := Scalar.muli arg6 c256_i32_129
  let v317 : BitVec 32 := v316
  let v348 : Index := Scalar.indexCast v317
  let c640_161 : Index := 640#32
  ![0, v348.toNat, 640]
def k0_off23 (i : grid0.Coords) (k0_t2 : Fin (k0_t2_loop i).trips) : Fin 3 → Nat :=
  let c0_166 : Index := 0#32
  let c0_i32 : BitVec 32 := 0#32
  let arg1 : BitVec 32 := BitVec.ofNat 32 (i 1).val
  let v27 : BitVec 32 := Scalar.subi arg1 c0_i32
  let c1_i32 : BitVec 32 := 1#32
  let v29 : BitVec 32 := Scalar.divsi v27 c1_i32
  let v30 : BitVec 32 := Scalar.muli v29 c1_i32
  let v31 : BitVec 32 := Scalar.addi c0_i32 v30
  let c1_i32_24 : BitVec 32 := 1#32
  let arg6 : BitVec 32 := Scf.iv v31 c1_i32_24 k0_t2
  let c256_i32_129 : BitVec 32 := 256#32
  let v316 : BitVec 32 := Scalar.muli arg6 c256_i32_129
  let v317 : BitVec 32 := v316
  let v354 : Index := Scalar.indexCast v317
  let c768_167 : Index := 768#32
  ![0, v354.toNat, 768]
def k0_off24 (i : grid0.Coords) (k0_t2 : Fin (k0_t2_loop i).trips) : Fin 3 → Nat :=
  let c0_172 : Index := 0#32
  let c0_i32 : BitVec 32 := 0#32
  let arg1 : BitVec 32 := BitVec.ofNat 32 (i 1).val
  let v27 : BitVec 32 := Scalar.subi arg1 c0_i32
  let c1_i32 : BitVec 32 := 1#32
  let v29 : BitVec 32 := Scalar.divsi v27 c1_i32
  let v30 : BitVec 32 := Scalar.muli v29 c1_i32
  let v31 : BitVec 32 := Scalar.addi c0_i32 v30
  let c1_i32_24 : BitVec 32 := 1#32
  let arg6 : BitVec 32 := Scf.iv v31 c1_i32_24 k0_t2
  let c256_i32_129 : BitVec 32 := 256#32
  let v316 : BitVec 32 := Scalar.muli arg6 c256_i32_129
  let v317 : BitVec 32 := v316
  let v360 : Index := Scalar.indexCast v317
  let c896_173 : Index := 896#32
  ![0, v360.toNat, 896]
def k0_off25 (i : grid0.Coords) (k0_t2 : Fin (k0_t2_loop i).trips) : Fin 3 → Nat :=
  let c0_194 : Index := 0#32
  let c0_195 : Index := 0#32
  let c0_i32 : BitVec 32 := 0#32
  let arg1 : BitVec 32 := BitVec.ofNat 32 (i 1).val
  let v27 : BitVec 32 := Scalar.subi arg1 c0_i32
  let c1_i32 : BitVec 32 := 1#32
  let v29 : BitVec 32 := Scalar.divsi v27 c1_i32
  let v30 : BitVec 32 := Scalar.muli v29 c1_i32
  let v31 : BitVec 32 := Scalar.addi c0_i32 v30
  let c1_i32_24 : BitVec 32 := 1#32
  let arg6 : BitVec 32 := Scf.iv v31 c1_i32_24 k0_t2
  let c256_i32_129 : BitVec 32 := 256#32
  let v316 : BitVec 32 := Scalar.muli arg6 c256_i32_129
  let v317 : BitVec 32 := v316
  let v472 : Index := Scalar.indexCast v317
  ![0, 0, v472.toNat]
def k0_off26 (i : grid0.Coords) (k0_t2 : Fin (k0_t2_loop i).trips) : Fin 3 → Nat :=
  let c0_197 : Index := 0#32
  let c64_198 : Index := 64#32
  let c0_i32 : BitVec 32 := 0#32
  let arg1 : BitVec 32 := BitVec.ofNat 32 (i 1).val
  let v27 : BitVec 32 := Scalar.subi arg1 c0_i32
  let c1_i32 : BitVec 32 := 1#32
  let v29 : BitVec 32 := Scalar.divsi v27 c1_i32
  let v30 : BitVec 32 := Scalar.muli v29 c1_i32
  let v31 : BitVec 32 := Scalar.addi c0_i32 v30
  let c1_i32_24 : BitVec 32 := 1#32
  let arg6 : BitVec 32 := Scf.iv v31 c1_i32_24 k0_t2
  let c256_i32_129 : BitVec 32 := 256#32
  let v316 : BitVec 32 := Scalar.muli arg6 c256_i32_129
  let v317 : BitVec 32 := v316
  let v479 : Index := Scalar.indexCast v317
  ![0, 64, v479.toNat]
def k0_off27 (i : grid0.Coords) (k0_t2 : Fin (k0_t2_loop i).trips) : Fin 3 → Nat :=
  let c0_200 : Index := 0#32
  let c128_201 : Index := 128#32
  let c0_i32 : BitVec 32 := 0#32
  let arg1 : BitVec 32 := BitVec.ofNat 32 (i 1).val
  let v27 : BitVec 32 := Scalar.subi arg1 c0_i32
  let c1_i32 : BitVec 32 := 1#32
  let v29 : BitVec 32 := Scalar.divsi v27 c1_i32
  let v30 : BitVec 32 := Scalar.muli v29 c1_i32
  let v31 : BitVec 32 := Scalar.addi c0_i32 v30
  let c1_i32_24 : BitVec 32 := 1#32
  let arg6 : BitVec 32 := Scf.iv v31 c1_i32_24 k0_t2
  let c256_i32_129 : BitVec 32 := 256#32
  let v316 : BitVec 32 := Scalar.muli arg6 c256_i32_129
  let v317 : BitVec 32 := v316
  let v486 : Index := Scalar.indexCast v317
  ![0, 128, v486.toNat]
def k0_off28 (i : grid0.Coords) (k0_t2 : Fin (k0_t2_loop i).trips) : Fin 3 → Nat :=
  let c0_203 : Index := 0#32
  let c192_204 : Index := 192#32
  let c0_i32 : BitVec 32 := 0#32
  let arg1 : BitVec 32 := BitVec.ofNat 32 (i 1).val
  let v27 : BitVec 32 := Scalar.subi arg1 c0_i32
  let c1_i32 : BitVec 32 := 1#32
  let v29 : BitVec 32 := Scalar.divsi v27 c1_i32
  let v30 : BitVec 32 := Scalar.muli v29 c1_i32
  let v31 : BitVec 32 := Scalar.addi c0_i32 v30
  let c1_i32_24 : BitVec 32 := 1#32
  let arg6 : BitVec 32 := Scf.iv v31 c1_i32_24 k0_t2
  let c256_i32_129 : BitVec 32 := 256#32
  let v316 : BitVec 32 := Scalar.muli arg6 c256_i32_129
  let v317 : BitVec 32 := v316
  let v493 : Index := Scalar.indexCast v317
  ![0, 192, v493.toNat]
def k0_off29 (i : grid0.Coords) (k0_t2 : Fin (k0_t2_loop i).trips) : Fin 3 → Nat :=
  let c0_206 : Index := 0#32
  let c256_207 : Index := 256#32
  let c0_i32 : BitVec 32 := 0#32
  let arg1 : BitVec 32 := BitVec.ofNat 32 (i 1).val
  let v27 : BitVec 32 := Scalar.subi arg1 c0_i32
  let c1_i32 : BitVec 32 := 1#32
  let v29 : BitVec 32 := Scalar.divsi v27 c1_i32
  let v30 : BitVec 32 := Scalar.muli v29 c1_i32
  let v31 : BitVec 32 := Scalar.addi c0_i32 v30
  let c1_i32_24 : BitVec 32 := 1#32
  let arg6 : BitVec 32 := Scf.iv v31 c1_i32_24 k0_t2
  let c256_i32_129 : BitVec 32 := 256#32
  let v316 : BitVec 32 := Scalar.muli arg6 c256_i32_129
  let v317 : BitVec 32 := v316
  let v500 : Index := Scalar.indexCast v317
  ![0, 256, v500.toNat]
def k0_off30 (i : grid0.Coords) (k0_t2 : Fin (k0_t2_loop i).trips) : Fin 3 → Nat :=
  let c0_209 : Index := 0#32
  let c320_210 : Index := 320#32
  let c0_i32 : BitVec 32 := 0#32
  let arg1 : BitVec 32 := BitVec.ofNat 32 (i 1).val
  let v27 : BitVec 32 := Scalar.subi arg1 c0_i32
  let c1_i32 : BitVec 32 := 1#32
  let v29 : BitVec 32 := Scalar.divsi v27 c1_i32
  let v30 : BitVec 32 := Scalar.muli v29 c1_i32
  let v31 : BitVec 32 := Scalar.addi c0_i32 v30
  let c1_i32_24 : BitVec 32 := 1#32
  let arg6 : BitVec 32 := Scf.iv v31 c1_i32_24 k0_t2
  let c256_i32_129 : BitVec 32 := 256#32
  let v316 : BitVec 32 := Scalar.muli arg6 c256_i32_129
  let v317 : BitVec 32 := v316
  let v507 : Index := Scalar.indexCast v317
  ![0, 320, v507.toNat]
def k0_off31 (i : grid0.Coords) (k0_t2 : Fin (k0_t2_loop i).trips) : Fin 3 → Nat :=
  let c0_212 : Index := 0#32
  let c384_213 : Index := 384#32
  let c0_i32 : BitVec 32 := 0#32
  let arg1 : BitVec 32 := BitVec.ofNat 32 (i 1).val
  let v27 : BitVec 32 := Scalar.subi arg1 c0_i32
  let c1_i32 : BitVec 32 := 1#32
  let v29 : BitVec 32 := Scalar.divsi v27 c1_i32
  let v30 : BitVec 32 := Scalar.muli v29 c1_i32
  let v31 : BitVec 32 := Scalar.addi c0_i32 v30
  let c1_i32_24 : BitVec 32 := 1#32
  let arg6 : BitVec 32 := Scf.iv v31 c1_i32_24 k0_t2
  let c256_i32_129 : BitVec 32 := 256#32
  let v316 : BitVec 32 := Scalar.muli arg6 c256_i32_129
  let v317 : BitVec 32 := v316
  let v514 : Index := Scalar.indexCast v317
  ![0, 384, v514.toNat]
def k0_off32 (i : grid0.Coords) (k0_t2 : Fin (k0_t2_loop i).trips) : Fin 3 → Nat :=
  let c0_215 : Index := 0#32
  let c448_216 : Index := 448#32
  let c0_i32 : BitVec 32 := 0#32
  let arg1 : BitVec 32 := BitVec.ofNat 32 (i 1).val
  let v27 : BitVec 32 := Scalar.subi arg1 c0_i32
  let c1_i32 : BitVec 32 := 1#32
  let v29 : BitVec 32 := Scalar.divsi v27 c1_i32
  let v30 : BitVec 32 := Scalar.muli v29 c1_i32
  let v31 : BitVec 32 := Scalar.addi c0_i32 v30
  let c1_i32_24 : BitVec 32 := 1#32
  let arg6 : BitVec 32 := Scf.iv v31 c1_i32_24 k0_t2
  let c256_i32_129 : BitVec 32 := 256#32
  let v316 : BitVec 32 := Scalar.muli arg6 c256_i32_129
  let v317 : BitVec 32 := v316
  let v521 : Index := Scalar.indexCast v317
  ![0, 448, v521.toNat]
def k0_mult3 (i : grid0.Coords) : BitVec 32 :=
  let arg1 : BitVec 32 := BitVec.ofNat 32 (i 1).val
  let c256_i32 : BitVec 32 := 256#32
  let v34 : BitVec 32 := Scalar.muli arg1 c256_i32
  v34
def k0_off33 (i : grid0.Coords) : Fin 3 → Nat :=
  let c0 : Index := 0#32
  let arg1 : BitVec 32 := BitVec.ofNat 32 (i 1).val
  let c256_i32 : BitVec 32 := 256#32
  let v34 : BitVec 32 := Scalar.muli arg1 c256_i32
  let v35 : BitVec 32 := v34
  let v36 : Index := Scalar.indexCast v35
  let c0_25 : Index := 0#32
  ![0, v36.toNat, 0]
def k0_off34 (i : grid0.Coords) : Fin 3 → Nat :=
  let c0_31 : Index := 0#32
  let arg1 : BitVec 32 := BitVec.ofNat 32 (i 1).val
  let c256_i32 : BitVec 32 := 256#32
  let v34 : BitVec 32 := Scalar.muli arg1 c256_i32
  let v35 : BitVec 32 := v34
  let v44 : Index := Scalar.indexCast v35
  let c128 : Index := 128#32
  ![0, v44.toNat, 128]
def k0_off35 (i : grid0.Coords) : Fin 3 → Nat :=
  let c0_37 : Index := 0#32
  let arg1 : BitVec 32 := BitVec.ofNat 32 (i 1).val
  let c256_i32 : BitVec 32 := 256#32
  let v34 : BitVec 32 := Scalar.muli arg1 c256_i32
  let v35 : BitVec 32 := v34
  let v52 : Index := Scalar.indexCast v35
  let c256 : Index := 256#32
  ![0, v52.toNat, 256]
def k0_off36 (i : grid0.Coords) : Fin 3 → Nat :=
  let c0_43 : Index := 0#32
  let arg1 : BitVec 32 := BitVec.ofNat 32 (i 1).val
  let c256_i32 : BitVec 32 := 256#32
  let v34 : BitVec 32 := Scalar.muli arg1 c256_i32
  let v35 : BitVec 32 := v34
  let v60 : Index := Scalar.indexCast v35
  let c384 : Index := 384#32
  ![0, v60.toNat, 384]
def k0_off37 (i : grid0.Coords) : Fin 3 → Nat :=
  let c0_49 : Index := 0#32
  let arg1 : BitVec 32 := BitVec.ofNat 32 (i 1).val
  let c256_i32 : BitVec 32 := 256#32
  let v34 : BitVec 32 := Scalar.muli arg1 c256_i32
  let v35 : BitVec 32 := v34
  let v68 : Index := Scalar.indexCast v35
  let c512 : Index := 512#32
  ![0, v68.toNat, 512]
def k0_off38 (i : grid0.Coords) : Fin 3 → Nat :=
  let c0_55 : Index := 0#32
  let arg1 : BitVec 32 := BitVec.ofNat 32 (i 1).val
  let c256_i32 : BitVec 32 := 256#32
  let v34 : BitVec 32 := Scalar.muli arg1 c256_i32
  let v35 : BitVec 32 := v34
  let v76 : Index := Scalar.indexCast v35
  let c640 : Index := 640#32
  ![0, v76.toNat, 640]
def k0_off39 (i : grid0.Coords) : Fin 3 → Nat :=
  let c0_61 : Index := 0#32
  let arg1 : BitVec 32 := BitVec.ofNat 32 (i 1).val
  let c256_i32 : BitVec 32 := 256#32
  let v34 : BitVec 32 := Scalar.muli arg1 c256_i32
  let v35 : BitVec 32 := v34
  let v84 : Index := Scalar.indexCast v35
  let c768 : Index := 768#32
  ![0, v84.toNat, 768]
def k0_off40 (i : grid0.Coords) : Fin 3 → Nat :=
  let c0_67 : Index := 0#32
  let arg1 : BitVec 32 := BitVec.ofNat 32 (i 1).val
  let c256_i32 : BitVec 32 := 256#32
  let v34 : BitVec 32 := Scalar.muli arg1 c256_i32
  let v35 : BitVec 32 := v34
  let v92 : Index := Scalar.indexCast v35
  let c896 : Index := 896#32
  ![0, v92.toNat, 896]
def k0_off41 (i : grid0.Coords) : Fin 3 → Nat :=
  let c0_89 : Index := 0#32
  let c0_90 : Index := 0#32
  let arg1 : BitVec 32 := BitVec.ofNat 32 (i 1).val
  let c256_i32 : BitVec 32 := 256#32
  let v34 : BitVec 32 := Scalar.muli arg1 c256_i32
  let v35 : BitVec 32 := v34
  let v206 : Index := Scalar.indexCast v35
  ![0, 0, v206.toNat]
def k0_off42 (i : grid0.Coords) : Fin 3 → Nat :=
  let c0_92 : Index := 0#32
  let c64 : Index := 64#32
  let arg1 : BitVec 32 := BitVec.ofNat 32 (i 1).val
  let c256_i32 : BitVec 32 := 256#32
  let v34 : BitVec 32 := Scalar.muli arg1 c256_i32
  let v35 : BitVec 32 := v34
  let v213 : Index := Scalar.indexCast v35
  ![0, 64, v213.toNat]
def k0_off43 (i : grid0.Coords) : Fin 3 → Nat :=
  let c0_94 : Index := 0#32
  let c128_95 : Index := 128#32
  let arg1 : BitVec 32 := BitVec.ofNat 32 (i 1).val
  let c256_i32 : BitVec 32 := 256#32
  let v34 : BitVec 32 := Scalar.muli arg1 c256_i32
  let v35 : BitVec 32 := v34
  let v220 : Index := Scalar.indexCast v35
  ![0, 128, v220.toNat]
def k0_off44 (i : grid0.Coords) : Fin 3 → Nat :=
  let c0_97 : Index := 0#32
  let c192 : Index := 192#32
  let arg1 : BitVec 32 := BitVec.ofNat 32 (i 1).val
  let c256_i32 : BitVec 32 := 256#32
  let v34 : BitVec 32 := Scalar.muli arg1 c256_i32
  let v35 : BitVec 32 := v34
  let v227 : Index := Scalar.indexCast v35
  ![0, 192, v227.toNat]
def k0_off45 (i : grid0.Coords) : Fin 3 → Nat :=
  let c0_99 : Index := 0#32
  let c256_100 : Index := 256#32
  let arg1 : BitVec 32 := BitVec.ofNat 32 (i 1).val
  let c256_i32 : BitVec 32 := 256#32
  let v34 : BitVec 32 := Scalar.muli arg1 c256_i32
  let v35 : BitVec 32 := v34
  let v234 : Index := Scalar.indexCast v35
  ![0, 256, v234.toNat]
def k0_off46 (i : grid0.Coords) : Fin 3 → Nat :=
  let c0_102 : Index := 0#32
  let c320 : Index := 320#32
  let arg1 : BitVec 32 := BitVec.ofNat 32 (i 1).val
  let c256_i32 : BitVec 32 := 256#32
  let v34 : BitVec 32 := Scalar.muli arg1 c256_i32
  let v35 : BitVec 32 := v34
  let v241 : Index := Scalar.indexCast v35
  ![0, 320, v241.toNat]
def k0_off47 (i : grid0.Coords) : Fin 3 → Nat :=
  let c0_104 : Index := 0#32
  let c384_105 : Index := 384#32
  let arg1 : BitVec 32 := BitVec.ofNat 32 (i 1).val
  let c256_i32 : BitVec 32 := 256#32
  let v34 : BitVec 32 := Scalar.muli arg1 c256_i32
  let v35 : BitVec 32 := v34
  let v248 : Index := Scalar.indexCast v35
  ![0, 384, v248.toNat]
def k0_off48 (i : grid0.Coords) : Fin 3 → Nat :=
  let c0_107 : Index := 0#32
  let c448 : Index := 448#32
  let arg1 : BitVec 32 := BitVec.ofNat 32 (i 1).val
  let c256_i32 : BitVec 32 := 256#32
  let v34 : BitVec 32 := Scalar.muli arg1 c256_i32
  let v35 : BitVec 32 := v34
  let v255 : Index := Scalar.indexCast v35
  ![0, 448, v255.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8x1024x2304 : Shape := ⟨3, ![8, 1024, 2304]⟩
abbrev S8x2304x1024 : Shape := ⟨3, ![8, 2304, 1024]⟩
abbrev S8x512x2304 : Shape := ⟨3, ![8, 512, 2304]⟩
abbrev S8x8x128x2304 : Shape := ⟨4, ![8, 8, 128, 2304]⟩
abbrev S8x2304x8x128 : Shape := ⟨4, ![8, 2304, 8, 128]⟩
abbrev S8x8x64x2304 : Shape := ⟨4, ![8, 8, 64, 2304]⟩
abbrev S8x8x2304x2304 : Shape := ⟨4, ![8, 8, 2304, 2304]⟩
abbrev S_ : Shape := ⟨0, ![]⟩
abbrev S2304 : Shape := ⟨1, ![2304]⟩
abbrev S1x2304 : Shape := ⟨2, ![1, 2304]⟩
abbrev S2304x1 : Shape := ⟨2, ![2304, 1]⟩
abbrev S2304x2304 : Shape := ⟨2, ![2304, 2304]⟩
abbrev S8x8x2304 : Shape := ⟨3, ![8, 8, 2304]⟩
abbrev S8x8x2304x1 : Shape := ⟨4, ![8, 8, 2304, 1]⟩
abbrev S8x2304x8x64 : Shape := ⟨4, ![8, 2304, 8, 64]⟩
abbrev S8x2304x512 : Shape := ⟨3, ![8, 2304, 512]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x2304, .bf16⟩
  | .hbm, ⟨1, _⟩ => ⟨S8x2304x1024, .bf16⟩
  | .hbm, ⟨2, _⟩ => ⟨S8x512x2304, .bf16⟩
  | .hbm, ⟨3, _⟩ => ⟨S8x1024x2304, .f32⟩
  | .hbm, ⟨4, _⟩ => ⟨S8x8x128x2304, .f32⟩
  | .hbm, ⟨5, _⟩ => ⟨S8x2304x1024, .f32⟩
  | .hbm, ⟨6, _⟩ => ⟨S8x2304x8x128, .f32⟩
  | .hbm, ⟨7, _⟩ => ⟨S8x512x2304, .f32⟩
  | .hbm, ⟨8, _⟩ => ⟨S8x8x64x2304, .f32⟩
  | .hbm, ⟨9, _⟩ => ⟨S8x8x2304x2304, .f32⟩
  | .hbm, ⟨10, _⟩ => ⟨S_, .f32⟩
  | .hbm, ⟨11, _⟩ => ⟨S_, .f32⟩
  | .hbm, ⟨12, _⟩ => ⟨S8x8x2304x2304, .f32⟩
  | .hbm, ⟨13, _⟩ => ⟨S8x8x2304x2304, .f32⟩
  | .hbm, ⟨14, _⟩ => ⟨S2304, .i32⟩
  | .hbm, ⟨15, _⟩ => ⟨S1x2304, .i32⟩
  | .hbm, ⟨16, _⟩ => ⟨S2304x1, .i32⟩
  | .hbm, ⟨17, _⟩ => ⟨S2304x2304, .i32⟩
  | .hbm, ⟨18, _⟩ => ⟨S2304x2304, .i32⟩
  | .hbm, ⟨19, _⟩ => ⟨S2304x2304, .i1⟩
  | .hbm, ⟨20, _⟩ => ⟨S_, .f32⟩
  | .hbm, ⟨21, _⟩ => ⟨S_, .f32⟩
  | .hbm, ⟨22, _⟩ => ⟨S8x8x2304x2304, .i1⟩
  | .hbm, ⟨23, _⟩ => ⟨S8x8x2304x2304, .f32⟩
  | .hbm, ⟨24, _⟩ => ⟨S8x8x2304x2304, .f32⟩
  | .hbm, ⟨25, _⟩ => ⟨S_, .f32⟩
  | .hbm, ⟨26, _⟩ => ⟨S8x8x2304, .f32⟩
  | .hbm, ⟨27, _⟩ => ⟨S8x8x2304x1, .f32⟩
  | .hbm, ⟨28, _⟩ => ⟨S8x8x2304x2304, .f32⟩
  | .hbm, ⟨29, _⟩ => ⟨S8x8x2304x2304, .f32⟩
  | .hbm, ⟨30, _⟩ => ⟨S8x8x2304x2304, .f32⟩
  | .hbm, ⟨31, _⟩ => ⟨S_, .f32⟩
  | .hbm, ⟨32, _⟩ => ⟨S8x8x2304, .f32⟩
  | .hbm, ⟨33, _⟩ => ⟨S8x8x2304x1, .f32⟩
  | .hbm, ⟨34, _⟩ => ⟨S8x8x2304x2304, .f32⟩
  | .hbm, ⟨35, _⟩ => ⟨S8x8x2304x2304, .f32⟩
  | .hbm, ⟨36, _⟩ => ⟨S8x8x64x2304, .f32⟩
  | .hbm, ⟨37, _⟩ => ⟨S8x2304x8x64, .f32⟩
  | .hbm, ⟨38, _⟩ => ⟨S8x2304x512, .f32⟩
  | .hbm, ⟨39, _⟩ => ⟨S8x2304x512, .bf16⟩
  | _, _ => ⟨S8x1024x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Kernel2.lean ====
abbrev S8x2048x1024 : Shape := ⟨3, ![8, 2048, 1024]⟩
abbrev S16x1024 : Shape := ⟨2, ![16, 1024]⟩
abbrev S1x1024 : Shape := ⟨2, ![1, 1024]⟩
abbrev S1x1024x5648 : Shape := ⟨3, ![1, 1024, 5648]⟩
abbrev S1x16x1024 : Shape := ⟨3, ![1, 16, 1024]⟩
abbrev S8x16x1024 : Shape := ⟨3, ![8, 16, 1024]⟩
abbrev S8x2064x1024 : Shape := ⟨3, ![8, 2064, 1024]⟩
abbrev S1024x5648 : Shape := ⟨2, ![1024, 5648]⟩
abbrev S1024x1536 : Shape := ⟨2, ![1024, 1536]⟩
abbrev S1024x512 : Shape := ⟨2, ![1024, 512]⟩
abbrev S1024x1024 : Shape := ⟨2, ![1024, 1024]⟩
abbrev S1024x5632 : Shape := ⟨2, ![1024, 5632]⟩
abbrev S1024x4 : Shape := ⟨2, ![1024, 4]⟩
abbrev S1024x8 : Shape := ⟨2, ![1024, 8]⟩
abbrev S_ : Shape := ⟨0, ![]⟩
abbrev S1024x112 : Shape := ⟨2, ![1024, 112]⟩
abbrev S1024x128 : Shape := ⟨2, ![1024, 128]⟩
abbrev S1024 : Shape := ⟨1, ![1024]⟩
abbrev S16512x1024 : Shape := ⟨2, ![16512, 1024]⟩
abbrev S16512x1536 : Shape := ⟨2, ![16512, 1536]⟩
abbrev S16512x512 : Shape := ⟨2, ![16512, 512]⟩
abbrev S16512x128 : Shape := ⟨2, ![16512, 128]⟩
abbrev S384x1024 : Shape := ⟨2, ![384, 1024]⟩
abbrev S384x1536 : Shape := ⟨2, ![384, 1536]⟩
abbrev S384x512 : Shape := ⟨2, ![384, 512]⟩
abbrev S384x128 : Shape := ⟨2, ![384, 128]⟩
abbrev S384 : Shape := ⟨1, ![384]⟩
abbrev S384x1 : Shape := ⟨2, ![384, 1]⟩

abbrev nBuf : Space → Nat
  | .hbm => 35
  | .vmem => 21
  | .smem => 0
  | _ => 0

abbrev bufTy : (tb : Table) → Fin (tcTables nBuf tb) → BufTy
  | .hbm, ⟨0, _⟩ => ⟨S8x2048x1024, .f32⟩
  | .hbm, ⟨1, _⟩ => ⟨S16x1024, .f32⟩
  | .hbm, ⟨2, _⟩ => ⟨S1x1024, .f32⟩
  | .hbm, ⟨3, _⟩ => ⟨S1x1024x5648, .f32⟩
  | .hbm, ⟨4, _⟩ => ⟨S1x16x1024, .f32⟩
  | .hbm, ⟨5, _⟩ => ⟨S8x16x1024, .f32⟩
  | .hbm, ⟨6, _⟩ => ⟨S8x2064x1024, .f32⟩
  | .hbm, ⟨7, _⟩ => ⟨S1024x5648, .f32⟩
  | .hbm, ⟨8, _⟩ => ⟨S1024x1536, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S1024x1024, .f32⟩
  | .hbm, ⟨14, _⟩ => ⟨S1024x1024, .f32⟩
  | .hbm, ⟨15, _⟩ => ⟨S1024x5632, .f32⟩
  | .hbm, ⟨16, _⟩ => ⟨S1024x5632, .bf16⟩
  | .hbm, ⟨17, _⟩ => ⟨S1024x4, .f32⟩
  | .hbm, ⟨18, _⟩ => ⟨S1024x4, .f32⟩
  | .hbm, ⟨19, _⟩ => ⟨S1024x8, .f32⟩
  | .hbm, ⟨20, _⟩ => ⟨S_, .f32⟩
  | .hbm, ⟨21, _⟩ => ⟨S1024x112, .f32⟩
  | .hbm, ⟨22, _⟩ => ⟨S1024x128, .f32⟩
  | .hbm, ⟨23, _⟩ => ⟨S1024x128, .bf16⟩
  | .hbm, ⟨24, _⟩ => ⟨S1024, .f32⟩
  | .hbm, ⟨25, _⟩ => ⟨S1x1024, .f32⟩
  | .hbm, ⟨26, _⟩ => ⟨S16512x1024, .f32⟩
  | .hbm, ⟨27, _⟩ => ⟨S16512x1536, .f32⟩
  | .hbm, ⟨28, _⟩ => ⟨S16512x512, .f32⟩
  | .hbm, ⟨29, _⟩ => ⟨S16512x512, .f32⟩
  | .hbm, ⟨30, _⟩ => ⟨S16512x512, .f32⟩
  | .hbm, ⟨31, _⟩ => ⟨S16512x512, .f32⟩
  | .hbm, ⟨32, _⟩ => ⟨S16512x1024, .f32⟩
  | .hbm, ⟨33, _⟩ => ⟨S16512x1024, .f32⟩
  | .hbm, ⟨34, _⟩ => ⟨S16512x128, .f32⟩
  | .local _ .vmem, ⟨0, _⟩ => ⟨S384x1024, .f32⟩
  | .local _ .vmem, ⟨1, _⟩ => ⟨S384x1024, .f32⟩
  | .local _ .vmem, ⟨2, _⟩ => ⟨S1x1024, .f32⟩
  | .local _ .vmem, ⟨3, _⟩ => ⟨S1024x5632, .bf16⟩
  | .local _ .vmem, ⟨4, _⟩ => ⟨S1024x128, .bf16⟩
  | .local _ .vmem, ⟨5, _⟩ => ⟨S384x1536, .f32⟩
  | .local _ .vmem, ⟨6, _⟩ => ⟨S384x1536, .f32⟩
  | .local _ .vmem, ⟨7, _⟩ => ⟨S384x512, .f32⟩
  | .local _ .vmem, ⟨8, _⟩ => ⟨S384x512, .f32⟩
  | .local _ .vmem, ⟨9, _⟩ => ⟨S384x512, .f32⟩
  | .local _ .vmem, ⟨10, _⟩ => ⟨S384x512, .f32⟩
  | .local _ .vmem, ⟨11, _⟩ => ⟨S384x512, .f32⟩
  | .local _ .vmem, ⟨12, _⟩ => ⟨S384x512, .f32⟩
  | .local _ .vmem, ⟨13, _⟩ => ⟨S384x512, .f32⟩
  | .local _ .vmem, ⟨14, _⟩ => ⟨S384x512, .f32⟩
  | .local _ .vmem, ⟨15, _⟩ => ⟨S384x1024, .f32⟩
  | .local _ .vmem, ⟨16, _⟩ => ⟨S384x1024, .f32⟩
  | .local _ .vmem, ⟨17, _⟩ => ⟨S384x1024, .f32⟩
  | .local _ .vmem, ⟨18, _⟩ => ⟨S384x1024, .f32⟩
  | .local _ .vmem, ⟨19, _⟩ => ⟨S384x128, .f32⟩
  | .local _ .vmem, ⟨20, _⟩ => ⟨S384x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22_0 : Ref sig .tc := ⟨.hbm, 27, rfl⟩
abbrev main_v22_1 : Ref sig .tc := ⟨.hbm, 28, rfl⟩
abbrev main_v22_2 : Ref sig .tc := ⟨.hbm, 29, rfl⟩
abbrev main_v22_3 : Ref sig .tc := ⟨.hbm, 30, rfl⟩
abbrev main_v22_4 : Ref sig .tc := ⟨.hbm, 31, rfl⟩
abbrev main_v22_5 : Ref sig .tc := ⟨.hbm, 32, rfl⟩
abbrev main_v22_6 : Ref sig .tc := ⟨.hbm, 33, rfl⟩
abbrev main_v22_7 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S384x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S384x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S384x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S384x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S8x2048x1024 : Shape := ⟨3, ![8, 2048, 1024]⟩
abbrev S16x1024 : Shape := ⟨2, ![16, 1024]⟩
abbrev S1x1024 : Shape := ⟨2, ![1, 1024]⟩
abbrev S1x1024x5648 : Shape := ⟨3, ![1, 1024, 5648]⟩
abbrev S1x16x1024 : Shape := ⟨3, ![1, 16, 1024]⟩
abbrev S8x16x1024 : Shape := ⟨3, ![8, 16, 1024]⟩
abbrev S8x2064x1024 : Shape := ⟨3, ![8, 2064, 1024]⟩
abbrev S16512x1024 : Shape := ⟨2, ![16512, 1024]⟩
abbrev S_ : Shape := ⟨0, ![]⟩
abbrev S16512 : Shape := ⟨1, ![16512]⟩
abbrev S16512x1 : Shape := ⟨2, ![16512, 1]⟩
abbrev S1024 : Shape := ⟨1, ![1024]⟩
abbrev S1024x5648 : Shape := ⟨2, ![1024, 5648]⟩
abbrev S16512x5648 : Shape := ⟨2, ![16512, 5648]⟩
abbrev S16512x1536 : Shape := ⟨2, ![16512, 1536]⟩
abbrev S16512x512 : Shape := ⟨2, ![16512, 512]⟩
abbrev S16512x4 : Shape := ⟨2, ![16512, 4]⟩
abbrev S16512x8 : Shape := ⟨2, ![16512, 8]⟩
abbrev S16512x112 : Shape := ⟨2, ![16512, 112]⟩
abbrev S16512x128 : Shape := ⟨2, ![16512, 128]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S16x1024, .f32⟩
  | .hbm, ⟨2, _⟩ => ⟨S1x1024, .f32⟩
  | .hbm, ⟨3, _⟩ => ⟨S1x1024x5648, .f32⟩
  | .hbm, ⟨4, _⟩ => ⟨S1x16x1024, .f32⟩
  | .hbm, ⟨5, _⟩ => ⟨S8x16x1024, .f32⟩
  | .hbm, ⟨6, _⟩ => ⟨S8x2064x1024, .f32⟩
  | .hbm, ⟨7, _⟩ => ⟨S16512x1024, .f32⟩
  | .hbm, ⟨8, _⟩ => ⟨S16512x1024, .f32⟩
  | .hbm, ⟨9, _⟩ => ⟨S_, .f32⟩
  | .hbm, ⟨10, _⟩ => ⟨S16512, .f32⟩
  | .hbm, ⟨11, _⟩ => ⟨S16512x1, .f32⟩
  | .hbm, ⟨12, _⟩ => ⟨S_, .f32⟩
  | .hbm, ⟨13, _⟩ => ⟨S16512x1, .f32⟩
  | .hbm, ⟨14, _⟩ => ⟨S16512x1, .f32⟩
  | .hbm, ⟨15, _⟩ => ⟨S_, .f32⟩
  | .hbm, ⟨16, _⟩ => ⟨S16512x1, .f32⟩
  | .hbm, ⟨17, _⟩ => ⟨S16512x1, .f32⟩
  | .hbm, ⟨18, _⟩ => ⟨S16512x1, .f32⟩
  | .hbm, ⟨19, _⟩ => ⟨S16512x1024, .f32⟩
  | .hbm, ⟨20, _⟩ => ⟨S16512x1024, .f32⟩
  | .hbm, ⟨21, _⟩ => ⟨S1024, .f32⟩
  | .hbm, ⟨22, _⟩ => ⟨S1x1024, .f32⟩
  | .hbm, ⟨23, _⟩ => ⟨S16512x1024, .f32⟩
  | .hbm, ⟨24, _⟩ => ⟨S16512x1024, .f32⟩
  | .hbm, ⟨25, _⟩ => ⟨S1024x5648, .f32⟩
  | .hbm, ⟨26, _⟩ => ⟨S16512x5648, .f32⟩
  | .hbm, ⟨27, _⟩ => ⟨S16512x1536, .f32⟩
  | .hbm, ⟨28, _⟩ => ⟨S16512x512, .f32⟩
  | .hbm, ⟨29, _⟩ => ⟨S16512x4, .f32⟩
  | .hbm, ⟨30, _⟩ => ⟨S16512x4, .f32⟩
  | .hbm, ⟨31, _⟩ => ⟨S16512x512, .f32⟩
  | .hbm, ⟨32, _⟩ => ⟨S16512x512, .f32⟩
  | .hbm, ⟨33, _⟩ => ⟨S16512x512, .f32⟩
  | .hbm, ⟨34, _⟩ => ⟨S16512x8, .f32⟩
  | .hbm, ⟨35, _⟩ => ⟨S16512x1024, .f32⟩
  | .hbm, ⟨36, _⟩ => ⟨S16512x1024, .f32⟩
  | .hbm, ⟨37, _⟩ => ⟨S_, .f32⟩
  | .hbm, ⟨38, _⟩ => ⟨S16512x112, .f32⟩
  | .hbm, ⟨39, _⟩ => ⟨S16512x128, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_2 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== Kernel3.lean ====
abbrev S162 : Shape := ⟨1, ![162]⟩
abbrev S1 : Shape := ⟨1, ![1]⟩
abbrev S82944x1024 : Shape := ⟨2, ![82944, 1024]⟩
abbrev S32x1024x1024 : Shape := ⟨3, ![32, 1024, 1024]⟩
abbrev S32x1x1024 : Shape := ⟨3, ![32, 1, 1024]⟩
abbrev S512x1024 : Shape := ⟨2, ![512, 1024]⟩
abbrev S1x1024x1024 : Shape := ⟨3, ![1, 1024, 1024]⟩
abbrev S1x1x1024 : Shape := ⟨3, ![1, 1, 1024]⟩
abbrev S1024x1024 : Shape := ⟨2, ![1024, 1024]⟩
abbrev S1x1024 : Shape := ⟨2, ![1, 1024]⟩

abbrev nBuf : Space → Nat
  | .hbm => 8
  | .vmem => 19
  | .smem => 2
  | _ => 0

abbrev bufTy : (tb : Table) → Fin (tcTables nBuf tb) → BufTy
  | .hbm, ⟨0, _⟩ => ⟨S82944x1024, .f32⟩
  | .hbm, ⟨1, _⟩ => ⟨S32x1024x1024, .f32⟩
  | .hbm, ⟨2, _⟩ => ⟨S32x1x1024, .f32⟩
  | .hbm, ⟨3, _⟩ => ⟨S32x1024x1024, .f32⟩
  | .hbm, ⟨4, _⟩ => ⟨S32x1x1024, .f32⟩
  | .hbm, ⟨5, _⟩ => ⟨S32x1024x1024, .f32⟩
  | .hbm, ⟨6, _⟩ => ⟨S32x1x1024, .f32⟩
  | .hbm, ⟨7, _⟩ => ⟨S82944x1024, .f32⟩
  | .local _ .vmem, ⟨0, _⟩ => ⟨S512x1024, .f32⟩
  | .local _ .vmem, ⟨1, _⟩ => ⟨S512x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024x1024, .f32⟩
  | .local _ .vmem, ⟨11, _⟩ => ⟨S1x1024x1024, .f32⟩
  | .local _ .vmem, ⟨12, _⟩ => ⟨S1x1x1024, .f32⟩
  | .local _ .vmem, ⟨13, _⟩ => ⟨S1x1x1024, .f32⟩
  | .local _ .vmem, ⟨14, _⟩ => ⟨S512x1024, .f32⟩
  | .local _ .vmem, ⟨15, _⟩ => ⟨S512x1024, .f32⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .smem, ⟨0, _⟩ => ⟨S162, .i32⟩
  | .local _ .smem, ⟨1, _⟩ => ⟨S1, .i32⟩
  | _, _ => ⟨S82944x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_v0 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![162], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S162.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S162) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S162.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S162) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S162.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S162) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S162.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S162) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S162.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S162) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S162.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S162) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S162 : Shape := ⟨1, ![162]⟩
abbrev S1 : Shape := ⟨1, ![1]⟩
abbrev S82944x1024 : Shape := ⟨2, ![82944, 1024]⟩
abbrev S32x1024x1024 : Shape := ⟨3, ![32, 1024, 1024]⟩
abbrev S32x1x1024 : Shape := ⟨3, ![32, 1, 1024]⟩
abbrev S162x512x1024 : Shape := ⟨3, ![162, 512, 1024]⟩
abbrev S_ : Shape := ⟨0, ![]⟩
abbrev S162x1 : Shape := ⟨2, ![162, 1]⟩
abbrev S162x1024x1024 : Shape := ⟨3, ![162, 1024, 1024]⟩
abbrev S162x1x1024 : Shape := ⟨3, ![162, 1, 1024]⟩
abbrev S162x1x1 : Shape := ⟨3, ![162, 1, 1]⟩

abbrev nBuf : Space → Nat
  | .hbm => 111
  | .vmem => 0
  | .smem => 0
  | _ => 0

abbrev bufTy : (tb : Table) → Fin (tcTables nBuf tb) → BufTy
  | .hbm, ⟨0, _⟩ => ⟨S162, .i32⟩
  | .hbm, ⟨1, _⟩ => ⟨S1, .i32⟩
  | .hbm, ⟨2, _⟩ => ⟨S82944x1024, .f32⟩
  | .hbm, ⟨3, _⟩ => ⟨S32x1024x1024, .f32⟩
  | .hbm, ⟨4, _⟩ => ⟨S32x1x1024, .f32⟩
  | .hbm, ⟨5, _⟩ => ⟨S32x1024x1024, .f32⟩
  | .hbm, ⟨6, _⟩ => ⟨S32x1x1024, .f32⟩
  | .hbm, ⟨7, _⟩ => ⟨S32x1024x1024, .f32⟩
  | .hbm, ⟨8, _⟩ => ⟨S32x1x1024, .f32⟩
  | .hbm, ⟨9, _⟩ => ⟨S162x512x1024, .f32⟩
  | .hbm, ⟨10, _⟩ => ⟨S_, .i32⟩
  | .hbm, ⟨11, _⟩ => ⟨S162, .i32⟩
  | .hbm, ⟨12, _⟩ => ⟨S162, .i1⟩
  | .hbm, ⟨13, _⟩ => ⟨S_, .i32⟩
  | .hbm, ⟨14, _⟩ => ⟨S162, .i32⟩
  | .hbm, ⟨15, _⟩ => ⟨S162, .i32⟩
  | .hbm, ⟨16, _⟩ => ⟨S162, .i32⟩
  | .hbm, ⟨17, _⟩ => ⟨S162x1, .i32⟩
  | .hbm, ⟨18, _⟩ => ⟨S162x1024x1024, .f32⟩
  | .hbm, ⟨19, _⟩ => ⟨S162x512x1024, .f32⟩
  | .hbm, ⟨20, _⟩ => ⟨S_, .i32⟩
  | .hbm, ⟨21, _⟩ => ⟨S162, .i32⟩
  | .hbm, ⟨22, _⟩ => ⟨S162, .i1⟩
  | .hbm, ⟨23, _⟩ => ⟨S_, .i32⟩
  | .hbm, ⟨24, _⟩ => ⟨S162, .i32⟩
  | .hbm, ⟨25, _⟩ => ⟨S162, .i32⟩
  | .hbm, ⟨26, _⟩ => ⟨S162, .i32⟩
  | .hbm, ⟨27, _⟩ => ⟨S162x1, .i32⟩
  | .hbm, ⟨28, _⟩ => ⟨S162x1x1024, .f32⟩
  | .hbm, ⟨29, _⟩ => ⟨S162x512x1024, .f32⟩
  | .hbm, ⟨30, _⟩ => ⟨S162x512x1024, .f32⟩
  | .hbm, ⟨31, _⟩ => ⟨S_, .f32⟩
  | .hbm, ⟨32, _⟩ => ⟨S162x512x1024, .f32⟩
  | .hbm, ⟨33, _⟩ => ⟨S162x512x1024, .f32⟩
  | .hbm, ⟨34, _⟩ => ⟨S_, .i32⟩
  | .hbm, ⟨35, _⟩ => ⟨S162, .i32⟩
  | .hbm, ⟨36, _⟩ => ⟨S162, .i1⟩
  | .hbm, ⟨37, _⟩ => ⟨S_, .i32⟩
  | .hbm, ⟨38, _⟩ => ⟨S162, .i32⟩
  | .hbm, ⟨39, _⟩ => ⟨S162, .i32⟩
  | .hbm, ⟨40, _⟩ => ⟨S162, .i32⟩
  | .hbm, ⟨41, _⟩ => ⟨S162x1, .i32⟩
  | .hbm, ⟨42, _⟩ => ⟨S162x1024x1024, .f32⟩
  | .hbm, ⟨43, _⟩ => ⟨S162x512x1024, .f32⟩
  | .hbm, ⟨44, _⟩ => ⟨S_, .i32⟩
  | .hbm, ⟨45, _⟩ => ⟨S162, .i32⟩
  | .hbm, ⟨46, _⟩ => ⟨S162, .i1⟩
  | .hbm, ⟨47, _⟩ => ⟨S_, .i32⟩
  | .hbm, ⟨48, _⟩ => ⟨S162, .i32⟩
  | .hbm, ⟨49, _⟩ => ⟨S162, .i32⟩
  | .hbm, ⟨50, _⟩ => ⟨S162, .i32⟩
  | .hbm, ⟨51, _⟩ => ⟨S162x1, .i32⟩
  | .hbm, ⟨52, _⟩ => ⟨S162x1x1024, .f32⟩
  | .hbm, ⟨53, _⟩ => ⟨S162x512x1024, .f32⟩
  | .hbm, ⟨54, _⟩ => ⟨S162x512x1024, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S162x512x1024, .f32⟩
  | .hbm, ⟨59, _⟩ => ⟨S162x512x1024, .f32⟩
  | .hbm, ⟨60, _⟩ => ⟨S_, .f32⟩
  | .hbm, ⟨61, _⟩ => ⟨S162x512x1024, .f32⟩
  | .hbm, ⟨62, _⟩ => ⟨S162x512x1024, .f32⟩
  | .hbm, ⟨63, _⟩ => ⟨S_, .f32⟩
  | .hbm, ⟨64, _⟩ => ⟨S162x512x1024, .f32⟩
  | .hbm, ⟨65, _⟩ => ⟨S162x512x1024, .f32⟩
  | .hbm, ⟨66, _⟩ => ⟨S162x512x1024, .f32⟩
  | .hbm, ⟨67, _⟩ => ⟨S_, .f32⟩
  | .hbm, ⟨68, _⟩ => ⟨S162x512x1024, .f32⟩
  | .hbm, ⟨69, _⟩ => ⟨S162x512x1024, .f32⟩
  | .hbm, ⟨70, _⟩ => ⟨S162x512x1024, .f32⟩
  | .hbm, ⟨71, _⟩ => ⟨S162x512x1024, .f32⟩
  | .hbm, ⟨72, _⟩ => ⟨S_, .f32⟩
  | .hbm, ⟨73, _⟩ => ⟨S162x512x1024, .f32⟩
  | .hbm, ⟨74, _⟩ => ⟨S162x512x1024, .f32⟩
  | .hbm, ⟨75, _⟩ => ⟨S_, .f32⟩
  | .hbm, ⟨76, _⟩ => ⟨S162x512x1024, .f32⟩
  | .hbm, ⟨77, _⟩ => ⟨S162x512x1024, .f32⟩
  | .hbm, ⟨78, _⟩ => ⟨S162x512x1024, .f32⟩
  | .hbm, ⟨79, _⟩ => ⟨S_, .i32⟩
  | .hbm, ⟨80, _⟩ => ⟨S162, .i32⟩
  | .hbm, ⟨81, _⟩ => ⟨S162, .i1⟩
  | .hbm, ⟨82, _⟩ => ⟨S_, .i32⟩
  | .hbm, ⟨83, _⟩ => ⟨S162, .i32⟩
  | .hbm, ⟨84, _⟩ => ⟨S162, .i32⟩
  | .hbm, ⟨85, _⟩ => ⟨S162, .i32⟩
  | .hbm, ⟨86, _⟩ => ⟨S162x1, .i32⟩
  | .hbm, ⟨87, _⟩ => ⟨S162x1024x1024, .f32⟩
  | .hbm, ⟨88, _⟩ => ⟨S162x512x1024, .f32⟩
  | .hbm, ⟨89, _⟩ => ⟨S_, .i32⟩
  | .hbm, ⟨90, _⟩ => ⟨S162, .i32⟩
  | .hbm, ⟨91, _⟩ => ⟨S162, .i1⟩
  | .hbm, ⟨92, _⟩ => ⟨S_, .i32⟩
  | .hbm, ⟨93, _⟩ => ⟨S162, .i32⟩
  | .hbm, ⟨94, _⟩ => ⟨S162, .i32⟩
  | .hbm, ⟨95, _⟩ => ⟨S162, .i32⟩
  | .hbm, ⟨96, _⟩ => ⟨S162x1, .i32⟩
  | .hbm, ⟨97, _⟩ => ⟨S162x1x1024, .f32⟩
  | .hbm, ⟨98, _⟩ => ⟨S162x512x1024, .f32⟩
  | .hbm, ⟨99, _⟩ => ⟨S162x512x1024, .f32⟩
  | .hbm, ⟨100, _⟩ => ⟨S162, .i32⟩
  | .hbm, ⟨101, _⟩ => ⟨S_, .i32⟩
  | .hbm, ⟨102, _⟩ => ⟨S162, .i32⟩
  | .hbm, ⟨103, _⟩ => ⟨S162, .i1⟩
  | .hbm, ⟨104, _⟩ => ⟨S162x1x1, .i1⟩
  | .hbm, ⟨105, _⟩ => ⟨S_, .f32⟩
  | .hbm, ⟨106, _⟩ => ⟨S_, .f32⟩
  | .hbm, ⟨107, _⟩ => ⟨S162x512x1024, .i1⟩
  | .hbm, ⟨108, _⟩ => ⟨S162x512x1024, .f32⟩
  | .hbm, ⟨109, _⟩ => ⟨S162x512x1024, .f32⟩
  | .hbm, ⟨110, _⟩ => ⟨S82944x1024, .f32⟩
  | _, _ => ⟨S162, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_cst_8 : Ref sig .tc := ⟨.hbm, 56, rfl⟩
abbrev main_call0_v0 : Ref sig .tc := ⟨.hbm, 57, rfl⟩
abbrev main_call0_v1 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_v37 : Ref sig .tc := ⟨.hbm, 62, rfl⟩
abbrev main_cst_9 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_10 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_11 : Ref sig .tc := ⟨.hbm, 72, rfl⟩
abbrev main_v45 : Ref sig .tc := ⟨.hbm, 73, rfl⟩
abbrev main_v46 : Ref sig .tc := ⟨.hbm, 74, rfl⟩
abbrev main_cst_12 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_c_13 : Ref sig .tc := ⟨.hbm, 79, rfl⟩
abbrev main_v50 : Ref sig .tc := ⟨.hbm, 80, rfl⟩
abbrev main_v51 : Ref sig .tc := ⟨.hbm, 81, rfl⟩
abbrev main_c_14 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_c_15 : Ref sig .tc := ⟨.hbm, 89, rfl⟩
abbrev main_v58 : Ref sig .tc := ⟨.hbm, 90, rfl⟩
abbrev main_v59 : Ref sig .tc := ⟨.hbm, 91, rfl⟩
abbrev main_c_16 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_17 : Ref sig .tc := ⟨.hbm, 105, rfl⟩
abbrev main_call1_v0 : Ref sig .tc := ⟨.hbm, 106, rfl⟩
abbrev main_call1_v1 : Ref sig .tc := ⟨.hbm, 107, rfl⟩
abbrev main_call1_v2 : Ref sig .tc := ⟨.hbm, 108, rfl⟩
abbrev main_v72 : Ref sig .tc := ⟨.hbm, 109, rfl⟩
abbrev main_v73 : Ref sig .tc := ⟨.hbm, 110, rfl⟩

abbrev nD : Nat := 1
abbrev τ : Topo := Topo.v7x

variable {F : FTy → Type} [FloatOps F]
-- ==== Kernel4.lean ====
abbrev S16512x1024 : Shape := ⟨2, ![16512, 1024]⟩
abbrev S4x16544x1024 : Shape := ⟨3, ![4, 16544, 1024]⟩
abbrev S16512x128 : Shape := ⟨2, ![16512, 128]⟩
abbrev S384x1024 : Shape := ⟨2, ![384, 1024]⟩
abbrev S4x384x1024 : Shape := ⟨3, ![4, 384, 1024]⟩
abbrev S384x128 : Shape := ⟨2, ![384, 128]⟩
abbrev S384x1 : Shape := ⟨2, ![384, 1]⟩
abbrev S1x384x1024 : Shape := ⟨3, ![1, 384, 1024]⟩

abbrev nBuf : Space → Nat
  | .hbm => 4
  | .vmem => 8
  | .smem => 0
  | _ => 0

abbrev bufTy : (tb : Table) → Fin (tcTables nBuf tb) → BufTy
  | .hbm, ⟨0, _⟩ => ⟨S16512x1024, .f32⟩
  | .hbm, ⟨1, _⟩ => ⟨S4x16544x1024, .f32⟩
  | .hbm, ⟨2, _⟩ => ⟨S16512x128, .f32⟩
  | .hbm, ⟨3, _⟩ => ⟨S16512x1024, .f32⟩
  | .local _ .vmem, ⟨0, _⟩ => ⟨S384x1024, .f32⟩
  | .local _ .vmem, ⟨1, _⟩ => ⟨S384x1024, .f32⟩
  | .local _ .vmem, ⟨2, _⟩ => ⟨S4x384x1024, .f32⟩
  | .local _ .vmem, ⟨3, _⟩ => ⟨S4x384x1024, .f32⟩
  | .local _ .vmem, ⟨4, _⟩ => ⟨S384x128, .f32⟩
  | .local _ .vmem, ⟨5, _⟩ => ⟨S384x128, .f32⟩
  | .local _ .vmem, ⟨6, _⟩ => ⟨S384x1024, .f32⟩
  | .local _ .vmem, ⟨7, _⟩ => ⟨S384x1024, .f32⟩
  | _, _ => ⟨S16512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S16512x1024 : Shape := ⟨2, ![16512, 1024]⟩
abbrev S4x16544x1024 : Shape := ⟨3, ![4, 16544, 1024]⟩
abbrev S16512x128 : Shape := ⟨2, ![16512, 128]⟩
abbrev S16512x4 : Shape := ⟨2, ![16512, 4]⟩
abbrev S4x16512x1024 : Shape := ⟨3, ![4, 16512, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16512x1024, .f32⟩
  | .hbm, ⟨1, _⟩ => ⟨S4x16544x1024, .f32⟩
  | .hbm, ⟨2, _⟩ => ⟨S16512x128, .f32⟩
  | .hbm, ⟨3, _⟩ => ⟨S16512x4, .f32⟩
  | .hbm, ⟨4, _⟩ => ⟨S4x16512x1024, .f32⟩
  | .hbm, ⟨5, _⟩ => ⟨S16512x1024, .f32⟩
  | .hbm, ⟨6, _⟩ => ⟨S16512x1024, .f32⟩
  | _, _ => ⟨S16512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S8x2064x128 : Shape := ⟨3, ![8, 2064, 128]⟩
abbrev S1x128 : Shape := ⟨2, ![1, 128]⟩
abbrev S8x2304x128 : Shape := ⟨3, ![8, 2304, 128]⟩
abbrev S1x2064x128 : Shape := ⟨3, ![1, 2064, 128]⟩
abbrev S1x2304x128 : Shape := ⟨3, ![1, 2304, 128]⟩
abbrev S2304x128 : Shape := ⟨2, ![2304, 128]⟩
abbrev S2064x128 : Shape := ⟨2, ![2064, 128]⟩
abbrev S240x128 : Shape := ⟨2, ![240, 128]⟩
abbrev S256x256 : Shape := ⟨2, ![256, 256]⟩
abbrev S256x128 : Shape := ⟨2, ![256, 128]⟩
abbrev S1x256x128 : Shape := ⟨3, ![1, 256, 128]⟩

abbrev nBuf : Space → Nat
  | .hbm => 4
  | .vmem => 8
  | .smem => 0
  | _ => 0

abbrev bufTy : (tb : Table) → Fin (tcTables nBuf tb) → BufTy
  | .hbm, ⟨0, _⟩ => ⟨S8x2064x128, .f32⟩
  | .hbm, ⟨1, _⟩ => ⟨S1x128, .f32⟩
  | .hbm, ⟨2, _⟩ => ⟨S8x2064x128, .f32⟩
  | .hbm, ⟨3, _⟩ => ⟨S8x2304x128, .f32⟩
  | .local _ .vmem, ⟨0, _⟩ => ⟨S1x2064x128, .f32⟩
  | .local _ .vmem, ⟨1, _⟩ => ⟨S1x2064x128, .f32⟩
  | .local _ .vmem, ⟨2, _⟩ => ⟨S1x128, .f32⟩
  | .local _ .vmem, ⟨3, _⟩ => ⟨S1x2064x128, .f32⟩
  | .local _ .vmem, ⟨4, _⟩ => ⟨S1x2064x128, .f32⟩
  | .local _ .vmem, ⟨5, _⟩ => ⟨S1x2304x128, .f32⟩
  | .local _ .vmem, ⟨6, _⟩ => ⟨S1x2304x128, .f32⟩
  | .local _ .vmem, ⟨7, _⟩ => ⟨S2304x128, .f32⟩
  | _, _ => ⟨S8x2064x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2064x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2064x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2304x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S8x2064x128 : Shape := ⟨3, ![8, 2064, 128]⟩
abbrev S1x128 : Shape := ⟨2, ![1, 128]⟩
abbrev S128 : Shape := ⟨1, ![128]⟩
abbrev S1x1x128 : Shape := ⟨3, ![1, 1, 128]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8x2064x128, .f32⟩
  | .hbm, ⟨1, _⟩ => ⟨S1x128, .f32⟩
  | .hbm, ⟨2, _⟩ => ⟨S128, .f32⟩
  | .hbm, ⟨3, _⟩ => ⟨S1x1x128, .f32⟩
  | .hbm, ⟨4, _⟩ => ⟨S8x2064x128, .f32⟩
  | .hbm, ⟨5, _⟩ => ⟨S8x2064x128, .f32⟩
  | .hbm, ⟨6, _⟩ => ⟨S8x2064x128, .f32⟩
  | .hbm, ⟨7, _⟩ => ⟨S_, .f32⟩
  | .hbm, ⟨8, _⟩ => ⟨S8x2064x128, .f32⟩
  | .hbm, ⟨9, _⟩ => ⟨S8x2064x128, .f32⟩
  | .hbm, ⟨10, _⟩ => ⟨S8x2064x128, .f32⟩
  | .hbm, ⟨11, _⟩ => ⟨S8x2064x128, .f32⟩
  | .hbm, ⟨12, _⟩ => ⟨S8x2064x128, .i1⟩
  | .hbm, ⟨13, _⟩ => ⟨S8x2064x128, .f32⟩
  | .hbm, ⟨14, _⟩ => ⟨S8x2064x128, .f32⟩
  | .hbm, ⟨15, _⟩ => ⟨S8x2064x128, .f32⟩
  | .hbm, ⟨16, _⟩ => ⟨S8x2064x128, .f32⟩
  | .hbm, ⟨17, _⟩ => ⟨S8x2064x128, .f32⟩
  | .hbm, ⟨18, _⟩ => ⟨S8x2064x128, .f32⟩
  | .hbm, ⟨19, _⟩ => ⟨S8x2064x128, .f32⟩
  | .hbm, ⟨20, _⟩ => ⟨S8x2064x128, .f32⟩
  | .hbm, ⟨21, _⟩ => ⟨S8x2064x128, .f32⟩
  | _, _ => ⟨S8x2064x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1 : Ref sig .tc := ⟨.hbm, 20, rfl⟩
abbrev main_v4 : Ref sig .tc := ⟨.hbm, 21, rfl⟩

abbrev nD : Nat := 1
abbrev τ : Topo := Topo.v7x

variable {F : FTy → Type} [FloatOps F]
-- ==== Kernel6.lean ====
abbrev S32x1024 : Shape := ⟨2, ![32, 1024]⟩
abbrev S4x16544x1024 : Shape := ⟨3, ![4, 16544, 1024]⟩
abbrev S32x128 : Shape := ⟨2, ![32, 128]⟩
abbrev S4x32x1024 : Shape := ⟨3, ![4, 32, 1024]⟩
abbrev S32x1 : Shape := ⟨2, ![32, 1]⟩
abbrev S1x32x1024 : Shape := ⟨3, ![1, 32, 1024]⟩

abbrev nBuf : Space → Nat
  | .hbm => 4
  | .vmem => 4
  | .smem => 0
  | _ => 0

abbrev bufTy : (tb : Table) → Fin (tcTables nBuf tb) → BufTy
  | .hbm, ⟨0, _⟩ => ⟨S32x1024, .f32⟩
  | .hbm, ⟨1, _⟩ => ⟨S4x16544x1024, .f32⟩
  | .hbm, ⟨2, _⟩ => ⟨S32x128, .f32⟩
  | .hbm, ⟨3, _⟩ => ⟨S32x1024, .f32⟩
  | .local _ .vmem, ⟨0, _⟩ => ⟨S32x1024, .f32⟩
  | .local _ .vmem, ⟨1, _⟩ => ⟨S4x32x1024, .f32⟩
  | .local _ .vmem, ⟨2, _⟩ => ⟨S32x128, .f32⟩
  | .local _ .vmem, ⟨3, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c516_i32 : BitVec 32 := 516#32
  let v0 : BitVec 32 := Scalar.addi c516_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== Reference6Ideal.lean ====
abbrev S32x1024 : Shape := ⟨2, ![32, 1024]⟩
abbrev S4x16544x1024 : Shape := ⟨3, ![4, 16544, 1024]⟩
abbrev S32x128 : Shape := ⟨2, ![32, 128]⟩
abbrev S32x4 : Shape := ⟨2, ![32, 4]⟩
abbrev S4x32x1024 : Shape := ⟨3, ![4, 32, 1024]⟩

abbrev nBuf : Space → Nat
  | .hbm => 7
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S4x16544x1024, .f32⟩
  | .hbm, ⟨2, _⟩ => ⟨S32x128, .f32⟩
  | .hbm, ⟨3, _⟩ => ⟨S32x4, .f32⟩
  | .hbm, ⟨4, _⟩ => ⟨S4x32x1024, .f32⟩
  | .hbm, ⟨5, _⟩ => ⟨S32x1024, .f32⟩
  | .hbm, ⟨6, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S32x1x1024 : Shape := ⟨3, ![32, 1, 1024]⟩
abbrev S1x1024 : Shape := ⟨2, ![1, 1024]⟩
abbrev S1x1024x5648 : Shape := ⟨3, ![1, 1024, 5648]⟩
abbrev S1024x5648 : Shape := ⟨2, ![1024, 5648]⟩
abbrev S1024x1536 : Shape := ⟨2, ![1024, 1536]⟩
abbrev S1024x512 : Shape := ⟨2, ![1024, 512]⟩
abbrev S1024x1024 : Shape := ⟨2, ![1024, 1024]⟩
abbrev S1024x5632 : Shape := ⟨2, ![1024, 5632]⟩
abbrev S1024x4 : Shape := ⟨2, ![1024, 4]⟩
abbrev S1024x8 : Shape := ⟨2, ![1024, 8]⟩
abbrev S_ : Shape := ⟨0, ![]⟩
abbrev S1024x112 : Shape := ⟨2, ![1024, 112]⟩
abbrev S1024x128 : Shape := ⟨2, ![1024, 128]⟩
abbrev S1024 : Shape := ⟨1, ![1024]⟩
abbrev S32x1024 : Shape := ⟨2, ![32, 1024]⟩
abbrev S32x1536 : Shape := ⟨2, ![32, 1536]⟩
abbrev S32x512 : Shape := ⟨2, ![32, 512]⟩
abbrev S32x128 : Shape := ⟨2, ![32, 128]⟩
abbrev S32 : Shape := ⟨1, ![32]⟩
abbrev S32x1 : Shape := ⟨2, ![32, 1]⟩

abbrev nBuf : Space → Nat
  | .hbm => 31
  | .vmem => 12
  | .smem => 0
  | _ => 0

abbrev bufTy : (tb : Table) → Fin (tcTables nBuf tb) → BufTy
  | .hbm, ⟨0, _⟩ => ⟨S32x1x1024, .f32⟩
  | .hbm, ⟨1, _⟩ => ⟨S1x1024, .f32⟩
  | .hbm, ⟨2, _⟩ => ⟨S1x1024x5648, .f32⟩
  | .hbm, ⟨3, _⟩ => ⟨S1024x5648, .f32⟩
  | .hbm, ⟨4, _⟩ => ⟨S1024x1536, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x1024, .f32⟩
  | .hbm, ⟨10, _⟩ => ⟨S1024x1024, .f32⟩
  | .hbm, ⟨11, _⟩ => ⟨S1024x5632, .f32⟩
  | .hbm, ⟨12, _⟩ => ⟨S1024x5632, .bf16⟩
  | .hbm, ⟨13, _⟩ => ⟨S1024x4, .f32⟩
  | .hbm, ⟨14, _⟩ => ⟨S1024x4, .f32⟩
  | .hbm, ⟨15, _⟩ => ⟨S1024x8, .f32⟩
  | .hbm, ⟨16, _⟩ => ⟨S_, .f32⟩
  | .hbm, ⟨17, _⟩ => ⟨S1024x112, .f32⟩
  | .hbm, ⟨18, _⟩ => ⟨S1024x128, .f32⟩
  | .hbm, ⟨19, _⟩ => ⟨S1024x128, .bf16⟩
  | .hbm, ⟨20, _⟩ => ⟨S1024, .f32⟩
  | .hbm, ⟨21, _⟩ => ⟨S1x1024, .f32⟩
  | .hbm, ⟨22, _⟩ => ⟨S32x1024, .f32⟩
  | .hbm, ⟨23, _⟩ => ⟨S32x1536, .f32⟩
  | .hbm, ⟨24, _⟩ => ⟨S32x512, .f32⟩
  | .hbm, ⟨25, _⟩ => ⟨S32x512, .f32⟩
  | .hbm, ⟨26, _⟩ => ⟨S32x512, .f32⟩
  | .hbm, ⟨27, _⟩ => ⟨S32x512, .f32⟩
  | .hbm, ⟨28, _⟩ => ⟨S32x1024, .f32⟩
  | .hbm, ⟨29, _⟩ => ⟨S32x1024, .f32⟩
  | .hbm, ⟨30, _⟩ => ⟨S32x128, .f32⟩
  | .local _ .vmem, ⟨0, _⟩ => ⟨S32x1024, .f32⟩
  | .local _ .vmem, ⟨1, _⟩ => ⟨S1x1024, .f32⟩
  | .local _ .vmem, ⟨2, _⟩ => ⟨S1024x5632, .bf16⟩
  | .local _ .vmem, ⟨3, _⟩ => ⟨S1024x128, .bf16⟩
  | .local _ .vmem, ⟨4, _⟩ => ⟨S32x1536, .f32⟩
  | .local _ .vmem, ⟨5, _⟩ => ⟨S32x512, .f32⟩
  | .local _ .vmem, ⟨6, _⟩ => ⟨S32x512, .f32⟩
  | .local _ .vmem, ⟨7, _⟩ => ⟨S32x512, .f32⟩
  | .local _ .vmem, ⟨8, _⟩ => ⟨S32x512, .f32⟩
  | .local _ .vmem, ⟨9, _⟩ => ⟨S32x1024, .f32⟩
  | .local _ .vmem, ⟨10, _⟩ => ⟨S32x1024, .f32⟩
  | .local _ .vmem, ⟨11, _⟩ => ⟨S32x128, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19_0 : Ref sig .tc := ⟨.hbm, 23, rfl⟩
abbrev main_v19_1 : Ref sig .tc := ⟨.hbm, 24, rfl⟩
abbrev main_v19_2 : Ref sig .tc := ⟨.hbm, 25, rfl⟩
abbrev main_v19_3 : Ref sig .tc := ⟨.hbm, 26, rfl⟩
abbrev main_v19_4 : Ref sig .tc := ⟨.hbm, 27, rfl⟩
abbrev main_v19_5 : Ref sig .tc := ⟨.hbm, 28, rfl⟩
abbrev main_v19_6 : Ref sig .tc := ⟨.hbm, 29, rfl⟩
abbrev main_v19_7 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S32x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S32x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S32x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S32x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S32x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]
-- ==== Reference7Ideal.lean ====
abbrev S32x1x1024 : Shape := ⟨3, ![32, 1, 1024]⟩
abbrev S1x1024 : Shape := ⟨2, ![1, 1024]⟩
abbrev S1x1024x5648 : Shape := ⟨3, ![1, 1024, 5648]⟩
abbrev S32x1024 : Shape := ⟨2, ![32, 1024]⟩
abbrev S_ : Shape := ⟨0, ![]⟩
abbrev S32 : Shape := ⟨1, ![32]⟩
abbrev S32x1 : Shape := ⟨2, ![32, 1]⟩
abbrev S1024 : Shape := ⟨1, ![1024]⟩
abbrev S1024x5648 : Shape := ⟨2, ![1024, 5648]⟩
abbrev S32x5648 : Shape := ⟨2, ![32, 5648]⟩
abbrev S32x512 : Shape := ⟨2, ![32, 512]⟩

abbrev nBuf : Space → Nat
  | .hbm => 24
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S1x1024, .f32⟩
  | .hbm, ⟨2, _⟩ => ⟨S1x1024x5648, .f32⟩
  | .hbm, ⟨3, _⟩ => ⟨S32x1024, .f32⟩
  | .hbm, ⟨4, _⟩ => ⟨S32x1024, .f32⟩
  | .hbm, ⟨5, _⟩ => ⟨S_, .f32⟩
  | .hbm, ⟨6, _⟩ => ⟨S32, .f32⟩
  | .hbm, ⟨7, _⟩ => ⟨S32x1, .f32⟩
  | .hbm, ⟨8, _⟩ => ⟨S_, .f32⟩
  | .hbm, ⟨9, _⟩ => ⟨S32x1, .f32⟩
  | .hbm, ⟨10, _⟩ => ⟨S32x1, .f32⟩
  | .hbm, ⟨11, _⟩ => ⟨S_, .f32⟩
  | .hbm, ⟨12, _⟩ => ⟨S32x1, .f32⟩
  | .hbm, ⟨13, _⟩ => ⟨S32x1, .f32⟩
  | .hbm, ⟨14, _⟩ => ⟨S32x1, .f32⟩
  | .hbm, ⟨15, _⟩ => ⟨S32x1024, .f32⟩
  | .hbm, ⟨16, _⟩ => ⟨S32x1024, .f32⟩
  | .hbm, ⟨17, _⟩ => ⟨S1024, .f32⟩
  | .hbm, ⟨18, _⟩ => ⟨S1x1024, .f32⟩
  | .hbm, ⟨19, _⟩ => ⟨S32x1024, .f32⟩
  | .hbm, ⟨20, _⟩ => ⟨S32x1024, .f32⟩
  | .hbm, ⟨21, _⟩ => ⟨S1024x5648, .f32⟩
  | .hbm, ⟨22, _⟩ => ⟨S32x5648, .f32⟩
  | .hbm, ⟨23, _⟩ => ⟨S32x512, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel8.lean ====
abbrev S32x1x1536 : Shape := ⟨3, ![32, 1, 1536]⟩
abbrev S32x3x1536 : Shape := ⟨3, ![32, 3, 1536]⟩
abbrev S32x1x128 : Shape := ⟨3, ![32, 1, 128]⟩
abbrev S4x1536 : Shape := ⟨2, ![4, 1536]⟩
abbrev S1x128 : Shape := ⟨2, ![1, 128]⟩
abbrev S32x4x128x128 : Shape := ⟨4, ![32, 4, 128, 128]⟩
abbrev S32x1x512 : Shape := ⟨3, ![32, 1, 512]⟩
abbrev S1x1x1536 : Shape := ⟨3, ![1, 1, 1536]⟩
abbrev S1x3x1536 : Shape := ⟨3, ![1, 3, 1536]⟩
abbrev S1x1x128 : Shape := ⟨3, ![1, 1, 128]⟩
abbrev S1x4x128x128 : Shape := ⟨4, ![1, 4, 128, 128]⟩
abbrev S1x1x512 : Shape := ⟨3, ![1, 1, 512]⟩
abbrev S1x1536 : Shape := ⟨2, ![1, 1536]⟩
abbrev S3x1536 : Shape := ⟨2, ![3, 1536]⟩
abbrev S2x1536 : Shape := ⟨2, ![2, 1536]⟩
abbrev S1x2x1536 : Shape := ⟨3, ![1, 2, 1536]⟩
abbrev S128x128 : Shape := ⟨2, ![128, 128]⟩
abbrev S1 : Shape := ⟨1, ![1]⟩
abbrev S1x1 : Shape := ⟨2, ![1, 1]⟩
abbrev S1x1x128x128 : Shape := ⟨4, ![1, 1, 128, 128]⟩

abbrev nBuf : Space → Nat
  | .hbm => 10
  | .vmem => 17
  | .smem => 0
  | _ => 0

abbrev bufTy : (tb : Table) → Fin (tcTables nBuf tb) → BufTy
  | .hbm, ⟨0, _⟩ => ⟨S32x1x1536, .f32⟩
  | .hbm, ⟨1, _⟩ => ⟨S32x3x1536, .f32⟩
  | .hbm, ⟨2, _⟩ => ⟨S32x1x128, .f32⟩
  | .hbm, ⟨3, _⟩ => ⟨S4x1536, .f32⟩
  | .hbm, ⟨4, _⟩ => ⟨S1x128, .f32⟩
  | .hbm, ⟨5, _⟩ => ⟨S1x128, .f32⟩
  | .hbm, ⟨6, _⟩ => ⟨S32x4x128x128, .f32⟩
  | .hbm, ⟨7, _⟩ => ⟨S32x1x512, .f32⟩
  | .hbm, ⟨8, _⟩ => ⟨S32x4x128x128, .f32⟩
  | .hbm, ⟨9, _⟩ => ⟨S32x3x1536, .f32⟩
  | .local _ .vmem, ⟨0, _⟩ => ⟨S1x1x1536, .f32⟩
  | .local _ .vmem, ⟨1, _⟩ => ⟨S1x1x1536, .f32⟩
  | .local _ .vmem, ⟨2, _⟩ => ⟨S1x3x1536, .f32⟩
  | .local _ .vmem, ⟨3, _⟩ => ⟨S1x3x1536, .f32⟩
  | .local _ .vmem, ⟨4, _⟩ => ⟨S1x1x128, .f32⟩
  | .local _ .vmem, ⟨5, _⟩ => ⟨S1x1x128, .f32⟩
  | .local _ .vmem, ⟨6, _⟩ => ⟨S4x1536, .f32⟩
  | .local _ .vmem, ⟨7, _⟩ => ⟨S1x128, .f32⟩
  | .local _ .vmem, ⟨8, _⟩ => ⟨S1x128, .f32⟩
  | .local _ .vmem, ⟨9, _⟩ => ⟨S1x4x128x128, .f32⟩
  | .local _ .vmem, ⟨10, _⟩ => ⟨S1x4x128x128, .f32⟩
  | .local _ .vmem, ⟨11, _⟩ => ⟨S1x1x512, .f32⟩
  | .local _ .vmem, ⟨12, _⟩ => ⟨S1x1x512, .f32⟩
  | .local _ .vmem, ⟨13, _⟩ => ⟨S1x4x128x128, .f32⟩
  | .local _ .vmem, ⟨14, _⟩ => ⟨S1x4x128x128, .f32⟩
  | .local _ .vmem, ⟨15, _⟩ => ⟨S1x3x1536, .f32⟩
  | .local _ .vmem, ⟨16, _⟩ => ⟨S1x3x1536, .f32⟩
  | _, _ => ⟨S32x1x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x3x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference8Ideal.lean ====
abbrev S32x1x1536 : Shape := ⟨3, ![32, 1, 1536]⟩
abbrev S32x3x1536 : Shape := ⟨3, ![32, 3, 1536]⟩
abbrev S32x1x128 : Shape := ⟨3, ![32, 1, 128]⟩
abbrev S4x1536 : Shape := ⟨2, ![4, 1536]⟩
abbrev S1x128 : Shape := ⟨2, ![1, 128]⟩
abbrev S32x4x128x128 : Shape := ⟨4, ![32, 4, 128, 128]⟩
abbrev S32x4x1536 : Shape := ⟨3, ![32, 4, 1536]⟩

abbrev nBuf : Space → Nat
  | .hbm => 9
  | .vmem => 0
  | .smem => 0
  | _ => 0

abbrev bufTy : (tb : Table) → Fin (tcTables nBuf tb) → BufTy
  | .hbm, ⟨0, _⟩ => ⟨S32x1x1536, .f32⟩
  | .hbm, ⟨1, _⟩ => ⟨S32x3x1536, .f32⟩
  | .hbm, ⟨2, _⟩ => ⟨S32x1x128, .f32⟩
  | .hbm, ⟨3, _⟩ => ⟨S4x1536, .f32⟩
  | .hbm, ⟨4, _⟩ => ⟨S1x128, .f32⟩
  | .hbm, ⟨5, _⟩ => ⟨S1x128, .f32⟩
  | .hbm, ⟨6, _⟩ => ⟨S32x4x128x128, .f32⟩
  | .hbm, ⟨7, _⟩ => ⟨S32x4x1536, .f32⟩
  | .hbm, ⟨8, _⟩ => ⟨S32x3x1536, .f32⟩
  | _, _ => ⟨S32x1x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩

abbrev nD : Nat := 1
abbrev τ : Topo := Topo.v7x

variable {F : FTy → Type} [FloatOps F]
-- ==== Kernel9.lean ====
abbrev S8x2064x512 : Shape := ⟨3, ![8, 2064, 512]⟩
abbrev S8x2304x128 : Shape := ⟨3, ![8, 2304, 128]⟩
abbrev S1x64 : Shape := ⟨2, ![1, 64]⟩
abbrev S64 : Shape := ⟨1, ![64]⟩
abbrev S2x64 : Shape := ⟨2, ![2, 64]⟩
abbrev S128 : Shape := ⟨1, ![128]⟩
abbrev S1x128 : Shape := ⟨2, ![1, 128]⟩
abbrev S8x1024x2304 : Shape := ⟨3, ![8, 1024, 2304]⟩
abbrev S8x2304x1024 : Shape := ⟨3, ![8, 2304, 1024]⟩
abbrev S8x512x2304 : Shape := ⟨3, ![8, 512, 2304]⟩
abbrev S1x2064x128 : Shape := ⟨3, ![1, 2064, 128]⟩
abbrev S1x256x2304 : Shape := ⟨3, ![1, 256, 2304]⟩
abbrev S1x2304x256 : Shape := ⟨3, ![1, 2304, 256]⟩
abbrev S1x128x2304 : Shape := ⟨3, ![1, 128, 2304]⟩
abbrev S128x128 : Shape := ⟨2, ![128, 128]⟩
abbrev S2064x128 : Shape := ⟨2, ![2064, 128]⟩
abbrev S2064 : Shape := ⟨1, ![2064]⟩
abbrev S2064x1 : Shape := ⟨2, ![2064, 1]⟩
abbrev S240x128 : Shape := ⟨2, ![240, 128]⟩
abbrev S2304x128 : Shape := ⟨2, ![2304, 128]⟩
abbrev S128x2304 : Shape := ⟨2, ![128, 2304]⟩
abbrev S240x256 : Shape := ⟨2, ![240, 256]⟩
abbrev S1x240x256 : Shape := ⟨3, ![1, 240, 256]⟩

abbrev nBuf : Space → Nat
  | .hbm => 20
  | .vmem => 18
  | .smem => 0
  | _ => 0

abbrev bufTy : (tb : Table) → Fin (tcTables nBuf tb) → BufTy
  | .hbm, ⟨0, _⟩ => ⟨S8x2064x512, .f32⟩
  | .hbm, ⟨1, _⟩ => ⟨S8x2064x512, .f32⟩
  | .hbm, ⟨2, _⟩ => ⟨S8x2064x512, .f32⟩
  | .hbm, ⟨3, _⟩ => ⟨S8x2304x128, .f32⟩
  | .hbm, ⟨4, _⟩ => ⟨S1x64, .f32⟩
  | .hbm, ⟨5, _⟩ => ⟨S1x64, .f32⟩
  | .hbm, ⟨6, _⟩ => ⟨S64, .f32⟩
  | .hbm, ⟨7, _⟩ => ⟨S1x64, .f32⟩
  | .hbm, ⟨8, _⟩ => ⟨S2x64, .f32⟩
  | .hbm, ⟨9, _⟩ => ⟨S128, .f32⟩
  | .hbm, ⟨10, _⟩ => ⟨S1x128, .f32⟩
  | .hbm, ⟨11, _⟩ => ⟨S64, .f32⟩
  | .hbm, ⟨12, _⟩ => ⟨S1x64, .f32⟩
  | .hbm, ⟨13, _⟩ => ⟨S2x64, .f32⟩
  | .hbm, ⟨14, _⟩ => ⟨S128, .f32⟩
  | .hbm, ⟨15, _⟩ => ⟨S1x128, .f32⟩
  | .hbm, ⟨16, _⟩ => ⟨S8x1024x2304, .bf16⟩
  | .hbm, ⟨17, _⟩ => ⟨S8x2304x1024, .bf16⟩
  | .hbm, ⟨18, _⟩ => ⟨S8x512x2304, .bf16⟩
  | .hbm, ⟨19, _⟩ => ⟨S8x2064x512, .f32⟩
  | .local _ .vmem, ⟨0, _⟩ => ⟨S1x2064x128, .f32⟩
  | .local _ .vmem, ⟨1, _⟩ => ⟨S1x2064x128, .f32⟩
  | .local _ .vmem, ⟨2, _⟩ => ⟨S1x2064x128, .f32⟩
  | .local _ .vmem, ⟨3, _⟩ => ⟨S1x2064x128, .f32⟩
  | .local _ .vmem, ⟨4, _⟩ => ⟨S1x2064x128, .f32⟩
  | .local _ .vmem, ⟨5, _⟩ => ⟨S1x2064x128, .f32⟩
  | .local _ .vmem, ⟨6, _⟩ => ⟨S1x2064x128, .f32⟩
  | .local _ .vmem, ⟨7, _⟩ => ⟨S1x2064x128, .f32⟩
  | .local _ .vmem, ⟨8, _⟩ => ⟨S1x128, .f32⟩
  | .local _ .vmem, ⟨9, _⟩ => ⟨S1x128, .f32⟩
  | .local _ .vmem, ⟨10, _⟩ => ⟨S1x256x2304, .bf16⟩
  | .local _ .vmem, ⟨11, _⟩ => ⟨S1x256x2304, .bf16⟩
  | .local _ .vmem, ⟨12, _⟩ => ⟨S1x2304x256, .bf16⟩
  | .local _ .vmem, ⟨13, _⟩ => ⟨S1x2304x256, .bf16⟩
  | .local _ .vmem, ⟨14, _⟩ => ⟨S1x128x2304, .bf16⟩
  | .local _ .vmem, ⟨15, _⟩ => ⟨S1x128x2304, .bf16⟩
  | .local _ .vmem, ⟨16, _⟩ => ⟨S1x2064x128, .f32⟩
  | .local _ .vmem, ⟨17, _⟩ => ⟨S1x2064x128, .f32⟩
  | _, _ => ⟨S8x2064x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev main_v10_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2064x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2064x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2064x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2064x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x2304 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2304x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x2304 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2064x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference9Ideal.lean ====
abbrev S8x2064x512 : Shape := ⟨3, ![8, 2064, 512]⟩
abbrev S8x2304x128 : Shape := ⟨3, ![8, 2304, 128]⟩
abbrev S1x64 : Shape := ⟨2, ![1, 64]⟩
abbrev S8x2064x8x64 : Shape := ⟨4, ![8, 2064, 8, 64]⟩
abbrev S_ : Shape := ⟨0, ![]⟩
abbrev S8x2064x8 : Shape := ⟨3, ![8, 2064, 8]⟩
abbrev S8x2064x8x1 : Shape := ⟨4, ![8, 2064, 8, 1]⟩
abbrev S64 : Shape := ⟨1, ![64]⟩
abbrev S1x1x1x64 : Shape := ⟨4, ![1, 1, 1, 64]⟩

abbrev nBuf : Space → Nat
  | .hbm => 25
  | .vmem => 0
  | .smem => 0
  | _ => 0

abbrev bufTy : (tb : Table) → Fin (tcTables nBuf tb) → BufTy
  | .hbm, ⟨0, _⟩ => ⟨S8x2064x512, .f32⟩
  | .hbm, ⟨1, _⟩ => ⟨S8x2064x512, .f32⟩
  | .hbm, ⟨2, _⟩ => ⟨S8x2064x512, .f32⟩
  | .hbm, ⟨3, _⟩ => ⟨S8x2304x128, .f32⟩
  | .hbm, ⟨4, _⟩ => ⟨S1x64, .f32⟩
  | .hbm, ⟨5, _⟩ => ⟨S1x64, .f32⟩
  | .hbm, ⟨6, _⟩ => ⟨S8x2064x8x64, .f32⟩
  | .hbm, ⟨7, _⟩ => ⟨S8x2064x8x64, .f32⟩
  | .hbm, ⟨8, _⟩ => ⟨S_, .f32⟩
  | .hbm, ⟨9, _⟩ => ⟨S8x2064x8, .f32⟩
  | .hbm, ⟨10, _⟩ => ⟨S8x2064x8x1, .f32⟩
  | .hbm, ⟨11, _⟩ => ⟨S_, .f32⟩
  | .hbm, ⟨12, _⟩ => ⟨S8x2064x8x1, .f32⟩
  | .hbm, ⟨13, _⟩ => ⟨S8x2064x8x1, .f32⟩
  | .hbm, ⟨14, _⟩ => ⟨S_, .f32⟩
  | .hbm, ⟨15, _⟩ => ⟨S8x2064x8x1, .f32⟩
  | .hbm, ⟨16, _⟩ => ⟨S8x2064x8x1, .f32⟩
  | .hbm, ⟨17, _⟩ => ⟨S8x2064x8x1, .f32⟩
  | .hbm, ⟨18, _⟩ => ⟨S8x2064x8x64, .f32⟩
  | .hbm, ⟨19, _⟩ => ⟨S8x2064x8x64, .f32⟩
  | .hbm, ⟨20, _⟩ => ⟨S64, .f32⟩
  | .hbm, ⟨21, _⟩ => ⟨S1x1x1x64, .f32⟩
  | .hbm, ⟨22, _⟩ => ⟨S8x2064x8x64, .f32⟩
  | .hbm, ⟨23, _⟩ => ⟨S8x2064x8x64, .f32⟩
  | .hbm, ⟨24, _⟩ => ⟨S8x2064x512, .f32⟩
  | _, _ => ⟨S8x2064x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Proof.MoeTables.lean ====
/- The schedule of the experts' call at any tables its precondition admits: the tables, the pipeline at them, what the
   control decides at a point, and the windows' schedule there. -/
module

public import proofs.«01_k».proof.Proof.Gen.Kernel3Ideal.Flash.Runs
public import proofs.«01_k».proof.Proof.Gen.Pre_routed
public import Idealize.ShloMosaic.Lib.StableHlo.Predicate
public import Idealize.ShloMosaic.Lib.Pipeline.Quiescent
public import Idealize.ShloMosaic.Lib.Pipeline.Kit
public import Idealize.ShloMosaic.Lib.Pipeline.TableIdle
public import Idealize.ShloMosaic.Lib.Pipeline.FrameBody

@[expose] public section

set_option maxRecDepth 16384
set_option Elab.async false

noncomputable section

namespace Cert.Kernel3Ideal.Moe

open Cert.Kernel3Ideal Cert.Kernel3Ideal.Gen
open Idealize.ShloMosaic
open Idealize.ShloMosaic.TcCoe Idealize.ShloMosaic.Tactic
open Idealize.ShloMosaic.Pipeline (Dat Cfg Window BodyObligation BodyObligationLoose cellOf)

/-! ## The tables -/

/-- Every block's expert is one of the 32, and at least one block is used. -/
def Fits (pf : pre0.Contents (Elt Ideal)) : Prop :=
  (∀ x : S162.Idx, (pf 0 x : BitVec 32).toNat < 32) ∧ ∀ x : S1.Idx, 1 ≤ (pf 1 x : BitVec 32).toInt

/-- The tables the call runs at. -/
abbrev Routed : Type := {pf : pre0.Contents (Elt Ideal) // Fits pf}

/-- The experts of the blocks. -/
def tab0 (ch : Routed) : S162.Idx → BitVec 32 := ch.1 0

/-- The number of blocks used. -/
def tab1 (ch : Routed) : S1.Idx → BitVec 32 := ch.1 1

/-- The launch memory holds the tables `ch`. -/
def Pinned (ch : Routed) (m : (ℓ : Loc nD τ sig) → Buf (Elt Ideal) ℓ) : Prop :=
  (∀ c : Dev nD, m ((c : Thread nD τ).loc main_arg0) = tab0 ch)
  ∧ (∀ c : Dev nD, m ((c : Thread nD τ).loc main_arg1) = tab1 ch)

/-! ## Words -/

theorem grid_lt (i : grid0.Coords) : (i 0).val < 162 := (i 0).isLt

theorem toInt_small (n : ℕ) (h : n < 162) : (BitVec.ofNat 32 n).toInt = (n : ℤ) := by
  rw [BitVec.toInt_eq_toNat_of_lt (by rw [BitVec.toNat_ofNat]; omega), BitVec.toNat_ofNat]; omega

/-- The row block fetched at a point is at most the point's own. -/
theorem min_le (n : ℕ) (h : n < 162) (v : BitVec 32) (hv : 1 ≤ v.toInt) :
    (Scalar.minsi (BitVec.ofNat 32 n) (Scalar.subi v 1#32)).toNat ≤ n := by
  have hn : (BitVec.ofNat 32 n).toNat = n := by rw [BitVec.toNat_ofNat]; omega
  have hv' : v.toNat < 2 ^ 31 ∧ v.toInt = v.toNat := by
    have := BitVec.toInt_eq_toNat_cond v
    have := v.isLt
    split at * <;> omega
  have hs : (v - 1#32).toNat = v.toNat - 1 := by
    rw [BitVec.toNat_sub]; have : (1#32).toNat = 1 := rfl
    omega
  have hsi : (v - 1#32).toInt = (v.toNat : ℤ) - 1 := by
    rw [BitVec.toInt_eq_toNat_of_lt (by omega), hs]; omega
  show (if (BitVec.ofNat 32 n).slt (v - 1#32) then BitVec.ofNat 32 n else v - 1#32).toNat ≤ n
  split
  · omega
  · rename_i hlt
    rw [BitVec.slt_eq_decide, decide_eq_true_eq, toInt_small n h, hsi] at hlt
    omega

/-- At a used point it is the point's own. -/
theorem min_eq (n : ℕ) (h : n < 162) (v : BitVec 32) (hv : 1 ≤ v.toInt) (hlt : (n : ℤ) < v.toInt) :
    (Scalar.minsi (BitVec.ofNat 32 n) (Scalar.subi v 1#32)).toNat = n := by
  have hn : (BitVec.ofNat 32 n).toNat = n := by rw [BitVec.toNat_ofNat]; omega
  have hv' : v.toNat < 2 ^ 31 ∧ v.toInt = v.toNat := by
    have := BitVec.toInt_eq_toNat_cond v
    have := v.isLt
    split at * <;> omega
  have hs : (v - 1#32).toNat = v.toNat - 1 := by
    rw [BitVec.toNat_sub]; have : (1#32).toNat = 1 := rfl
    omega
  have hsi : (v - 1#32).toInt = (v.toNat : ℤ) - 1 := by
    rw [BitVec.toInt_eq_toNat_of_lt (by omega), hs]; omega
  show (if (BitVec.ofNat 32 n).slt (v - 1#32) then BitVec.ofNat 32 n else v - 1#32).toNat = n
  split
  · exact hn
  · rename_i hlt'
    rw [BitVec.slt_eq_decide, decide_eq_true_eq, toInt_small n h, hsi] at hlt'
    omega

/-- A condition's one bit, widened and compared with zero, is the condition. -/
theorem widened (b : BitVec 1) : Scalar.cmpi .ne (Scalar.extui b) 0#32 = b := by revert b; decide

theorem cond2_iff (i : grid0.Coords) (v : BitVec 32) : k0_cond2 i v = 1#1 ↔ ((i 0).val : ℤ) < v.toInt := by
  show Scalar.cmpi .ne (Scalar.extui (Scalar.cmpi .slt (BitVec.ofNat 32 (i 0).val) v)) 0#32 = 1#1 ↔ _
  rw [widened, show Scalar.cmpi .slt (BitVec.ofNat 32 (i 0).val) v = BitVec.ofBool ((BitVec.ofNat 32 (i 0).val).slt v) from rfl,
    BitVec.slt_eq_decide, toInt_small _ (grid_lt i)]
  by_cases h : ((i 0).val : ℤ) < v.toInt <;> simp [h]

theorem cond3_iff (i : grid0.Coords) (v : BitVec 32) : k0_cond3 i v = 1#1 ↔ ¬((i 0).val : ℤ) < v.toInt := by
  show Scalar.cmpi .ne (Scalar.extui (Scalar.cmpi .sge (BitVec.ofNat 32 (i 0).val) v)) 0#32 = 1#1 ↔ _
  rw [widened, show Scalar.cmpi .sge (BitVec.ofNat 32 (i 0).val) v = BitVec.ofBool (v.sle (BitVec.ofNat 32 (i 0).val)) from rfl,
    BitVec.sle_eq_decide, toInt_small _ (grid_lt i)]
  by_cases h : ((i 0).val : ℤ) < v.toInt
  · simp [h, not_le.mpr h]
  · simp [h, not_lt.mp h]

theorem range_of_bits (w : BitVec 32) (e : IntOp.andi (IntOp.cmpi .sge w 0#32) (IntOp.cmpi .slt w 32#32) = 1#1) : w.toNat < 32 := by
  change BitVec.ofBool ((0#32).sle w) &&& BitVec.ofBool (w.slt 32#32) = 1#1 at e
  have hw : (0#32).sle w = true ∧ w.slt 32#32 = true := by
    revert e; cases (0#32).sle w <;> cases w.slt 32#32 <;> decide
  rw [BitVec.sle_eq_decide, BitVec.slt_eq_decide, decide_eq_true_eq, decide_eq_true_eq] at hw
  have h0 : (0#32).toInt = 0 := rfl
  have h1 : (32#32).toInt = 32 := rfl
  have := BitVec.toInt_eq_toNat_cond w
  have := w.isLt
  split at * <;> omega

theorem one_le_of_bit (w : BitVec 32) (e : IntOp.cmpi .sge w 1#32 = 1#1) : 1 ≤ w.toInt := by
  change BitVec.ofBool ((1#32).sle w) = 1#1 at e
  have hw : (1#32).sle w = true := by revert e; cases (1#32).sle w <;> decide
  rwa [BitVec.sle_eq_decide, decide_eq_true_eq] at hw

/-! ## Every block lies inside its array -/

/-- A matrix-shaped list of bounds, from its head and its tail. -/
theorem inb_cons {n x lo hi : ℕ} {f g h : Fin n → ℕ} (h0 : (x + 1) * lo ≤ hi) (hr : ∀ a, (f a + 1) * g a ≤ h a) :
    ∀ a : Fin (n + 1), (Matrix.vecCons x f a + 1) * Matrix.vecCons lo g a ≤ Matrix.vecCons hi h a := by
  refine Fin.cases ?_ ?_
  · simpa only [Matrix.cons_val_zero] using h0
  · intro a; simpa only [Matrix.cons_val_succ] using hr a

theorem ok_routed (ch : Routed) : ok0 (F := Ideal) ch.1 := by
  obtain ⟨pf, h0, h1⟩ := ch
  have hw : ∀ x : S162.Idx, ((pf 0 x : BitVec 32).toNat + 1) * 1 ≤ 32 := fun x => by have := h0 x; omega
  refine ⟨fun i => ⟨?_, .inl rfl⟩, fun i => ⟨?_, .inl rfl⟩, fun i => ⟨?_, .inl rfl⟩, fun i => ⟨?_, .inl rfl⟩,
    fun i => ⟨?_, .inl rfl⟩, fun i => ⟨?_, .inl rfl⟩, fun i => ⟨?_, .inl rfl⟩⟩
  · refine inb_cons ?_ (inb_cons (by decide) fun a => a.elim0)
    have := min_le (i 0).val (grid_lt i) _ (h1 ((Rect.unit (s := S1) ![0] S1.size inb_S1_S1_0).emb (Shape.Idx.first (numel1_S1.symm ▸ Nat.one_pos))))
    have := grid_lt i
    have e : ∀ x : ℕ, x ≤ (i 0).val → (x + 1) * 512 ≤ 82944 := fun x hx => by omega
    exact e _ ‹_›
  all_goals exact inb_cons (hw _) (inb_cons (by decide) (inb_cons (by decide) fun a => a.elim0))

/-- The tables as the pipeline takes them, and the pipeline at them. -/
def adm (ch : Routed) : (pcfg0 (F := Ideal)).Adm := ⟨ch.1, ok_routed ch⟩
abbrev cfgA (ch : Routed) : Pipeline.Cfg sig Λ₀ := cfg0 (F := Ideal) (adm ch)
abbrev pcs (ch : Routed) : Fin 1 → Pipeline.Cfg sig Λ₀ := Pipeline.pin (pcfgs (F := Ideal)) fun _ => adm ch

variable (ch : Routed)
variable (m : (ℓ : Loc nD τ sig) → Buf (Elt Ideal) ℓ) (ρ : Dev nD → PrngReg)

/-- Point `t`'s coordinates. -/
abbrev crd (t : Fin (cfgA ch).N) : (cfgA ch).grid.Coords := (cfgA ch).grid.coords t

/-- Each window's buffer at point `t`, and that it is whole. -/
abbrev ms0_0 (t : Fin (cfgA ch).N) : Memref sig .tc .vmem S512x1024 .f32 := spec0_0.stage ((cfgA ch).slots t (0 : Fin 8))
abbrev hs0_0 (t : Fin (cfgA ch).N) : (ms0_0 ch t).IsWhole := hstage0_0 (((cfgA ch).slots t (0 : Fin 8)).cast nbuf0_0)
abbrev ms0_1 (t : Fin (cfgA ch).N) : Memref sig .tc .vmem S1x1024x1024 .f32 := spec0_1.stage ((cfgA ch).slots t (1 : Fin 8))
abbrev hs0_1 (t : Fin (cfgA ch).N) : (ms0_1 ch t).IsWhole := hstage0_1 (((cfgA ch).slots t (1 : Fin 8)).cast nbuf0_1)
abbrev ms0_2 (t : Fin (cfgA ch).N) : Memref sig .tc .vmem S1x1x1024 .f32 := spec0_2.stage ((cfgA ch).slots t (2 : Fin 8))
abbrev hs0_2 (t : Fin (cfgA ch).N) : (ms0_2 ch t).IsWhole := hstage0_2 (((cfgA ch).slots t (2 : Fin 8)).cast nbuf0_2)
abbrev ms0_3 (t : Fin (cfgA ch).N) : Memref sig .tc .vmem S1x1024x1024 .f32 := spec0_3.stage ((cfgA ch).slots t (3 : Fin 8))
abbrev hs0_3 (t : Fin (cfgA ch).N) : (ms0_3 ch t).IsWhole := hstage0_3 (((cfgA ch).slots t (3 : Fin 8)).cast nbuf0_3)
abbrev ms0_4 (t : Fin (cfgA ch).N) : Memref sig .tc .vmem S1x1x1024 .f32 := spec0_4.stage ((cfgA ch).slots t (4 : Fin 8))
abbrev hs0_4 (t : Fin (cfgA ch).N) : (ms0_4 ch t).IsWhole := hstage0_4 (((cfgA ch).slots t (4 : Fin 8)).cast nbuf0_4)
abbrev ms0_5 (t : Fin (cfgA ch).N) : Memref sig .tc .vmem S1x1024x1024 .f32 := spec0_5.stage ((cfgA ch).slots t (5 : Fin 8))
abbrev hs0_5 (t : Fin (cfgA ch).N) : (ms0_5 ch t).IsWhole := hstage0_5 (((cfgA ch).slots t (5 : Fin 8)).cast nbuf0_5)
abbrev ms0_6 (t : Fin (cfgA ch).N) : Memref sig .tc .vmem S1x1x1024 .f32 := spec0_6.stage ((cfgA ch).slots t (6 : Fin 8))
abbrev hs0_6 (t : Fin (cfgA ch).N) : (ms0_6 ch t).IsWhole := hstage0_6 (((cfgA ch).slots t (6 : Fin 8)).cast nbuf0_6)
abbrev ms0_7 (t : Fin (cfgA ch).N) : Memref sig .tc .vmem S512x1024 .f32 := spec0_7.stage ((cfgA ch).slots t (7 : Fin 8))
abbrev hs0_7 (t : Fin (cfgA ch).N) : (ms0_7 ch t).IsWhole := hstage0_7 (((cfgA ch).slots t (7 : Fin 8)).cast nbuf0_7)

/-- Window `w`'s block at point `t`, read off its array at launch. -/
def iblk (c : Dev nD) (w : Fin (cfgA ch).W) (t : Fin (cfgA ch).N) : (((cfgA ch).win w).xblock (crd ch t)).Idx → Elt Ideal ((cfgA ch).win w).elt :=
  (((cfgA ch).win w).blk t).view.read (Elt Ideal) ((s₀ m ρ).mem (((cfgA ch).win w).arr.view.loc (c : Thread nD τ)))

/-! ## What the control decides -/

/-- The expert read for the point, the one read for the point before, and the number of blocks used, as the body reads them. -/
abbrev here (t : Fin (cfgA ch).N) : BitVec 32 := View.readAt (Elt Ideal) (tbM0_0).view (Rect.unit (s := S162) (k0_off1 (crd ch t)) S1.size (k0_off1_inb (crd ch t))).toLoadRect (tab0 ch) (Shape.Idx.first (numel1_S1.symm ▸ Nat.one_pos))
abbrev last (t : Fin (cfgA ch).N) : BitVec 32 := View.readAt (Elt Ideal) (tbM0_0).view (Rect.unit (s := S162) (k0_off2 (crd ch t)) S1.size (k0_off2_inb (crd ch t))).toLoadRect (tab0 ch) (Shape.Idx.first (numel1_S1.symm ▸ Nat.one_pos))
abbrev used : BitVec 32 := View.readAt (Elt Ideal) (tbM0_1).view (Rect.unit (s := S1) ![0] S1.size inb_S1_S1_0).toLoadRect (tab1 ch) (Shape.Idx.first (numel1_S1.symm ▸ Nat.one_pos))

/-- The weights are stored anew at the point. -/
abbrev P0_0 (t : Fin (cfgA ch).N) : Prop := (Scalar.cmpi .ne (Scalar.extui (Scalar.ori (Scalar.cmpi .eq (BitVec.ofNat 32 ((crd ch t) 0).val) 0#32) (Scalar.cmpi .ne (here ch t) (last ch t)))) 0#32) = 1#1

/-- The point's block is used. -/
abbrev P0_1 (t : Fin (cfgA ch).N) : Prop := k0_cond2 (crd ch t) (used ch) = 1#1

theorem used_eq : used ch = tab1 ch (fun a => ⟨0, by fin_cases a; decide⟩) := by
  show tab1 ch _ = _
  congr 1; funext a; fin_cases a; rfl

theorem not_cond3 (t : Fin (cfgA ch).N) (h : P0_1 ch t) : ¬(k0_cond3 (crd ch t) (used ch) = 1#1) := by
  rw [cond3_iff, not_not]; exact (cond2_iff _ _).mp h

theorem cond3_of_not (t : Fin (cfgA ch).N) (h : ¬P0_1 ch t) : k0_cond3 (crd ch t) (used ch) = 1#1 := by
  rw [cond3_iff]; exact fun h' => h ((cond2_iff _ _).mpr h')

/-- The one coordinate of a point is the point. -/
theorem crd_val (t : Fin (cfgA ch).N) : ((crd ch t) 0).val = t.val := by
  have : ∀ t : Fin 162, ((grid0.coords t) 0).val = t.val := by decide +kernel
  exact this t

/-- The first point stores the weights. -/
theorem reload_zero (t : Fin (cfgA ch).N) (h : t.val = 0) : P0_0 ch t := by
  show Scalar.cmpi .ne (Scalar.extui _) 0#32 = 1#1
  rw [widened, crd_val ch t, h]
  generalize Scalar.cmpi .ne (here ch t) (last ch t) = b
  revert b; decide

theorem pos_of_kept (t : Fin (cfgA ch).N) (h : ¬P0_0 ch t) : t.val ≠ 0 := fun h0 => h (reload_zero ch t h0)

/-- The output is stored at every point, -/
theorem idle7 (t : Fin (cfgA ch).N) : (cfgA ch).idle (7 : Fin 8) ((cfgA ch).grid.coords t) = false := by
  show (!(k0_cond2 (crd ch t) (Pipeline.Prefetch.Contents.atD ch.1 1 ![0]) == 1#1) && !(k0_cond3 (crd ch t) (Pipeline.Prefetch.Contents.atD ch.1 1 ![0]) == 1#1)) = false
  generalize Pipeline.Prefetch.Contents.atD ch.1 1 ![0] = v
  by_cases h : k0_cond2 (crd ch t) v = 1#1
  · simp [h]
  · have h3 : k0_cond3 (crd ch t) v = 1#1 := (cond3_iff _ _).mpr fun h' => h ((cond2_iff _ _).mpr h')
    simp [h3]

/-- and written back at every point, -/
theorem flush7 (t : Fin (cfgA ch).N) : ((cfgA ch).win (7 : Fin 8)).flush t = true := by
  have e : ∀ s : Fin (cfgA ch).N, ((cfgA ch).win (7 : Fin 8)).index s = cc0_transform_7 (grid0.coords s) := fun s => rfl
  have inj : ∀ t : Fin 162, t.val + 1 = 162 ∨ ∃ h : t.val + 1 < 162, cc0_transform_7 (grid0.coords ⟨t.val + 1, h⟩) ≠ cc0_transform_7 (grid0.coords t) := by decide +kernel
  unfold Window.flush
  have := inj t
  rw [show ((cfgA ch).win (7 : Fin 8)).isOut = true from rfl, Bool.true_and, Bool.or_eq_true, decide_eq_true_eq, decide_eq_true_eq]
  exact this

/-- so nothing is left in its buffer when a point begins. -/
theorem fresh7 (n : ℕ) (h : n ≤ (cfgA ch).N) : (cfgA ch).fresh (7 : Fin 8) n = true := by
  cases n with
  | zero => exact Pipeline.Cfg.fresh_zero _ _
  | succ n => rw [Pipeline.Cfg.fresh_succ _ _ n h, flush7 ch ⟨n, h⟩, Bool.true_or]

/-- The stored weights are undetermined before the first point only. -/
def sfresh (n : ℕ) : Bool := decide (n = 0)
theorem sfresh_succ (n : ℕ) : sfresh (n + 1) = false := rfl
theorem sfresh_kept (t : Fin (cfgA ch).N) (h : ¬P0_0 ch t) : sfresh t.val = false := decide_eq_false (pos_of_kept ch t h)

/-! ## The precondition -/

/-- The tables of a launch memory the precondition holds of. -/
theorem pinned_of_pre (h : Cert.Pre_Kernel3Ideal m) : ∃ ch : Routed, Pinned ch m := by
  refine ⟨⟨fun | ⟨0, _⟩ => m (((0 : Dev nD).tc : Thread nD τ).loc main_arg0) | ⟨1, _⟩ => m (((0 : Dev nD).tc : Thread nD τ).loc main_arg1) | ⟨_ + 2, h⟩ => absurd h (by simp), ?_, ?_⟩, ?_, ?_⟩
  · intro x
    have e := congrFun (h 0).1 x
    simp only [Pre_routed.fn, cmpi, constantI, andi, broadcastInDim] at e
    exact range_of_bits _ e
  · intro x
    have e := congrFun (h 0).2 x
    simp only [Pre_routed.fn, cmpi, constantI, broadcastInDim] at e
    exact one_le_of_bit _ e
  · intro c; obtain rfl : c = 0 := Subsingleton.elim _ _; rfl
  · intro c; obtain rfl : c = 0 := Subsingleton.elim _ _; rfl

end Cert.Kernel3Ideal.Moe

end
-- ==== Proof.MoeRun.lean ====
/- The experts' call run at any tables its precondition admits: what the output's buffer and the three stored weights hold
   after each point, the body's triple at a point, and the run of the whole program. -/
module

public import proofs.«01_k».proof.Proof.MoeTables
public import Idealize.ShloMosaic.Lib.Claim
public import Idealize.ShloMosaic.Lib.Writes
public import Idealize.ShloMosaic.Lib.Exec
public import Idealize.ShloMosaic.Lib.Tactic
public import Idealize.ShloMosaic.Adequacy
public import Idealize.ShloMosaic.Init

@[expose] public section

set_option maxRecDepth 16384
set_option Elab.async false

noncomputable section

namespace Cert.Kernel3Ideal.Moe

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The proof's resource algebra: the rounds library's, for the pipeline's staging cells, embedded whole. -/
abbrev EP : Emb (UR sig nD τ) 𝕄 := emb₁

variable (ch : Routed)
variable (m : (ℓ : Loc nD τ sig) → Buf (Elt Ideal) ℓ) (ρ : Dev nD → PrngReg)

/-! ## The body's run on each path, at a point's buffers and blocks -/

/-- At a used point that stores the weights. -/
abbrev runA (c : Dev nD) (t : Fin (cfgA ch).N) (q0 : P0_0 ch t) (q1 : P0_1 ch t) :=
  kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (tab0 ch) (tab1 ch) (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (iblk ch m ρ c (6 : Fin 8) t) q0 q1 (not_cond3 ch t q1)

/-- What it leaves in the output's buffer. -/
abbrev storedA (c : Dev nD) (t : Fin (cfgA ch).N) (q0 : P0_0 ch t) (q1 : P0_1 ch t) : S512x1024.Idx → Elt Ideal .f32 :=
  out0_A_7 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (tab0 ch) (tab1 ch) (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (iblk ch m ρ c (6 : Fin 8) t) q0 q1 (not_cond3 ch t q1)

/-- At a used point that keeps them. -/
abbrev runB (c : Dev nD) (t : Fin (cfgA ch).N) (w0 : Buf (Elt Ideal) ((c : Thread nD τ).loc cc0_scratch0)) (w1 : Buf (Elt Ideal) ((c : Thread nD τ).loc cc0_scratch1)) (w2 : Buf (Elt Ideal) ((c : Thread nD τ).loc cc0_scratch2)) (q0 : ¬P0_0 ch t) (q1 : P0_1 ch t) :=
  kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (tab0 ch) (tab1 ch) (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (iblk ch m ρ c (6 : Fin 8) t) w0 w1 w2 q0 q1 (not_cond3 ch t q1)

/-- What it leaves in the output's buffer. -/
abbrev storedB (c : Dev nD) (t : Fin (cfgA ch).N) (w0 : Buf (Elt Ideal) ((c : Thread nD τ).loc cc0_scratch0)) (w1 : Buf (Elt Ideal) ((c : Thread nD τ).loc cc0_scratch1)) (w2 : Buf (Elt Ideal) ((c : Thread nD τ).loc cc0_scratch2)) (q0 : ¬P0_0 ch t) (q1 : P0_1 ch t) : S512x1024.Idx → Elt Ideal .f32 :=
  out0_B_7 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (tab0 ch) (tab1 ch) (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (iblk ch m ρ c (6 : Fin 8) t) w0 w1 w2 q0 q1 (not_cond3 ch t q1)

/-- At an unused point that stores the weights. -/
abbrev runC (c : Dev nD) (t : Fin (cfgA ch).N) (q0 : P0_0 ch t) (q1 : ¬P0_1 ch t) :=
  kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (tab0 ch) (tab1 ch) (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (iblk ch m ρ c (6 : Fin 8) t) q0 q1 (cond3_of_not ch t q1)

/-- What it leaves in the output's buffer. -/
abbrev storedC (c : Dev nD) (t : Fin (cfgA ch).N) (q0 : P0_0 ch t) (q1 : ¬P0_1 ch t) : S512x1024.Idx → Elt Ideal .f32 :=
  out0_C_7 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (tab0 ch) (tab1 ch) (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (iblk ch m ρ c (6 : Fin 8) t) q0 q1 (cond3_of_not ch t q1)

/-- At an unused point that keeps them. -/
abbrev runD (c : Dev nD) (t : Fin (cfgA ch).N) (w0 : Buf (Elt Ideal) ((c : Thread nD τ).loc cc0_scratch0)) (w1 : Buf (Elt Ideal) ((c : Thread nD τ).loc cc0_scratch1)) (w2 : Buf (Elt Ideal) ((c : Thread nD τ).loc cc0_scratch2)) (q0 : ¬P0_0 ch t) (q1 : ¬P0_1 ch t) :=
  kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (tab0 ch) (tab1 ch) (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (iblk ch m ρ c (6 : Fin 8) t) w0 w1 w2 q0 q1 (cond3_of_not ch t q1)

/-- What it leaves in the output's buffer. -/
abbrev storedD (c : Dev nD) (t : Fin (cfgA ch).N) (w0 : Buf (Elt Ideal) ((c : Thread nD τ).loc cc0_scratch0)) (w1 : Buf (Elt Ideal) ((c : Thread nD τ).loc cc0_scratch1)) (w2 : Buf (Elt Ideal) ((c : Thread nD τ).loc cc0_scratch2)) (q0 : ¬P0_0 ch t) (q1 : ¬P0_1 ch t) : S512x1024.Idx → Elt Ideal .f32 :=
  out0_D_7 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (tab0 ch) (tab1 ch) (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (iblk ch m ρ c (6 : Fin 8) t) w0 w1 w2 q0 q1 (cond3_of_not ch t q1)

/-! ## What the outputs and scratches hold after each point -/

/-- The output's buffer and the three stored weights. -/
abbrev Held (c : Dev nD) : Type := (S512x1024.Idx → Elt Ideal .f32) × Buf (Elt Ideal) ((c : Thread nD τ).loc cc0_scratch0) × Buf (Elt Ideal) ((c : Thread nD τ).loc cc0_scratch1) × Buf (Elt Ideal) ((c : Thread nD τ).loc cc0_scratch2)

/-- One step: what the outputs' current buffers and the scratches hold after the body at point `t`
    (output 7, scratch 0, scratch 1, scratch 2), from what they held before (`prev`): the path the decisions select at `t`, its
    run's contents. -/
def step0 (c : Dev nD) (t : Fin (cfgA ch).N) (prev : Held c) : Held c :=
  if q0 : P0_0 ch t then
    if q1 : P0_1 ch t then
      (storedA ch m ρ c t q0 q1, (runA ch m ρ c t q0 q1).2.1, (runA ch m ρ c t q0 q1).2.2.1, (runA ch m ρ c t q0 q1).2.2.2.1)
    else
      (storedC ch m ρ c t q0 q1, (runC ch m ρ c t q0 q1).2.1, (runC ch m ρ c t q0 q1).2.2.1, (runC ch m ρ c t q0 q1).2.2.2.1)
  else
    if q1 : P0_1 ch t then
      (storedB ch m ρ c t prev.2.1 prev.2.2.1 prev.2.2.2 q0 q1, (runB ch m ρ c t prev.2.1 prev.2.2.1 prev.2.2.2 q0 q1).2.1, (runB ch m ρ c t prev.2.1 prev.2.2.1 prev.2.2.2 q0 q1).2.2.1, (runB ch m ρ c t prev.2.1 prev.2.2.1 prev.2.2.2 q0 q1).2.2.2.1)
    else
      (storedD ch m ρ c t prev.2.1 prev.2.2.1 prev.2.2.2 q0 q1, (runD ch m ρ c t prev.2.1 prev.2.2.1 prev.2.2.2 q0 q1).2.1, (runD ch m ρ c t prev.2.1 prev.2.2.1 prev.2.2.2 q0 q1).2.2.1, (runD ch m ρ c t prev.2.1 prev.2.2.1 prev.2.2.2 q0 q1).2.2.2.1)

/-- What they hold: after position `n`. -/
def traj0 (c : Dev nD) : (n : ℕ) → n < (cfgA ch).N → Held c
  | 0, h => step0 ch m ρ c ⟨0, h⟩ (default, default, default, default)
  | n + 1, h => step0 ch m ρ c ⟨n + 1, h⟩ (traj0 c n (Nat.lt_of_succ_lt h))

/-- What they held BEFORE point `t` (junk before the first). -/
def prev0 (c : Dev nD) (t : Fin (cfgA ch).N) : Held c :=
  if h : t.val = 0 then (default, default, default, default) else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA ch).N) (prev : Held c) (q0 : P0_0 ch t) (q1 : P0_1 ch t) :
    step0 ch m ρ c t prev = (storedA ch m ρ c t q0 q1, (runA ch m ρ c t q0 q1).2.1, (runA ch m ρ c t q0 q1).2.2.1, (runA ch m ρ c t q0 q1).2.2.2.1) := by
  unfold step0; simp only [dif_pos q0, dif_pos q1]

/-- `step0` at a point of path B. -/
theorem step0_B (c : Dev nD) (t : Fin (cfgA ch).N) (prev : Held c) (q0 : ¬P0_0 ch t) (q1 : P0_1 ch t) :
    step0 ch m ρ c t prev = (storedB ch m ρ c t prev.2.1 prev.2.2.1 prev.2.2.2 q0 q1, (runB ch m ρ c t prev.2.1 prev.2.2.1 prev.2.2.2 q0 q1).2.1, (runB ch m ρ c t prev.2.1 prev.2.2.1 prev.2.2.2 q0 q1).2.2.1, (runB ch m ρ c t prev.2.1 prev.2.2.1 prev.2.2.2 q0 q1).2.2.2.1) := by
  unfold step0; simp only [dif_neg q0, dif_pos q1]

/-- `step0` at a point of path C. -/
theorem step0_C (c : Dev nD) (t : Fin (cfgA ch).N) (prev : Held c) (q0 : P0_0 ch t) (q1 : ¬P0_1 ch t) :
    step0 ch m ρ c t prev = (storedC ch m ρ c t q0 q1, (runC ch m ρ c t q0 q1).2.1, (runC ch m ρ c t q0 q1).2.2.1, (runC ch m ρ c t q0 q1).2.2.2.1) := by
  unfold step0; simp only [dif_pos q0, dif_neg q1]

/-- `step0` at a point of path D. -/
theorem step0_D (c : Dev nD) (t : Fin (cfgA ch).N) (prev : Held c) (q0 : ¬P0_0 ch t) (q1 : ¬P0_1 ch t) :
    step0 ch m ρ c t prev = (storedD ch m ρ c t prev.2.1 prev.2.2.1 prev.2.2.2 q0 q1, (runD ch m ρ c t prev.2.1 prev.2.2.1 prev.2.2.2 q0 q1).2.1, (runD ch m ρ c t prev.2.1 prev.2.2.1 prev.2.2.2 q0 q1).2.2.1, (runD ch m ρ c t prev.2.1 prev.2.2.1 prev.2.2.2 q0 q1).2.2.2.1) := by
  unfold step0; simp only [dif_neg q0, dif_neg q1]

/-! ## The pipeline's proof data -/

/-- What the tracked buffers held before position `t` of `Fin (N+1)` (the invariant's index). -/
def prev0T (c : Dev nD) (t : Fin ((cfgA ch).N + 1)) : Held c :=
  if h : t.val = 0 then (default, default, default, default) else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

/-- The invariant before point `t`: each scratch at what the trajectory says once a point has determined it (anything
    before), the body's halves of the tables. -/
def Phi (m : (ℓ : Loc nD τ sig) → Buf (Elt Ideal) ℓ) (ρ : Dev nD → PrngReg) (c : Dev nD) (t : Fin ((cfgA ch).N + 1)) : sProp 𝕄 :=
  iprop((∃ a, ⌜sfresh t.val = false → a = (prev0T ch m ρ c t).2.1⌝ ∗ (scM0_0.view.loc (c : Thread nD τ) ↦{fullShare} a)) ∗ (∃ a, ⌜sfresh t.val = false → a = (prev0T ch m ρ c t).2.2.1⌝ ∗ (scM0_1.view.loc (c : Thread nD τ) ↦{fullShare} a)) ∗ (∃ a, ⌜sfresh t.val = false → a = (prev0T ch m ρ c t).2.2.2⌝ ∗ (scM0_2.view.loc (c : Thread nD τ) ↦{fullShare} a)) ∗ (tbM0_0.view.loc (c : Thread nD τ) ↦{fullShare.right} tab0 ch) ∗ (tbM0_1.view.loc (c : Thread nD τ) ↦{fullShare.right} tab1 ch))

/-- The proof data of the one pipeline on core `c`. -/
def dats (_ : Fin 1) (c : Dev nD) : Dat τ (Elt Ideal) Unit ℕ (UR sig nD τ) ℕ (cfgA ch) c where
  A w := (s₀ m ρ).mem (((cfgA ch).win w).arr.view.loc (c : Thread nD τ))
  after w t := match w with
    | ⟨0, _⟩ => iblk ch m ρ c (0 : Fin 8) t
    | ⟨1, _⟩ => iblk ch m ρ c (1 : Fin 8) t
    | ⟨2, _⟩ => iblk ch m ρ c (2 : Fin 8) t
    | ⟨3, _⟩ => iblk ch m ρ c (3 : Fin 8) t
    | ⟨4, _⟩ => iblk ch m ρ c (4 : Fin 8) t
    | ⟨5, _⟩ => iblk ch m ρ c (5 : Fin 8) t
    | ⟨6, _⟩ => iblk ch m ρ c (6 : Fin 8) t
    | ⟨7, _⟩ => (traj0 ch m ρ c t.val t.isLt).1
  Φ t := Phi ch m ρ c t
  q _ := fullShare
  owed _ := 0

theorem after0_0 (c : Dev nD) (t : Fin (cfgA ch).N) : (dats ch m ρ 0 c).after (0 : Fin 8) t = iblk ch m ρ c (0 : Fin 8) t := rfl
theorem after0_1 (c : Dev nD) (t : Fin (cfgA ch).N) : (dats ch m ρ 0 c).after (1 : Fin 8) t = iblk ch m ρ c (1 : Fin 8) t := rfl
theorem after0_2 (c : Dev nD) (t : Fin (cfgA ch).N) : (dats ch m ρ 0 c).after (2 : Fin 8) t = iblk ch m ρ c (2 : Fin 8) t := rfl
theorem after0_3 (c : Dev nD) (t : Fin (cfgA ch).N) : (dats ch m ρ 0 c).after (3 : Fin 8) t = iblk ch m ρ c (3 : Fin 8) t := rfl
theorem after0_4 (c : Dev nD) (t : Fin (cfgA ch).N) : (dats ch m ρ 0 c).after (4 : Fin 8) t = iblk ch m ρ c (4 : Fin 8) t := rfl
theorem after0_5 (c : Dev nD) (t : Fin (cfgA ch).N) : (dats ch m ρ 0 c).after (5 : Fin 8) t = iblk ch m ρ c (5 : Fin 8) t := rfl
theorem after0_6 (c : Dev nD) (t : Fin (cfgA ch).N) : (dats ch m ρ 0 c).after (6 : Fin 8) t = iblk ch m ρ c (6 : Fin 8) t := rfl
theorem after0_7 (c : Dev nD) (t : Fin (cfgA ch).N) : (dats ch m ρ 0 c).after (7 : Fin 8) t = (traj0 ch m ρ c t.val t.isLt).1 := rfl

/-! ## What each window's staging buffer holds when the body runs -/

/-- Input window 0 holds its block, fetched there or not. -/
theorem before0_0 (c : Dev nD) (t : Fin (cfgA ch).N) (d) : (dats ch m ρ 0 c).before (0 : Fin 8) t d = iblk ch m ρ c (0 : Fin 8) t :=
  ((dats ch m ρ 0 c).before_in_eq_fetched (0 : Fin 8) rfl (fun _ => rfl) (fun _ _ _ => rfl) (fun t => by rw [after0_0]; unfold Dat.blockOf iblk; rfl) t d).trans
    (by unfold Dat.fetched Dat.blockOf iblk; rfl)

/-- Input window 1 holds its block, fetched there or not. -/
theorem before0_1 (c : Dev nD) (t : Fin (cfgA ch).N) (d) : (dats ch m ρ 0 c).before (1 : Fin 8) t d = iblk ch m ρ c (1 : Fin 8) t :=
  ((dats ch m ρ 0 c).before_in_eq_fetched (1 : Fin 8) rfl (fun _ => rfl) (fun _ _ _ => rfl) (fun t => by rw [after0_1]; unfold Dat.blockOf iblk; rfl) t d).trans
    (by unfold Dat.fetched Dat.blockOf iblk; rfl)

/-- Input window 2 holds its block, fetched there or not. -/
theorem before0_2 (c : Dev nD) (t : Fin (cfgA ch).N) (d) : (dats ch m ρ 0 c).before (2 : Fin 8) t d = iblk ch m ρ c (2 : Fin 8) t :=
  ((dats ch m ρ 0 c).before_in_eq_fetched (2 : Fin 8) rfl (fun _ => rfl) (fun _ _ _ => rfl) (fun t => by rw [after0_2]; unfold Dat.blockOf iblk; rfl) t d).trans
    (by unfold Dat.fetched Dat.blockOf iblk; rfl)

/-- Input window 3 holds its block, fetched there or not. -/
theorem before0_3 (c : Dev nD) (t : Fin (cfgA ch).N) (d) : (dats ch m ρ 0 c).before (3 : Fin 8) t d = iblk ch m ρ c (3 : Fin 8) t :=
  ((dats ch m ρ 0 c).before_in_eq_fetched (3 : Fin 8) rfl (fun _ => rfl) (fun _ _ _ => rfl) (fun t => by rw [after0_3]; unfold Dat.blockOf iblk; rfl) t d).trans
    (by unfold Dat.fetched Dat.blockOf iblk; rfl)

/-- Input window 4 holds its block, fetched there or not. -/
theorem before0_4 (c : Dev nD) (t : Fin (cfgA ch).N) (d) : (dats ch m ρ 0 c).before (4 : Fin 8) t d = iblk ch m ρ c (4 : Fin 8) t :=
  ((dats ch m ρ 0 c).before_in_eq_fetched (4 : Fin 8) rfl (fun _ => rfl) (fun _ _ _ => rfl) (fun t => by rw [after0_4]; unfold Dat.blockOf iblk; rfl) t d).trans
    (by unfold Dat.fetched Dat.blockOf iblk; rfl)

/-- Input window 5 holds its block, fetched there or not. -/
theorem before0_5 (c : Dev nD) (t : Fin (cfgA ch).N) (d) : (dats ch m ρ 0 c).before (5 : Fin 8) t d = iblk ch m ρ c (5 : Fin 8) t :=
  ((dats ch m ρ 0 c).before_in_eq_fetched (5 : Fin 8) rfl (fun _ => rfl) (fun _ _ _ => rfl) (fun t => by rw [after0_5]; unfold Dat.blockOf iblk; rfl) t d).trans
    (by unfold Dat.fetched Dat.blockOf iblk; rfl)

/-- Input window 6 holds its block, fetched there or not. -/
theorem before0_6 (c : Dev nD) (t : Fin (cfgA ch).N) (d) : (dats ch m ρ 0 c).before (6 : Fin 8) t d = iblk ch m ρ c (6 : Fin 8) t :=
  ((dats ch m ρ 0 c).before_in_eq_fetched (6 : Fin 8) rfl (fun _ => rfl) (fun _ _ _ => rfl) (fun t => by rw [after0_6]; unfold Dat.blockOf iblk; rfl) t d).trans
    (by unfold Dat.fetched Dat.blockOf iblk; rfl)

/-- Output 7's `after` carries through the points that leave it idle. -/
theorem hcarry0_7 (c : Dev nD) : ∀ (t : Fin (cfgA ch).N) (ht : t.val ≠ 0), (cfgA ch).idle (7 : Fin 8) ((cfgA ch).grid.coords t) = true → (cfgA ch).fresh (7 : Fin 8) t.val = false →
    (dats ch m ρ 0 c).after (7 : Fin 8) t = (dats ch m ρ 0 c).after (7 : Fin 8) ⟨t.val - 1, by omega⟩ := by
  intro t ht hi hf
  rw [idle7 ch t] at hi; exact absurd hi (by decide)

/-- Output window 7 holds, when the body runs at `t`: junk if nothing was stored since its last write-back (`Cfg.fresh`),
    else what the point before left. -/
theorem before0_7 (c : Dev nD) (t : Fin (cfgA ch).N) (d) :
    (dats ch m ρ 0 c).before (7 : Fin 8) t d = if (cfgA ch).fresh (7 : Fin 8) t.val then d else (prev0 ch m ρ c t).1 := by
  rw [(dats ch m ρ 0 c).before_out_traj (7 : Fin 8) rfl (fun _ _ => rfl) (hcarry0_7 ch m ρ c) t.val t rfl d]
  by_cases hf : (cfgA ch).fresh (7 : Fin 8) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_7]; unfold prev0; rw [dif_neg h0]

/-! ## The body obligation, at a generic point, by path -/

/-- The body at point `t` on its staging memrefs, as the pipeline calls it. -/
abbrev bodyAt0 (t : Fin (cfgA ch).N) : Prog (TpuEff nD τ sig (Elt Ideal) Λ₀ .tc) PUnit :=
  cc0_moe_experts (crd ch t) (Memref.whole main_arg0) (Memref.isWhole_whole _) (Memref.whole main_arg1) (Memref.isWhole_whole _) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (Memref.whole cc0_scratch0) (Memref.isWhole_whole _) (Memref.whole cc0_scratch1) (Memref.isWhole_whole _) (Memref.whole cc0_scratch2) (Memref.isWhole_whole _)

set_option maxHeartbeats 6400000 in
/-- The body's triple at point `t`: the decisions there tell the path; the inputs hold their blocks, a live buffer what the trajectory says; the path's run applies; no window is idle. -/
theorem sound_body (hp : Pinned ch m) (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 8) t d))
        ∗ (∃ d, owns (c : Thread nD τ) (ms0_1 ch t) fullShare ((dats ch m ρ 0 c).before (1 : Fin 8) t d))
        ∗ (∃ d, owns (c : Thread nD τ) (ms0_2 ch t) fullShare ((dats ch m ρ 0 c).before (2 : Fin 8) t d))
        ∗ (∃ d, owns (c : Thread nD τ) (ms0_3 ch t) fullShare ((dats ch m ρ 0 c).before (3 : Fin 8) t d))
        ∗ (∃ d, owns (c : Thread nD τ) (ms0_4 ch t) fullShare ((dats ch m ρ 0 c).before (4 : Fin 8) t d))
        ∗ (∃ d, owns (c : Thread nD τ) (ms0_5 ch t) fullShare ((dats ch m ρ 0 c).before (5 : Fin 8) t d))
        ∗ (∃ d, owns (c : Thread nD τ) (ms0_6 ch t) fullShare ((dats ch m ρ 0 c).before (6 : Fin 8) t d))
        ∗ (∃ d, owns (c : Thread nD τ) (ms0_7 ch t) fullShare ((dats ch m ρ 0 c).before (7 : Fin 8) t d)))
      ⊢ wp frame (wpE (defs₀ (F := Ideal)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · by_cases q1 : P0_1 ch t
    · have i7 := idle7 ch t
      have f7 := flush7 ch t
      have fr7 := fresh7 ch t.val (Nat.le_of_lt t.isLt)
      have sfn := sfresh_succ t.val
      rewrite [i7]
      simp only [before0_0, before0_1, before0_2, before0_3, before0_4, before0_5, before0_6, before0_7, after0_0, after0_1, after0_2, after0_3, after0_4, after0_5, after0_6, after0_7, f7]
      simp only [fr7, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_A ch m ρ c t _ q0 q1]
      unfold Phi; simp only [prev0T_castSucc, prev0T_succ, traj0_eq, step0_A ch m ρ c t _ q0 q1, Fin.val_castSucc, Fin.val_succ]
      iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA ch m ρ c t q0 q1).2.2.2.2 a0 a1 a2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [H6]; · iapply rep_of_owns; iexact H6
      isplitl [HT0]; · iexact HT0
      isplitl [HT1]; · iexact HT1
      isplitl [H7]; · iexists _; iexact H7
      isplitl [HS0]; · iexact HS0
      isplitl [HS1]; · iexact HS1
      isplitl [HS2]; · iexact HS2
      iintro ⟨H0, H1, H2, H3, H4, H5, H6, HT0, HT1, ⟨%e7, H7⟩, HS0, HS1, HS2⟩
      isplitl [HS0 HS1 HS2 HT0 HT1]
      · isplitl [HS0]
        · iexists _; isplitr; swap
          · iexact HS0
          · ipureintro; intro hn; first | rfl | exact absurd hn (by first | (rw [sfn]; decide) | decide)
        isplitl [HS1]
        · iexists _; isplitr; swap
          · iexact HS1
          · ipureintro; intro hn; first | rfl | exact absurd hn (by first | (rw [sfn]; decide) | decide)
        isplitl [HS2]
        · iexists _; isplitr; swap
          · iexact HS2
          · ipureintro; intro hn; first | rfl | exact absurd hn (by first | (rw [sfn]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      isplitl [H5]
      · iapply owns_of_rep; iexact H5
      isplitl [H6]
      · iapply owns_of_rep; iexact H6
      unfold owns; iexists _; isplitr; swap
      · iexact H7
      · ipureintro; exact View.read_writes_of_cover _ _ _ _ _ (cover0_A_7 c _ _ _ _ _ _ _ _ _ _ _ _ _ _ _ _ _ _ _ _ _ _ _ _ _ _ _ _ _)
    · have i7 := idle7 ch t
      have f7 := flush7 ch t
      have fr7 := fresh7 ch t.val (Nat.le_of_lt t.isLt)
      have sfn := sfresh_succ t.val
      rewrite [i7]
      simp only [before0_0, before0_1, before0_2, before0_3, before0_4, before0_5, before0_6, before0_7, after0_0, after0_1, after0_2, after0_3, after0_4, after0_5, after0_6, after0_7, f7]
      simp only [fr7, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_C ch m ρ c t _ q0 q1]
      unfold Phi; simp only [prev0T_castSucc, prev0T_succ, traj0_eq, step0_C ch m ρ c t _ q0 q1, Fin.val_castSucc, Fin.val_succ]
      iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runC ch m ρ c t q0 q1).2.2.2.2 a0 a1 a2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [H6]; · iapply rep_of_owns; iexact H6
      isplitl [HT0]; · iexact HT0
      isplitl [HT1]; · iexact HT1
      isplitl [H7]; · iexists _; iexact H7
      isplitl [HS0]; · iexact HS0
      isplitl [HS1]; · iexact HS1
      isplitl [HS2]; · iexact HS2
      iintro ⟨H0, H1, H2, H3, H4, H5, H6, HT0, HT1, ⟨%e7, H7⟩, HS0, HS1, HS2⟩
      isplitl [HS0 HS1 HS2 HT0 HT1]
      · isplitl [HS0]
        · iexists _; isplitr; swap
          · iexact HS0
          · ipureintro; intro hn; first | rfl | exact absurd hn (by first | (rw [sfn]; decide) | decide)
        isplitl [HS1]
        · iexists _; isplitr; swap
          · iexact HS1
          · ipureintro; intro hn; first | rfl | exact absurd hn (by first | (rw [sfn]; decide) | decide)
        isplitl [HS2]
        · iexists _; isplitr; swap
          · iexact HS2
          · ipureintro; intro hn; first | rfl | exact absurd hn (by first | (rw [sfn]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      isplitl [H5]
      · iapply owns_of_rep; iexact H5
      isplitl [H6]
      · iapply owns_of_rep; iexact H6
      unfold owns; iexists _; isplitr; swap
      · iexact H7
      · ipureintro; exact View.read_writes_of_cover _ _ _ _ _ (cover0_C_7 c _ _ _ _ _ _ _ _ _ _ _ _ _ _ _ _ _ _ _ _ _ _ _ _ _ _ _ _ _)
  · by_cases q1 : P0_1 ch t
    · have i7 := idle7 ch t
      have f7 := flush7 ch t
      have fr7 := fresh7 ch t.val (Nat.le_of_lt t.isLt)
      have sfn := sfresh_succ t.val
      have sf := sfresh_kept ch t q0
      rewrite [i7]
      simp only [before0_0, before0_1, before0_2, before0_3, before0_4, before0_5, before0_6, before0_7, after0_0, after0_1, after0_2, after0_3, after0_4, after0_5, after0_6, after0_7, f7]
      simp only [fr7, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_B ch m ρ c t _ q0 q1]
      unfold Phi; simp only [prev0T_castSucc, prev0T_succ, traj0_eq, step0_B ch m ρ c t _ q0 q1, Fin.val_castSucc, Fin.val_succ]
      simp only [exists_held sf]
      iintro ⟨⟨HS0, HS1, HS2, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runB ch m ρ c t _ _ _ q0 q1).2.2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [H6]; · iapply rep_of_owns; iexact H6
      isplitl [HT0]; · iexact HT0
      isplitl [HT1]; · iexact HT1
      isplitl [H7]; · iexists _; iexact H7
      isplitl [HS0]; · iexact HS0
      isplitl [HS1]; · iexact HS1
      isplitl [HS2]; · iexact HS2
      iintro ⟨H0, H1, H2, H3, H4, H5, H6, HT0, HT1, ⟨%e7, H7⟩, HS0, HS1, HS2⟩
      isplitl [HS0 HS1 HS2 HT0 HT1]
      · isplitl [HS0]
        · iexists _; isplitr; swap
          · iexact HS0
          · ipureintro; intro hn; first | rfl | exact absurd hn (by first | (rw [sfn]; decide) | decide)
        isplitl [HS1]
        · iexists _; isplitr; swap
          · iexact HS1
          · ipureintro; intro hn; first | rfl | exact absurd hn (by first | (rw [sfn]; decide) | decide)
        isplitl [HS2]
        · iexists _; isplitr; swap
          · iexact HS2
          · ipureintro; intro hn; first | rfl | exact absurd hn (by first | (rw [sfn]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      isplitl [H5]
      · iapply owns_of_rep; iexact H5
      isplitl [H6]
      · iapply owns_of_rep; iexact H6
      unfold owns; iexists _; isplitr; swap
      · iexact H7
      · ipureintro; exact View.read_writes_of_cover _ _ _ _ _ (cover0_B_7 c _ _ _ _ _ _ _ _ _ _ _ _ _ _ _ _ _ _ _ _ _ _ _ _ _ _ _ _ _ _ _ _)
    · have i7 := idle7 ch t
      have f7 := flush7 ch t
      have fr7 := fresh7 ch t.val (Nat.le_of_lt t.isLt)
      have sfn := sfresh_succ t.val
      have sf := sfresh_kept ch t q0
      rewrite [i7]
      simp only [before0_0, before0_1, before0_2, before0_3, before0_4, before0_5, before0_6, before0_7, after0_0, after0_1, after0_2, after0_3, after0_4, after0_5, after0_6, after0_7, f7]
      simp only [fr7, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_D ch m ρ c t _ q0 q1]
      unfold Phi; simp only [prev0T_castSucc, prev0T_succ, traj0_eq, step0_D ch m ρ c t _ q0 q1, Fin.val_castSucc, Fin.val_succ]
      simp only [exists_held sf]
      iintro ⟨⟨HS0, HS1, HS2, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runD ch m ρ c t _ _ _ q0 q1).2.2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [H6]; · iapply rep_of_owns; iexact H6
      isplitl [HT0]; · iexact HT0
      isplitl [HT1]; · iexact HT1
      isplitl [H7]; · iexists _; iexact H7
      isplitl [HS0]; · iexact HS0
      isplitl [HS1]; · iexact HS1
      isplitl [HS2]; · iexact HS2
      iintro ⟨H0, H1, H2, H3, H4, H5, H6, HT0, HT1, ⟨%e7, H7⟩, HS0, HS1, HS2⟩
      isplitl [HS0 HS1 HS2 HT0 HT1]
      · isplitl [HS0]
        · iexists _; isplitr; swap
          · iexact HS0
          · ipureintro; intro hn; first | rfl | exact absurd hn (by first | (rw [sfn]; decide) | decide)
        isplitl [HS1]
        · iexists _; isplitr; swap
          · iexact HS1
          · ipureintro; intro hn; first | rfl | exact absurd hn (by first | (rw [sfn]; decide) | decide)
        isplitl [HS2]
        · iexists _; isplitr; swap
          · iexact HS2
          · ipureintro; intro hn; first | rfl | exact absurd hn (by first | (rw [sfn]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      isplitl [H5]
      · iapply owns_of_rep; iexact H5
      isplitl [H6]
      · iapply owns_of_rep; iexact H6
      unfold owns; iexists _; isplitr; swap
      · iexact H7
      · ipureintro; exact View.read_writes_of_cover _ _ _ _ _ (cover0_D_7 c _ _ _ _ _ _ _ _ _ _ _ _ _ _ _ _ _ _ _ _ _ _ _ _ _ _ _ _ _ _ _ _)

/-- The library's body obligation, at every point. -/
theorem body_obligation (hp : Pinned ch m) (c : Dev nD) : BodyObligation (dats ch m ρ 0 c) (defs₀ (F := Ideal)) Variants.none () Set.univ := fun t => by
  rw [bigSep_W0]
  exact sound_body ch m ρ hp c t

/-! ## The launch -/

/-- The launch's ghost state. -/
def u₀ : UR sig nD τ :=
  initOf (Pipeline.cells (pcs ch) ((launch0 (F := Ideal)).cellOf_inj fun _ => adm ch))
    (Pipeline.launchToks (pcs ch) ((launch0 (F := Ideal)).cellOf_inj fun _ => adm ch))

theorem share_eq (c : Dev nD) (w : Fin (cfgA ch).W) : (dats ch m ρ 0 c).share w = fullShare := by unfold Dat.share; split <;> rfl

/-- The tables as the launch hands them to the region, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1⟩, ⟨%a0, HS0⟩, ⟨%a1, HS1⟩, ⟨%a2, HS2⟩⟩
  isplitl [HS0]
  · iexists a0; isplitr; swap
    · iexact HS0
    · ipureintro; intro h; exact absurd (h.symm.trans (show sfresh 0 = true from rfl)) Bool.false_ne_true
  isplitl [HS1]
  · iexists a1; isplitr; swap
    · iexact HS1
    · ipureintro; intro h; exact absurd (h.symm.trans (show sfresh 0 = true from rfl)) Bool.false_ne_true
  isplitl [HS2]
  · iexists a2; isplitr; swap
    · iexact HS2
    · ipureintro; intro h; exact absurd (h.symm.trans (show sfresh 0 = true from rfl)) Bool.false_ne_true
  isplitl [HT0]
  · iexact HT0
  iexact HT1

/-- at the last point it gives the scratch buffers back (`hout`), the tables let go. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨⟨%a0, -, HS0⟩, ⟨%a1, -, HS1⟩, ⟨%a2, -, HS2⟩, -, -⟩
  isplitr; · iempintro
  isplitl [HS0]
  · iexists a0; iexact HS0
  isplitl [HS1]
  · iexists a1; iexact HS1
  iexists a2; iexact HS2

/-- The physical post: every array at what the library computes, every table at what the pipeline ran at. -/
def QC : PUnit × MemSt nD τ sig (Elt Ideal) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

theorem V_pre (hp : Pinned ch m) (c : Dev nD) (j : Fin 2) : m ((c : Thread nD τ).loc (pre0.ref j)) = (adm ch).1 j := by
  fin_cases j
  · exact hp.1 c
  · exact hp.2 c

set_option backward.isDefEq.respectTransparency.types false in
set_option maxHeartbeats 4000000 in
/-- From any memory with zero counters whose tables are the words `ch`: every weakly
    fair execution of @main on the TensorCores terminates, and every final state has each array at the computed contents,
    and every semaphore counter of the machine at zero. -/
theorem run_main_quiescent (hp : Pinned ch m) : θ_run (defs (F := Ideal)) (onTc (τ := τ) (main (F := Ideal))) (s₀ m ρ) (fun r => QC ch m ρ r ∧ r.2.sem = fun _ => 0) :=
  Pipeline.θ_run_region_noSem_pf_quiescent pcfgs (fun _ => adm ch) (dats ch m ρ) () ((launch0 (F := Ideal)).cellOf_inj fun _ => adm ch) (0 : Fin 1)
    (launch0 (F := Ideal)).win.to₀ (launch0 (F := Ideal)).pre EP defs₀ Variants.none m ρ main
    (hbody := fun c => (body_obligation ch m ρ hp c).loose) (hne := (launch0 (F := Ideal)).block_pos)
    (harr := (launch0 (F := Ideal)).arr_whole) (hstage := (launch0 (F := Ideal)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := Ideal)).win.arr_inj c (launch0 (F := Ideal)).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned ch m) : θ_run (defs (F := Ideal)) (onTc (τ := τ) (main (F := Ideal))) (s₀ m ρ) (QC ch m ρ) :=
  (θ_run defs _ _).mono (fun _ h => h.1) (run_main_quiescent ch m ρ hp)

/-- `frame` without the counters: the argument arrays end unchanged. -/
theorem unchanged (hp : Pinned ch m) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 0).trans (hp.1 c).symm, ((h c).2 1).trans (hp.2 c).symm, ((h c).1 (0 : Fin 8)).trans ((dats ch m ρ 0 c).arrAt_in (0 : Fin 8) rfl _), ((h c).1 (1 : Fin 8)).trans ((dats ch m ρ 0 c).arrAt_in (1 : Fin 8) rfl _), ((h c).1 (2 : Fin 8)).trans ((dats ch m ρ 0 c).arrAt_in (2 : Fin 8) rfl _), ((h c).1 (3 : Fin 8)).trans ((dats ch m ρ 0 c).arrAt_in (3 : Fin 8) rfl _), ((h c).1 (4 : Fin 8)).trans ((dats ch m ρ 0 c).arrAt_in (4 : Fin 8) rfl _), ((h c).1 (5 : Fin 8)).trans ((dats ch m ρ 0 c).arrAt_in (5 : Fin 8) rfl _), ((h c).1 (6 : Fin 8)).trans ((dats ch m ρ 0 c).arrAt_in (6 : Fin 8) rfl _)⟩) (run_main ch m ρ hp)

/-- The frame: from a launch memory whose tables are the words `ch`, every weakly fair
    execution terminates, nothing faults, every argument array ends unchanged and every semaphore counter of the machine reads
    zero at every final state — `Cert.quiescent_Kernel3Ideal`'s post. -/
theorem frame (hp : Pinned ch m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged ch m ρ hp) ((θ_run defs _ _).mono (fun _ h => h.2) (run_main_quiescent ch m ρ hp))

end Cert.Kernel3Ideal.Moe

end
-- ==== Proof.Mlp.lean ====
/- One expert's gated feed-forward on a row, with no program. -/
module

public import Idealize.ShloMosaic.PureOps.Ideal

@[expose] public section

noncomputable section

namespace Cert.Proof.Mlp

open Idealize.ShloMosaic

/-- The row `f` against one column of weights, and a bias. -/
def linear (f w : Fin 1024 → EReal) (b : EReal) : EReal := (∑ k, f k * w k) + b

/-- The activation of a gate and an up value: both clipped at seven, the gate through its own logistic. -/
def act (g u : EReal) : EReal :=
  (min (Ideal.ofBits .f32 0x40E00000#32) (max (Ideal.ofBits .f32 0xC0E00000#32) u) + 1) * min g (Ideal.ofBits .f32 0x40E00000#32)
    * Ideal.div 1 (1 + Ideal.exp (0 - Ideal.ofBits .f32 0x3FD9DB23#32 * min g (Ideal.ofBits .f32 0x40E00000#32)))

/-- The activation of the row `f`. -/
def innerRow (f : Fin 1024 → EReal) (wg : Fin 1024 → Fin 1024 → EReal) (bg : Fin 1024 → EReal) (wu : Fin 1024 → Fin 1024 → EReal)
    (bu : Fin 1024 → EReal) (n : Fin 1024) : EReal :=
  act (linear f (fun k => wg k n) (bg n)) (linear f (fun k => wu k n) (bu n))

/-- The expert's output at the row `f`. -/
def mlp (f : Fin 1024 → EReal) (wg : Fin 1024 → Fin 1024 → EReal) (bg : Fin 1024 → EReal) (wu : Fin 1024 → Fin 1024 → EReal)
    (bu : Fin 1024 → EReal) (wd : Fin 1024 → Fin 1024 → EReal) (bd : Fin 1024 → EReal) (n : Fin 1024) : EReal :=
  linear (innerRow f wg bg wu bu) (fun k => wd k n) (bd n)

end Cert.Proof.Mlp

end
-- ==== Proof.MoeBody.lean ====
/- The experts' body: what each of its stores holds, entry by entry. -/
module

public import proofs.«01_k».proof.Proof.MoeRun
public import proofs.«01_k».proof.Proof.Mlp
public import Idealize.ShloMosaic.Lib.Pipeline.ValueKit
public import Idealize.ShloMosaic.Lib.Pointwise
public import Idealize.ShloMosaic.Lib.VecWindow

@[expose] public section

set_option maxRecDepth 16384

noncomputable section

namespace Cert.Kernel3Ideal.Moe

open Cert.Kernel3Ideal Cert.Kernel3Ideal.Gen
open Idealize.ShloMosaic
open Idealize.ShloMosaic.TcCoe Idealize.ShloMosaic.Tactic

open Cert.Proof.Mlp

/-! ## The stored values, entry by entry -/

/-- A weight block loses its leading axis when stored. -/
theorem weight1_apply (w : Vec Ideal S1x1024x1024 .f32) (k n : Fin 1024) : k0_pay1 w (ix2 k n) = w (ix3 0 k n) := by
  unfold k0_pay1
  pointwise []

theorem weight2_apply (w : Vec Ideal S1x1024x1024 .f32) (k n : Fin 1024) : k0_pay2 w (ix2 k n) = w (ix3 0 k n) := by
  unfold k0_pay2
  pointwise []

theorem weight3_apply (w : Vec Ideal S1x1024x1024 .f32) (k n : Fin 1024) : k0_pay3 w (ix2 k n) = w (ix3 0 k n) := by
  unfold k0_pay3
  pointwise []

/-- The activation of a row. -/
theorem inner_apply (x : Vec Ideal S512x1024 .f32) (wg wu : Vec Ideal S1024x1024 .bf16) (bg bu : Vec Ideal S1x1x1024 .f32) (r : Fin 512) (n : Fin 1024) :
    k0_pay6 x wg bg wu bu (ix2 r n)
      = innerRow (fun k => x (ix2 r k)) (fun k n => wg (ix2 k n)) (fun n => bg (ix3 0 0 n)) (fun k n => wu (ix2 k n)) (fun n => bu (ix3 0 0 n)) n := by
  unfold k0_pay6 innerRow act linear
  pointwise []

/-- A row of the block against the last weights. -/
theorem down_apply (x : Vec Ideal S512x1024 .bf16) (w : Vec Ideal S1024x1024 .bf16) (b : Vec Ideal S1x1x1024 .f32) (r : Fin 512) (n : Fin 1024) :
    k0_pay4 x w (constant S512x1024 .f32 0x00000000#32) b (ix2 r n)
      = linear (fun k => x (ix2 r k)) (fun k => w (ix2 k n)) (b (ix3 0 0 n)) := by
  unfold k0_pay4 linear
  pointwise []

theorem zeros_apply (r : Fin 512) (n : Fin 1024) : k0_pay5 (F := Ideal) (ix2 r n) = (0 : EReal) := by
  unfold k0_pay5
  pointwise []

/-- The whole of what a used block's body stores. -/
def fed (x : Vec Ideal S512x1024 .f32) (wg wu wd : Vec Ideal S1024x1024 .bf16) (bg bu bd : Vec Ideal S1x1x1024 .f32) : FVec Ideal S512x1024 .f32 :=
  k0_pay4 (k0_pay6 x wg bg wu bu) wd (constant S512x1024 .f32 0x00000000#32) bd

theorem fed_apply (x : Vec Ideal S512x1024 .f32) (wg wu wd : Vec Ideal S1024x1024 .bf16) (bg bu bd : Vec Ideal S1x1x1024 .f32) (r : Fin 512) (n : Fin 1024) :
    fed x wg wu wd bg bu bd (ix2 r n)
      = mlp (fun k => x (ix2 r k)) (fun k n => wg (ix2 k n)) (fun n => bg (ix3 0 0 n)) (fun k n => wu (ix2 k n)) (fun n => bu (ix3 0 0 n))
          (fun k n => wd (ix2 k n)) (fun n => bd (ix3 0 0 n)) n := by
  unfold fed mlp
  rw [down_apply]
  exact congrArg (fun f => linear f _ _) (funext fun k => inner_apply x wg wu bg bu r k)

/-! ## Reading the weights' buffers whole -/

theorem scratch0_full (L : List (View.Piece (Elt Ideal) S1024x1024 .bf16)) :
    scM0_0.view.writes (Elt Ideal) scM0_0.view.junk L = scM0_0.view.read (Elt Ideal) (scM0_0.view.writes (Elt Ideal) scM0_0.view.junk L) := rfl

theorem scratch0_read (inb : ∀ a, (![0, 0] : Fin 2 → ℕ) a + S1024x1024.size a ≤ S1024x1024.size a) (w : S1024x1024.Idx → Elt Ideal .bf16) :
    View.readAt (Elt Ideal) scM0_0.view (Rect.unit (s := S1024x1024) ![0, 0] S1024x1024.size inb).toLoadRect w = w :=
  View.readAt_full (Val := Elt Ideal) (View.whole cc0_scratch0) w inb

theorem scratch1_full (L : List (View.Piece (Elt Ideal) S1024x1024 .bf16)) :
    scM0_1.view.writes (Elt Ideal) scM0_1.view.junk L = scM0_1.view.read (Elt Ideal) (scM0_1.view.writes (Elt Ideal) scM0_1.view.junk L) := rfl

theorem scratch1_read (inb : ∀ a, (![0, 0] : Fin 2 → ℕ) a + S1024x1024.size a ≤ S1024x1024.size a) (w : S1024x1024.Idx → Elt Ideal .bf16) :
    View.readAt (Elt Ideal) scM0_1.view (Rect.unit (s := S1024x1024) ![0, 0] S1024x1024.size inb).toLoadRect w = w :=
  View.readAt_full (Val := Elt Ideal) (View.whole cc0_scratch1) w inb

theorem scratch2_full (L : List (View.Piece (Elt Ideal) S1024x1024 .bf16)) :
    scM0_2.view.writes (Elt Ideal) scM0_2.view.junk L = scM0_2.view.read (Elt Ideal) (scM0_2.view.writes (Elt Ideal) scM0_2.view.junk L) := rfl

theorem scratch2_read (inb : ∀ a, (![0, 0] : Fin 2 → ℕ) a + S1024x1024.size a ≤ S1024x1024.size a) (w : S1024x1024.Idx → Elt Ideal .bf16) :
    View.readAt (Elt Ideal) scM0_2.view (Rect.unit (s := S1024x1024) ![0, 0] S1024x1024.size inb).toLoadRect w = w :=
  View.readAt_full (Val := Elt Ideal) (View.whole cc0_scratch2) w inb

variable (ch : Routed)
variable (m : (ℓ : Loc nD τ sig) → Buf (Elt Ideal) ℓ) (ρ : Dev nD → PrngReg)

/-! ## What each path leaves in the weights' buffers -/

theorem heldA_0 (c : Dev nD) (t : Fin (cfgA ch).N) (q0 : P0_0 ch t) (q1 : P0_1 ch t) :
    (runA ch m ρ c t q0 q1).2.1 = k0_pay1 (F := Ideal) (iblk ch m ρ c 1 t) := by
  unfold runA kernelRun0_A
  dsimp only
  refine (scratch0_full _).trans ?_
  unfold kernelRun0_A.sl.HS0_1
  rw [View.read_writes_full, View.readAt_rep_full]

theorem heldA_1 (c : Dev nD) (t : Fin (cfgA ch).N) (q0 : P0_0 ch t) (q1 : P0_1 ch t) :
    (runA ch m ρ c t q0 q1).2.2.1 = k0_pay2 (F := Ideal) (iblk ch m ρ c 3 t) := by
  unfold runA kernelRun0_A
  dsimp only
  refine (scratch1_full _).trans ?_
  unfold kernelRun0_A.sl.HS1_1
  rw [View.read_writes_full, View.readAt_rep_full]

theorem heldA_2 (c : Dev nD) (t : Fin (cfgA ch).N) (q0 : P0_0 ch t) (q1 : P0_1 ch t) :
    (runA ch m ρ c t q0 q1).2.2.2.1 = k0_pay3 (F := Ideal) (iblk ch m ρ c 5 t) := by
  unfold runA kernelRun0_A
  dsimp only
  refine (scratch2_full _).trans ?_
  unfold kernelRun0_A.sl.HS2_1
  rw [View.read_writes_full, View.readAt_rep_full]

theorem heldC_0 (c : Dev nD) (t : Fin (cfgA ch).N) (q0 : P0_0 ch t) (q1 : ¬P0_1 ch t) :
    (runC ch m ρ c t q0 q1).2.1 = k0_pay1 (F := Ideal) (iblk ch m ρ c 1 t) := by
  unfold runC kernelRun0_C
  dsimp only
  refine (scratch0_full _).trans ?_
  unfold kernelRun0_C.sl.HS0_1
  rw [View.read_writes_full, View.readAt_rep_full]

theorem heldC_1 (c : Dev nD) (t : Fin (cfgA ch).N) (q0 : P0_0 ch t) (q1 : ¬P0_1 ch t) :
    (runC ch m ρ c t q0 q1).2.2.1 = k0_pay2 (F := Ideal) (iblk ch m ρ c 3 t) := by
  unfold runC kernelRun0_C
  dsimp only
  refine (scratch1_full _).trans ?_
  unfold kernelRun0_C.sl.HS1_1
  rw [View.read_writes_full, View.readAt_rep_full]

theorem heldC_2 (c : Dev nD) (t : Fin (cfgA ch).N) (q0 : P0_0 ch t) (q1 : ¬P0_1 ch t) :
    (runC ch m ρ c t q0 q1).2.2.2.1 = k0_pay3 (F := Ideal) (iblk ch m ρ c 5 t) := by
  unfold runC kernelRun0_C
  dsimp only
  refine (scratch2_full _).trans ?_
  unfold kernelRun0_C.sl.HS2_1
  rw [View.read_writes_full, View.readAt_rep_full]

theorem heldB_0 (c : Dev nD) (t : Fin (cfgA ch).N) (w0 w1 w2) (q0 : ¬P0_0 ch t) (q1 : P0_1 ch t) :
    (runB ch m ρ c t w0 w1 w2 q0 q1).2.1 = w0 := by
  unfold runB kernelRun0_B
  rfl

theorem heldB_1 (c : Dev nD) (t : Fin (cfgA ch).N) (w0 w1 w2) (q0 : ¬P0_0 ch t) (q1 : P0_1 ch t) :
    (runB ch m ρ c t w0 w1 w2 q0 q1).2.2.1 = w1 := by
  unfold runB kernelRun0_B
  rfl

theorem heldB_2 (c : Dev nD) (t : Fin (cfgA ch).N) (w0 w1 w2) (q0 : ¬P0_0 ch t) (q1 : P0_1 ch t) :
    (runB ch m ρ c t w0 w1 w2 q0 q1).2.2.2.1 = w2 := by
  unfold runB kernelRun0_B
  rfl

theorem heldD_0 (c : Dev nD) (t : Fin (cfgA ch).N) (w0 w1 w2) (q0 : ¬P0_0 ch t) (q1 : ¬P0_1 ch t) :
    (runD ch m ρ c t w0 w1 w2 q0 q1).2.1 = w0 := by
  unfold runD kernelRun0_D
  rfl

theorem heldD_1 (c : Dev nD) (t : Fin (cfgA ch).N) (w0 w1 w2) (q0 : ¬P0_0 ch t) (q1 : ¬P0_1 ch t) :
    (runD ch m ρ c t w0 w1 w2 q0 q1).2.2.1 = w1 := by
  unfold runD kernelRun0_D
  rfl

theorem heldD_2 (c : Dev nD) (t : Fin (cfgA ch).N) (w0 w1 w2) (q0 : ¬P0_0 ch t) (q1 : ¬P0_1 ch t) :
    (runD ch m ρ c t w0 w1 w2 q0 q1).2.2.2.1 = w2 := by
  unfold runD kernelRun0_D
  rfl

/-! ## What each path stores in the output's block -/

theorem pay4_congr {v v' : FVec Ideal S512x1024 .bf16} {w w' : Vec Ideal S1024x1024 .bf16} (z : FVec Ideal S512x1024 .f32) {b b' : Vec Ideal S1x1x1024 .f32}
    (hv : v = v') (hw : w = w') (hb : b = b') : k0_pay4 v w z b = k0_pay4 v' w' z b' := by subst hv hw hb; rfl

theorem pay6_congr {x x' : Vec Ideal S512x1024 .f32} {g g' : Vec Ideal S1024x1024 .bf16} {bg bg' : Vec Ideal S1x1x1024 .f32} {u u' : Vec Ideal S1024x1024 .bf16} {bu bu' : Vec Ideal S1x1x1024 .f32}
    (hx : x = x') (hg : g = g') (hbg : bg = bg') (hu : u = u') (hbu : bu = bu') : k0_pay6 x g bg u bu = k0_pay6 x' g' bg' u' bu' := by subst hx hg hbg hu hbu; rfl

theorem storedA_eq (c : Dev nD) (t : Fin (cfgA ch).N) (q0 : P0_0 ch t) (q1 : P0_1 ch t):
    storedA ch m ρ c t q0 q1
    = fed (iblk ch m ρ c 0 t) (k0_pay1 (iblk ch m ρ c 1 t)) (k0_pay2 (iblk ch m ρ c 3 t)) (k0_pay3 (iblk ch m ρ c 5 t))
        (iblk ch m ρ c 2 t) (iblk ch m ρ c 4 t) (iblk ch m ρ c 6 t) := by
  unfold storedA out0_A_7
  refine (View.read_writes_full (Val := Elt Ideal) VO0_7 _ _ _ _).trans ?_
  refine pay4_congr _ (pay6_congr ?_ ?_ ?_ ?_ ?_) ?_ ?_
  · exact View.readAt_rep_full _ _ _
  · unfold kernelRun0_A.sl.v21 kernelRun0_A.sl.HS0_1; rw [View.readCov_full, View.readAt_rep_full]
  · exact View.readAt_rep_full _ _ _
  · unfold kernelRun0_A.sl.v29 kernelRun0_A.sl.HS1_1; rw [View.readCov_full, View.readAt_rep_full]
  · exact View.readAt_rep_full _ _ _
  · unfold kernelRun0_A.sl.v53 kernelRun0_A.sl.HS2_1; rw [View.readCov_full, View.readAt_rep_full]
  · exact View.readAt_rep_full _ _ _

theorem storedB_eq (c : Dev nD) (t : Fin (cfgA ch).N) (w0 w1 w2) (q0 : ¬ P0_0 ch t) (q1 : P0_1 ch t) :
    storedB ch m ρ c t w0 w1 w2 q0 q1
    = fed (iblk ch m ρ c 0 t) w0 w1 w2 (iblk ch m ρ c 2 t) (iblk ch m ρ c 4 t) (iblk ch m ρ c 6 t) := by
  unfold storedB out0_B_7
  refine (View.read_writes_full (Val := Elt Ideal) VO0_7 _ _ _ _).trans ?_
  refine pay4_congr _ (pay6_congr ?_ ?_ ?_ ?_ ?_) ?_ ?_
  · exact View.readAt_rep_full _ _ _
  · exact scratch0_read _ _
  · exact View.readAt_rep_full _ _ _
  · exact scratch1_read _ _
  · exact View.readAt_rep_full _ _ _
  · exact scratch2_read _ _
  · exact View.readAt_rep_full _ _ _

theorem storedC_eq (c : Dev nD) (t : Fin (cfgA ch).N) (q0 : P0_0 ch t) (q1 : ¬P0_1 ch t) :
    storedC ch m ρ c t q0 q1
    = k0_pay5 (F := Ideal) := by
  unfold storedC out0_C_7
  exact (View.read_writes_full (Val := Elt Ideal) VO0_7 _ _ _ _)

theorem storedD_eq (c : Dev nD) (t : Fin (cfgA ch).N) (w0 w1 w2) (q0 : ¬P0_0 ch t) (q1 : ¬P0_1 ch t) :
    storedD ch m ρ c t w0 w1 w2 q0 q1
    = k0_pay5 (F := Ideal) := by
  unfold storedD out0_D_7
  exact (View.read_writes_full (Val := Elt Ideal) VO0_7 _ _ _ _)

end Cert.Kernel3Ideal.Moe

end
-- ==== Proof.Row.lean ====
/- A row's RMS norm and its product with a column of weights, with no program. -/
module

public import Idealize.ShloMosaic.PureOps.Ideal

@[expose] public section

noncomputable section

namespace Cert.Proof.Row

open Idealize.ShloMosaic

/-- Entry `k` of the row `f` over its root mean square, times the gain `g`. -/
def normed (f g : Fin 1024 → EReal) (k : Fin 1024) : EReal :=
  f k * Ideal.rsqrt (Ideal.div (∑ j, f j * f j) (FloatOps.ofBits (F := Ideal) .f32 0x44800000#32)
    + FloatOps.ofBits (F := Ideal) .f32 0x358637BD#32) * g k

/-- The normed row against one column of weights. -/
def proj (f g w : Fin 1024 → EReal) : EReal := ∑ k, normed f g k * w k

theorem proj_congr {f f' g g' w w' : Fin 1024 → EReal} (hf : ∀ k, f k = f' k) (hg : ∀ k, g k = g' k) (hw : ∀ k, w k = w' k) :
    proj f g w = proj f' g' w' := by
  rw [funext hf, funext hg, funext hw]

end Cert.Proof.Row

end
-- ==== Proof.ProjRef.lean ====
/- The reference's projection, entry by entry. -/
module

public import proofs.«01_k».proof.Proof.Row
public import proofs.«01_k».proof.Proof.Gen.Reference2Ideal.Read
public import Idealize.ShloMosaic.Lib.Pointwise

@[expose] public section

set_option maxRecDepth 16384

noncomputable section

namespace Cert.Proof.ProjRef

open Idealize.ShloMosaic Cert.Reference2Ideal Cert.Reference2Ideal.Read Cert.Proof.Row

variable (x0 : Vec Ideal S8x2048x1024 .f32) (x1 : Vec Ideal S16x1024 .f32) (x2 : Vec Ideal S1x1024 .f32) (x3 : Vec Ideal S1x1024x5648 .f32)

theorem idx3 {a b c : ℕ} {i i' : (⟨3, ![a, b, c]⟩ : Shape).Idx} (h0 : (i 0).val = (i' 0).val) (h1 : (i 1).val = (i' 1).val)
    (h2 : (i 2).val = (i' 2).val) : i = i' :=
  funext fun a => Fin.ext (match a with | ⟨0, _⟩ => h0 | ⟨1, _⟩ => h1 | ⟨2, _⟩ => h2)

theorem idx2 {a b : ℕ} {i i' : (⟨2, ![a, b]⟩ : Shape).Idx} (h0 : (i 0).val = (i' 0).val) (h1 : (i 1).val = (i' 1).val) : i = i' :=
  funext fun a => Fin.ext (match a with | ⟨0, _⟩ => h0 | ⟨1, _⟩ => h1)

/-- Row `r` of the sequences laid end to end, each behind the meta tokens. -/
def row (r : Fin 16512) (k : Fin 1024) : EReal := val_main_v3 (F := Ideal) x0 x1 (ix2 r k)

theorem sq_apply (r : Fin 16512) : val_main_v5 (F := Ideal) x0 x1 (ix1 r) = ∑ j, row x0 x1 r j * row x0 x1 r j := by
  rw [val_main_v5_apply]
  have hi : val_main_cst (F := Ideal) (Shape.Idx.first Gen.h_S_) = (0 : EReal) := by
    show Ideal.ofBits .f32 0x00000000#32 = _
    simp [Ideal.ofBits, Ideal.ieee]
  rw [hi, zero_add]
  refine Finset.sum_congr rfl fun j _ => ?_
  rw [val_main_v4_apply]
  exact congrArg (fun i => val_main_v3 (F := Ideal) x0 x1 i * val_main_v3 (F := Ideal) x0 x1 i) (idx2 rfl rfl)

theorem normed_apply (r : Fin 16512) (k : Fin 1024) :
    val_main_v17 (F := Ideal) x0 x1 x2 (ix2 r k) = normed (row x0 x1 r) (fun k => x2 (ix2 0 k)) k := by
  rw [val_main_v17_apply, val_main_v13_apply, val_main_v12_apply, val_main_v11_apply, val_main_v10_apply, val_main_v9_apply,
    val_main_cst_1_apply, val_main_v8_apply, val_main_v7_apply, val_main_cst_0_apply, val_main_v6_apply, val_main_v16_apply,
    val_main_v15_apply, val_main_v14_apply, Ideal.hostUnary_rsqrt_def]
  have h5 : idx_main_v6 (idx_main_v12 (ix2 r k)) = ix1 r := funext fun a => Fin.ext (match a with | ⟨0, _⟩ => rfl)
  have hg : idx_main_v14 (idx_main_v15 (idx_main_v16 (ix2 r k))) = ix2 0 k := idx2 (by simp) (by simp)
  rw [h5, hg, sq_apply]
  rfl

/-- Entry `n` of row `r` of the product. -/
theorem entry (r : Fin 16512) (n : Fin 5648) :
    val_main_v19 (F := Ideal) x0 x1 x2 x3 (ix2 r n)
      = proj (row x0 x1 r) (fun k => x2 (ix2 0 k)) (fun k => x3 (ix3 0 k n)) := by
  rw [val_main_v19_apply]
  refine Finset.sum_congr rfl fun k _ => ?_
  have hl : lidx_main_v19 (ix2 r n) k = ix2 r k := idx2 rfl rfl
  have hr : idx_main_v18 (ridx_main_v19 (ix2 r n) k) = ix3 0 k n := idx3 rfl
    (by simp [ix2, ix3]; try omega) (by simp [ix2, ix3]; try omega)
  rw [val_main_v18_apply, hl, hr, normed_apply]

theorem cols20 (r : Fin 16512) (n : Fin 1536) (n' : Fin 5648) (h : n'.val = 0 + n.val) :
    val_main_v20 (F := Ideal) x0 x1 x2 x3 (ix2 r n) = proj (row x0 x1 r) (fun k => x2 (ix2 0 k)) (fun k => x3 (ix3 0 k n')) := by
  have hi : idx_main_v20 (ix2 r n) = ix2 r n' := idx2 (by simp [ix2]) (by simp [ix2]; omega)
  rw [val_main_v20_apply, hi, entry]

theorem cols21 (r : Fin 16512) (n : Fin 512) (n' : Fin 5648) (h : n'.val = 1536 + n.val) :
    val_main_v21 (F := Ideal) x0 x1 x2 x3 (ix2 r n) = proj (row x0 x1 r) (fun k => x2 (ix2 0 k)) (fun k => x3 (ix3 0 k n')) := by
  have hi : idx_main_v21 (ix2 r n) = ix2 r n' := idx2 (by simp [ix2]) (by simp [ix2]; omega)
  rw [val_main_v21_apply, hi, entry]

theorem cols22 (r : Fin 16512) (n : Fin 4) (n' : Fin 5648) (h : n'.val = 2048 + n.val) :
    val_main_v22 (F := Ideal) x0 x1 x2 x3 (ix2 r n) = proj (row x0 x1 r) (fun k => x2 (ix2 0 k)) (fun k => x3 (ix3 0 k n')) := by
  have hi : idx_main_v22 (ix2 r n) = ix2 r n' := idx2 (by simp [ix2]) (by simp [ix2]; omega)
  rw [val_main_v22_apply, hi, entry]

theorem cols23 (r : Fin 16512) (n : Fin 4) (n' : Fin 5648) (h : n'.val = 2052 + n.val) :
    val_main_v23 (F := Ideal) x0 x1 x2 x3 (ix2 r n) = proj (row x0 x1 r) (fun k => x2 (ix2 0 k)) (fun k => x3 (ix3 0 k n')) := by
  have hi : idx_main_v23 (ix2 r n) = ix2 r n' := idx2 (by simp [ix2]) (by simp [ix2]; omega)
  rw [val_main_v23_apply, hi, entry]

theorem cols24 (r : Fin 16512) (n : Fin 512) (n' : Fin 5648) (h : n'.val = 2056 + n.val) :
    val_main_v24 (F := Ideal) x0 x1 x2 x3 (ix2 r n) = proj (row x0 x1 r) (fun k => x2 (ix2 0 k)) (fun k => x3 (ix3 0 k n')) := by
  have hi : idx_main_v24 (ix2 r n) = ix2 r n' := idx2 (by simp [ix2]) (by simp [ix2]; omega)
  rw [val_main_v24_apply, hi, entry]

theorem cols25 (r : Fin 16512) (n : Fin 512) (n' : Fin 5648) (h : n'.val = 2568 + n.val) :
    val_main_v25 (F := Ideal) x0 x1 x2 x3 (ix2 r n) = proj (row x0 x1 r) (fun k => x2 (ix2 0 k)) (fun k => x3 (ix3 0 k n')) := by
  have hi : idx_main_v25 (ix2 r n) = ix2 r n' := idx2 (by simp [ix2]) (by simp [ix2]; omega)
  rw [val_main_v25_apply, hi, entry]

theorem cols26 (r : Fin 16512) (n : Fin 512) (n' : Fin 5648) (h : n'.val = 3080 + n.val) :
    val_main_v26 (F := Ideal) x0 x1 x2 x3 (ix2 r n) = proj (row x0 x1 r) (fun k => x2 (ix2 0 k)) (fun k => x3 (ix3 0 k n')) := by
  have hi : idx_main_v26 (ix2 r n) = ix2 r n' := idx2 (by simp [ix2]) (by simp [ix2]; omega)
  rw [val_main_v26_apply, hi, entry]

theorem cols27 (r : Fin 16512) (n : Fin 8) (n' : Fin 5648) (h : n'.val = 3592 + n.val) :
    val_main_v27 (F := Ideal) x0 x1 x2 x3 (ix2 r n) = proj (row x0 x1 r) (fun k => x2 (ix2 0 k)) (fun k => x3 (ix3 0 k n')) := by
  have hi : idx_main_v27 (ix2 r n) = ix2 r n' := idx2 (by simp [ix2]) (by simp [ix2]; omega)
  rw [val_main_v27_apply, hi, entry]

theorem cols28 (r : Fin 16512) (n : Fin 1024) (n' : Fin 5648) (h : n'.val = 3600 + n.val) :
    val_main_v28 (F := Ideal) x0 x1 x2 x3 (ix2 r n) = proj (row x0 x1 r) (fun k => x2 (ix2 0 k)) (fun k => x3 (ix3 0 k n')) := by
  have hi : idx_main_v28 (ix2 r n) = ix2 r n' := idx2 (by simp [ix2]) (by simp [ix2]; omega)
  rw [val_main_v28_apply, hi, entry]

theorem cols29 (r : Fin 16512) (n : Fin 1024) (n' : Fin 5648) (h : n'.val = 4624 + n.val) :
    val_main_v29 (F := Ideal) x0 x1 x2 x3 (ix2 r n) = proj (row x0 x1 r) (fun k => x2 (ix2 0 k)) (fun k => x3 (ix3 0 k n')) := by
  have hi : idx_main_v29 (ix2 r n) = ix2 r n' := idx2 (by simp [ix2]) (by simp [ix2]; omega)
  rw [val_main_v29_apply, hi, entry]

theorem zero_apply (i : S16512x112.Idx) : val_main_v30 (F := Ideal) i = (0 : EReal) := by
  rw [val_main_v30_apply, val_main_cst_2_apply]
  show Ideal.ofBits .f32 0x00000000#32 = _
  simp [Ideal.ofBits, Ideal.ieee]

/-- The narrow result: sixteen columns of the product, -/
theorem small_apply (r : Fin 16512) (n : Fin 128) (hn : n.val < 16) (n' : Fin 5648) (h : n'.val = if n.val < 8 then n.val + 2048 else n.val + 3584) :
    val_main_v31 (F := Ideal) x0 x1 x2 x3 (ix2 r n) = proj (row x0 x1 r) (fun k => x2 (ix2 0 k)) (fun k => x3 (ix3 0 k n')) := by
  unfold val_main_v31
  pointwise []
  split_ifs
  all_goals first | (exfalso; omega) | skip
  · exact cols22 x0 x1 x2 x3 r _ n' (by dsimp only; split_ifs at h <;> omega)
  · exact cols23 x0 x1 x2 x3 r _ n' (by dsimp only; split_ifs at h <;> omega)
  · exact cols27 x0 x1 x2 x3 r _ n' (by dsimp only; split_ifs at h <;> omega)

/-- then zeros. -/
theorem small_zero (r : Fin 16512) (n : Fin 128) (hn : ¬n.val < 16) : val_main_v31 (F := Ideal) x0 x1 x2 x3 (ix2 r n) = (0 : EReal) := by
  unfold val_main_v31
  pointwise []
  split_ifs
  all_goals first | (exfalso; omega) | exact zero_apply _

end Cert.Proof.ProjRef

end
-- ==== Proof.MoeRef.lean ====
/- The experts' reference, entry by entry. -/
module

public import proofs.«01_k».proof.Proof.Mlp
public import proofs.«01_k».proof.Proof.ProjRef
public import proofs.«01_k».proof.Proof.Gen.Reference3Ideal.Read
public import Idealize.ShloMosaic.Lib.Pointwise

@[expose] public section

set_option maxRecDepth 16384

noncomputable section

namespace Cert.Proof.MoeRef

open Idealize.ShloMosaic Cert.Reference3Ideal Cert.Reference3Ideal.Read Cert.Proof.Mlp
open Cert.Proof.ProjRef (idx2 idx3)

/-! ## A gather of whole slabs -/

section Slab
variable {α : Type}

/-- The dimension numbers of `x[idx]` for an operand `[N, R, C]` and `T` indices along its first axis. -/
abbrev slabDims (N R C T : ℕ)
    (wf : GatherDims.WF ⟨3, ![N, R, C]⟩ ⟨2, ![T, 1]⟩ ⟨3, ![T, R, C]⟩ [1, 2] [0] [] [0] [] 1 ![1, R, C]) :
    GatherDims ⟨3, ![N, R, C]⟩ ⟨2, ![T, 1]⟩ ⟨3, ![T, R, C]⟩ where
  offsetDims := [1, 2]
  collapsedSliceDims := [0]
  operandBatchingDims := []
  startIndicesBatchingDims := []
  startIndexMap := [0]
  indexVectorDim := 1
  sliceSizes := ![1, R, C]
  wf := wf

/-- Entry `(t, r, c)` is the operand's at slab `idx[t]`, when that is one of its slabs. -/
theorem gather_slab_apply {N R C T w : ℕ}
    (wf : GatherDims.WF ⟨3, ![N, R, C]⟩ ⟨2, ![T, 1]⟩ ⟨3, ![T, R, C]⟩ [1, 2] [0] [] [0] [] 1 ![1, R, C])
    (x : (⟨3, ![N, R, C]⟩ : Shape).Idx → α) (idx : IVec ⟨2, ![T, 1]⟩ w) (t : Fin T) (r : Fin R) (c : Fin C) (e : Fin N)
    (he : (idx (ix2 t 0)).toInt = (e.val : ℤ)) :
    Host.gather (slabDims N R C T wf) x idx (ix3 t r c) = x (ix3 e r c) := by
  unfold Host.gather
  congr 1
  funext a
  refine Fin.ext ?_
  show (slabDims N R C T wf).start (ix3 t r c) idx a + (slabDims N R C T wf).batchCoord (ix3 t r c) a + (slabDims N R C T wf).offCoord (ix3 t r c) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    have hsi : (slabDims N R C T wf).siIdx (ix3 t r c) ⟨List.idxOf (0 : Fin 3) (slabDims N R C T wf).startIndexMap,
        List.idxOf_lt_length_iff.2 (List.mem_singleton.mpr rfl)⟩ = ix2 t 0 := by
      funext b; refine Fin.ext ?_
      match b with
      | ⟨0, _⟩ => rfl
      | ⟨1, _⟩ => rfl
    have hs : (slabDims N R C T wf).start (ix3 t r c) idx (0 : Fin 3) = min (idx (ix2 t 0)).toInt.toNat (N - 1) := by
      unfold GatherDims.start
      rw [dif_pos (show (0 : Fin 3) ∈ (slabDims N R C T wf).startIndexMap from List.mem_singleton.mpr rfl), hsi]
      rfl
    refine hs.trans ?_
    rw [he]
    have := e.isLt
    show min ((e.val : ℤ).toNat) (N - 1) = e.val
    omega
  | ⟨1, _⟩ =>
    have hs : (slabDims N R C T wf).start (ix3 t r c) idx (1 : Fin 3) = 0 := by
      unfold GatherDims.start
      exact dif_neg fun h => Nat.succ_ne_zero _ (congrArg Fin.val (List.mem_singleton.mp h))
    exact (congrArg (fun n => n + (slabDims N R C T wf).offCoord (ix3 t r c) (1 : Fin 3)) hs).trans (Nat.zero_add _)
  | ⟨2, _⟩ =>
    have hs : (slabDims N R C T wf).start (ix3 t r c) idx (2 : Fin 3) = 0 := by
      unfold GatherDims.start
      exact dif_neg fun h => Nat.succ_ne_zero _ (congrArg Fin.val (List.mem_singleton.mp h))
    exact (congrArg (fun n => n + (slabDims N R C T wf).offCoord (ix3 t r c) (2 : Fin 3)) hs).trans (Nat.zero_add _)

end Slab

/-! ## The operations -/

variable (x0 : S162.Idx → BitVec 32) (x1 : S1.Idx → BitVec 32) (x2 : Vec Ideal S82944x1024 .f32) (x3 : Vec Ideal S32x1024x1024 .f32) (x4 : Vec Ideal S32x1x1024 .f32)
  (x5 : Vec Ideal S32x1024x1024 .f32) (x6 : Vec Ideal S32x1x1024 .f32) (x7 : Vec Ideal S32x1024x1024 .f32) (x8 : Vec Ideal S32x1x1024 .f32)
variable (e : Fin 162 → Fin 32) (he : ∀ t, (x0 (ix1 t)).toNat = (e t).val)

/-- The row of the array that row `r` of block `t` is. -/
def at' (t : Fin 162) (r : Fin 512) : Fin 82944 := ⟨512 * t.val + r.val, by omega⟩

/-- A small word is not negative, so it is taken as it is. -/
theorem taken (w : BitVec 32) (a : BitVec 32) (h : w.toNat < 32) : (Scalar.select (IntOp.cmpi .slt w 0#32) a w).toInt = (w.toNat : ℤ) := by
  have hw : w.toInt = (w.toNat : ℤ) := BitVec.toInt_eq_toNat_of_lt (by omega)
  have h0 : IntOp.cmpi .slt w 0#32 = 0#1 := by
    show BitVec.ofBool (w.slt 0#32) = 0#1
    rw [BitVec.slt_eq_decide, hw, show (0#32).toInt = 0 from rfl, decide_eq_false (by omega)]
    rfl
  rw [h0]
  exact hw

theorem fits (he : ∀ t, (x0 (ix1 t)).toNat = (e t).val) (t : Fin 162) : (x0 (ix1 t)).toNat < 32 := by rw [he]; exact (e t).isLt

include he in
theorem slab7 (t : Fin 162) (k : Fin 1024) (n : Fin 1024) : val_main_v7 (F := Ideal) x0 x3 (ix3 t k n) = x3 (ix3 (e t) k n) := by
  have h : (val_main_v6 (F := Ideal) x0 (ix2 t 0)).toInt = ((e t).val : ℤ) := by
    rw [val_main_v6_apply, val_main_v5_apply, val_main_v2_apply, val_main_v1_apply, val_main_c_apply]
    have hi : idx_main_v6 (ix2 t 0) = ix1 t := funext fun a => Fin.ext (match a with | ⟨0, _⟩ => rfl)
    rw [hi, taken _ _ (fits x0 e he t), he]
  exact gather_slab_apply Facts₀.gather_S32x1024x1024_S162x1_S162x1024x1024_12_0_n_n_0_1_110241024_wf x3 (val_main_v6 (F := Ideal) x0) t k n (e t) h

include he in
theorem slab15 (t : Fin 162) (k : Fin 1) (n : Fin 1024) : val_main_v15 (F := Ideal) x0 x4 (ix3 t k n) = x4 (ix3 (e t) k n) := by
  have h : (val_main_v14 (F := Ideal) x0 (ix2 t 0)).toInt = ((e t).val : ℤ) := by
    rw [val_main_v14_apply, val_main_v13_apply, val_main_v10_apply, val_main_v9_apply, val_main_c_1_apply]
    have hi : idx_main_v14 (ix2 t 0) = ix1 t := funext fun a => Fin.ext (match a with | ⟨0, _⟩ => rfl)
    rw [hi, taken _ _ (fits x0 e he t), he]
  exact gather_slab_apply Facts₀.gather_S32x1x1024_S162x1_S162x1x1024_12_0_n_n_0_1_111024_wf x4 (val_main_v14 (F := Ideal) x0) t k n (e t) h

include he in
theorem slab26 (t : Fin 162) (k : Fin 1024) (n : Fin 1024) : val_main_v26 (F := Ideal) x0 x5 (ix3 t k n) = x5 (ix3 (e t) k n) := by
  have h : (val_main_v25 (F := Ideal) x0 (ix2 t 0)).toInt = ((e t).val : ℤ) := by
    rw [val_main_v25_apply, val_main_v24_apply, val_main_v21_apply, val_main_v20_apply, val_main_c_3_apply]
    have hi : idx_main_v25 (ix2 t 0) = ix1 t := funext fun a => Fin.ext (match a with | ⟨0, _⟩ => rfl)
    rw [hi, taken _ _ (fits x0 e he t), he]
  exact gather_slab_apply Facts₀.gather_S32x1024x1024_S162x1_S162x1024x1024_12_0_n_n_0_1_110241024_wf x5 (val_main_v25 (F := Ideal) x0) t k n (e t) h

include he in
theorem slab34 (t : Fin 162) (k : Fin 1) (n : Fin 1024) : val_main_v34 (F := Ideal) x0 x6 (ix3 t k n) = x6 (ix3 (e t) k n) := by
  have h : (val_main_v33 (F := Ideal) x0 (ix2 t 0)).toInt = ((e t).val : ℤ) := by
    rw [val_main_v33_apply, val_main_v32_apply, val_main_v29_apply, val_main_v28_apply, val_main_c_5_apply]
    have hi : idx_main_v33 (ix2 t 0) = ix1 t := funext fun a => Fin.ext (match a with | ⟨0, _⟩ => rfl)
    rw [hi, taken _ _ (fits x0 e he t), he]
  exact gather_slab_apply Facts₀.gather_S32x1x1024_S162x1_S162x1x1024_12_0_n_n_0_1_111024_wf x6 (val_main_v33 (F := Ideal) x0) t k n (e t) h

include he in
theorem slab56 (t : Fin 162) (k : Fin 1024) (n : Fin 1024) : val_main_v56 (F := Ideal) x0 x7 (ix3 t k n) = x7 (ix3 (e t) k n) := by
  have h : (val_main_v55 (F := Ideal) x0 (ix2 t 0)).toInt = ((e t).val : ℤ) := by
    rw [val_main_v55_apply, val_main_v54_apply, val_main_v51_apply, val_main_v50_apply, val_main_c_13_apply]
    have hi : idx_main_v55 (ix2 t 0) = ix1 t := funext fun a => Fin.ext (match a with | ⟨0, _⟩ => rfl)
    rw [hi, taken _ _ (fits x0 e he t), he]
  exact gather_slab_apply Facts₀.gather_S32x1024x1024_S162x1_S162x1024x1024_12_0_n_n_0_1_110241024_wf x7 (val_main_v55 (F := Ideal) x0) t k n (e t) h

include he in
theorem slab64 (t : Fin 162) (k : Fin 1) (n : Fin 1024) : val_main_v64 (F := Ideal) x0 x8 (ix3 t k n) = x8 (ix3 (e t) k n) := by
  have h : (val_main_v63 (F := Ideal) x0 (ix2 t 0)).toInt = ((e t).val : ℤ) := by
    rw [val_main_v63_apply, val_main_v62_apply, val_main_v59_apply, val_main_v58_apply, val_main_c_15_apply]
    have hi : idx_main_v63 (ix2 t 0) = ix1 t := funext fun a => Fin.ext (match a with | ⟨0, _⟩ => rfl)
    rw [hi, taken _ _ (fits x0 e he t), he]
  exact gather_slab_apply Facts₀.gather_S32x1x1024_S162x1_S162x1x1024_12_0_n_n_0_1_111024_wf x8 (val_main_v63 (F := Ideal) x0) t k n (e t) h

/-- Row `r` of block `t`. -/
theorem row_apply (t : Fin 162) (r : Fin 512) (k : Fin 1024) : val_main_v0 (F := Ideal) x2 (ix3 t r k) = x2 (ix2 (at' t r) k) := by
  rw [val_main_v0_apply]
  refine congrArg x2 (idx2 ?_ ?_)
  · show ((t.val * 512 + r.val) * 1024 + k.val) / 1024 = 512 * t.val + r.val
    omega
  · show ((t.val * 512 + r.val) * 1024 + k.val) % 1024 = k.val
    omega

include he in
theorem gate_apply (t : Fin 162) (r : Fin 512) (n : Fin 1024) :
    val_main_v19 (F := Ideal) x0 x2 x3 x4 (ix3 t r n)
      = min (linear (fun k => x2 (ix2 (at' t r) k)) (fun k => x3 (ix3 (e t) k n)) (x4 (ix3 (e t) 0 n))) (Ideal.ofBits .f32 0x40E00000#32) := by
  rw [val_main_v19_apply, val_main_v17_apply, val_main_v16_apply, val_main_v18_apply, val_main_cst_apply, val_main_v8_apply]
  have hb : idx_main_v16 (ix3 t r n) = ix3 t 0 n := idx3 rfl rfl rfl
  have hs : (∑ k : Fin 1024, (val_main_v0 (F := Ideal) x2) (lidx_main_v8 (ix3 t r n) k) * (val_main_v7 (F := Ideal) x0 x3) (ridx_main_v8 (ix3 t r n) k) : EReal)
      = ∑ k : Fin 1024, x2 (ix2 (at' t r) k) * x3 (ix3 (e t) k n) := by
    refine Finset.sum_congr rfl fun k _ => ?_
    have hl : lidx_main_v8 (ix3 t r n) k = ix3 t r k := idx3 rfl rfl rfl
    have hr : ridx_main_v8 (ix3 t r n) k = ix3 t k n := idx3 rfl rfl rfl
    rw [hl, hr, row_apply, slab7 x0 x3 e he]
  rw [hs, hb, slab15 x0 x4 e he]
  rfl

include he in
theorem up_apply (t : Fin 162) (r : Fin 512) (n : Fin 1024) :
    val_main_v37 (F := Ideal) x0 x2 x5 x6 (ix3 t r n)
      = min (Ideal.ofBits .f32 0x40E00000#32) (max (Ideal.ofBits .f32 0xC0E00000#32)
          (linear (fun k => x2 (ix2 (at' t r) k)) (fun k => x5 (ix3 (e t) k n)) (x6 (ix3 (e t) 0 n)))) := by
  rw [val_main_v37_apply, val_main_call0_v4_apply, val_main_call0_v3_apply, val_main_cst_8_apply, val_main_call0_v2_apply,
    val_main_call0_v1_apply, val_main_call0_v0_apply, val_main_cst_7_apply, val_main_v36_apply, val_main_v35_apply, val_main_v27_apply]
  have hb : idx_main_v35 (ix3 t r n) = ix3 t 0 n := idx3 rfl rfl rfl
  have hs : (∑ k : Fin 1024, (val_main_v0 (F := Ideal) x2) (lidx_main_v27 (ix3 t r n) k) * (val_main_v26 (F := Ideal) x0 x5) (ridx_main_v27 (ix3 t r n) k) : EReal)
      = ∑ k : Fin 1024, x2 (ix2 (at' t r) k) * x5 (ix3 (e t) k n) := by
    refine Finset.sum_congr rfl fun k _ => ?_
    have hl : lidx_main_v27 (ix3 t r n) k = ix3 t r k := idx3 rfl rfl rfl
    have hr : ridx_main_v27 (ix3 t r n) k = ix3 t k n := idx3 rfl rfl rfl
    rw [hl, hr, row_apply, slab26 x0 x5 e he]
  rw [hs, hb, slab34 x0 x6 e he]
  rfl

theorem one_bits : Ideal.ofBits .f32 0x3F800000#32 = (1 : EReal) := by
  have : (constant (F := Ideal) S_ .f32 0x3F800000#32) (fun a => a.elim0) = (1 : EReal) := by pointwise []
  exact this

include he in
theorem act_apply (t : Fin 162) (r : Fin 512) (n : Fin 1024) :
    val_main_v49 (F := Ideal) x0 x2 x3 x4 x5 x6 (ix3 t r n)
      = innerRow (fun k => x2 (ix2 (at' t r) k)) (fun k n => x3 (ix3 (e t) k n)) (fun n => x4 (ix3 (e t) 0 n))
          (fun k n => x5 (ix3 (e t) k n)) (fun n => x6 (ix3 (e t) 0 n)) n := by
  rw [val_main_v49_apply, val_main_v40_apply, val_main_v39_apply, val_main_v38_apply, val_main_cst_9_apply, val_main_v48_apply,
    val_main_v47_apply, val_main_cst_12_apply, val_main_v46_apply, val_main_v45_apply, val_main_cst_11_apply, val_main_v44_apply,
    val_main_v43_apply, val_main_v42_apply, val_main_v41_apply, val_main_cst_10_apply, gate_apply x0 x2 x3 x4 e he, up_apply x0 x2 x5 x6 e he]
  unfold innerRow act
  generalize linear _ _ _ = u
  generalize linear _ _ _ = g
  show (min (Ideal.ofBits .f32 0x40E00000#32) (max (Ideal.ofBits .f32 0xC0E00000#32) u) + Ideal.ofBits .f32 0x3F800000#32) * min g (Ideal.ofBits .f32 0x40E00000#32)
    * Ideal.div (Ideal.ofBits .f32 0x3F800000#32) (Ideal.ofBits .f32 0x3F800000#32 + Ideal.exp (-(Ideal.ofBits .f32 0x3FD9DB23#32 * min g (Ideal.ofBits .f32 0x40E00000#32)))) = _
  rw [one_bits, zero_sub]

include he in
theorem block_apply (t : Fin 162) (r : Fin 512) (n : Fin 1024) :
    val_main_v66 (F := Ideal) x0 x2 x3 x4 x5 x6 x7 x8 (ix3 t r n)
      = mlp (fun k => x2 (ix2 (at' t r) k)) (fun k n => x3 (ix3 (e t) k n)) (fun n => x4 (ix3 (e t) 0 n))
          (fun k n => x5 (ix3 (e t) k n)) (fun n => x6 (ix3 (e t) 0 n)) (fun k n => x7 (ix3 (e t) k n)) (fun n => x8 (ix3 (e t) 0 n)) n := by
  rw [val_main_v66_apply, val_main_v65_apply, val_main_v57_apply]
  have hb : idx_main_v65 (ix3 t r n) = ix3 t 0 n := idx3 rfl rfl rfl
  rw [hb, slab64 x0 x8 e he]
  unfold mlp
  rw [show ∀ f w b, linear f w b = FloatOps.addf (F := Ideal) (φ := .f32) (∑ k, f k * w k : EReal) b from fun _ _ _ => rfl]
  refine congrArg (fun s => FloatOps.addf (F := Ideal) (φ := .f32) s _) (Finset.sum_congr rfl fun k _ => ?_)
  have hl : lidx_main_v57 (ix3 t r n) k = ix3 t r k := idx3 rfl rfl rfl
  have hr : ridx_main_v57 (ix3 t r n) k = ix3 t k n := idx3 rfl rfl rfl
  rw [hl, hr, act_apply x0 x2 x3 x4 x5 x6 e he, slab56 x0 x7 e he]

/-- The number of blocks used, of the one entry that holds it. -/
theorem count_apply (i : S_.Idx) : val_main_v68 (F := Ideal) x1 i = x1 (ix1 0) := by
  unfold val_main_v68 shapeCast
  refine congrArg x1 (funext fun a => ?_)
  fin_cases a
  exact Subsingleton.elim (α := Fin 1) _ _

theorem used_apply (i : S162.Idx) : val_main_v70 (F := Ideal) x1 i = BitVec.ofBool (decide (((i 0).val : ℤ) < (x1 (ix1 0)).toInt)) := by
  rw [val_main_v70_apply, val_main_v67_apply, val_main_v69_apply, count_apply]
  show BitVec.ofBool ((BitVec.ofNat 32 (i 0).val).slt (x1 (ix1 0))) = _
  have h : (i 0).val < 162 := (i 0).isLt
  have hn : (BitVec.ofNat 32 (i 0).val).toNat = (i 0).val := by rw [BitVec.toNat_ofNat]; omega
  rw [BitVec.slt_eq_decide, BitVec.toInt_eq_toNat_of_lt (by omega), hn]

include he in
/-- Entry `n` of row `r` of block `t`. -/
theorem entry (t : Fin 162) (r : Fin 512) (n : Fin 1024) :
    val_main_v73 (F := Ideal) x0 x1 x2 x3 x4 x5 x6 x7 x8 (ix2 (at' t r) n)
      = if (t.val : ℤ) < (x1 (ix1 0)).toInt then
          mlp (fun k => x2 (ix2 (at' t r) k)) (fun k n => x3 (ix3 (e t) k n)) (fun n => x4 (ix3 (e t) 0 n))
            (fun k n => x5 (ix3 (e t) k n)) (fun n => x6 (ix3 (e t) 0 n)) (fun k n => x7 (ix3 (e t) k n)) (fun n => x8 (ix3 (e t) 0 n)) n
        else 0 := by
  have hi : idx_main_v73 (ix2 (at' t r) n) = ix3 t r n := by
    refine idx3 ?_ ?_ ?_
    · show ((512 * t.val + r.val) * 1024 + n.val) / 524288 = t.val
      omega
    · show ((512 * t.val + r.val) * 1024 + n.val) / 1024 % 512 = r.val
      omega
    · show ((512 * t.val + r.val) * 1024 + n.val) % 1024 = n.val
      omega
  rw [val_main_v73_apply, hi, val_main_v72_apply, val_main_call1_v1_apply, val_main_v71_apply, used_apply, val_main_call1_v2_apply,
    val_main_call1_v0_apply, val_main_cst_17_apply, block_apply x0 x2 x3 x4 x5 x6 x7 x8 e he]
  have hz : (FloatOps.ofBits (F := Ideal) .f32 0x00000000#32 : EReal) = 0 := by
    show Ideal.ofBits .f32 0x00000000#32 = _
    simp [Ideal.ofBits, Ideal.ieee]
  show Scalar.select (BitVec.ofBool (decide ((t.val : ℤ) < (x1 (ix1 0)).toInt))) _ _ = _
  by_cases h : (t.val : ℤ) < (x1 (ix1 0)).toInt
  · rw [decide_eq_true h, if_pos h]; rfl
  · rw [decide_eq_false h, if_neg h]; exact hz

end Cert.Proof.MoeRef

end
-- ==== Proof.MoeValue.lean ====
/- The experts' call's blocks put together: its array is the reference's result. -/
module

public import proofs.«01_k».proof.Proof.MoeBody
public import proofs.«01_k».proof.Proof.MoeRef

@[expose] public section

set_option maxRecDepth 16384

noncomputable section

namespace Cert.Kernel3Ideal.Moe

open Cert.Kernel3Ideal Cert.Kernel3Ideal.Gen
open Idealize.ShloMosaic
open Idealize.ShloMosaic.TcCoe Idealize.ShloMosaic.Tactic

open Cert.Proof.Mlp

variable (ch : Routed)
variable (m : (ℓ : Loc nD τ sig) → Buf (Elt Ideal) ℓ) (ρ : Dev nD → PrngReg)

/-! ## The tables, read -/

theorem ix1_ext {i : S162.Idx} {t : Fin 162} (h : (i 0).val = t.val) : i = ix1 t :=
  funext fun a => Fin.ext (match a with | ⟨0, _⟩ => h)

theorem off1_val : ∀ t : Fin 162, k0_off1 (grid0.coords t) 0 = t.val := by decide +kernel
theorem off2_val : ∀ t : Fin 162, k0_off2 (grid0.coords t) 0 = t.val - 1 := by decide +kernel

/-- Block `t`'s expert. -/
def expert (t : Fin 162) : Fin 32 := ⟨(tab0 ch (ix1 t)).toNat, ch.2.1 _⟩

theorem here_eq (t : Fin (cfgA ch).N) : here ch t = tab0 ch (ix1 (t : Fin 162)) := by
  show tab0 ch _ = _
  refine congrArg (tab0 ch) (ix1_ext ?_)
  exact off1_val t

theorem last_eq (t : Fin (cfgA ch).N) (h : t.val - 1 < 162) : last ch t = tab0 ch (ix1 ⟨t.val - 1, h⟩) := by
  show tab0 ch _ = _
  refine congrArg (tab0 ch) (ix1_ext ?_)
  exact off2_val t

/-- A point that keeps the weights has the expert of the point before. -/
theorem kept_expert (t : Fin (cfgA ch).N) (h : t.val - 1 < 162) (q0 : ¬P0_0 ch t) : expert ch ⟨t.val - 1, h⟩ = expert ch t := by
  have e : here ch t = last ch t := by
    by_contra hne
    refine q0 ?_
    show Scalar.cmpi .ne (Scalar.extui _) 0#32 = 1#1
    rw [widened]
    have : Scalar.cmpi .ne (here ch t) (last ch t) = 1#1 := by
      show BitVec.ofBool (here ch t != last ch t) = 1#1
      rw [bne_iff_ne.mpr hne]; rfl
    rw [this]
    generalize Scalar.cmpi .eq (BitVec.ofNat 32 ((crd ch t) 0).val) 0#32 = b
    revert b; decide
  rw [here_eq, last_eq ch t h] at e
  refine Fin.ext ?_
  show (tab0 ch (ix1 ⟨t.val - 1, h⟩)).toNat = (tab0 ch (ix1 (t : Fin 162))).toNat
  rw [e]

/-- The number of blocks used. -/
theorem used_iff (t : Fin (cfgA ch).N) : P0_1 ch t ↔ (t.val : ℤ) < (tab1 ch (ix1 0)).toInt := by
  have e : used ch = tab1 ch (ix1 0) := (used_eq ch).trans (congrArg (tab1 ch) (funext fun a => by fin_cases a; rfl))
  show k0_cond2 (crd ch t) (used ch) = 1#1 ↔ _
  rw [cond2_iff, e, crd_val]

/-! ## Where the blocks lie -/

theorem table_at (t : Fin (cfgA ch).N) (inb) :
    (ch.1.at 0 (Rect.unit (s := S162) (k0_off1 (crd ch t)) S1.size inb) numel1_S1 : BitVec 32) = tab0 ch (ix1 (t : Fin 162)) := by
  show tab0 ch _ = _
  refine congrArg (tab0 ch) (ix1_ext ?_)
  exact off1_val t

theorem place0 (t : Fin (cfgA ch).N) (q1 : P0_1 ch t) : ((pcfg0 (F := Ideal)).win (adm ch) (0 : Fin (cfgA ch).W)).index t = ![t.val, 0] := by
  show ![(Scalar.minsi (BitVec.ofNat 32 ((crd ch t) 0).val) (Scalar.subi (used ch) 1#32)).toNat, 0] = _
  have hu : 1 ≤ (used ch).toInt := ch.2.2 _
  have := (cond2_iff _ _).mp q1
  rw [crd_val] at this
  rw [crd_val, min_eq t.val t.isLt _ hu this]

/-- A weight's or a bias's block is its expert's. -/
theorem place_of (t : Fin (cfgA ch).N) (inb) :
    ![(ch.1.at 0 (Rect.unit (s := S162) (k0_off1 (crd ch t)) S1.size inb) numel1_S1 : BitVec 32).toNat, 0, 0] = ![(expert ch t).val, 0, 0] := by
  rw [table_at]; rfl

theorem place1 (t : Fin (cfgA ch).N) : ((pcfg0 (F := Ideal)).win (adm ch) (1 : Fin (cfgA ch).W)).index t = ![(expert ch t).val, 0, 0] := place_of ch t _

theorem place2 (t : Fin (cfgA ch).N) : ((pcfg0 (F := Ideal)).win (adm ch) (2 : Fin (cfgA ch).W)).index t = ![(expert ch t).val, 0, 0] := place_of ch t _

theorem place3 (t : Fin (cfgA ch).N) : ((pcfg0 (F := Ideal)).win (adm ch) (3 : Fin (cfgA ch).W)).index t = ![(expert ch t).val, 0, 0] := place_of ch t _

theorem place4 (t : Fin (cfgA ch).N) : ((pcfg0 (F := Ideal)).win (adm ch) (4 : Fin (cfgA ch).W)).index t = ![(expert ch t).val, 0, 0] := place_of ch t _

theorem place5 (t : Fin (cfgA ch).N) : ((pcfg0 (F := Ideal)).win (adm ch) (5 : Fin (cfgA ch).W)).index t = ![(expert ch t).val, 0, 0] := place_of ch t _

theorem place6 (t : Fin (cfgA ch).N) : ((pcfg0 (F := Ideal)).win (adm ch) (6 : Fin (cfgA ch).W)).index t = ![(expert ch t).val, 0, 0] := place_of ch t _

theorem place7 (t : Fin (cfgA ch).N) : ((pcfg0 (F := Ideal)).win (adm ch) (7 : Fin (cfgA ch).W)).index t = ![t.val, 0] :=
  (by decide +kernel : ∀ t : Fin 162, cc0_transform_7 (grid0.coords t) = ![t.val, 0]) t

/-- The arrays: the rows, then each weight and its bias. -/
abbrev a2 (c : Dev nD) : Vec Ideal S82944x1024 .f32 := m ((c : Thread nD τ).loc main_arg2)
abbrev a3 (c : Dev nD) : Vec Ideal S32x1024x1024 .f32 := m ((c : Thread nD τ).loc main_arg3)
abbrev a4 (c : Dev nD) : Vec Ideal S32x1x1024 .f32 := m ((c : Thread nD τ).loc main_arg4)
abbrev a5 (c : Dev nD) : Vec Ideal S32x1024x1024 .f32 := m ((c : Thread nD τ).loc main_arg5)
abbrev a6 (c : Dev nD) : Vec Ideal S32x1x1024 .f32 := m ((c : Thread nD τ).loc main_arg6)
abbrev a7 (c : Dev nD) : Vec Ideal S32x1024x1024 .f32 := m ((c : Thread nD τ).loc main_arg7)
abbrev a8 (c : Dev nD) : Vec Ideal S32x1x1024 .f32 := m ((c : Thread nD τ).loc main_arg8)

/-- The row of the array that row `r` of block `t` is. -/
abbrev at' (t : Fin (cfgA ch).N) (r : Fin 512) : Fin 82944 := Cert.Proof.MoeRef.at' t r

/-- An entry of a block of rows, in the array. -/
theorem row_entry (t : Fin (cfgA ch).N) (r : Fin 512) (k : Fin 1024) (i : S82944x1024.Idx) {X : Fin 2 → ℕ} (h : X = ![t.val, 0])
    (h0 : (i 0).val = X 0 * 512 + 1 * r.val) (h1 : (i 1).val = X 1 * 1024 + 1 * k.val) : i = ix2 (at' ch t r) k := by
  subst h
  exact Cert.Proof.ProjRef.idx2 (h0.trans (show t.val * 512 + 1 * r.val = 512 * t.val + r.val by omega)) (h1.trans (show 0 * 1024 + 1 * k.val = k.val by omega))

/-- An entry of expert `e`'s weight, in the array of all. -/
theorem weight_entry (e : Fin 32) (k n : Fin 1024) (i : S32x1024x1024.Idx) {X : Fin 3 → ℕ} (h : X = ![e.val, 0, 0])
    (h0 : (i 0).val = X 0 * 1 + 1 * 0) (h1 : (i 1).val = X 1 * 1024 + 1 * k.val) (h2 : (i 2).val = X 2 * 1024 + 1 * n.val) : i = ix3 e k n := by
  subst h
  exact Cert.Proof.ProjRef.idx3 (h0.trans (show e.val * 1 + 1 * 0 = e.val by omega)) (h1.trans (show 0 * 1024 + 1 * k.val = k.val by omega))
    (h2.trans (show 0 * 1024 + 1 * n.val = n.val by omega))

/-- An entry of expert `e`'s bias, in the array of all. -/
theorem bias_entry (e : Fin 32) (n : Fin 1024) (i : S32x1x1024.Idx) {X : Fin 3 → ℕ} (h : X = ![e.val, 0, 0])
    (h0 : (i 0).val = X 0 * 1 + 1 * 0) (h1 : (i 1).val = X 1 * 1 + 1 * 0) (h2 : (i 2).val = X 2 * 1024 + 1 * n.val) : i = ix3 e 0 n := by
  subst h
  exact Cert.Proof.ProjRef.idx3 (h0.trans (show e.val * 1 + 1 * 0 = e.val by omega)) h1 (h2.trans (show 0 * 1024 + 1 * n.val = n.val by omega))

/-- A used point's rows. -/
theorem block0 (c : Dev nD) (t : Fin (cfgA ch).N) (q1 : P0_1 ch t) (r : Fin 512) (k : Fin 1024) :
    iblk ch m ρ c 0 t (ix2 r k) = a2 m c (ix2 (at' ch t r) k) :=
  congrArg (a2 m c) (row_entry ch t r k ((((cfgA ch).win (0 : Fin (cfgA ch).W)).blk t).view.emb (ix2 r k)) (place0 ch t q1) rfl rfl)

/-! The weights' and biases' blocks. -/

theorem block1 (c : Dev nD) (t : Fin (cfgA ch).N) (k n : Fin 1024) : iblk ch m ρ c 1 t (ix3 0 k n) = a3 m c (ix3 (expert ch t) k n) :=
  congrArg (a3 m c) (weight_entry (expert ch t) k n ((((cfgA ch).win (1 : Fin (cfgA ch).W)).blk t).view.emb (ix3 (0 : Fin 1) k n)) (place1 ch t) rfl rfl rfl)

theorem block2 (c : Dev nD) (t : Fin (cfgA ch).N) (n : Fin 1024) : iblk ch m ρ c 2 t (ix3 0 0 n) = a4 m c (ix3 (expert ch t) 0 n) :=
  congrArg (a4 m c) (bias_entry (expert ch t) n ((((cfgA ch).win (2 : Fin (cfgA ch).W)).blk t).view.emb (ix3 (0 : Fin 1) (0 : Fin 1) n)) (place2 ch t) rfl rfl rfl)

theorem block3 (c : Dev nD) (t : Fin (cfgA ch).N) (k n : Fin 1024) : iblk ch m ρ c 3 t (ix3 0 k n) = a5 m c (ix3 (expert ch t) k n) :=
  congrArg (a5 m c) (weight_entry (expert ch t) k n ((((cfgA ch).win (3 : Fin (cfgA ch).W)).blk t).view.emb (ix3 (0 : Fin 1) k n)) (place3 ch t) rfl rfl rfl)

theorem block4 (c : Dev nD) (t : Fin (cfgA ch).N) (n : Fin 1024) : iblk ch m ρ c 4 t (ix3 0 0 n) = a6 m c (ix3 (expert ch t) 0 n) :=
  congrArg (a6 m c) (bias_entry (expert ch t) n ((((cfgA ch).win (4 : Fin (cfgA ch).W)).blk t).view.emb (ix3 (0 : Fin 1) (0 : Fin 1) n)) (place4 ch t) rfl rfl rfl)

theorem block5 (c : Dev nD) (t : Fin (cfgA ch).N) (k n : Fin 1024) : iblk ch m ρ c 5 t (ix3 0 k n) = a7 m c (ix3 (expert ch t) k n) :=
  congrArg (a7 m c) (weight_entry (expert ch t) k n ((((cfgA ch).win (5 : Fin (cfgA ch).W)).blk t).view.emb (ix3 (0 : Fin 1) k n)) (place5 ch t) rfl rfl rfl)

theorem block6 (c : Dev nD) (t : Fin (cfgA ch).N) (n : Fin 1024) : iblk ch m ρ c 6 t (ix3 0 0 n) = a8 m c (ix3 (expert ch t) 0 n) :=
  congrArg (a8 m c) (bias_entry (expert ch t) n ((((cfgA ch).win (6 : Fin (cfgA ch).W)).blk t).view.emb (ix3 (0 : Fin 1) (0 : Fin 1) n)) (place6 ch t) rfl rfl rfl)

/-! ## The stored weights -/

/-- The stored weights are those of expert `e`. -/
def HoldsOf (c : Dev nD) (e : Fin 32) (w0 w1 w2 : Vec Ideal S1024x1024 .bf16) : Prop :=
  (∀ k n : Fin 1024, w0 (ix2 k n) = a3 m c (ix3 e k n)) ∧ (∀ k n : Fin 1024, w1 (ix2 k n) = a5 m c (ix3 e k n))
  ∧ ∀ k n : Fin 1024, w2 (ix2 k n) = a7 m c (ix3 e k n)

/-! The parts of a quadruple. -/

theorem of_tuple0 {α β γ δ : Type} {x : α × β × γ × δ} {a : α} {b : β} {c : γ} {d : δ} (e : x = (a, b, c, d)) : x.2.1 = b := by rw [e]
theorem of_tuple1 {α β γ δ : Type} {x : α × β × γ × δ} {a : α} {b : β} {c : γ} {d : δ} (e : x = (a, b, c, d)) : x.2.2.1 = c := by rw [e]
theorem of_tuple2 {α β γ δ : Type} {x : α × β × γ × δ} {a : α} {b : β} {c : γ} {d : δ} (e : x = (a, b, c, d)) : x.2.2.2 = d := by rw [e]

theorem HoldsOf.congr (c : Dev nD) {e : Fin 32} {w0 w1 w2 w0' w1' w2' : Vec Ideal S1024x1024 .bf16} (h : HoldsOf m c e w0' w1' w2')
    (e0 : w0 = w0') (e1 : w1 = w1') (e2 : w2 = w2') : HoldsOf m c e w0 w1 w2 := by subst e0 e1 e2; exact h

/-- The weights a point stores are its expert's. -/
theorem fresh_holds (c : Dev nD) (t : Fin (cfgA ch).N) :
    HoldsOf m c (expert ch t) (k0_pay1 (iblk ch m ρ c 1 t)) (k0_pay2 (iblk ch m ρ c 3 t)) (k0_pay3 (iblk ch m ρ c 5 t)) :=
  ⟨fun k n => (weight1_apply _ k n).trans (block1 ch m ρ c t k n), fun k n => (weight2_apply _ k n).trans (block3 ch m ρ c t k n),
    fun k n => (weight3_apply _ k n).trans (block5 ch m ρ c t k n)⟩

/-- A step leaves the weights of its own expert stored, -/
theorem step_holds (c : Dev nD) (t : Fin (cfgA ch).N) (prev : Held c)
    (hprev : ¬P0_0 ch t → HoldsOf m c (expert ch t) prev.2.1 prev.2.2.1 prev.2.2.2) :
    HoldsOf m c (expert ch t) (step0 ch m ρ c t prev).2.1 (step0 ch m ρ c t prev).2.2.1 (step0 ch m ρ c t prev).2.2.2 := by
  by_cases q0 : P0_0 ch t <;> by_cases q1 : P0_1 ch t
  · have e := step0_A ch m ρ c t prev q0 q1
    exact HoldsOf.congr m c (fresh_holds ch m ρ c t)
      ((of_tuple0 e).trans (heldA_0 ch m ρ c t q0 q1))
      ((of_tuple1 e).trans (heldA_1 ch m ρ c t q0 q1))
      ((of_tuple2 e).trans (heldA_2 ch m ρ c t q0 q1))
  · have e := step0_C ch m ρ c t prev q0 q1
    exact HoldsOf.congr m c (fresh_holds ch m ρ c t)
      ((of_tuple0 e).trans (heldC_0 ch m ρ c t q0 q1))
      ((of_tuple1 e).trans (heldC_1 ch m ρ c t q0 q1))
      ((of_tuple2 e).trans (heldC_2 ch m ρ c t q0 q1))
  · have e := step0_B ch m ρ c t prev q0 q1
    exact HoldsOf.congr m c (hprev q0)
      ((of_tuple0 e).trans (heldB_0 ch m ρ c t prev.2.1 prev.2.2.1 prev.2.2.2 q0 q1))
      ((of_tuple1 e).trans (heldB_1 ch m ρ c t prev.2.1 prev.2.2.1 prev.2.2.2 q0 q1))
      ((of_tuple2 e).trans (heldB_2 ch m ρ c t prev.2.1 prev.2.2.1 prev.2.2.2 q0 q1))
  · have e := step0_D ch m ρ c t prev q0 q1
    exact HoldsOf.congr m c (hprev q0)
      ((of_tuple0 e).trans (heldD_0 ch m ρ c t prev.2.1 prev.2.2.1 prev.2.2.2 q0 q1))
      ((of_tuple1 e).trans (heldD_1 ch m ρ c t prev.2.1 prev.2.2.1 prev.2.2.2 q0 q1))
      ((of_tuple2 e).trans (heldD_2 ch m ρ c t prev.2.1 prev.2.2.1 prev.2.2.2 q0 q1))

/-- so every point does. -/
theorem traj_holds (c : Dev nD) : ∀ (n : ℕ) (h : n < (cfgA ch).N),
    HoldsOf m c (expert ch (⟨n, h⟩ : Fin (cfgA ch).N)) (traj0 ch m ρ c n h).2.1 (traj0 ch m ρ c n h).2.2.1 (traj0 ch m ρ c n h).2.2.2
  | 0, h => step_holds ch m ρ c ⟨0, h⟩ _ fun q0 => absurd rfl (pos_of_kept ch ⟨0, h⟩ q0)
  | n + 1, h => step_holds ch m ρ c ⟨n + 1, h⟩ _ fun q0 => by
      have e := kept_expert ch ⟨n + 1, h⟩ (Nat.lt_of_succ_lt h) q0
      rw [← e]
      exact traj_holds c n (Nat.lt_of_succ_lt h)

/-- At a point that keeps the weights, the ones kept are its expert's. -/
theorem prev_holds (c : Dev nD) (t : Fin (cfgA ch).N) (q0 : ¬P0_0 ch t) :
    HoldsOf m c (expert ch t) (prev0 ch m ρ c t).2.1 (prev0 ch m ρ c t).2.2.1 (prev0 ch m ρ c t).2.2.2 := by
  have h := pos_of_kept ch t q0
  unfold prev0
  rw [dif_neg h, ← kept_expert ch t (by have : t.val < 162 := t.isLt; omega) q0]
  exact traj_holds ch m ρ c (t.val - 1) _

/-! ## The blocks stored -/

theorem mlp_congr {f f' : Fin 1024 → EReal} {wg wg' wu wu' wd wd' : Fin 1024 → Fin 1024 → EReal} {bg bg' bu bu' bd bd' : Fin 1024 → EReal}
    (hf : ∀ k, f k = f' k) (hg : ∀ k n, wg k n = wg' k n) (hbg : ∀ n, bg n = bg' n) (hu : ∀ k n, wu k n = wu' k n) (hbu : ∀ n, bu n = bu' n)
    (hd : ∀ k n, wd k n = wd' k n) (hbd : ∀ n, bd n = bd' n) (n : Fin 1024) : mlp f wg bg wu bu wd bd n = mlp f' wg' bg' wu' bu' wd' bd' n := by
  obtain rfl := funext hf
  obtain rfl := funext fun k => funext (hg k)
  obtain rfl := funext hbg
  obtain rfl := funext fun k => funext (hu k)
  obtain rfl := funext hbu
  obtain rfl := funext fun k => funext (hd k)
  obtain rfl := funext hbd
  rfl

/-- Row `r` of block `t` through its expert. -/
def through (c : Dev nD) (t : Fin (cfgA ch).N) (r : Fin 512) (n : Fin 1024) : EReal :=
  mlp (fun k => a2 m c (ix2 (at' ch t r) k)) (fun k n => a3 m c (ix3 (expert ch t) k n)) (fun n => a4 m c (ix3 (expert ch t) 0 n))
    (fun k n => a5 m c (ix3 (expert ch t) k n)) (fun n => a6 m c (ix3 (expert ch t) 0 n)) (fun k n => a7 m c (ix3 (expert ch t) k n))
    (fun n => a8 m c (ix3 (expert ch t) 0 n)) n

/-- A used block fed with its expert's weights. -/
theorem fed_through (c : Dev nD) (t : Fin (cfgA ch).N) (q1 : P0_1 ch t) (w0 w1 w2 : Vec Ideal S1024x1024 .bf16) (hw : HoldsOf m c (expert ch t) w0 w1 w2)
    (r : Fin 512) (n : Fin 1024) :
    fed (iblk ch m ρ c 0 t) w0 w1 w2 (iblk ch m ρ c 2 t) (iblk ch m ρ c 4 t) (iblk ch m ρ c 6 t) (ix2 r n) = through ch m c t r n :=
  (fed_apply _ _ _ _ _ _ _ r n).trans (mlp_congr (fun k => block0 ch m ρ c t q1 r k) hw.1 (fun n => block2 ch m ρ c t n) hw.2.1
    (fun n => block4 ch m ρ c t n) hw.2.2 (fun n => block6 ch m ρ c t n) n)

/-- A used point stores its rows through its expert, -/
theorem stored_used (c : Dev nD) (t : Fin (cfgA ch).N) (q1 : P0_1 ch t) (r : Fin 512) (n : Fin 1024) :
    (traj0 ch m ρ c t.val t.isLt).1 (ix2 r n) = through ch m c t r n := by
  rw [traj0_eq]
  by_cases q0 : P0_0 ch t
  · rw [step0_A ch m ρ c t _ q0 q1]
    dsimp only
    rw [storedA_eq]
    exact fed_through ch m ρ c t q1 _ _ _ (fresh_holds ch m ρ c t) r n
  · rw [step0_B ch m ρ c t _ q0 q1]
    dsimp only
    rw [storedB_eq]
    exact fed_through ch m ρ c t q1 _ _ _ (prev_holds ch m ρ c t q0) r n

/-- and any other stores zeros. -/
theorem stored_unused (c : Dev nD) (t : Fin (cfgA ch).N) (q1 : ¬P0_1 ch t) (r : Fin 512) (n : Fin 1024) :
    (traj0 ch m ρ c t.val t.isLt).1 (ix2 r n) = (0 : EReal) := by
  rw [traj0_eq]
  by_cases q0 : P0_0 ch t
  · rw [step0_C ch m ρ c t _ q0 q1]
    dsimp only
    rw [storedC_eq]
    exact zeros_apply r n
  · rw [step0_D ch m ρ c t _ q0 q1]
    dsimp only
    rw [storedD_eq]
    exact zeros_apply r n

/-! ## The array -/

/-- The reference's result at the tables and the arrays. -/
abbrev result (c : Dev nD) : Vec Ideal S82944x1024 .f32 :=
  Cert.Reference3Ideal.Read.val_main_v73 (F := Ideal) (tab0 ch) (tab1 ch) (a2 m c) (a3 m c) (a4 m c) (a5 m c) (a6 m c) (a7 m c) (a8 m c)

/-- What a point leaves in the output's buffer is its block of the result. -/
theorem result_apply (c : Dev nD) (t : Fin (cfgA ch).N) (r : Fin 512) (n : Fin 1024) :
    (traj0 ch m ρ c t.val t.isLt).1 (ix2 r n) = result ch m c (ix2 (at' ch t r) n) := by
  refine Eq.trans ?_ (Cert.Proof.MoeRef.entry (tab0 ch) (tab1 ch) (a2 m c) (a3 m c) (a4 m c) (a5 m c) (a6 m c) (a7 m c) (a8 m c)
    (expert ch) (fun _ => rfl) t r n).symm
  by_cases q1 : P0_1 ch t
  · rw [if_pos ((used_iff ch t).mp q1)]
    exact stored_used ch m ρ c t q1 r n
  · rw [if_neg (fun h => q1 ((used_iff ch t).mpr h))]
    exact stored_unused ch m ρ c t q1 r n

/-- Where an entry of the output's block lies. -/
theorem placed (t : Fin (cfgA ch).N) (r : Fin 512) (n : Fin 1024) :
    (((cfgA ch).win (7 : Fin (cfgA ch).W)).blk t).view.emb (ix2 r n) = ix2 (at' ch t r) n :=
  row_entry ch t r n _ (place7 ch t) rfl rfl

/-- The blocks cover the array. -/
theorem covers (i : S82944x1024.Idx) : ∃ t : Fin (cfgA ch).N, ((cfgA ch).win (7 : Fin (cfgA ch).W)).flush t = true ∧ i ∈ (((cfgA ch).win (7 : Fin (cfgA ch).W)).blk t).view.set := by
  have h0 : (i 0).val < 82944 := (i 0).isLt
  have h1 : (i 1).val < 1024 := (i 1).isLt
  have ht : (i 0).val / 512 < 162 := by omega
  refine ⟨(⟨(i 0).val / 512, ht⟩ : Fin 162), flush7 ch _, ?_⟩
  have e : i = ix2 (at' ch (⟨(i 0).val / 512, ht⟩ : Fin 162) ⟨(i 0).val % 512, by omega⟩) ⟨(i 1).val, h1⟩ :=
    Cert.Proof.ProjRef.idx2 (show (i 0).val = 512 * ((i 0).val / 512) + (i 0).val % 512 by omega) rfl
  have e' := e.trans (placed ch (⟨(i 0).val / 512, ht⟩ : Fin 162) ⟨(i 0).val % 512, by omega⟩ ⟨(i 1).val, h1⟩).symm
  exact (congrArg (fun x => x ∈ (((cfgA ch).win (7 : Fin (cfgA ch).W)).blk (⟨(i 0).val / 512, ht⟩ : Fin 162)).view.set) e').mpr (View.emb_mem_set _ _)

/-- The array the call leaves is the reference's result. -/
theorem array (c : Dev nD) : (dats ch m ρ 0 c).arrAt (7 : Fin (cfgA ch).W) (cfgA ch).N = result ch m c := by
  refine (dats ch m ρ 0 c).arrAt_eq_of_emb (7 : Fin (cfgA ch).W) _ (fun t hf (y : S512x1024.Idx) => ?_) (covers ch)
  have h1 : (y 1).val < 1024 := (y 1).isLt
  have h0 : (y 0).val < 512 := (y 0).isLt
  have hy : y = ix2 (⟨(y 0).val, h0⟩ : Fin 512) (⟨(y 1).val, h1⟩ : Fin 1024) := Cert.Proof.ProjRef.idx2 rfl rfl
  generalize (⟨(y 0).val, h0⟩ : Fin 512) = r at hy
  generalize (⟨(y 1).val, h1⟩ : Fin 1024) = n at hy
  subst hy
  exact (result_apply ch m ρ c t r n).trans (congrArg (result ch m c) (placed ch t r n).symm)

end Cert.Kernel3Ideal.Moe

end
-- ==== Proof.Online.lean ====
/- The softmax taken block by block, as mathematics on the extended reals: a running maximum, a running sum and a
   running weighted sum over the keys seen so far, what one more block of keys does to them, and what they are at
   the end. Nothing here mentions a program. -/
module

public import Idealize.ShloMosaic.PureOps.Ideal.Laws

@[expose] public section

noncomputable section

namespace Cert.Proof.Online

open Idealize.ShloMosaic Finset

/-- The largest score of the first `n` keys. -/
def peak (e : ℕ → EReal) (n : ℕ) : EReal := (range n).sup e

/-- Key `j`'s weight against the maximum of the first `n` keys. -/
def weight (e : ℕ → EReal) (n j : ℕ) : EReal := Ideal.exp2 (e j - peak e n)

/-- The sum of the first `n` keys' weights. -/
def total (e : ℕ → EReal) (n : ℕ) : EReal := ∑ j ∈ range n, weight e n j

/-- The first `n` values summed under their keys' weights. -/
def mix (v e : ℕ → EReal) (n : ℕ) : EReal := ∑ j ∈ range n, v j * weight e n j

theorem exp2_real (r : ℝ) : Ideal.exp2 (r : EReal) = ((2 : ℝ) ^ r : ℝ) := rfl
theorem exp2_bot : Ideal.exp2 ⊥ = 0 := rfl

theorem exp2_nonneg (x : EReal) : 0 ≤ Ideal.exp2 x := by
  induction x using EReal.rec with
  | bot => exact le_rfl
  | top => exact le_top
  | coe r => rw [exp2_real]; exact_mod_cast (Real.rpow_pos_of_pos two_pos r).le

theorem exp2_ne_top {x : EReal} (h : x ≠ ⊤) : Ideal.exp2 x ≠ ⊤ := by
  induction x using EReal.rec with
  | bot => rw [exp2_bot]; exact EReal.zero_ne_top
  | top => exact absurd rfl h
  | coe r => rw [exp2_real]; exact EReal.coe_ne_top _

/-- Less than the top minus anything that bounds it is less than the top. -/
theorem sub_ne_top {x y : EReal} (h : x ≤ y) (hy : y ≠ ⊤) : x - y ≠ ⊤ := by
  have hx : x ≠ ⊤ := fun e => hy (top_le_iff.mp (e ▸ h))
  induction y using EReal.rec with
  | top => exact absurd rfl hy
  | bot => rw [le_bot_iff.mp h]; exact bot_ne_top
  | coe r =>
    induction x using EReal.rec with
    | top => exact absurd rfl hx
    | bot => rw [EReal.bot_sub]; exact bot_ne_top
    | coe s => rw [← EReal.coe_sub]; exact EReal.coe_ne_top _

/-- Two rescalings are one. -/
theorem exp2_rescale {x m m' : EReal} (h : x ≤ m) (h' : m ≤ m') (ht : m' ≠ ⊤) :
    Ideal.exp2 (m - m') * Ideal.exp2 (x - m) = Ideal.exp2 (x - m') := by
  have hm : m ≠ ⊤ := fun e => ht (top_le_iff.mp (e ▸ h'))
  have hx : x ≠ ⊤ := fun e => hm (top_le_iff.mp (e ▸ h))
  induction x using EReal.rec with
  | top => exact absurd rfl hx
  | bot => rw [EReal.bot_sub, EReal.bot_sub, exp2_bot, mul_zero]
  | coe x =>
    induction m using EReal.rec with
    | top => exact absurd rfl hm
    | bot => exact absurd (le_bot_iff.mp h) (EReal.coe_ne_bot x)
    | coe m =>
      induction m' using EReal.rec with
      | top => exact absurd rfl ht
      | bot => exact absurd (le_bot_iff.mp h') (EReal.coe_ne_bot m)
      | coe m' =>
        rw [← EReal.coe_sub, ← EReal.coe_sub, ← EReal.coe_sub, exp2_real, exp2_real, exp2_real, ← EReal.coe_mul,
          ← Real.rpow_add two_pos]
        congr 2; ring

/-- A nonnegative finite factor goes through a sum. -/
theorem mul_sum {ι : Type} {a : EReal} (h0 : 0 ≤ a) (ht : a ≠ ⊤) (s : Finset ι) (f : ι → EReal) :
    a * ∑ i ∈ s, f i = ∑ i ∈ s, a * f i := by
  classical
  induction s using Finset.induction_on with
  | empty => rw [sum_empty, sum_empty, mul_zero]
  | insert i s hi ih => rw [sum_insert hi, sum_insert hi, EReal.left_distrib_of_nonneg_of_ne_top h0 ht, ih]

theorem peak_add (e : ℕ → EReal) (n b : ℕ) : peak e (n + b) = max (peak e n) ((range b).sup fun r => e (n + r)) := by
  unfold peak
  rw [range_add, sup_union, sup_map]; rfl

theorem le_peak_of_lt (e : ℕ → EReal) {n j : ℕ} (h : j < n) : e j ≤ peak e n := le_sup (f := e) (mem_range.mpr h)

theorem peak_mono (e : ℕ → EReal) (n b : ℕ) : peak e n ≤ peak e (n + b) := by
  rw [peak_add]; exact le_max_left _ _

theorem peak_ne_top (e : ℕ → EReal) (he : ∀ j, e j ≠ ⊤) (n : ℕ) : peak e n ≠ ⊤ := by
  refine ne_of_lt ((Finset.sup_lt_iff (bot_lt_top)).mpr fun j _ => lt_top_iff_ne_top.mpr (he j))

/-- One more block: the running sum rescaled, and the block's weights added. -/
theorem total_add (e : ℕ → EReal) (he : ∀ j, e j ≠ ⊤) (n b : ℕ) :
    total e (n + b) = Ideal.exp2 (peak e n - peak e (n + b)) * total e n + ∑ r ∈ range b, weight e (n + b) (n + r) := by
  unfold total
  rw [mul_sum (exp2_nonneg _) (exp2_ne_top (sub_ne_top (peak_mono e n b) (peak_ne_top e he _))), sum_range_add]
  congr 1
  refine sum_congr rfl fun j hj => ?_
  exact (exp2_rescale (le_peak_of_lt e (mem_range.mp hj)) (peak_mono e n b) (peak_ne_top e he _)).symm

/-- One more block: the running weighted sum rescaled, and the block's weighted values added. -/
theorem mix_add (v e : ℕ → EReal) (he : ∀ j, e j ≠ ⊤) (n b : ℕ) :
    mix v e (n + b) = Ideal.exp2 (peak e n - peak e (n + b)) * mix v e n
      + ∑ r ∈ range b, v (n + r) * weight e (n + b) (n + r) := by
  unfold mix
  rw [mul_sum (exp2_nonneg _) (exp2_ne_top (sub_ne_top (peak_mono e n b) (peak_ne_top e he _))), sum_range_add]
  congr 1
  refine sum_congr rfl fun j hj => ?_
  rw [mul_left_comm]
  exact congrArg (v j * ·) (exp2_rescale (le_peak_of_lt e (mem_range.mp hj)) (peak_mono e n b) (peak_ne_top e he _)).symm

theorem peak_zero (e : ℕ → EReal) : peak e 0 = ⊥ := rfl
theorem total_zero (e : ℕ → EReal) : total e 0 = 0 := rfl
theorem mix_zero (v e : ℕ → EReal) : mix v e 0 = 0 := rfl

/-- Keys whose score is the bottom change nothing: the maximum. -/
theorem peak_pad (e : ℕ → EReal) (n b : ℕ) (hb : ∀ r, e (n + r) = ⊥) : peak e (n + b) = peak e n := by
  rw [peak_add]
  refine max_eq_left (Finset.sup_le fun r _ => ?_)
  rw [hb r]; exact bot_le

theorem weight_pad (e : ℕ → EReal) (n b : ℕ) (hb : ∀ r, e (n + r) = ⊥) (j : ℕ) : weight e (n + b) j = weight e n j := by
  unfold weight; rw [peak_pad e n b hb]

theorem weight_bot (e : ℕ → EReal) (n j : ℕ) (h : e j = ⊥) : weight e n j = 0 := by
  unfold weight; rw [h, EReal.bot_sub, exp2_bot]

/-- … the sum … -/
theorem total_pad (e : ℕ → EReal) (n b : ℕ) (hb : ∀ r, e (n + r) = ⊥) : total e (n + b) = total e n := by
  unfold total
  rw [sum_range_add, sum_eq_zero (s := range b), add_zero]
  · exact sum_congr rfl fun j _ => weight_pad e n b hb j
  · intro r _; exact weight_bot e _ _ (hb r)

/-- … and the weighted sum. -/
theorem mix_pad (v e : ℕ → EReal) (n b : ℕ) (hb : ∀ r, e (n + r) = ⊥) : mix v e (n + b) = mix v e n := by
  unfold mix
  rw [sum_range_add, sum_eq_zero (s := range b), add_zero]
  · exact sum_congr rfl fun j _ => by rw [weight_pad e n b hb j]
  · intro r _; rw [weight_bot e _ _ (hb r), mul_zero]

/-- A sum of finite nonnegative terms is a real number. -/
theorem total_real (e : ℕ → EReal) (he : ∀ j, e j ≠ ⊤) (n : ℕ) : ∃ r : ℝ, total e n = r ∧ 0 ≤ r := by
  have h0 : 0 ≤ total e n := sum_nonneg fun j _ => exp2_nonneg _
  have ht : total e n ≠ ⊤ := by
    unfold total
    refine (Finset.sum_induction _ (fun x => x ≠ ⊤) (fun a b ha hb => EReal.add_ne_top ha hb) EReal.zero_ne_top ?_)
    intro j hj
    exact exp2_ne_top (sub_ne_top (le_peak_of_lt e (mem_range.mp hj)) (peak_ne_top e he n))
  refine ⟨(total e n).toReal, (EReal.coe_toReal ht ?_).symm, EReal.toReal_nonneg h0⟩
  exact ne_of_gt (lt_of_lt_of_le EReal.bot_lt_zero h0)

/-- Dividing by a real: multiplying by its reciprocal, or the two infinities at nought. -/
theorem total_pos (e : ℕ → EReal) (he : ∀ j, e j ≠ ⊤) (n j : ℕ) (hj : j < n) (hr : e j ≠ ⊥) : total e n ≠ 0 := by
  have hw : 0 < weight e n j := by
    have h1 := le_peak_of_lt e hj
    have h2 := peak_ne_top e he n
    unfold weight
    generalize peak e n = m at h1 h2
    have h3 := he j
    generalize e j = x at h1 h3 hr
    induction x using EReal.rec with
    | top => exact absurd rfl h3
    | bot => exact absurd rfl hr
    | coe x =>
      induction m using EReal.rec with
      | top => exact absurd rfl h2
      | bot => exact absurd (le_bot_iff.mp h1) (EReal.coe_ne_bot x)
      | coe m => rw [← EReal.coe_sub, exp2_real]; exact_mod_cast Real.rpow_pos_of_pos two_pos _
  have : weight e n j ≤ total e n :=
    single_le_sum (f := fun i => weight e n i) (fun i _ => exp2_nonneg _) (mem_range.mpr hj)
  exact ne_of_gt (lt_of_lt_of_le hw this)

/-- The weighted sum scaled at the end by one over the sum is the sum under the normalised weights. -/
theorem mix_normalised (v e : ℕ → EReal) (he : ∀ j, e j ≠ ⊤) (n : ℕ) (h : total e n ≠ 0) :
    mix v e n * Ideal.div 1 (total e n) = ∑ j ∈ range n, v j * Ideal.div (weight e n j) (total e n) := by
  obtain ⟨r, hr, hr0⟩ := total_real e he n
  have hi : ((total e n)⁻¹ : EReal) = ((r⁻¹ : ℝ) : EReal) := by rw [hr, EReal.coe_inv]
  unfold Ideal.div
  simp only [if_neg h, one_mul]
  rw [hi, mul_comm, mix, mul_sum (by exact_mod_cast inv_nonneg.mpr hr0) (EReal.coe_ne_top _)]
  refine sum_congr rfl fun j _ => ?_
  rw [mul_comm, mul_assoc]

/-- The same weights through the natural exponential of scores scaled by the logarithm of two. -/
theorem exp_scaled {x m : EReal} (h : x ≤ m) (ht : m ≠ ⊤) :
    Ideal.exp (x * (Real.log 2 : ℝ) - m * (Real.log 2 : ℝ)) = Ideal.exp2 (x - m) := by
  have hl : (0 : ℝ) < Real.log 2 := Real.log_pos one_lt_two
  have hx : x ≠ ⊤ := fun e => ht (top_le_iff.mp (e ▸ h))
  induction x using EReal.rec with
  | top => exact absurd rfl hx
  | bot => rw [EReal.bot_mul_coe_of_pos hl, EReal.bot_sub, EReal.bot_sub]; rfl
  | coe x =>
    induction m using EReal.rec with
    | top => exact absurd rfl ht
    | bot => exact absurd (le_bot_iff.mp h) (EReal.coe_ne_bot x)
    | coe m =>
      rw [← EReal.coe_mul, ← EReal.coe_mul, ← EReal.coe_sub, ← EReal.coe_sub, exp2_real]
      show ((Real.exp _ : ℝ) : EReal) = _
      congr 1
      rw [Real.rpow_def_of_pos two_pos]; congr 1; ring

theorem sup_scaled (e : ℕ → EReal) (n : ℕ) :
    ((range n).sup fun j => e j * (Real.log 2 : ℝ)) = peak e n * (Real.log 2 : ℝ) := by
  have hl : (0 : ℝ) < Real.log 2 := Real.log_pos one_lt_two
  unfold peak
  rw [Finset.comp_sup_eq_sup_comp (fun x : EReal => x * (Real.log 2 : ℝ))]
  · rfl
  · intro x y
    have hm : Monotone fun x : EReal => x * (Real.log 2 : ℝ) :=
      fun a b hab => mul_le_mul_of_nonneg_right hab (by exact_mod_cast hl.le)
    exact hm.map_sup x y
  · exact EReal.bot_mul_coe_of_pos hl

end Cert.Proof.Online

end
-- ==== Proof.Step.lean ====
/- One head's step over one block of 256 keys, as the kernel's vector operations, and what it computes: the running
   state of the block-by-block softmax (Proof/Online.lean) at every query column. -/
module

public import proofs.«01_k».proof.Proof.Gen.KernelIdeal.Skeleton
public import proofs.«01_k».proof.Proof.Online
public import Idealize.ShloMosaic.Lib.Pointwise

@[expose] public section

set_option maxRecDepth 16384

noncomputable section

namespace Cert.Proof.Attn

open Idealize.ShloMosaic Cert.KernelIdeal Cert.KernelIdeal.Gen Cert.Proof.Online

section Ops

variable {F : FTy → Type} [FloatOps F]

/-- The block's scores: keys down, queries across. -/
def score (kb : Vec F S1x256x128 .bf16) (qb : Vec F S1x128x256 .bf16) : FVec F S256x256 .f32 :=
  matmul dot_S256x128_S128x256_S256x256_1_0_0_1_n_n none
    (shapeCast S256x128 kb shapeCasts_S1x256x128_S256x128)
    (shapeCast S128x256 qb shapeCasts_S1x128x256_S128x256) (constant S256x256 .f32 0x00000000#32)

/-- The scores on the diagonal: a key past its query is the bottom. -/
def masked (s : FVec F S256x256 .f32) : FVec F S256x256 .f32 :=
  select k0_pay122 s (constant S256x256 .f32 0xFF800000#32)

/-- The running maximum with the block's. -/
def newMax (m : FVec F S1x256 .f32) (s : FVec F S256x256 .f32) : FVec F S1x256 .f32 :=
  maximumf m (shapeCast S1x256 (multiReduction .maximumf [0] S256 s 0xFF800000#32 reduces_S256x256_S256 (.inl rfl) rfl)
    shapeCasts_S256_S1x256)

/-- What the old maximum's weights are scaled by. -/
def rescale (m : FVec F S1x256 .f32) (s : FVec F S256x256 .f32) : FVec F S1x256 .f32 :=
  exp2 (subf m (newMax m s))

/-- The block's weights. -/
def weights (m : FVec F S1x256 .f32) (s : FVec F S256x256 .f32) : FVec F S256x256 .f32 :=
  exp2 (subf s (broadcastTo S256x256 (newMax m s) broadcasts_S1x256_S256x256))

/-- The running sum with the block's. -/
def newSum (m l : FVec F S1x256 .f32) (s : FVec F S256x256 .f32) : FVec F S1x256 .f32 :=
  addf (mulf (rescale m s) l)
    (shapeCast S1x256 (multiReduction .add [0] S256 (weights m s) 0x00000000#32 reduces_S256x256_S256 (.inl rfl) rfl)
      shapeCasts_S256_S1x256)

/-- The running weighted sum with the block's. -/
def newMix (m : FVec F S1x256 .f32) (s : FVec F S256x256 .f32) (vb : Vec F S1x64x256 .bf16) (a : FVec F S64x256 .f32) :
    FVec F S64x256 .f32 :=
  addf (mulf (broadcastTo S64x256 (rescale m s) broadcasts_S1x256_S64x256) a)
    (matmul dot_S64x256_S256x256_S64x256_1_0_0_1_n_n none (shapeCast S64x256 vb shapeCasts_S1x64x256_S64x256)
      (truncf .bf16 (weights m s) bitsLt_bf16_f32) (constant S64x256 .f32 0x00000000#32))

/-- The carried value of the loops: eight maxima, eight sums, eight weighted sums. -/
abbrev Carried (F : FTy → Type) : Type :=
  FVec F S1x256 .f32 × FVec F S1x256 .f32 × FVec F S1x256 .f32 × FVec F S1x256 .f32 × FVec F S1x256 .f32 × FVec F S1x256 .f32
    × FVec F S1x256 .f32 × FVec F S1x256 .f32 × FVec F S1x256 .f32 × FVec F S1x256 .f32 × FVec F S1x256 .f32 × FVec F S1x256 .f32
    × FVec F S1x256 .f32 × FVec F S1x256 .f32 × FVec F S1x256 .f32 × FVec F S1x256 .f32 × FVec F S64x256 .f32 × FVec F S64x256 .f32
    × FVec F S64x256 .f32 × FVec F S64x256 .f32 × FVec F S64x256 .f32 × FVec F S64x256 .f32 × FVec F S64x256 .f32 × FVec F S64x256 .f32

/-- Head `h`'s maximum. -/
def maxOf (x : Carried F) : Fin 8 → FVec F S1x256 .f32 :=
  ![x.1, x.2.1, x.2.2.1, x.2.2.2.1, x.2.2.2.2.1, x.2.2.2.2.2.1, x.2.2.2.2.2.2.1, x.2.2.2.2.2.2.2.1]

/-- Head `h`'s sum. -/
def sumOf (x : Carried F) : Fin 8 → FVec F S1x256 .f32 :=
  let y := x.2.2.2.2.2.2.2.2
  ![y.1, y.2.1, y.2.2.1, y.2.2.2.1, y.2.2.2.2.1, y.2.2.2.2.2.1, y.2.2.2.2.2.2.1, y.2.2.2.2.2.2.2.1]

/-- Head `h`'s weighted sum. -/
def mixOf (x : Carried F) : Fin 8 → FVec F S64x256 .f32 :=
  let y := x.2.2.2.2.2.2.2.2.2.2.2.2.2.2.2.2
  ![y.1, y.2.1, y.2.2.1, y.2.2.2.1, y.2.2.2.2.1, y.2.2.2.2.2.1, y.2.2.2.2.2.2.1, y.2.2.2.2.2.2.2]

/-- A carried value from its parts. -/
def carried (m l : Fin 8 → FVec F S1x256 .f32) (a : Fin 8 → FVec F S64x256 .f32) : Carried F :=
  (m 0, m 1, m 2, m 3, m 4, m 5, m 6, m 7, l 0, l 1, l 2, l 3, l 4, l 5, l 6, l 7, a 0, a 1, a 2, a 3, a 4, a 5, a 6, a 7)

/-- All heads' step over one block: scores `s`, values `vb`. -/
def stepAll (s : Fin 8 → FVec F S256x256 .f32) (vb : Fin 8 → Vec F S1x64x256 .bf16) (x : Carried F) : Carried F :=
  carried (fun h => newMax (maxOf x h) (s h)) (fun h => newSum (maxOf x h) (sumOf x h) (s h))
    (fun h => newMix (maxOf x h) (s h) (vb h) (mixOf x h))

theorem maxOf_carried (m l : Fin 8 → FVec F S1x256 .f32) (a : Fin 8 → FVec F S64x256 .f32) (h : Fin 8) :
    maxOf (carried m l a) h = m h := by fin_cases h <;> rfl
theorem sumOf_carried (m l : Fin 8 → FVec F S1x256 .f32) (a : Fin 8 → FVec F S64x256 .f32) (h : Fin 8) :
    sumOf (carried m l a) h = l h := by fin_cases h <;> rfl
theorem mixOf_carried (m l : Fin 8 → FVec F S1x256 .f32) (a : Fin 8 → FVec F S64x256 .f32) (h : Fin 8) :
    mixOf (carried m l a) h = a h := by fin_cases h <;> rfl

end Ops

/-! ## What a step computes -/

/-- A head's state after the first `n` keys: at every query column `c` the maximum, the sum and the weighted sums of
    the scores `e c` and the values `v`. -/
def Good (e : Fin 256 → ℕ → EReal) (v : Fin 64 → ℕ → EReal) (n : ℕ) (m l : FVec Ideal S1x256 .f32)
    (a : FVec Ideal S64x256 .f32) : Prop :=
  ∀ c : Fin 256, m (ix2 0 c) = peak (e c) n ∧ l (ix2 0 c) = total (e c) n ∧ ∀ d : Fin 64, a (ix2 d c) = mix (v d) (e c) n

theorem fold_max_sup {n : ℕ} (f : Fin n → EReal) (g : ℕ → EReal) (h : ∀ k : Fin n, f k = g k) :
    (Finset.univ : Finset (Fin n)).fold max ⊥ f = (Finset.range n).sup g := by
  have h1 : (Finset.univ : Finset (Fin n)).fold max ⊥ f = Finset.univ.sup f := rfl
  rw [h1]
  apply le_antisymm
  · exact Finset.sup_le fun k _ => by rw [h k]; exact Finset.le_sup (f := g) (Finset.mem_range.mpr k.isLt)
  · refine Finset.sup_le fun k hk => ?_
    have := Finset.le_sup (f := f) (Finset.mem_univ (⟨k, Finset.mem_range.mp hk⟩ : Fin n))
    rwa [h] at this

theorem neg_inf : Ideal.ofBits .f32 0xFF800000#32 = ⊥ := by
  simp [Ideal.ofBits, Ideal.ieee]

theorem newMax_apply (m : FVec Ideal S1x256 .f32) (s : FVec Ideal S256x256 .f32) (c : Fin 256) :
    newMax m s (ix2 0 c) = max (m (ix2 0 c)) ((Finset.univ : Finset (Fin 256)).fold max ⊥ fun r => s (ix2 r c)) := by
  unfold newMax
  pointwise []
  rw [neg_inf]

theorem weights_apply (m : FVec Ideal S1x256 .f32) (s : FVec Ideal S256x256 .f32) (r c : Fin 256) :
    weights m s (ix2 r c) = Ideal.exp2 (s (ix2 r c) - newMax m s (ix2 0 c)) := by
  unfold weights
  generalize newMax m s = y
  pointwise []
  rfl

theorem rescale_apply (m : FVec Ideal S1x256 .f32) (s : FVec Ideal S256x256 .f32) (c : Fin 256) :
    rescale m s (ix2 0 c) = Ideal.exp2 (m (ix2 0 c) - newMax m s (ix2 0 c)) := rfl

theorem newSum_apply (m l : FVec Ideal S1x256 .f32) (s : FVec Ideal S256x256 .f32) (c : Fin 256) :
    newSum m l s (ix2 0 c) = rescale m s (ix2 0 c) * l (ix2 0 c) + ∑ r : Fin 256, weights m s (ix2 r c) := by
  unfold newSum
  generalize rescale m s = y
  generalize weights m s = w
  pointwise []

theorem newMix_apply (m : FVec Ideal S1x256 .f32) (s : FVec Ideal S256x256 .f32) (vb : Vec Ideal S1x64x256 .bf16)
    (a : FVec Ideal S64x256 .f32) (d : Fin 64) (c : Fin 256) :
    newMix m s vb a (ix2 d c)
      = rescale m s (ix2 0 c) * a (ix2 d c) + ∑ r : Fin 256, vb (ix3 0 d r) * weights m s (ix2 r c) := by
  unfold newMix
  generalize rescale m s = y
  generalize weights m s = w
  pointwise []

theorem score_apply (kb : Vec Ideal S1x256x128 .bf16) (qb : Vec Ideal S1x128x256 .bf16) (r c : Fin 256) :
    score kb qb (ix2 r c) = ∑ d : Fin 128, kb (ix3 0 r d) * qb (ix3 0 d c) := by
  unfold score
  pointwise []

/-- A block of keys taken up: the state after `n` keys becomes the state after `n + 256`. -/
theorem good_step {e : Fin 256 → ℕ → EReal} {v : Fin 64 → ℕ → EReal} (he : ∀ c j, e c j ≠ ⊤) {n : ℕ}
    {m l : FVec Ideal S1x256 .f32} {a : FVec Ideal S64x256 .f32} {s : FVec Ideal S256x256 .f32} {vb : Vec Ideal S1x64x256 .bf16}
    (hg : Good e v n m l a) (hs : ∀ r c : Fin 256, s (ix2 r c) = e c (n + r))
    (hv : ∀ (d : Fin 64) (r : Fin 256), vb (ix3 0 d r) = v d (n + r)) :
    Good e v (n + 256) (newMax m s) (newSum m l s) (newMix m s vb a) := by
  intro c
  obtain ⟨hm, hl, ha⟩ := hg c
  have hM : newMax m s (ix2 0 c) = peak (e c) (n + 256) := by
    rw [newMax_apply, hm, peak_add, fold_max_sup _ (fun r => e c (n + r)) fun r => hs r c]
  have hR : rescale m s (ix2 0 c) = Ideal.exp2 (peak (e c) n - peak (e c) (n + 256)) := by
    rw [rescale_apply, hM, hm]
  have hW : ∀ r : Fin 256, weights m s (ix2 r c) = weight (e c) (n + 256) (n + r) := fun r => by
    rw [weights_apply, hM, hs]; rfl
  refine ⟨hM, ?_, fun d => ?_⟩
  · rw [newSum_apply, hR, hl, total_add _ (he c), Finset.sum_range]
    exact congrArg _ (Finset.sum_congr rfl fun r _ => hW r)
  · rw [newMix_apply, hR, ha, mix_add _ _ (he c), Finset.sum_range]
    exact congrArg _ (Finset.sum_congr rfl fun r _ => by rw [hv, hW])

end Cert.Proof.Attn

end
-- ==== Proof.Trip.lean ====
/- The kernel's loop over key blocks: one trip is one step of all eight heads (Proof/Step.lean), so after the trips the
   carried value is the state of the block-by-block softmax. -/
module

public import proofs.«01_k».proof.Proof.Gen.KernelIdeal.Frame
public import proofs.«01_k».proof.Proof.Step
public import Idealize.ShloMosaic.Lib.WholeRead

@[expose] public section

set_option maxRecDepth 16384

noncomputable section

namespace Cert.Proof.Attn

open Idealize.ShloMosaic Idealize.ShloMosaic.TcCoe Idealize.SL.Sem Cert.KernelIdeal Cert.KernelIdeal.Gen Cert.Proof.Online

section Reads

variable {F : FTy → Type} [FloatOps F]

/-- Head `h`'s query block: 128 rows of the block. -/
def qRows (x : Vec F S1x1024x256 .bf16) (h : Fin 8) : Vec F S1x128x256 .bf16 :=
  fun j => x (ix3 0 ⟨128 * h.val + (j 1).val, by have h1 : (j 1).val < 128 := (j 1).isLt; omega⟩ (j 2))

/-- Head `h`'s key block from key `n` on. -/
def kRows (x : Vec F S1x2304x1024 .bf16) (n : ℕ) (hn : n + 256 ≤ 2304) (h : Fin 8) : Vec F S1x256x128 .bf16 :=
  fun j => x (ix3 0 ⟨n + (j 1).val, by have h1 : (j 1).val < 256 := (j 1).isLt; omega⟩
    ⟨128 * h.val + (j 2).val, by have h1 : (j 2).val < 128 := (j 2).isLt; omega⟩)

/-- Head `h`'s value block from key `n` on. -/
def vRows (x : Vec F S1x512x2304 .bf16) (n : ℕ) (hn : n + 256 ≤ 2304) (h : Fin 8) : Vec F S1x64x256 .bf16 :=
  fun j => x (ix3 0 ⟨64 * h.val + (j 1).val, by have h1 : (j 1).val < 64 := (j 1).isLt; omega⟩
    ⟨n + (j 2).val, by have h1 : (j 2).val < 256 := (j 2).isLt; omega⟩)

theorem read_q {arg2 : Memref sig .tc .vmem S1x1024x256 .bf16} (harg2 : arg2.IsWhole) (x : Vec F S1x1024x256 .bf16) (h : Fin 8)
    (o : Fin 3 → ℕ) (ho : o = ![0, 128 * h.val, 0]) (inb : ∀ a, o a + S1x128x256.size a ≤ S1x1024x256.size a) :
    View.readAt (Elt F) arg2.view (Rect.unit (s := S1x1024x256) o S1x128x256.size inb).toLoadRect (harg2.unread x) = qRows x h := by
  subst ho
  funext j
  rw [Memref.IsWhole.readAt_unread harg2]
  unfold qRows
  congr 1
  funext a
  fin_cases a
  · exact Subsingleton.elim (α := Fin 1) _ _
  · exact Fin.ext (by simp [LoadRect.idx, ix3])
  · exact Fin.ext (by simp [LoadRect.idx, ix3])

theorem read_k {arg3 : Memref sig .tc .vmem S1x2304x1024 .bf16} (harg3 : arg3.IsWhole) (x : Vec F S1x2304x1024 .bf16) (n : ℕ)
    (hn : n + 256 ≤ 2304) (h : Fin 8)
    (o : Fin 3 → ℕ) (ho : o = ![0, n, 128 * h.val]) (inb : ∀ a, o a + S1x256x128.size a ≤ S1x2304x1024.size a) :
    View.readAt (Elt F) arg3.view (Rect.unit (s := S1x2304x1024) o S1x256x128.size inb).toLoadRect (harg3.unread x)
      = kRows x n hn h := by
  subst ho
  funext j
  rw [Memref.IsWhole.readAt_unread harg3]
  unfold kRows
  congr 1
  funext a
  fin_cases a
  · exact Subsingleton.elim (α := Fin 1) _ _
  · exact Fin.ext (by simp [LoadRect.idx, ix3])
  · exact Fin.ext (by simp [LoadRect.idx, ix3])

theorem read_v {arg4 : Memref sig .tc .vmem S1x512x2304 .bf16} (harg4 : arg4.IsWhole) (x : Vec F S1x512x2304 .bf16) (n : ℕ)
    (hn : n + 256 ≤ 2304) (h : Fin 8)
    (o : Fin 3 → ℕ) (ho : o = ![0, 64 * h.val, n]) (inb : ∀ a, o a + S1x64x256.size a ≤ S1x512x2304.size a) :
    View.readAt (Elt F) arg4.view (Rect.unit (s := S1x512x2304) o S1x64x256.size inb).toLoadRect (harg4.unread x)
      = vRows x n hn h := by
  subst ho
  funext j
  rw [Memref.IsWhole.readAt_unread harg4]
  unfold vRows
  congr 1
  funext a
  fin_cases a
  · exact Subsingleton.elim (α := Fin 1) _ _
  · exact Fin.ext (by simp [LoadRect.idx, ix3])
  · exact Fin.ext (by simp [LoadRect.idx, ix3])

/-- A block's scores, head by head. -/
def scores (x0 : Vec F S1x1024x256 .bf16) (x1 : Vec F S1x2304x1024 .bf16) (n : ℕ) (hn : n + 256 ≤ 2304) (h : Fin 8) :
    FVec F S256x256 .f32 :=
  score (kRows x1 n hn h) (qRows x0 h)

end Reads

/-! ## Where the loads start -/

theorem block_word (k : ℕ) (hk : k < 9) : (Scalar.indexCast (Scalar.muli (Scf.iv 0#32 1#32 k) 256#32)).toNat = 256 * k := by
  interval_cases k <;> rfl

theorem point_word (k : ℕ) (hk : k < 9) : (Scalar.indexCast (Scalar.muli (BitVec.ofNat 32 k) 256#32)).toNat = 256 * k := by
  interval_cases k <;> rfl

theorem trip_lt (i : grid0.Coords) (k : Fin (k0_t1_loop i).trips) : k.val < 8 := lt_of_lt_of_le k.isLt (k0_t1_abs i).2.1

theorem trips_main (i : grid0.Coords) : (k0_t1_loop i).trips = (i 1).val := by
  have h : ∀ n : Fin 9, Scf.trips 0#32 (Scalar.addi 0#32 (Scalar.muli (Scalar.divsi (Scalar.subi (BitVec.ofNat 32 n.val) 0#32) 1#32) 1#32)) 1#32 = n.val := by
    decide
  exact h (i 1)

theorem trips_rest (i : grid0.Coords) : (k0_t2_loop i).trips = 0 := by
  have h : ∀ n : Fin 9, Scf.trips (Scalar.addi 0#32 (Scalar.muli (Scalar.divsi (Scalar.subi (BitVec.ofNat 32 n.val) 0#32) 1#32) 1#32)) (Scalar.addi 0#32 (Scalar.subi (BitVec.ofNat 32 n.val) 0#32)) 1#32 = 0 := by
    decide
  exact h (i 1)

section Trips

variable {F : FTy → Type} [FloatOps F]

variable (𝒱 : Variants) (c : Dev nD) (bd : Option 𝒱.V) (i : grid0.Coords) (arg2 : Memref sig .tc .vmem S1x1024x256 .bf16) (harg2 : arg2.IsWhole) (arg3 : Memref sig .tc .vmem S1x2304x1024 .bf16) (harg3 : arg3.IsWhole) (arg4 : Memref sig .tc .vmem S1x512x2304 .bf16) (harg4 : arg4.IsWhole) (arg5 : Memref sig .tc .vmem S1x256x512 .bf16) (harg5 : arg5.IsWhole) (arg1 : BitVec 32) (v2 : IVec S256x256 1) (v3 : FVec F S1x256 .f32) (v4 : FVec F S1x256 .f32) (v5 : FVec F S1x256 .f32) (v6 : FVec F S1x256 .f32) (v7 : FVec F S1x256 .f32) (v8 : FVec F S1x256 .f32) (v9 : FVec F S1x256 .f32) (v10 : FVec F S1x256 .f32) (v11 : FVec F S1x256 .f32) (v12 : FVec F S1x256 .f32) (v13 : FVec F S1x256 .f32) (v14 : FVec F S1x256 .f32) (v15 : FVec F S1x256 .f32) (v16 : FVec F S1x256 .f32) (v17 : FVec F S1x256 .f32) (v18 : FVec F S1x256 .f32) (v19 : FVec F S64x256 .f32) (v20 : FVec F S64x256 .f32) (v21 : FVec F S64x256 .f32) (v22 : FVec F S64x256 .f32) (v23 : FVec F S64x256 .f32) (v24 : FVec F S64x256 .f32) (v25 : FVec F S64x256 .f32) (v26 : FVec F S64x256 .f32) (c0_i32 v31 : BitVec 32) (x0 : Vec F S1x1024x256 .bf16) (x1 : Vec F S1x2304x1024 .bf16) (x2 : Vec F S1x512x2304 .bf16)

/-- One trip, over the loads it does. -/
theorem trip_loads (k : Fin (k0_t1_loop i).trips) (acc : Carried F) :
    tripR_k0_t1 (F := F) 𝒱 c bd i arg2 harg2 arg3 harg3 arg4 harg4 arg5 harg5 arg1 v2 v3 v4 v5 v6 v7 v8 v9 v10 v11 v12 v13 v14 v15 v16 v17 v18 v19 v20 v21 v22 v23 v24 v25 v26 c0_i32 v31 (harg2.unread x0) (harg3.unread x1) (harg4.unread x2) k acc
    = stepAll ![score (View.readAt (Elt F) arg3.view (Rect.unit (s := S1x2304x1024) (k0_off1 i k) S1x256x128.size (k0_off1_inb i k)).toLoadRect (harg3.unread x1))
        (View.readAt (Elt F) arg2.view (Rect.unit (s := S1x1024x256) ![0, 0, 0] S1x128x256.size inb_S1x1024x256_S1x128x256_0_0_0).toLoadRect (harg2.unread x0)),
      score (View.readAt (Elt F) arg3.view (Rect.unit (s := S1x2304x1024) (k0_off2 i k) S1x256x128.size (k0_off2_inb i k)).toLoadRect (harg3.unread x1))
        (View.readAt (Elt F) arg2.view (Rect.unit (s := S1x1024x256) ![0, 128, 0] S1x128x256.size inb_S1x1024x256_S1x128x256_0_128_0).toLoadRect (harg2.unread x0)),
      score (View.readAt (Elt F) arg3.view (Rect.unit (s := S1x2304x1024) (k0_off3 i k) S1x256x128.size (k0_off3_inb i k)).toLoadRect (harg3.unread x1))
        (View.readAt (Elt F) arg2.view (Rect.unit (s := S1x1024x256) ![0, 256, 0] S1x128x256.size inb_S1x1024x256_S1x128x256_0_256_0).toLoadRect (harg2.unread x0)),
      score (View.readAt (Elt F) arg3.view (Rect.unit (s := S1x2304x1024) (k0_off4 i k) S1x256x128.size (k0_off4_inb i k)).toLoadRect (harg3.unread x1))
        (View.readAt (Elt F) arg2.view (Rect.unit (s := S1x1024x256) ![0, 384, 0] S1x128x256.size inb_S1x1024x256_S1x128x256_0_384_0).toLoadRect (harg2.unread x0)),
      score (View.readAt (Elt F) arg3.view (Rect.unit (s := S1x2304x1024) (k0_off5 i k) S1x256x128.size (k0_off5_inb i k)).toLoadRect (harg3.unread x1))
        (View.readAt (Elt F) arg2.view (Rect.unit (s := S1x1024x256) ![0, 512, 0] S1x128x256.size inb_S1x1024x256_S1x128x256_0_512_0).toLoadRect (harg2.unread x0)),
      score (View.readAt (Elt F) arg3.view (Rect.unit (s := S1x2304x1024) (k0_off6 i k) S1x256x128.size (k0_off6_inb i k)).toLoadRect (harg3.unread x1))
        (View.readAt (Elt F) arg2.view (Rect.unit (s := S1x1024x256) ![0, 640, 0] S1x128x256.size inb_S1x1024x256_S1x128x256_0_640_0).toLoadRect (harg2.unread x0)),
      score (View.readAt (Elt F) arg3.view (Rect.unit (s := S1x2304x1024) (k0_off7 i k) S1x256x128.size (k0_off7_inb i k)).toLoadRect (harg3.unread x1))
        (View.readAt (Elt F) arg2.view (Rect.unit (s := S1x1024x256) ![0, 768, 0] S1x128x256.size inb_S1x1024x256_S1x128x256_0_768_0).toLoadRect (harg2.unread x0)),
      score (View.readAt (Elt F) arg3.view (Rect.unit (s := S1x2304x1024) (k0_off8 i k) S1x256x128.size (k0_off8_inb i k)).toLoadRect (harg3.unread x1))
        (View.readAt (Elt F) arg2.view (Rect.unit (s := S1x1024x256) ![0, 896, 0] S1x128x256.size inb_S1x1024x256_S1x128x256_0_896_0).toLoadRect (harg2.unread x0))]
      ![View.readAt (Elt F) arg4.view (Rect.unit (s := S1x512x2304) (k0_off9 i k) S1x64x256.size (k0_off9_inb i k)).toLoadRect (harg4.unread x2),
      View.readAt (Elt F) arg4.view (Rect.unit (s := S1x512x2304) (k0_off10 i k) S1x64x256.size (k0_off10_inb i k)).toLoadRect (harg4.unread x2),
      View.readAt (Elt F) arg4.view (Rect.unit (s := S1x512x2304) (k0_off11 i k) S1x64x256.size (k0_off11_inb i k)).toLoadRect (harg4.unread x2),
      View.readAt (Elt F) arg4.view (Rect.unit (s := S1x512x2304) (k0_off12 i k) S1x64x256.size (k0_off12_inb i k)).toLoadRect (harg4.unread x2),
      View.readAt (Elt F) arg4.view (Rect.unit (s := S1x512x2304) (k0_off13 i k) S1x64x256.size (k0_off13_inb i k)).toLoadRect (harg4.unread x2),
      View.readAt (Elt F) arg4.view (Rect.unit (s := S1x512x2304) (k0_off14 i k) S1x64x256.size (k0_off14_inb i k)).toLoadRect (harg4.unread x2),
      View.readAt (Elt F) arg4.view (Rect.unit (s := S1x512x2304) (k0_off15 i k) S1x64x256.size (k0_off15_inb i k)).toLoadRect (harg4.unread x2),
      View.readAt (Elt F) arg4.view (Rect.unit (s := S1x512x2304) (k0_off16 i k) S1x64x256.size (k0_off16_inb i k)).toLoadRect (harg4.unread x2)] acc := by
  unfold tripR_k0_t1 trip_k0_t1
  rfl

/-- The loads are the heads' blocks. -/
theorem trip_heads (k : Fin (k0_t1_loop i).trips) :
    ![score (View.readAt (Elt F) arg3.view (Rect.unit (s := S1x2304x1024) (k0_off1 i k) S1x256x128.size (k0_off1_inb i k)).toLoadRect (harg3.unread x1))
        (View.readAt (Elt F) arg2.view (Rect.unit (s := S1x1024x256) ![0, 0, 0] S1x128x256.size inb_S1x1024x256_S1x128x256_0_0_0).toLoadRect (harg2.unread x0)),
      score (View.readAt (Elt F) arg3.view (Rect.unit (s := S1x2304x1024) (k0_off2 i k) S1x256x128.size (k0_off2_inb i k)).toLoadRect (harg3.unread x1))
        (View.readAt (Elt F) arg2.view (Rect.unit (s := S1x1024x256) ![0, 128, 0] S1x128x256.size inb_S1x1024x256_S1x128x256_0_128_0).toLoadRect (harg2.unread x0)),
      score (View.readAt (Elt F) arg3.view (Rect.unit (s := S1x2304x1024) (k0_off3 i k) S1x256x128.size (k0_off3_inb i k)).toLoadRect (harg3.unread x1))
        (View.readAt (Elt F) arg2.view (Rect.unit (s := S1x1024x256) ![0, 256, 0] S1x128x256.size inb_S1x1024x256_S1x128x256_0_256_0).toLoadRect (harg2.unread x0)),
      score (View.readAt (Elt F) arg3.view (Rect.unit (s := S1x2304x1024) (k0_off4 i k) S1x256x128.size (k0_off4_inb i k)).toLoadRect (harg3.unread x1))
        (View.readAt (Elt F) arg2.view (Rect.unit (s := S1x1024x256) ![0, 384, 0] S1x128x256.size inb_S1x1024x256_S1x128x256_0_384_0).toLoadRect (harg2.unread x0)),
      score (View.readAt (Elt F) arg3.view (Rect.unit (s := S1x2304x1024) (k0_off5 i k) S1x256x128.size (k0_off5_inb i k)).toLoadRect (harg3.unread x1))
        (View.readAt (Elt F) arg2.view (Rect.unit (s := S1x1024x256) ![0, 512, 0] S1x128x256.size inb_S1x1024x256_S1x128x256_0_512_0).toLoadRect (harg2.unread x0)),
      score (View.readAt (Elt F) arg3.view (Rect.unit (s := S1x2304x1024) (k0_off6 i k) S1x256x128.size (k0_off6_inb i k)).toLoadRect (harg3.unread x1))
        (View.readAt (Elt F) arg2.view (Rect.unit (s := S1x1024x256) ![0, 640, 0] S1x128x256.size inb_S1x1024x256_S1x128x256_0_640_0).toLoadRect (harg2.unread x0)),
      score (View.readAt (Elt F) arg3.view (Rect.unit (s := S1x2304x1024) (k0_off7 i k) S1x256x128.size (k0_off7_inb i k)).toLoadRect (harg3.unread x1))
        (View.readAt (Elt F) arg2.view (Rect.unit (s := S1x1024x256) ![0, 768, 0] S1x128x256.size inb_S1x1024x256_S1x128x256_0_768_0).toLoadRect (harg2.unread x0)),
      score (View.readAt (Elt F) arg3.view (Rect.unit (s := S1x2304x1024) (k0_off8 i k) S1x256x128.size (k0_off8_inb i k)).toLoadRect (harg3.unread x1))
        (View.readAt (Elt F) arg2.view (Rect.unit (s := S1x1024x256) ![0, 896, 0] S1x128x256.size inb_S1x1024x256_S1x128x256_0_896_0).toLoadRect (harg2.unread x0))]
    = scores x0 x1 (256 * k.val) (by have := trip_lt i k; omega)
    ∧ ![View.readAt (Elt F) arg4.view (Rect.unit (s := S1x512x2304) (k0_off9 i k) S1x64x256.size (k0_off9_inb i k)).toLoadRect (harg4.unread x2),
      View.readAt (Elt F) arg4.view (Rect.unit (s := S1x512x2304) (k0_off10 i k) S1x64x256.size (k0_off10_inb i k)).toLoadRect (harg4.unread x2),
      View.readAt (Elt F) arg4.view (Rect.unit (s := S1x512x2304) (k0_off11 i k) S1x64x256.size (k0_off11_inb i k)).toLoadRect (harg4.unread x2),
      View.readAt (Elt F) arg4.view (Rect.unit (s := S1x512x2304) (k0_off12 i k) S1x64x256.size (k0_off12_inb i k)).toLoadRect (harg4.unread x2),
      View.readAt (Elt F) arg4.view (Rect.unit (s := S1x512x2304) (k0_off13 i k) S1x64x256.size (k0_off13_inb i k)).toLoadRect (harg4.unread x2),
      View.readAt (Elt F) arg4.view (Rect.unit (s := S1x512x2304) (k0_off14 i k) S1x64x256.size (k0_off14_inb i k)).toLoadRect (harg4.unread x2),
      View.readAt (Elt F) arg4.view (Rect.unit (s := S1x512x2304) (k0_off15 i k) S1x64x256.size (k0_off15_inb i k)).toLoadRect (harg4.unread x2),
      View.readAt (Elt F) arg4.view (Rect.unit (s := S1x512x2304) (k0_off16 i k) S1x64x256.size (k0_off16_inb i k)).toLoadRect (harg4.unread x2)] = vRows x2 (256 * k.val) (by have := trip_lt i k; omega) := by
  have hw := block_word k.val (by have := trip_lt i k; omega)
  constructor <;> funext h <;> fin_cases h
  · exact congrArg₂ score (read_k harg3 x1 (256 * k.val) (by have := trip_lt i k; omega) 0 (k0_off1 i k) (by rw [← hw]; rfl) _) (read_q harg2 x0 0 _ rfl _)
  · exact congrArg₂ score (read_k harg3 x1 (256 * k.val) (by have := trip_lt i k; omega) 1 (k0_off2 i k) (by rw [← hw]; rfl) _) (read_q harg2 x0 1 _ rfl _)
  · exact congrArg₂ score (read_k harg3 x1 (256 * k.val) (by have := trip_lt i k; omega) 2 (k0_off3 i k) (by rw [← hw]; rfl) _) (read_q harg2 x0 2 _ rfl _)
  · exact congrArg₂ score (read_k harg3 x1 (256 * k.val) (by have := trip_lt i k; omega) 3 (k0_off4 i k) (by rw [← hw]; rfl) _) (read_q harg2 x0 3 _ rfl _)
  · exact congrArg₂ score (read_k harg3 x1 (256 * k.val) (by have := trip_lt i k; omega) 4 (k0_off5 i k) (by rw [← hw]; rfl) _) (read_q harg2 x0 4 _ rfl _)
  · exact congrArg₂ score (read_k harg3 x1 (256 * k.val) (by have := trip_lt i k; omega) 5 (k0_off6 i k) (by rw [← hw]; rfl) _) (read_q harg2 x0 5 _ rfl _)
  · exact congrArg₂ score (read_k harg3 x1 (256 * k.val) (by have := trip_lt i k; omega) 6 (k0_off7 i k) (by rw [← hw]; rfl) _) (read_q harg2 x0 6 _ rfl _)
  · exact congrArg₂ score (read_k harg3 x1 (256 * k.val) (by have := trip_lt i k; omega) 7 (k0_off8 i k) (by rw [← hw]; rfl) _) (read_q harg2 x0 7 _ rfl _)
  · exact read_v harg4 x2 (256 * k.val) (by have := trip_lt i k; omega) 0 (k0_off9 i k) (by rw [← hw]; rfl) _
  · exact read_v harg4 x2 (256 * k.val) (by have := trip_lt i k; omega) 1 (k0_off10 i k) (by rw [← hw]; rfl) _
  · exact read_v harg4 x2 (256 * k.val) (by have := trip_lt i k; omega) 2 (k0_off11 i k) (by rw [← hw]; rfl) _
  · exact read_v harg4 x2 (256 * k.val) (by have := trip_lt i k; omega) 3 (k0_off12 i k) (by rw [← hw]; rfl) _
  · exact read_v harg4 x2 (256 * k.val) (by have := trip_lt i k; omega) 4 (k0_off13 i k) (by rw [← hw]; rfl) _
  · exact read_v harg4 x2 (256 * k.val) (by have := trip_lt i k; omega) 5 (k0_off14 i k) (by rw [← hw]; rfl) _
  · exact read_v harg4 x2 (256 * k.val) (by have := trip_lt i k; omega) 6 (k0_off15 i k) (by rw [← hw]; rfl) _
  · exact read_v harg4 x2 (256 * k.val) (by have := trip_lt i k; omega) 7 (k0_off16 i k) (by rw [← hw]; rfl) _

/-- The loads are the heads' blocks. -/
theorem last_heads  :
    ![score (View.readAt (Elt F) arg3.view (Rect.unit (s := S1x2304x1024) (k0_off33 i) S1x256x128.size (k0_off33_inb i)).toLoadRect (harg3.unread x1))
        (View.readAt (Elt F) arg2.view (Rect.unit (s := S1x1024x256) ![0, 0, 0] S1x128x256.size inb_S1x1024x256_S1x128x256_0_0_0).toLoadRect (harg2.unread x0)),
      score (View.readAt (Elt F) arg3.view (Rect.unit (s := S1x2304x1024) (k0_off34 i) S1x256x128.size (k0_off34_inb i)).toLoadRect (harg3.unread x1))
        (View.readAt (Elt F) arg2.view (Rect.unit (s := S1x1024x256) ![0, 128, 0] S1x128x256.size inb_S1x1024x256_S1x128x256_0_128_0).toLoadRect (harg2.unread x0)),
      score (View.readAt (Elt F) arg3.view (Rect.unit (s := S1x2304x1024) (k0_off35 i) S1x256x128.size (k0_off35_inb i)).toLoadRect (harg3.unread x1))
        (View.readAt (Elt F) arg2.view (Rect.unit (s := S1x1024x256) ![0, 256, 0] S1x128x256.size inb_S1x1024x256_S1x128x256_0_256_0).toLoadRect (harg2.unread x0)),
      score (View.readAt (Elt F) arg3.view (Rect.unit (s := S1x2304x1024) (k0_off36 i) S1x256x128.size (k0_off36_inb i)).toLoadRect (harg3.unread x1))
        (View.readAt (Elt F) arg2.view (Rect.unit (s := S1x1024x256) ![0, 384, 0] S1x128x256.size inb_S1x1024x256_S1x128x256_0_384_0).toLoadRect (harg2.unread x0)),
      score (View.readAt (Elt F) arg3.view (Rect.unit (s := S1x2304x1024) (k0_off37 i) S1x256x128.size (k0_off37_inb i)).toLoadRect (harg3.unread x1))
        (View.readAt (Elt F) arg2.view (Rect.unit (s := S1x1024x256) ![0, 512, 0] S1x128x256.size inb_S1x1024x256_S1x128x256_0_512_0).toLoadRect (harg2.unread x0)),
      score (View.readAt (Elt F) arg3.view (Rect.unit (s := S1x2304x1024) (k0_off38 i) S1x256x128.size (k0_off38_inb i)).toLoadRect (harg3.unread x1))
        (View.readAt (Elt F) arg2.view (Rect.unit (s := S1x1024x256) ![0, 640, 0] S1x128x256.size inb_S1x1024x256_S1x128x256_0_640_0).toLoadRect (harg2.unread x0)),
      score (View.readAt (Elt F) arg3.view (Rect.unit (s := S1x2304x1024) (k0_off39 i) S1x256x128.size (k0_off39_inb i)).toLoadRect (harg3.unread x1))
        (View.readAt (Elt F) arg2.view (Rect.unit (s := S1x1024x256) ![0, 768, 0] S1x128x256.size inb_S1x1024x256_S1x128x256_0_768_0).toLoadRect (harg2.unread x0)),
      score (View.readAt (Elt F) arg3.view (Rect.unit (s := S1x2304x1024) (k0_off40 i) S1x256x128.size (k0_off40_inb i)).toLoadRect (harg3.unread x1))
        (View.readAt (Elt F) arg2.view (Rect.unit (s := S1x1024x256) ![0, 896, 0] S1x128x256.size inb_S1x1024x256_S1x128x256_0_896_0).toLoadRect (harg2.unread x0))]
    = scores x0 x1 (256 * (i 1).val) (by have h : (i 1).val < 9 := (i 1).isLt; omega)
    ∧ ![View.readAt (Elt F) arg4.view (Rect.unit (s := S1x512x2304) (k0_off41 i) S1x64x256.size (k0_off41_inb i)).toLoadRect (harg4.unread x2),
      View.readAt (Elt F) arg4.view (Rect.unit (s := S1x512x2304) (k0_off42 i) S1x64x256.size (k0_off42_inb i)).toLoadRect (harg4.unread x2),
      View.readAt (Elt F) arg4.view (Rect.unit (s := S1x512x2304) (k0_off43 i) S1x64x256.size (k0_off43_inb i)).toLoadRect (harg4.unread x2),
      View.readAt (Elt F) arg4.view (Rect.unit (s := S1x512x2304) (k0_off44 i) S1x64x256.size (k0_off44_inb i)).toLoadRect (harg4.unread x2),
      View.readAt (Elt F) arg4.view (Rect.unit (s := S1x512x2304) (k0_off45 i) S1x64x256.size (k0_off45_inb i)).toLoadRect (harg4.unread x2),
      View.readAt (Elt F) arg4.view (Rect.unit (s := S1x512x2304) (k0_off46 i) S1x64x256.size (k0_off46_inb i)).toLoadRect (harg4.unread x2),
      View.readAt (Elt F) arg4.view (Rect.unit (s := S1x512x2304) (k0_off47 i) S1x64x256.size (k0_off47_inb i)).toLoadRect (harg4.unread x2),
      View.readAt (Elt F) arg4.view (Rect.unit (s := S1x512x2304) (k0_off48 i) S1x64x256.size (k0_off48_inb i)).toLoadRect (harg4.unread x2)] = vRows x2 (256 * (i 1).val) (by have h : (i 1).val < 9 := (i 1).isLt; omega) := by
  have hw := point_word (i 1).val (i 1).isLt
  constructor <;> funext h <;> fin_cases h
  · exact congrArg₂ score (read_k harg3 x1 (256 * (i 1).val) (by have h : (i 1).val < 9 := (i 1).isLt; omega) 0 (k0_off33 i) (by rw [← hw]; rfl) _) (read_q harg2 x0 0 _ rfl _)
  · exact congrArg₂ score (read_k harg3 x1 (256 * (i 1).val) (by have h : (i 1).val < 9 := (i 1).isLt; omega) 1 (k0_off34 i) (by rw [← hw]; rfl) _) (read_q harg2 x0 1 _ rfl _)
  · exact congrArg₂ score (read_k harg3 x1 (256 * (i 1).val) (by have h : (i 1).val < 9 := (i 1).isLt; omega) 2 (k0_off35 i) (by rw [← hw]; rfl) _) (read_q harg2 x0 2 _ rfl _)
  · exact congrArg₂ score (read_k harg3 x1 (256 * (i 1).val) (by have h : (i 1).val < 9 := (i 1).isLt; omega) 3 (k0_off36 i) (by rw [← hw]; rfl) _) (read_q harg2 x0 3 _ rfl _)
  · exact congrArg₂ score (read_k harg3 x1 (256 * (i 1).val) (by have h : (i 1).val < 9 := (i 1).isLt; omega) 4 (k0_off37 i) (by rw [← hw]; rfl) _) (read_q harg2 x0 4 _ rfl _)
  · exact congrArg₂ score (read_k harg3 x1 (256 * (i 1).val) (by have h : (i 1).val < 9 := (i 1).isLt; omega) 5 (k0_off38 i) (by rw [← hw]; rfl) _) (read_q harg2 x0 5 _ rfl _)
  · exact congrArg₂ score (read_k harg3 x1 (256 * (i 1).val) (by have h : (i 1).val < 9 := (i 1).isLt; omega) 6 (k0_off39 i) (by rw [← hw]; rfl) _) (read_q harg2 x0 6 _ rfl _)
  · exact congrArg₂ score (read_k harg3 x1 (256 * (i 1).val) (by have h : (i 1).val < 9 := (i 1).isLt; omega) 7 (k0_off40 i) (by rw [← hw]; rfl) _) (read_q harg2 x0 7 _ rfl _)
  · exact read_v harg4 x2 (256 * (i 1).val) (by have h : (i 1).val < 9 := (i 1).isLt; omega) 0 (k0_off41 i) (by rw [← hw]; rfl) _
  · exact read_v harg4 x2 (256 * (i 1).val) (by have h : (i 1).val < 9 := (i 1).isLt; omega) 1 (k0_off42 i) (by rw [← hw]; rfl) _
  · exact read_v harg4 x2 (256 * (i 1).val) (by have h : (i 1).val < 9 := (i 1).isLt; omega) 2 (k0_off43 i) (by rw [← hw]; rfl) _
  · exact read_v harg4 x2 (256 * (i 1).val) (by have h : (i 1).val < 9 := (i 1).isLt; omega) 3 (k0_off44 i) (by rw [← hw]; rfl) _
  · exact read_v harg4 x2 (256 * (i 1).val) (by have h : (i 1).val < 9 := (i 1).isLt; omega) 4 (k0_off45 i) (by rw [← hw]; rfl) _
  · exact read_v harg4 x2 (256 * (i 1).val) (by have h : (i 1).val < 9 := (i 1).isLt; omega) 5 (k0_off46 i) (by rw [← hw]; rfl) _
  · exact read_v harg4 x2 (256 * (i 1).val) (by have h : (i 1).val < 9 := (i 1).isLt; omega) 6 (k0_off47 i) (by rw [← hw]; rfl) _
  · exact read_v harg4 x2 (256 * (i 1).val) (by have h : (i 1).val < 9 := (i 1).isLt; omega) 7 (k0_off48 i) (by rw [← hw]; rfl) _

end Trips

end Cert.Proof.Attn
-- ==== Proof.Block.lean ====
/- One grid point of the attention: after the loop and the diagonal step every head's state is the state over all keys
   up to the block's end, and the block written is the normalised weighted sums. -/
module

public import proofs.«01_k».proof.Proof.Trip

@[expose] public section

set_option maxRecDepth 16384

noncomputable section

namespace Cert.Proof.Attn

open Idealize.ShloMosaic Idealize.ShloMosaic.TcCoe Idealize.SL.Sem Cert.KernelIdeal Cert.KernelIdeal.Gen Cert.Proof.Online

/-- Head `h`'s score of key `j` for query `256 * p + c`: the bottom past the query. -/
def sc (x0 : Vec Ideal S1x1024x256 .bf16) (x1 : Vec Ideal S1x2304x1024 .bf16) (p : ℕ) (h : Fin 8) (c : Fin 256) (j : ℕ) : EReal :=
  if hj : j < 2304 then
    if j ≤ 256 * p + c.val then
      ∑ d : Fin 128, x1 (ix3 0 ⟨j, hj⟩ ⟨128 * h.val + d.val, by omega⟩) * x0 (ix3 0 ⟨128 * h.val + d.val, by omega⟩ c)
    else ⊥
  else ⊥

/-- Head `h`'s value row `d` at key `j`. -/
def vl (x2 : Vec Ideal S1x512x2304 .bf16) (h : Fin 8) (d : Fin 64) (j : ℕ) : EReal :=
  if hj : j < 2304 then x2 (ix3 0 ⟨64 * h.val + d.val, by omega⟩ ⟨j, hj⟩) else 0

theorem scores_apply (x0 : Vec Ideal S1x1024x256 .bf16) (x1 : Vec Ideal S1x2304x1024 .bf16) (n : ℕ) (hn : n + 256 ≤ 2304)
    (h : Fin 8) (r c : Fin 256) :
    scores x0 x1 n hn h (ix2 r c)
      = ∑ d : Fin 128, x1 (ix3 0 ⟨n + r.val, by omega⟩ ⟨128 * h.val + d.val, by omega⟩)
          * x0 (ix3 0 ⟨128 * h.val + d.val, by omega⟩ c) :=
  score_apply _ _ r c

/-- A block before the diagonal holds the scores themselves. -/
theorem scores_before (x0 : Vec Ideal S1x1024x256 .bf16) (x1 : Vec Ideal S1x2304x1024 .bf16) (p k : ℕ) (hk : k < p) (hp : p < 9)
    (h : Fin 8) (hn : 256 * k + 256 ≤ 2304) (r c : Fin 256) :
    scores x0 x1 (256 * k) hn h (ix2 r c) = sc x0 x1 p h c (256 * k + r.val) := by
  rw [scores_apply]
  unfold sc
  rw [dif_pos (by omega), if_pos (by omega)]

/-- The mask keeps the keys up to the query. -/
theorem masked_apply (s : FVec Ideal S256x256 .f32) (r c : Fin 256) :
    masked s (ix2 r c) = if r.val ≤ c.val then s (ix2 r c) else ⊥ := by
  have hb : (k0_pay122 (ix2 r c) : BitVec 1) = BitVec.ofBool (decide (r.val ≤ c.val)) := by
    have h : k0_pay122 (ix2 r c) = BitVec.ofBool ((BitVec.ofNat 32 r.val).sle (BitVec.ofNat 32 c.val)) := by
      unfold k0_pay122
      show BitVec.ofBool ((iota .tc S256x256 32 [0] iota_S256x256_d0_w32 (ix2 r c)).sle
        (iota .tc S256x256 32 [1] iota_S256x256_d1_w32 (ix2 r c))) = _
      rw [iota_single_apply, iota_single_apply]
      rfl
    rw [h]
    congr 1
    have ht : ∀ n < 256, (BitVec.ofNat 32 n).toInt = n := fun n hn => by
      rw [BitVec.toInt_eq_toNat_cond, BitVec.toNat_ofNat, Nat.mod_eq_of_lt (by omega), if_pos (by omega)]
    rw [Bool.eq_iff_iff, BitVec.sle_iff_toInt_le, ht _ r.isLt, ht _ c.isLt, decide_eq_true_iff]
    omega
  have hs : masked s (ix2 r c) = Scalar.select (k0_pay122 (ix2 r c)) (s (ix2 r c)) (Ideal.ofBits .f32 0xFF800000#32) := rfl
  rw [hs, hb, neg_inf]
  by_cases hl : r.val ≤ c.val
  · rw [if_pos hl, decide_eq_true hl]; rfl
  · rw [if_neg hl, decide_eq_false hl]; rfl

theorem scores_diag (x0 : Vec Ideal S1x1024x256 .bf16) (x1 : Vec Ideal S1x2304x1024 .bf16) (p : ℕ) (hp : p < 9)
    (h : Fin 8) (hn : 256 * p + 256 ≤ 2304) (r c : Fin 256) :
    masked (scores x0 x1 (256 * p) hn h) (ix2 r c) = sc x0 x1 p h c (256 * p + r.val) := by
  rw [masked_apply, scores_apply]
  unfold sc
  rw [dif_pos (by omega)]
  by_cases hl : r.val ≤ c.val
  · rw [if_pos hl, if_pos (by omega)]
  · rw [if_neg hl, if_neg (by omega)]

theorem vRows_apply (x2 : Vec Ideal S1x512x2304 .bf16) (n : ℕ) (hn : n + 256 ≤ 2304) (h : Fin 8) (d : Fin 64) (r : Fin 256) :
    vRows x2 n hn h (ix3 0 d r) = vl x2 h d (n + r.val) := by
  unfold vl
  rw [dif_pos (by omega)]
  rfl

/-- All heads' states after the first `n` keys. -/
def AllGood (x0 : Vec Ideal S1x1024x256 .bf16) (x1 : Vec Ideal S1x2304x1024 .bf16) (x2 : Vec Ideal S1x512x2304 .bf16) (p n : ℕ)
    (a : Carried Ideal) : Prop :=
  ∀ h : Fin 8, Good (sc x0 x1 p h) (vl x2 h) n (maxOf a h) (sumOf a h) (mixOf a h)

/-- What the loop starts from. -/
def start : Carried Ideal :=
  (k0_pay123, k0_pay124, k0_pay125, k0_pay126, k0_pay127, k0_pay128, k0_pay129, k0_pay130, k0_pay131, k0_pay132, k0_pay133,
    k0_pay134, k0_pay135, k0_pay136, k0_pay137, k0_pay138, k0_pay139, k0_pay140, k0_pay141, k0_pay142, k0_pay143, k0_pay144,
    k0_pay145, k0_pay146)

theorem start_good (x0 : Vec Ideal S1x1024x256 .bf16) (x1 : Vec Ideal S1x2304x1024 .bf16) (x2 : Vec Ideal S1x512x2304 .bf16) (p : ℕ) :
    AllGood x0 x1 x2 p 0 start := by
  intro h c
  rw [peak_zero, total_zero]
  have hm : maxOf start h (ix2 0 c) = Ideal.ofBits .f32 0xFF800000#32 := by fin_cases h <;> rfl
  have hl : sumOf start h (ix2 0 c) = Ideal.ofBits .f32 0x00000000#32 := by fin_cases h <;> rfl
  have ha : ∀ d : Fin 64, mixOf start h (ix2 d c) = Ideal.ofBits .f32 0x00000000#32 := fun d => by fin_cases h <;> rfl
  have hz : Ideal.ofBits .f32 0x00000000#32 = 0 := by simp [Ideal.ofBits, Ideal.ieee]
  refine ⟨hm.trans neg_inf, hl.trans hz, fun d => ?_⟩
  rw [mix_zero]
  exact (ha d).trans hz

theorem step_good {x0 : Vec Ideal S1x1024x256 .bf16} {x1 : Vec Ideal S1x2304x1024 .bf16} {x2 : Vec Ideal S1x512x2304 .bf16} {p n : ℕ}
    (he : ∀ h c j, sc x0 x1 p h c j ≠ ⊤) (hn : n + 256 ≤ 2304) {s : Fin 8 → FVec Ideal S256x256 .f32} {a : Carried Ideal}
    (hg : AllGood x0 x1 x2 p n a) (hs : ∀ h (r c : Fin 256), s h (ix2 r c) = sc x0 x1 p h c (n + r.val)) :
    AllGood x0 x1 x2 p (n + 256) (stepAll s (vRows x2 n hn) a) := by
  intro h
  unfold stepAll
  rw [maxOf_carried, sumOf_carried, mixOf_carried]
  exact good_step (he h) (hg h) (hs h) fun d r => vRows_apply x2 n hn h d r

section Loop

variable (𝒱 : Variants) (c : Dev nD) (bd : Option 𝒱.V) (i : grid0.Coords) (arg2 : Memref sig .tc .vmem S1x1024x256 .bf16) (harg2 : arg2.IsWhole) (arg3 : Memref sig .tc .vmem S1x2304x1024 .bf16) (harg3 : arg3.IsWhole) (arg4 : Memref sig .tc .vmem S1x512x2304 .bf16) (harg4 : arg4.IsWhole) (arg5 : Memref sig .tc .vmem S1x256x512 .bf16) (harg5 : arg5.IsWhole) (arg1 : BitVec 32) (v2 : IVec S256x256 1) (v3 : FVec Ideal S1x256 .f32) (v4 : FVec Ideal S1x256 .f32) (v5 : FVec Ideal S1x256 .f32) (v6 : FVec Ideal S1x256 .f32) (v7 : FVec Ideal S1x256 .f32) (v8 : FVec Ideal S1x256 .f32) (v9 : FVec Ideal S1x256 .f32) (v10 : FVec Ideal S1x256 .f32) (v11 : FVec Ideal S1x256 .f32) (v12 : FVec Ideal S1x256 .f32) (v13 : FVec Ideal S1x256 .f32) (v14 : FVec Ideal S1x256 .f32) (v15 : FVec Ideal S1x256 .f32) (v16 : FVec Ideal S1x256 .f32) (v17 : FVec Ideal S1x256 .f32) (v18 : FVec Ideal S1x256 .f32) (v19 : FVec Ideal S64x256 .f32) (v20 : FVec Ideal S64x256 .f32) (v21 : FVec Ideal S64x256 .f32) (v22 : FVec Ideal S64x256 .f32) (v23 : FVec Ideal S64x256 .f32) (v24 : FVec Ideal S64x256 .f32) (v25 : FVec Ideal S64x256 .f32) (v26 : FVec Ideal S64x256 .f32) (c0_i32 v31 : BitVec 32) (x0 : Vec Ideal S1x1024x256 .bf16) (x1 : Vec Ideal S1x2304x1024 .bf16) (x2 : Vec Ideal S1x512x2304 .bf16)

/-- After `k` trips every head's state is the state after `256 * k` keys. -/
theorem loop_good (he : ∀ h c j, sc x0 x1 (i 1).val h c j ≠ ⊤) (k : ℕ) (hk : k ≤ (i 1).val) :
    AllGood x0 x1 x2 (i 1).val (256 * k) (st_k0_t1 (F := Ideal) 𝒱 c bd i arg2 harg2 arg3 harg3 arg4 harg4 arg5 harg5 arg1 v2 v3 v4 v5 v6 v7 v8 v9 v10 v11 v12 v13 v14 v15 v16 v17 v18 v19 v20 v21 v22 v23 v24 v25 v26 c0_i32 v31 (harg2.unread x0) (harg3.unread x1) (harg4.unread x2) start k) := by
  induction k with
  | zero => exact start_good x0 x1 x2 _
  | succ k ih =>
    have hi : (i 1).val < 9 := (i 1).isLt
    have ht : k < (k0_t1_loop i).trips := by rw [trips_main]; omega
    have hs := st_k0_t1_succ (F := Ideal) 𝒱 c bd i arg2 harg2 arg3 harg3 arg4 harg4 arg5 harg5 arg1 v2 v3 v4 v5 v6 v7 v8 v9 v10 v11 v12 v13 v14 v15 v16 v17 v18 v19 v20 v21 v22 v23 v24 v25 v26 c0_i32 v31 (harg2.unread x0) (harg3.unread x1) (harg4.unread x2) start ⟨k, ht⟩
    have hst := trip_loads (F := Ideal) 𝒱 c bd i arg2 harg2 arg3 harg3 arg4 harg4 arg5 harg5 arg1 v2 v3 v4 v5 v6 v7 v8 v9 v10 v11 v12 v13 v14 v15 v16 v17 v18 v19 v20 v21 v22 v23 v24 v25 v26 c0_i32 v31 x0 x1 x2 ⟨k, ht⟩
      (st_k0_t1 (F := Ideal) 𝒱 c bd i arg2 harg2 arg3 harg3 arg4 harg4 arg5 harg5 arg1 v2 v3 v4 v5 v6 v7 v8 v9 v10 v11 v12 v13 v14 v15 v16 v17 v18 v19 v20 v21 v22 v23 v24 v25 v26 c0_i32 v31 (harg2.unread x0) (harg3.unread x1) (harg4.unread x2) start k)
    have hh := trip_heads (F := Ideal) i arg2 harg2 arg3 harg3 arg4 harg4 x0 x1 x2 ⟨k, ht⟩
    rw [hh.1, hh.2] at hst
    rw [show 256 * (k + 1) = 256 * k + 256 by ring]
    rw [show st_k0_t1 (F := Ideal) 𝒱 c bd i arg2 harg2 arg3 harg3 arg4 harg4 arg5 harg5 arg1 v2 v3 v4 v5 v6 v7 v8 v9 v10 v11 v12 v13 v14 v15 v16 v17 v18 v19 v20 v21 v22 v23 v24 v25 v26 c0_i32 v31 (harg2.unread x0) (harg3.unread x1) (harg4.unread x2) start (k + 1) = _ from hs.trans hst]
    exact step_good he _ (ih (by omega)) fun h r c => scores_before x0 x1 _ k (by omega) hi h _ r c

end Loop

end Cert.Proof.Attn
-- ==== Proof.Out.lean ====
/- The block a grid point writes: four pairs of heads, each the normalised weighted sums turned so that a query is a row. -/
module

public import proofs.«01_k».proof.Proof.Block

@[expose] public section

set_option maxRecDepth 16384

noncomputable section

namespace Cert.Proof.Attn

open Idealize.ShloMosaic Idealize.ShloMosaic.TcCoe Idealize.SL.Sem Cert.KernelIdeal Cert.KernelIdeal.Gen Cert.Proof.Online

section Ops

variable {F : FTy → Type} [FloatOps F]

/-- One head's weighted sums over its sum. -/
def normed (l : FVec F S1x256 .f32) (a : FVec F S64x256 .f32) : FVec F S64x256 .f32 :=
  mulf a (broadcastTo S64x256 (divf (broadcast S1x256 (Scalar.ofBits .f32 0x3F800000#32)) l) broadcasts_S1x256_S64x256)

/-- Two heads side by side, a query a row. -/
def pairOut (l l' : FVec F S1x256 .f32) (a a' : FVec F S64x256 .f32) : FVec F S1x256x128 .bf16 :=
  shapeCast S1x256x128 (truncf .bf16 (transpose S256x128 [1, 0]
    (concatenate S128x256 0 [⟨S64x256, normed l a⟩, ⟨S64x256, normed l' a'⟩] concatenates_S64x256_S64x256_S128x256_d0)
    transposes_S128x256_p1_0_S256x128) bitsLt_bf16_f32) shapeCasts_S256x128_S1x256x128

/-- Heads `a` and `b` of a carried value. -/
def pairOf (y : Carried F) (a b : Fin 8) : FVec F S1x256x128 .bf16 :=
  pairOut (sumOf y a) (sumOf y b) (mixOf y a) (mixOf y b)

end Ops

section Run

variable {F : FTy → Type} [FloatOps F]
variable (c : Dev nD) (i : grid0.Coords) (arg2 : Memref sig .tc .vmem S1x1024x256 .bf16) (harg2 : arg2.IsWhole) (arg3 : Memref sig .tc .vmem S1x2304x1024 .bf16) (harg3 : arg3.IsWhole) (arg4 : Memref sig .tc .vmem S1x512x2304 .bf16) (harg4 : arg4.IsWhole) (arg5 : Memref sig .tc .vmem S1x256x512 .bf16) (harg5 : arg5.IsWhole) (x0 : Vec F S1x1024x256 .bf16) (x1 : Vec F S1x2304x1024 .bf16) (x2 : Vec F S1x512x2304 .bf16)

/-- What the loop leaves. -/
def loopEnd : Carried F :=
  st_k0_t1 (F := F) Variants.none c none i arg2 harg2 arg3 harg3 arg4 harg4 arg5 harg5 (BitVec.ofNat 32 (i 1).val) k0_pay122 k0_pay123 k0_pay124 k0_pay125 k0_pay126 k0_pay127 k0_pay128 k0_pay129 k0_pay130 k0_pay131 k0_pay132 k0_pay133 k0_pay134 k0_pay135 k0_pay136 k0_pay137 k0_pay138 k0_pay139 k0_pay140 k0_pay141 k0_pay142 k0_pay143 k0_pay144 k0_pay145 k0_pay146 (0#32) (kernelRun0_A.sl.v31 i) (harg2.unread x0) (harg3.unread x1) (harg4.unread x2)
    (k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146) (Scf.trips (k0_t1_loop i).lb (k0_t1_loop i).ub (k0_t1_loop i).st)

/-- A carried value, part by part. -/
def spread (x : Carried F) : Carried F :=
  (x.1, x.2.1, x.2.2.1, x.2.2.2.1, x.2.2.2.2.1, x.2.2.2.2.2.1, x.2.2.2.2.2.2.1, x.2.2.2.2.2.2.2.1, x.2.2.2.2.2.2.2.2.1, x.2.2.2.2.2.2.2.2.2.1, x.2.2.2.2.2.2.2.2.2.2.1, x.2.2.2.2.2.2.2.2.2.2.2.1, x.2.2.2.2.2.2.2.2.2.2.2.2.1, x.2.2.2.2.2.2.2.2.2.2.2.2.2.1, x.2.2.2.2.2.2.2.2.2.2.2.2.2.2.1, x.2.2.2.2.2.2.2.2.2.2.2.2.2.2.2.1, x.2.2.2.2.2.2.2.2.2.2.2.2.2.2.2.2.1, x.2.2.2.2.2.2.2.2.2.2.2.2.2.2.2.2.2.1, x.2.2.2.2.2.2.2.2.2.2.2.2.2.2.2.2.2.2.1, x.2.2.2.2.2.2.2.2.2.2.2.2.2.2.2.2.2.2.2.1, x.2.2.2.2.2.2.2.2.2.2.2.2.2.2.2.2.2.2.2.2.1, x.2.2.2.2.2.2.2.2.2.2.2.2.2.2.2.2.2.2.2.2.2.1, x.2.2.2.2.2.2.2.2.2.2.2.2.2.2.2.2.2.2.2.2.2.2.1, x.2.2.2.2.2.2.2.2.2.2.2.2.2.2.2.2.2.2.2.2.2.2.2)

/-- What the second loop, which does no trip, leaves. -/
def restEnd : Carried F :=
  st_k0_t2 (F := F) Variants.none c none i arg2 harg2 arg3 harg3 arg4 harg4 arg5 harg5 (BitVec.ofNat 32 (i 1).val) k0_pay122 k0_pay123 k0_pay124 k0_pay125 k0_pay126 k0_pay127 k0_pay128 k0_pay129 k0_pay130 k0_pay131 k0_pay132 k0_pay133 k0_pay134 k0_pay135 k0_pay136 k0_pay137 k0_pay138 k0_pay139 k0_pay140 k0_pay141 k0_pay142 k0_pay143 k0_pay144 k0_pay145 k0_pay146 (0#32) (kernelRun0_A.sl.v31 i) (harg2.unread x0) (harg3.unread x1) (harg4.unread x2) (spread (loopEnd c i arg2 harg2 arg3 harg3 arg4 harg4 arg5 harg5 x0 x1 x2)) (Scf.trips (k0_t2_loop i).lb (k0_t2_loop i).ub (k0_t2_loop i).st)

theorem restEnd_eq : restEnd c i arg2 harg2 arg3 harg3 arg4 harg4 arg5 harg5 x0 x1 x2
    = loopEnd c i arg2 harg2 arg3 harg3 arg4 harg4 arg5 harg5 x0 x1 x2 := by
  unfold restEnd
  rw [show Scf.trips (k0_t2_loop i).lb (k0_t2_loop i).ub (k0_t2_loop i).st = 0 from trips_rest i]
  generalize loopEnd c i arg2 harg2 arg3 harg3 arg4 harg4 arg5 harg5 x0 x1 x2 = y
  rfl

/-- The diagonal step over the loads it does. -/
def lastLoads : Carried F :=
  stepAll (fun h => masked (![score (View.readAt (Elt F) arg3.view (Rect.unit (s := S1x2304x1024) (k0_off33 i) S1x256x128.size (k0_off33_inb i)).toLoadRect (harg3.unread x1))
        (View.readAt (Elt F) arg2.view (Rect.unit (s := S1x1024x256) ![0, 0, 0] S1x128x256.size inb_S1x1024x256_S1x128x256_0_0_0).toLoadRect (harg2.unread x0)),
      score (View.readAt (Elt F) arg3.view (Rect.unit (s := S1x2304x1024) (k0_off34 i) S1x256x128.size (k0_off34_inb i)).toLoadRect (harg3.unread x1))
        (View.readAt (Elt F) arg2.view (Rect.unit (s := S1x1024x256) ![0, 128, 0] S1x128x256.size inb_S1x1024x256_S1x128x256_0_128_0).toLoadRect (harg2.unread x0)),
      score (View.readAt (Elt F) arg3.view (Rect.unit (s := S1x2304x1024) (k0_off35 i) S1x256x128.size (k0_off35_inb i)).toLoadRect (harg3.unread x1))
        (View.readAt (Elt F) arg2.view (Rect.unit (s := S1x1024x256) ![0, 256, 0] S1x128x256.size inb_S1x1024x256_S1x128x256_0_256_0).toLoadRect (harg2.unread x0)),
      score (View.readAt (Elt F) arg3.view (Rect.unit (s := S1x2304x1024) (k0_off36 i) S1x256x128.size (k0_off36_inb i)).toLoadRect (harg3.unread x1))
        (View.readAt (Elt F) arg2.view (Rect.unit (s := S1x1024x256) ![0, 384, 0] S1x128x256.size inb_S1x1024x256_S1x128x256_0_384_0).toLoadRect (harg2.unread x0)),
      score (View.readAt (Elt F) arg3.view (Rect.unit (s := S1x2304x1024) (k0_off37 i) S1x256x128.size (k0_off37_inb i)).toLoadRect (harg3.unread x1))
        (View.readAt (Elt F) arg2.view (Rect.unit (s := S1x1024x256) ![0, 512, 0] S1x128x256.size inb_S1x1024x256_S1x128x256_0_512_0).toLoadRect (harg2.unread x0)),
      score (View.readAt (Elt F) arg3.view (Rect.unit (s := S1x2304x1024) (k0_off38 i) S1x256x128.size (k0_off38_inb i)).toLoadRect (harg3.unread x1))
        (View.readAt (Elt F) arg2.view (Rect.unit (s := S1x1024x256) ![0, 640, 0] S1x128x256.size inb_S1x1024x256_S1x128x256_0_640_0).toLoadRect (harg2.unread x0)),
      score (View.readAt (Elt F) arg3.view (Rect.unit (s := S1x2304x1024) (k0_off39 i) S1x256x128.size (k0_off39_inb i)).toLoadRect (harg3.unread x1))
        (View.readAt (Elt F) arg2.view (Rect.unit (s := S1x1024x256) ![0, 768, 0] S1x128x256.size inb_S1x1024x256_S1x128x256_0_768_0).toLoadRect (harg2.unread x0)),
      score (View.readAt (Elt F) arg3.view (Rect.unit (s := S1x2304x1024) (k0_off40 i) S1x256x128.size (k0_off40_inb i)).toLoadRect (harg3.unread x1))
        (View.readAt (Elt F) arg2.view (Rect.unit (s := S1x1024x256) ![0, 896, 0] S1x128x256.size inb_S1x1024x256_S1x128x256_0_896_0).toLoadRect (harg2.unread x0))] h))
    ![View.readAt (Elt F) arg4.view (Rect.unit (s := S1x512x2304) (k0_off41 i) S1x64x256.size (k0_off41_inb i)).toLoadRect (harg4.unread x2),
      View.readAt (Elt F) arg4.view (Rect.unit (s := S1x512x2304) (k0_off42 i) S1x64x256.size (k0_off42_inb i)).toLoadRect (harg4.unread x2),
      View.readAt (Elt F) arg4.view (Rect.unit (s := S1x512x2304) (k0_off43 i) S1x64x256.size (k0_off43_inb i)).toLoadRect (harg4.unread x2),
      View.readAt (Elt F) arg4.view (Rect.unit (s := S1x512x2304) (k0_off44 i) S1x64x256.size (k0_off44_inb i)).toLoadRect (harg4.unread x2),
      View.readAt (Elt F) arg4.view (Rect.unit (s := S1x512x2304) (k0_off45 i) S1x64x256.size (k0_off45_inb i)).toLoadRect (harg4.unread x2),
      View.readAt (Elt F) arg4.view (Rect.unit (s := S1x512x2304) (k0_off46 i) S1x64x256.size (k0_off46_inb i)).toLoadRect (harg4.unread x2),
      View.readAt (Elt F) arg4.view (Rect.unit (s := S1x512x2304) (k0_off47 i) S1x64x256.size (k0_off47_inb i)).toLoadRect (harg4.unread x2),
      View.readAt (Elt F) arg4.view (Rect.unit (s := S1x512x2304) (k0_off48 i) S1x64x256.size (k0_off48_inb i)).toLoadRect (harg4.unread x2)]
    (restEnd c i arg2 harg2 arg3 harg3 arg4 harg4 arg5 harg5 x0 x1 x2)

/-- The final state of the heads. -/
def final : Carried F :=
  stepAll (fun h => masked (scores x0 x1 (256 * (i 1).val) (by have h : (i 1).val < 9 := (i 1).isLt; omega) h))
    (vRows x2 (256 * (i 1).val) (by have h : (i 1).val < 9 := (i 1).isLt; omega))
    (loopEnd c i arg2 harg2 arg3 harg3 arg4 harg4 arg5 harg5 x0 x1 x2)

theorem lastLoads_eq : lastLoads c i arg2 harg2 arg3 harg3 arg4 harg4 arg5 harg5 x0 x1 x2
    = final c i arg2 harg2 arg3 harg3 arg4 harg4 arg5 harg5 x0 x1 x2 := by
  have hh := last_heads (F := F) i arg2 harg2 arg3 harg3 arg4 harg4 x0 x1 x2
  unfold lastLoads final
  rw [hh.1, hh.2, restEnd_eq]

/-! ## The printed pieces are the steps -/

theorem sum_pay0 (m l : FVec F S1x256 .f32) (s : FVec F S256x256 .f32) (vb : Vec F S1x64x256 .bf16) (a : FVec F S64x256 .f32) :
    k0_pay160 m l s = newSum m l s := rfl
theorem mix_pay0 (m l : FVec F S1x256 .f32) (s : FVec F S256x256 .f32) (vb : Vec F S1x64x256 .bf16) (a : FVec F S64x256 .f32) :
    k0_pay199 a (k0_pay158 m s) (k0_pay161 m s) vb = newMix m s vb a := rfl
theorem sum_pay1 (m l : FVec F S1x256 .f32) (s : FVec F S256x256 .f32) (vb : Vec F S1x64x256 .bf16) (a : FVec F S64x256 .f32) :
    k0_pay165 m l s = newSum m l s := rfl
theorem mix_pay1 (m l : FVec F S1x256 .f32) (s : FVec F S256x256 .f32) (vb : Vec F S1x64x256 .bf16) (a : FVec F S64x256 .f32) :
    k0_pay200 a (k0_pay163 m s) (k0_pay166 m s) vb = newMix m s vb a := rfl
theorem sum_pay2 (m l : FVec F S1x256 .f32) (s : FVec F S256x256 .f32) (vb : Vec F S1x64x256 .bf16) (a : FVec F S64x256 .f32) :
    k0_pay170 m l s = newSum m l s := rfl
theorem mix_pay2 (m l : FVec F S1x256 .f32) (s : FVec F S256x256 .f32) (vb : Vec F S1x64x256 .bf16) (a : FVec F S64x256 .f32) :
    k0_pay201 a (k0_pay168 m s) (k0_pay171 m s) vb = newMix m s vb a := rfl
theorem sum_pay3 (m l : FVec F S1x256 .f32) (s : FVec F S256x256 .f32) (vb : Vec F S1x64x256 .bf16) (a : FVec F S64x256 .f32) :
    k0_pay176 l (k0_pay173 m s) (k0_pay174 m s) = newSum m l s := rfl
theorem mix_pay3 (m l : FVec F S1x256 .f32) (s : FVec F S256x256 .f32) (vb : Vec F S1x64x256 .bf16) (a : FVec F S64x256 .f32) :
    k0_pay202 a (k0_pay173 m s) (k0_pay177 (k0_pay174 m s)) vb = newMix m s vb a := rfl
theorem sum_pay4 (m l : FVec F S1x256 .f32) (s : FVec F S256x256 .f32) (vb : Vec F S1x64x256 .bf16) (a : FVec F S64x256 .f32) :
    k0_pay181 m l s = newSum m l s := rfl
theorem mix_pay4 (m l : FVec F S1x256 .f32) (s : FVec F S256x256 .f32) (vb : Vec F S1x64x256 .bf16) (a : FVec F S64x256 .f32) :
    k0_pay203 a (k0_pay179 m s) (k0_pay182 m s) vb = newMix m s vb a := rfl
theorem sum_pay5 (m l : FVec F S1x256 .f32) (s : FVec F S256x256 .f32) (vb : Vec F S1x64x256 .bf16) (a : FVec F S64x256 .f32) :
    k0_pay186 m l s = newSum m l s := rfl
theorem mix_pay5 (m l : FVec F S1x256 .f32) (s : FVec F S256x256 .f32) (vb : Vec F S1x64x256 .bf16) (a : FVec F S64x256 .f32) :
    k0_pay205 (k0_pay187 m s) (k0_pay204 a (k0_pay184 m s)) vb = newMix m s vb a := rfl
theorem sum_pay6 (m l : FVec F S1x256 .f32) (s : FVec F S256x256 .f32) (vb : Vec F S1x64x256 .bf16) (a : FVec F S64x256 .f32) :
    k0_pay191 m l s = newSum m l s := rfl
theorem mix_pay6 (m l : FVec F S1x256 .f32) (s : FVec F S256x256 .f32) (vb : Vec F S1x64x256 .bf16) (a : FVec F S64x256 .f32) :
    k0_pay206 a (k0_pay189 m s) (k0_pay192 m s) vb = newMix m s vb a := rfl
theorem sum_pay7 (m l : FVec F S1x256 .f32) (s : FVec F S256x256 .f32) (vb : Vec F S1x64x256 .bf16) (a : FVec F S64x256 .f32) :
    k0_pay197 l (k0_pay194 m s) (k0_pay195 m s) = newSum m l s := rfl
theorem mix_pay7 (m l : FVec F S1x256 .f32) (s : FVec F S256x256 .f32) (vb : Vec F S1x64x256 .bf16) (a : FVec F S64x256 .f32) :
    k0_pay207 a (k0_pay194 m s) (k0_pay198 (k0_pay195 m s)) vb = newMix m s vb a := rfl

theorem max_part0 : kernelRun0_A.sl.r c i arg2 harg2 arg3 harg3 arg4 harg4 arg5 harg5 x0 x1 x2 = (restEnd c i arg2 harg2 arg3 harg3 arg4 harg4 arg5 harg5 x0 x1 x2).1 := by
  unfold kernelRun0_A.sl.r restEnd spread loopEnd
  with_reducible rfl
theorem sum_part0 : kernelRun0_A.sl.r_8 c i arg2 harg2 arg3 harg3 arg4 harg4 arg5 harg5 x0 x1 x2 = (restEnd c i arg2 harg2 arg3 harg3 arg4 harg4 arg5 harg5 x0 x1 x2).2.2.2.2.2.2.2.2.1 := by
  unfold kernelRun0_A.sl.r_8 restEnd spread loopEnd
  with_reducible rfl
theorem mix_part0 : kernelRun0_A.sl.r_16 c i arg2 harg2 arg3 harg3 arg4 harg4 arg5 harg5 x0 x1 x2 = (restEnd c i arg2 harg2 arg3 harg3 arg4 harg4 arg5 harg5 x0 x1 x2).2.2.2.2.2.2.2.2.2.2.2.2.2.2.2.2.1 := by
  unfold kernelRun0_A.sl.r_16 restEnd spread loopEnd
  with_reducible rfl
theorem max_part1 : kernelRun0_A.sl.r_1 c i arg2 harg2 arg3 harg3 arg4 harg4 arg5 harg5 x0 x1 x2 = (restEnd c i arg2 harg2 arg3 harg3 arg4 harg4 arg5 harg5 x0 x1 x2).2.1 := by
  unfold kernelRun0_A.sl.r_1 restEnd spread loopEnd
  with_reducible rfl
theorem sum_part1 : kernelRun0_A.sl.r_9 c i arg2 harg2 arg3 harg3 arg4 harg4 arg5 harg5 x0 x1 x2 = (restEnd c i arg2 harg2 arg3 harg3 arg4 harg4 arg5 harg5 x0 x1 x2).2.2.2.2.2.2.2.2.2.1 := by
  unfold kernelRun0_A.sl.r_9 restEnd spread loopEnd
  with_reducible rfl
theorem mix_part1 : kernelRun0_A.sl.r_17 c i arg2 harg2 arg3 harg3 arg4 harg4 arg5 harg5 x0 x1 x2 = (restEnd c i arg2 harg2 arg3 harg3 arg4 harg4 arg5 harg5 x0 x1 x2).2.2.2.2.2.2.2.2.2.2.2.2.2.2.2.2.2.1 := by
  unfold kernelRun0_A.sl.r_17 restEnd spread loopEnd
  with_reducible rfl
theorem max_part2 : kernelRun0_A.sl.r_2 c i arg2 harg2 arg3 harg3 arg4 harg4 arg5 harg5 x0 x1 x2 = (restEnd c i arg2 harg2 arg3 harg3 arg4 harg4 arg5 harg5 x0 x1 x2).2.2.1 := by
  unfold kernelRun0_A.sl.r_2 restEnd spread loopEnd
  with_reducible rfl
theorem sum_part2 : kernelRun0_A.sl.r_10 c i arg2 harg2 arg3 harg3 arg4 harg4 arg5 harg5 x0 x1 x2 = (restEnd c i arg2 harg2 arg3 harg3 arg4 harg4 arg5 harg5 x0 x1 x2).2.2.2.2.2.2.2.2.2.2.1 := by
  unfold kernelRun0_A.sl.r_10 restEnd spread loopEnd
  with_reducible rfl
theorem mix_part2 : kernelRun0_A.sl.r_18 c i arg2 harg2 arg3 harg3 arg4 harg4 arg5 harg5 x0 x1 x2 = (restEnd c i arg2 harg2 arg3 harg3 arg4 harg4 arg5 harg5 x0 x1 x2).2.2.2.2.2.2.2.2.2.2.2.2.2.2.2.2.2.2.1 := by
  unfold kernelRun0_A.sl.r_18 restEnd spread loopEnd
  with_reducible rfl
theorem max_part3 : kernelRun0_A.sl.r_3 c i arg2 harg2 arg3 harg3 arg4 harg4 arg5 harg5 x0 x1 x2 = (restEnd c i arg2 harg2 arg3 harg3 arg4 harg4 arg5 harg5 x0 x1 x2).2.2.2.1 := by
  unfold kernelRun0_A.sl.r_3 restEnd spread loopEnd
  with_reducible rfl
theorem sum_part3 : kernelRun0_A.sl.r_11 c i arg2 harg2 arg3 harg3 arg4 harg4 arg5 harg5 x0 x1 x2 = (restEnd c i arg2 harg2 arg3 harg3 arg4 harg4 arg5 harg5 x0 x1 x2).2.2.2.2.2.2.2.2.2.2.2.1 := by
  unfold kernelRun0_A.sl.r_11 restEnd spread loopEnd
  with_reducible rfl
theorem mix_part3 : kernelRun0_A.sl.r_19 c i arg2 harg2 arg3 harg3 arg4 harg4 arg5 harg5 x0 x1 x2 = (restEnd c i arg2 harg2 arg3 harg3 arg4 harg4 arg5 harg5 x0 x1 x2).2.2.2.2.2.2.2.2.2.2.2.2.2.2.2.2.2.2.2.1 := by
  unfold kernelRun0_A.sl.r_19 restEnd spread loopEnd
  with_reducible rfl
theorem max_part4 : kernelRun0_A.sl.r_4 c i arg2 harg2 arg3 harg3 arg4 harg4 arg5 harg5 x0 x1 x2 = (restEnd c i arg2 harg2 arg3 harg3 arg4 harg4 arg5 harg5 x0 x1 x2).2.2.2.2.1 := by
  unfold kernelRun0_A.sl.r_4 restEnd spread loopEnd
  with_reducible rfl
theorem sum_part4 : kernelRun0_A.sl.r_12 c i arg2 harg2 arg3 harg3 arg4 harg4 arg5 harg5 x0 x1 x2 = (restEnd c i arg2 harg2 arg3 harg3 arg4 harg4 arg5 harg5 x0 x1 x2).2.2.2.2.2.2.2.2.2.2.2.2.1 := by
  unfold kernelRun0_A.sl.r_12 restEnd spread loopEnd
  with_reducible rfl
theorem mix_part4 : kernelRun0_A.sl.r_20 c i arg2 harg2 arg3 harg3 arg4 harg4 arg5 harg5 x0 x1 x2 = (restEnd c i arg2 harg2 arg3 harg3 arg4 harg4 arg5 harg5 x0 x1 x2).2.2.2.2.2.2.2.2.2.2.2.2.2.2.2.2.2.2.2.2.1 := by
  unfold kernelRun0_A.sl.r_20 restEnd spread loopEnd
  with_reducible rfl
theorem max_part5 : kernelRun0_A.sl.r_5 c i arg2 harg2 arg3 harg3 arg4 harg4 arg5 harg5 x0 x1 x2 = (restEnd c i arg2 harg2 arg3 harg3 arg4 harg4 arg5 harg5 x0 x1 x2).2.2.2.2.2.1 := by
  unfold kernelRun0_A.sl.r_5 restEnd spread loopEnd
  with_reducible rfl
theorem sum_part5 : kernelRun0_A.sl.r_13 c i arg2 harg2 arg3 harg3 arg4 harg4 arg5 harg5 x0 x1 x2 = (restEnd c i arg2 harg2 arg3 harg3 arg4 harg4 arg5 harg5 x0 x1 x2).2.2.2.2.2.2.2.2.2.2.2.2.2.1 := by
  unfold kernelRun0_A.sl.r_13 restEnd spread loopEnd
  with_reducible rfl
theorem mix_part5 : kernelRun0_A.sl.r_21 c i arg2 harg2 arg3 harg3 arg4 harg4 arg5 harg5 x0 x1 x2 = (restEnd c i arg2 harg2 arg3 harg3 arg4 harg4 arg5 harg5 x0 x1 x2).2.2.2.2.2.2.2.2.2.2.2.2.2.2.2.2.2.2.2.2.2.1 := by
  unfold kernelRun0_A.sl.r_21 restEnd spread loopEnd
  with_reducible rfl
theorem max_part6 : kernelRun0_A.sl.r_6 c i arg2 harg2 arg3 harg3 arg4 harg4 arg5 harg5 x0 x1 x2 = (restEnd c i arg2 harg2 arg3 harg3 arg4 harg4 arg5 harg5 x0 x1 x2).2.2.2.2.2.2.1 := by
  unfold kernelRun0_A.sl.r_6 restEnd spread loopEnd
  with_reducible rfl
theorem sum_part6 : kernelRun0_A.sl.r_14 c i arg2 harg2 arg3 harg3 arg4 harg4 arg5 harg5 x0 x1 x2 = (restEnd c i arg2 harg2 arg3 harg3 arg4 harg4 arg5 harg5 x0 x1 x2).2.2.2.2.2.2.2.2.2.2.2.2.2.2.1 := by
  unfold kernelRun0_A.sl.r_14 restEnd spread loopEnd
  with_reducible rfl
theorem mix_part6 : kernelRun0_A.sl.r_22 c i arg2 harg2 arg3 harg3 arg4 harg4 arg5 harg5 x0 x1 x2 = (restEnd c i arg2 harg2 arg3 harg3 arg4 harg4 arg5 harg5 x0 x1 x2).2.2.2.2.2.2.2.2.2.2.2.2.2.2.2.2.2.2.2.2.2.2.1 := by
  unfold kernelRun0_A.sl.r_22 restEnd spread loopEnd
  with_reducible rfl
theorem max_part7 : kernelRun0_A.sl.r_7 c i arg2 harg2 arg3 harg3 arg4 harg4 arg5 harg5 x0 x1 x2 = (restEnd c i arg2 harg2 arg3 harg3 arg4 harg4 arg5 harg5 x0 x1 x2).2.2.2.2.2.2.2.1 := by
  unfold kernelRun0_A.sl.r_7 restEnd spread loopEnd
  with_reducible rfl
theorem sum_part7 : kernelRun0_A.sl.r_15 c i arg2 harg2 arg3 harg3 arg4 harg4 arg5 harg5 x0 x1 x2 = (restEnd c i arg2 harg2 arg3 harg3 arg4 harg4 arg5 harg5 x0 x1 x2).2.2.2.2.2.2.2.2.2.2.2.2.2.2.2.1 := by
  unfold kernelRun0_A.sl.r_15 restEnd spread loopEnd
  with_reducible rfl
theorem mix_part7 : kernelRun0_A.sl.r_23 c i arg2 harg2 arg3 harg3 arg4 harg4 arg5 harg5 x0 x1 x2 = (restEnd c i arg2 harg2 arg3 harg3 arg4 harg4 arg5 harg5 x0 x1 x2).2.2.2.2.2.2.2.2.2.2.2.2.2.2.2.2.2.2.2.2.2.2.2 := by
  unfold kernelRun0_A.sl.r_23 restEnd spread loopEnd
  with_reducible rfl
theorem score_part0 : kernelRun0_A.sl.r_24 i arg2 harg2 arg3 harg3 x0 x1
    = masked (score (View.readAt (Elt F) arg3.view (Rect.unit (s := S1x2304x1024) (k0_off33 i) S1x256x128.size (k0_off33_inb i)).toLoadRect (harg3.unread x1))
      (View.readAt (Elt F) arg2.view (Rect.unit (s := S1x1024x256) ![0, 0, 0] S1x128x256.size inb_S1x1024x256_S1x128x256_0_0_0).toLoadRect (harg2.unread x0))) := rfl
theorem score_part1 : kernelRun0_A.sl.r_25 i arg2 harg2 arg3 harg3 x0 x1
    = masked (score (View.readAt (Elt F) arg3.view (Rect.unit (s := S1x2304x1024) (k0_off34 i) S1x256x128.size (k0_off34_inb i)).toLoadRect (harg3.unread x1))
      (View.readAt (Elt F) arg2.view (Rect.unit (s := S1x1024x256) ![0, 128, 0] S1x128x256.size inb_S1x1024x256_S1x128x256_0_128_0).toLoadRect (harg2.unread x0))) := rfl
theorem score_part2 : kernelRun0_A.sl.r_26 i arg2 harg2 arg3 harg3 x0 x1
    = masked (score (View.readAt (Elt F) arg3.view (Rect.unit (s := S1x2304x1024) (k0_off35 i) S1x256x128.size (k0_off35_inb i)).toLoadRect (harg3.unread x1))
      (View.readAt (Elt F) arg2.view (Rect.unit (s := S1x1024x256) ![0, 256, 0] S1x128x256.size inb_S1x1024x256_S1x128x256_0_256_0).toLoadRect (harg2.unread x0))) := rfl
theorem score_part3 : kernelRun0_A.sl.r_28 i arg2 harg2 arg3 harg3 x0 x1
    = masked (score (View.readAt (Elt F) arg3.view (Rect.unit (s := S1x2304x1024) (k0_off36 i) S1x256x128.size (k0_off36_inb i)).toLoadRect (harg3.unread x1))
      (View.readAt (Elt F) arg2.view (Rect.unit (s := S1x1024x256) ![0, 384, 0] S1x128x256.size inb_S1x1024x256_S1x128x256_0_384_0).toLoadRect (harg2.unread x0))) := rfl
theorem score_part4 : kernelRun0_A.sl.r_29 i arg2 harg2 arg3 harg3 x0 x1
    = masked (score (View.readAt (Elt F) arg3.view (Rect.unit (s := S1x2304x1024) (k0_off37 i) S1x256x128.size (k0_off37_inb i)).toLoadRect (harg3.unread x1))
      (View.readAt (Elt F) arg2.view (Rect.unit (s := S1x1024x256) ![0, 512, 0] S1x128x256.size inb_S1x1024x256_S1x128x256_0_512_0).toLoadRect (harg2.unread x0))) := rfl
theorem score_part5 : kernelRun0_A.sl.r_30 i arg2 harg2 arg3 harg3 x0 x1
    = masked (score (View.readAt (Elt F) arg3.view (Rect.unit (s := S1x2304x1024) (k0_off38 i) S1x256x128.size (k0_off38_inb i)).toLoadRect (harg3.unread x1))
      (View.readAt (Elt F) arg2.view (Rect.unit (s := S1x1024x256) ![0, 640, 0] S1x128x256.size inb_S1x1024x256_S1x128x256_0_640_0).toLoadRect (harg2.unread x0))) := rfl
theorem score_part6 : kernelRun0_A.sl.r_31 i arg2 harg2 arg3 harg3 x0 x1
    = masked (score (View.readAt (Elt F) arg3.view (Rect.unit (s := S1x2304x1024) (k0_off39 i) S1x256x128.size (k0_off39_inb i)).toLoadRect (harg3.unread x1))
      (View.readAt (Elt F) arg2.view (Rect.unit (s := S1x1024x256) ![0, 768, 0] S1x128x256.size inb_S1x1024x256_S1x128x256_0_768_0).toLoadRect (harg2.unread x0))) := rfl
theorem score_part7 : kernelRun0_A.sl.r_33 i arg2 harg2 arg3 harg3 x0 x1
    = masked (score (View.readAt (Elt F) arg3.view (Rect.unit (s := S1x2304x1024) (k0_off40 i) S1x256x128.size (k0_off40_inb i)).toLoadRect (harg3.unread x1))
      (View.readAt (Elt F) arg2.view (Rect.unit (s := S1x1024x256) ![0, 896, 0] S1x128x256.size inb_S1x1024x256_S1x128x256_0_896_0).toLoadRect (harg2.unread x0))) := rfl
theorem sum_end0 : kernelRun0_A.sl.r_35 c i arg2 harg2 arg3 harg3 arg4 harg4 arg5 harg5 x0 x1 x2 = sumOf (lastLoads c i arg2 harg2 arg3 harg3 arg4 harg4 arg5 harg5 x0 x1 x2) 0 := by
  unfold kernelRun0_A.sl.r_35
  rw [max_part0, sum_part0, score_part0]
  unfold lastLoads stepAll
  rw [sumOf_carried]
  generalize restEnd c i arg2 harg2 arg3 harg3 arg4 harg4 arg5 harg5 x0 x1 x2 = y
  exact sum_pay0 _ _ _ (fun _ => Scalar.ofBits .bf16 0) (mixOf y 0)
theorem mix_end0 : kernelRun0_A.sl.r_60 c i arg2 harg2 arg3 harg3 arg4 harg4 arg5 harg5 x0 x1 x2 = mixOf (lastLoads c i arg2 harg2 arg3 harg3 arg4 harg4 arg5 harg5 x0 x1 x2) 0 := by
  unfold kernelRun0_A.sl.r_60 kernelRun0_A.sl.r_36 kernelRun0_A.sl.r_34
  rw [max_part0, mix_part0, score_part0]
  unfold lastLoads stepAll
  rw [mixOf_carried]
  generalize restEnd c i arg2 harg2 arg3 harg3 arg4 harg4 arg5 harg5 x0 x1 x2 = y
  exact mix_pay0 _ (sumOf y 0) _ _ _
theorem sum_end1 : kernelRun0_A.sl.r_38 c i arg2 harg2 arg3 harg3 arg4 harg4 arg5 harg5 x0 x1 x2 = sumOf (lastLoads c i arg2 harg2 arg3 harg3 arg4 harg4 arg5 harg5 x0 x1 x2) 1 := by
  unfold kernelRun0_A.sl.r_38
  rw [max_part1, sum_part1, score_part1]
  unfold lastLoads stepAll
  rw [sumOf_carried]
  generalize restEnd c i arg2 harg2 arg3 harg3 arg4 harg4 arg5 harg5 x0 x1 x2 = y
  exact sum_pay1 _ _ _ (fun _ => Scalar.ofBits .bf16 0) (mixOf y 0)
theorem mix_end1 : kernelRun0_A.sl.r_61 c i arg2 harg2 arg3 harg3 arg4 harg4 arg5 harg5 x0 x1 x2 = mixOf (lastLoads c i arg2 harg2 arg3 harg3 arg4 harg4 arg5 harg5 x0 x1 x2) 1 := by
  unfold kernelRun0_A.sl.r_61 kernelRun0_A.sl.r_39 kernelRun0_A.sl.r_37
  rw [max_part1, mix_part1, score_part1]
  unfold lastLoads stepAll
  rw [mixOf_carried]
  generalize restEnd c i arg2 harg2 arg3 harg3 arg4 harg4 arg5 harg5 x0 x1 x2 = y
  exact mix_pay1 _ (sumOf y 0) _ _ _
theorem sum_end2 : kernelRun0_A.sl.r_41 c i arg2 harg2 arg3 harg3 arg4 harg4 arg5 harg5 x0 x1 x2 = sumOf (lastLoads c i arg2 harg2 arg3 harg3 arg4 harg4 arg5 harg5 x0 x1 x2) 2 := by
  unfold kernelRun0_A.sl.r_41
  rw [max_part2, sum_part2, score_part2]
  unfold lastLoads stepAll
  rw [sumOf_carried]
  generalize restEnd c i arg2 harg2 arg3 harg3 arg4 harg4 arg5 harg5 x0 x1 x2 = y
  exact sum_pay2 _ _ _ (fun _ => Scalar.ofBits .bf16 0) (mixOf y 0)
theorem mix_end2 : kernelRun0_A.sl.r_62 c i arg2 harg2 arg3 harg3 arg4 harg4 arg5 harg5 x0 x1 x2 = mixOf (lastLoads c i arg2 harg2 arg3 harg3 arg4 harg4 arg5 harg5 x0 x1 x2) 2 := by
  unfold kernelRun0_A.sl.r_62 kernelRun0_A.sl.r_42 kernelRun0_A.sl.r_40
  rw [max_part2, mix_part2, score_part2]
  unfold lastLoads stepAll
  rw [mixOf_carried]
  generalize restEnd c i arg2 harg2 arg3 harg3 arg4 harg4 arg5 harg5 x0 x1 x2 = y
  exact mix_pay2 _ (sumOf y 0) _ _ _
theorem sum_end3 : kernelRun0_A.sl.r_45 c i arg2 harg2 arg3 harg3 arg4 harg4 arg5 harg5 x0 x1 x2 = sumOf (lastLoads c i arg2 harg2 arg3 harg3 arg4 harg4 arg5 harg5 x0 x1 x2) 3 := by
  unfold kernelRun0_A.sl.r_45 kernelRun0_A.sl.r_43 kernelRun0_A.sl.r_44
  rw [max_part3, sum_part3, score_part3]
  unfold lastLoads stepAll
  rw [sumOf_carried]
  generalize restEnd c i arg2 harg2 arg3 harg3 arg4 harg4 arg5 harg5 x0 x1 x2 = y
  exact sum_pay3 _ _ _ (fun _ => Scalar.ofBits .bf16 0) (mixOf y 0)
theorem mix_end3 : kernelRun0_A.sl.r_63 c i arg2 harg2 arg3 harg3 arg4 harg4 arg5 harg5 x0 x1 x2 = mixOf (lastLoads c i arg2 harg2 arg3 harg3 arg4 harg4 arg5 harg5 x0 x1 x2) 3 := by
  unfold kernelRun0_A.sl.r_63 kernelRun0_A.sl.r_46 kernelRun0_A.sl.r_44 kernelRun0_A.sl.r_43
  rw [max_part3, mix_part3, score_part3]
  unfold lastLoads stepAll
  rw [mixOf_carried]
  generalize restEnd c i arg2 harg2 arg3 harg3 arg4 harg4 arg5 harg5 x0 x1 x2 = y
  exact mix_pay3 _ (sumOf y 0) _ _ _
theorem sum_end4 : kernelRun0_A.sl.r_48 c i arg2 harg2 arg3 harg3 arg4 harg4 arg5 harg5 x0 x1 x2 = sumOf (lastLoads c i arg2 harg2 arg3 harg3 arg4 harg4 arg5 harg5 x0 x1 x2) 4 := by
  unfold kernelRun0_A.sl.r_48
  rw [max_part4, sum_part4, score_part4]
  unfold lastLoads stepAll
  rw [sumOf_carried]
  generalize restEnd c i arg2 harg2 arg3 harg3 arg4 harg4 arg5 harg5 x0 x1 x2 = y
  exact sum_pay4 _ _ _ (fun _ => Scalar.ofBits .bf16 0) (mixOf y 0)
theorem mix_end4 : kernelRun0_A.sl.r_64 c i arg2 harg2 arg3 harg3 arg4 harg4 arg5 harg5 x0 x1 x2 = mixOf (lastLoads c i arg2 harg2 arg3 harg3 arg4 harg4 arg5 harg5 x0 x1 x2) 4 := by
  unfold kernelRun0_A.sl.r_64 kernelRun0_A.sl.r_49 kernelRun0_A.sl.r_47
  rw [max_part4, mix_part4, score_part4]
  unfold lastLoads stepAll
  rw [mixOf_carried]
  generalize restEnd c i arg2 harg2 arg3 harg3 arg4 harg4 arg5 harg5 x0 x1 x2 = y
  exact mix_pay4 _ (sumOf y 0) _ _ _
theorem sum_end5 : kernelRun0_A.sl.r_51 c i arg2 harg2 arg3 harg3 arg4 harg4 arg5 harg5 x0 x1 x2 = sumOf (lastLoads c i arg2 harg2 arg3 harg3 arg4 harg4 arg5 harg5 x0 x1 x2) 5 := by
  unfold kernelRun0_A.sl.r_51
  rw [max_part5, sum_part5, score_part5]
  unfold lastLoads stepAll
  rw [sumOf_carried]
  generalize restEnd c i arg2 harg2 arg3 harg3 arg4 harg4 arg5 harg5 x0 x1 x2 = y
  exact sum_pay5 _ _ _ (fun _ => Scalar.ofBits .bf16 0) (mixOf y 0)
theorem mix_end5 : kernelRun0_A.sl.r_66 c i arg2 harg2 arg3 harg3 arg4 harg4 arg5 harg5 x0 x1 x2 = mixOf (lastLoads c i arg2 harg2 arg3 harg3 arg4 harg4 arg5 harg5 x0 x1 x2) 5 := by
  unfold kernelRun0_A.sl.r_66 kernelRun0_A.sl.r_65 kernelRun0_A.sl.r_52 kernelRun0_A.sl.r_50
  rw [max_part5, mix_part5, score_part5]
  unfold lastLoads stepAll
  rw [mixOf_carried]
  generalize restEnd c i arg2 harg2 arg3 harg3 arg4 harg4 arg5 harg5 x0 x1 x2 = y
  exact mix_pay5 _ (sumOf y 0) _ _ _
theorem sum_end6 : kernelRun0_A.sl.r_54 c i arg2 harg2 arg3 harg3 arg4 harg4 arg5 harg5 x0 x1 x2 = sumOf (lastLoads c i arg2 harg2 arg3 harg3 arg4 harg4 arg5 harg5 x0 x1 x2) 6 := by
  unfold kernelRun0_A.sl.r_54
  rw [max_part6, sum_part6, score_part6]
  unfold lastLoads stepAll
  rw [sumOf_carried]
  generalize restEnd c i arg2 harg2 arg3 harg3 arg4 harg4 arg5 harg5 x0 x1 x2 = y
  exact sum_pay6 _ _ _ (fun _ => Scalar.ofBits .bf16 0) (mixOf y 0)
theorem mix_end6 : kernelRun0_A.sl.r_67 c i arg2 harg2 arg3 harg3 arg4 harg4 arg5 harg5 x0 x1 x2 = mixOf (lastLoads c i arg2 harg2 arg3 harg3 arg4 harg4 arg5 harg5 x0 x1 x2) 6 := by
  unfold kernelRun0_A.sl.r_67 kernelRun0_A.sl.r_55 kernelRun0_A.sl.r_53
  rw [max_part6, mix_part6, score_part6]
  unfold lastLoads stepAll
  rw [mixOf_carried]
  generalize restEnd c i arg2 harg2 arg3 harg3 arg4 harg4 arg5 harg5 x0 x1 x2 = y
  exact mix_pay6 _ (sumOf y 0) _ _ _
theorem sum_end7 : kernelRun0_A.sl.r_58 c i arg2 harg2 arg3 harg3 arg4 harg4 arg5 harg5 x0 x1 x2 = sumOf (lastLoads c i arg2 harg2 arg3 harg3 arg4 harg4 arg5 harg5 x0 x1 x2) 7 := by
  unfold kernelRun0_A.sl.r_58 kernelRun0_A.sl.r_56 kernelRun0_A.sl.r_57
  rw [max_part7, sum_part7, score_part7]
  unfold lastLoads stepAll
  rw [sumOf_carried]
  generalize restEnd c i arg2 harg2 arg3 harg3 arg4 harg4 arg5 harg5 x0 x1 x2 = y
  exact sum_pay7 _ _ _ (fun _ => Scalar.ofBits .bf16 0) (mixOf y 0)
theorem mix_end7 : kernelRun0_A.sl.r_68 c i arg2 harg2 arg3 harg3 arg4 harg4 arg5 harg5 x0 x1 x2 = mixOf (lastLoads c i arg2 harg2 arg3 harg3 arg4 harg4 arg5 harg5 x0 x1 x2) 7 := by
  unfold kernelRun0_A.sl.r_68 kernelRun0_A.sl.r_59 kernelRun0_A.sl.r_57 kernelRun0_A.sl.r_56
  rw [max_part7, mix_part7, score_part7]
  unfold lastLoads stepAll
  rw [mixOf_carried]
  generalize restEnd c i arg2 harg2 arg3 harg3 arg4 harg4 arg5 harg5 x0 x1 x2 = y
  exact mix_pay7 _ (sumOf y 0) _ _ _

/-- The stores of a grid point. -/
theorem run_stores : (kernelRun0_A c i arg2 harg2 arg3 harg3 arg4 harg4 arg5 harg5 x0 x1 x2).1
    = [⟨Rect.unit (s := S1x256x512) ![0, 0, 384] S1x256x128.size inb_S1x256x512_S1x256x128_0_0_384,
          pairOf (lastLoads c i arg2 harg2 arg3 harg3 arg4 harg4 arg5 harg5 x0 x1 x2) 6 7⟩,
        ⟨Rect.unit (s := S1x256x512) ![0, 0, 256] S1x256x128.size inb_S1x256x512_S1x256x128_0_0_256,
          pairOf (lastLoads c i arg2 harg2 arg3 harg3 arg4 harg4 arg5 harg5 x0 x1 x2) 4 5⟩,
        ⟨Rect.unit (s := S1x256x512) ![0, 0, 128] S1x256x128.size inb_S1x256x512_S1x256x128_0_0_128,
          pairOf (lastLoads c i arg2 harg2 arg3 harg3 arg4 harg4 arg5 harg5 x0 x1 x2) 2 3⟩,
        ⟨Rect.unit (s := S1x256x512) ![0, 0, 0] S1x256x128.size inb_S1x256x512_S1x256x128_0_0_0,
          pairOf (lastLoads c i arg2 harg2 arg3 harg3 arg4 harg4 arg5 harg5 x0 x1 x2) 0 1⟩] := by
  unfold kernelRun0_A
  dsimp only
  unfold kernelRun0_A.sl.r_69
  rw [sum_end0, mix_end0, sum_end1, mix_end1, sum_end2, mix_end2, sum_end3, mix_end3, sum_end4, mix_end4, sum_end5, mix_end5, sum_end6, mix_end6, sum_end7, mix_end7]
  generalize lastLoads c i arg2 harg2 arg3 harg3 arg4 harg4 arg5 harg5 x0 x1 x2 = y
  rfl

end Run

end Cert.Proof.Attn
-- ==== Proof.Written.lean ====
/- The block a grid point writes, entry by entry: the softmax-weighted sum of the values. -/
module

public import proofs.«01_k».proof.Proof.Out

@[expose] public section

set_option maxRecDepth 16384

noncomputable section

namespace Cert.Proof.Attn

open Idealize.ShloMosaic Idealize.ShloMosaic.TcCoe Idealize.SL.Sem Cert.KernelIdeal Cert.KernelIdeal.Gen Cert.Proof.Online

theorem normed_apply (l : FVec Ideal S1x256 .f32) (a : FVec Ideal S64x256 .f32) (d : Fin 64) (r : Fin 256) :
    normed l a (ix2 d r) = a (ix2 d r) * Ideal.div 1 (l (ix2 0 r)) := by
  unfold normed
  pointwise []

theorem pairOut_apply (l l' : FVec Ideal S1x256 .f32) (a a' : FVec Ideal S64x256 .f32) (r : Fin 256) (k : Fin 128) :
    pairOut l l' a a' (ix3 0 r k)
      = if hk : k.val < 64 then normed l a (ix2 ⟨k.val, hk⟩ r) else normed l' a' (ix2 ⟨k.val - 64, by omega⟩ r) := by
  unfold pairOut
  generalize normed l a = u
  generalize normed l' a' = w
  pointwise []

/-- The entry the block holds at query `r` and column `k`. -/
def entry (y : Carried Ideal) (r : Fin 256) (k : Fin 512) : EReal :=
  normed (sumOf y ⟨k.val / 64, by omega⟩) (mixOf y ⟨k.val / 64, by omega⟩) (ix2 ⟨k.val % 64, by omega⟩ r)

theorem pairOf_apply (y : Carried Ideal) (a b : Fin 8) (o : ℕ) (ha : o = 64 * a.val) (hb : b.val = a.val + 1) (r : Fin 256) (k : Fin 128)
    (hk : o + k.val < 512) : pairOf y a b (ix3 0 r k) = entry y r ⟨o + k.val, hk⟩ := by
  unfold pairOf
  rw [pairOut_apply]
  unfold entry
  split
  · next h =>
    have h1 : (⟨(o + k.val) / 64, by omega⟩ : Fin 8) = a := Fin.ext (by show (o + k.val) / 64 = a.val; omega)
    have h2 : (⟨(o + k.val) % 64, by omega⟩ : Fin 64) = ⟨k.val, h⟩ := Fin.ext (by show (o + k.val) % 64 = k.val; omega)
    rw [h1, h2]
  · next h =>
    have h1 : (⟨(o + k.val) / 64, by omega⟩ : Fin 8) = b := Fin.ext (by show (o + k.val) / 64 = b.val; omega)
    have h2 : (⟨(o + k.val) % 64, by omega⟩ : Fin 64) = ⟨k.val - 64, by omega⟩ :=
      Fin.ext (by show (o + k.val) % 64 = k.val - 64; omega)
    rw [h1, h2]

section Run

variable (c : Dev nD) (i : grid0.Coords) (arg2 : Memref sig .tc .vmem S1x1024x256 .bf16) (harg2 : arg2.IsWhole) (arg3 : Memref sig .tc .vmem S1x2304x1024 .bf16) (harg3 : arg3.IsWhole) (arg4 : Memref sig .tc .vmem S1x512x2304 .bf16) (harg4 : arg4.IsWhole) (arg5 : Memref sig .tc .vmem S1x256x512 .bf16) (harg5 : arg5.IsWhole) (x0 : Vec Ideal S1x1024x256 .bf16) (x1 : Vec Ideal S1x2304x1024 .bf16) (x2 : Vec Ideal S1x512x2304 .bf16)

/-- A store of a pair of heads agrees with the entries. -/
theorem store_apply (y : Carried Ideal) (a b : Fin 8) (o : ℕ) (ha : o = 64 * a.val) (hb : b.val = a.val + 1) (ho : o + 128 ≤ 512)
    (inb : ∀ x, (![0, 0, o] : Fin 3 → ℕ) x + S1x256x128.size x ≤ S1x256x512.size x) (j : S1x256x128.Idx) :
    pairOf y a b j = entry y ((Rect.unit (s := S1x256x512) ![0, 0, o] S1x256x128.size inb).emb j 1)
      ((Rect.unit (s := S1x256x512) ![0, 0, o] S1x256x128.size inb).emb j 2) := by
  obtain ⟨z, r, k, rfl⟩ : ∃ z r k, j = ix3 z r k := ⟨j 0, j 1, j 2, by funext x; fin_cases x <;> rfl⟩
  have hz : z = 0 := Subsingleton.elim (α := Fin 1) _ _
  subst hz
  rw [pairOf_apply y a b o ha hb r k (by have := k.isLt; omega)]
  congr 1
  · exact Fin.ext (by simp [Rect.emb_apply, ix3])
  · exact Fin.ext (by simp [Rect.emb_apply, ix3])

/-- What a grid point leaves in the output's block. -/
theorem out_apply (y : S1x256x512.Idx) :
    out0_A_3 c i arg2 harg2 arg3 harg3 arg4 harg4 arg5 harg5 x0 x1 x2 y
      = entry (final c i arg2 harg2 arg3 harg3 arg4 harg4 arg5 harg5 x0 x1 x2) (y 1) (y 2) := by
  unfold out0_A_3
  rw [View.read_writes_eq_canon _ _ _ (cover0_A_3 c i arg2 harg2 arg3 harg3 arg4 harg4 arg5 harg5 x0 x1 x2)]
  refine View.canon_apply_of_pieces (fun y => entry (final c i arg2 harg2 arg3 harg3 arg4 harg4 arg5 harg5 x0 x1 x2) (y 1) (y 2)) _ ?_ y
    (cover0_A_3 c i arg2 harg2 arg3 harg3 arg4 harg4 arg5 harg5 x0 x1 x2 y)
  rw [run_stores, lastLoads_eq]
  intro pc hpc j
  rcases List.mem_cons.mp hpc with rfl | hpc
  · exact store_apply _ 6 7 384 rfl rfl (by omega) inb_S1x256x512_S1x256x128_0_0_384 j
  rcases List.mem_cons.mp hpc with rfl | hpc
  · exact store_apply _ 4 5 256 rfl rfl (by omega) inb_S1x256x512_S1x256x128_0_0_256 j
  rcases List.mem_cons.mp hpc with rfl | hpc
  · exact store_apply _ 2 3 128 rfl rfl (by omega) inb_S1x256x512_S1x256x128_0_0_128 j
  rcases List.mem_cons.mp hpc with rfl | hpc
  · exact store_apply _ 0 1 0 rfl rfl (by omega) inb_S1x256x512_S1x256x128_0_0_0 j
  exact absurd hpc List.not_mem_nil

theorem final_good (he : ∀ h c j, sc x0 x1 (i 1).val h c j ≠ ⊤) :
    AllGood x0 x1 x2 (i 1).val (256 * (i 1).val + 256) (final c i arg2 harg2 arg3 harg3 arg4 harg4 arg5 harg5 x0 x1 x2) := by
  have hi : (i 1).val < 9 := (i 1).isLt
  unfold final
  refine step_good he _ ?_ fun h r c => scores_diag x0 x1 _ hi h _ r c
  unfold loopEnd
  rw [show Scf.trips (k0_t1_loop i).lb (k0_t1_loop i).ub (k0_t1_loop i).st = (i 1).val from trips_main i]
  exact loop_good _ _ _ _ _ _ _ _ _ _ _ _ _ _ _ _ _ _ _ _ _ _ _ _ _ _ _ _ _ _ _ _ _ _ _ _ _ _ _ _ x0 x1 x2 he _ (le_refl _)

/-- The block's entry as a softmax-weighted sum over the keys up to the block's end. -/
theorem out_softmax (he : ∀ h c j, sc x0 x1 (i 1).val h c j ≠ ⊤) (h0 : ∀ h c, sc x0 x1 (i 1).val h c 0 ≠ ⊥) (y : S1x256x512.Idx)
    (h : Fin 8) (d : Fin 64) (hy : (y 2).val = 64 * h.val + d.val) :
    out0_A_3 c i arg2 harg2 arg3 harg3 arg4 harg4 arg5 harg5 x0 x1 x2 y
      = ∑ j ∈ Finset.range (256 * (i 1).val + 256), vl x2 h d j
          * Ideal.div (weight (sc x0 x1 (i 1).val h (y 1)) (256 * (i 1).val + 256) j)
            (total (sc x0 x1 (i 1).val h (y 1)) (256 * (i 1).val + 256)) := by
  rw [out_apply]
  have hg := final_good c i arg2 harg2 arg3 harg3 arg4 harg4 arg5 harg5 x0 x1 x2 he h (y 1)
  have hh : (⟨(y 2).val / 64, by have : (y 2).val < 512 := (y 2).isLt; omega⟩ : Fin 8) = h :=
    Fin.ext (by show (y 2).val / 64 = h.val; omega)
  have hd : (⟨(y 2).val % 64, by omega⟩ : Fin 64) = d := Fin.ext (by show (y 2).val % 64 = d.val; omega)
  unfold entry
  rw [hh, hd]
  refine ((normed_apply _ _ d (y 1)).trans (congrArg₂ (fun x z => x * Ideal.div 1 z) (hg.2.2 d) hg.2.1)).trans ?_
  exact mix_normalised _ _ (he h _) _ (total_pos _ (he h _) _ 0 (by omega) (h0 h _))

end Run

end Cert.Proof.Attn
-- ==== Proof.Ref.lean ====
/- The reference read element by element: its masked scores, their maximum, the weights against it, their sum, and the
   output as the values summed under the normalised weights. -/
module

public import proofs.«01_k».proof.Proof.Step
public import proofs.«01_k».proof.Proof.Gen.ReferenceIdeal.Read

@[expose] public section

set_option maxRecDepth 16384

noncomputable section

namespace Cert.Proof.Ref

open Idealize.ShloMosaic Cert.ReferenceIdeal Cert.ReferenceIdeal.Read Cert.Proof.Online

/-- The score of key `j` for query `q` of head `h` in sequence `b`: the bottom past the query. -/
def score (x0 : Vec Ideal S8x1024x2304 .bf16) (x1 : Vec Ideal S8x2304x1024 .bf16) (b h : Fin 8) (q : Fin 2304) (j : ℕ) : EReal :=
  if hj : j < 2304 then
    if j ≤ q.val then
      ∑ d : Fin 128, x1 (ix3 b ⟨j, hj⟩ ⟨128 * h.val + d.val, by omega⟩) * x0 (ix3 b ⟨128 * h.val + d.val, by omega⟩ q)
    else ⊥
  else ⊥

/-- Component `d` of head `h`'s value at key `j`. -/
def value (x2 : Vec Ideal S8x512x2304 .bf16) (b h : Fin 8) (d : Fin 64) (j : ℕ) : EReal :=
  if hj : j < 2304 then x2 (ix3 b ⟨64 * h.val + d.val, by omega⟩ ⟨j, hj⟩) else 0

theorem q_apply (x0 : Vec Ideal S8x1024x2304 .bf16) (b h : Fin 8) (d : Fin 128) (q : Fin 2304) :
    val_main_v1 (F := Ideal) x0 (ix4 b h d q) = x0 (ix3 b ⟨128 * h.val + d.val, by omega⟩ q) := by
  rw [val_main_v1_apply, val_main_v0_apply]
  show x0 _ = x0 _
  refine congrArg x0 (funext fun a => Fin.ext ?_)
  match a with
  | ⟨0, _⟩ => show (((b.val * 8 + h.val) * 128 + d.val) * 2304 + q.val) / 2359296 = b.val; omega
  | ⟨1, _⟩ => show (((b.val * 8 + h.val) * 128 + d.val) * 2304 + q.val) / 2304 % 1024 = 128 * h.val + d.val; omega
  | ⟨2, _⟩ => show (((b.val * 8 + h.val) * 128 + d.val) * 2304 + q.val) % 2304 = q.val; omega

theorem k_apply (x1 : Vec Ideal S8x2304x1024 .bf16) (b : Fin 8) (j : Fin 2304) (h : Fin 8) (d : Fin 128) :
    val_main_v3 (F := Ideal) x1 (ix4 b j h d) = x1 (ix3 b j ⟨128 * h.val + d.val, by omega⟩) := by
  rw [val_main_v3_apply, val_main_v2_apply]
  show x1 _ = x1 _
  refine congrArg x1 (funext fun a => Fin.ext ?_)
  match a with
  | ⟨0, _⟩ => show (((b.val * 2304 + j.val) * 8 + h.val) * 128 + d.val) / 2359296 = b.val; omega
  | ⟨1, _⟩ => show (((b.val * 2304 + j.val) * 8 + h.val) * 128 + d.val) / 1024 % 2304 = j.val; omega
  | ⟨2, _⟩ => show (((b.val * 2304 + j.val) * 8 + h.val) * 128 + d.val) % 1024 = 128 * h.val + d.val; omega

theorem v_apply (x2 : Vec Ideal S8x512x2304 .bf16) (b h : Fin 8) (d : Fin 64) (j : Fin 2304) :
    val_main_v5 (F := Ideal) x2 (ix4 b h d j) = value x2 b h d j.val := by
  rw [val_main_v5_apply, val_main_v4_apply, value, dif_pos j.isLt]
  show x2 _ = x2 _
  refine congrArg x2 (funext fun a => Fin.ext ?_)
  match a with
  | ⟨0, _⟩ => show (((b.val * 8 + h.val) * 64 + d.val) * 2304 + j.val) / 1179648 = b.val; omega
  | ⟨1, _⟩ => show (((b.val * 8 + h.val) * 64 + d.val) * 2304 + j.val) / 2304 % 512 = 64 * h.val + d.val; omega
  | ⟨2, _⟩ => show (((b.val * 8 + h.val) * 64 + d.val) * 2304 + j.val) % 2304 = j.val; omega

theorem idx4 {a b c d : ℕ} {i i' : (⟨4, ![a, b, c, d]⟩ : Shape).Idx} (h0 : (i 0).val = (i' 0).val) (h1 : (i 1).val = (i' 1).val)
    (h2 : (i 2).val = (i' 2).val) (h3 : (i 3).val = (i' 3).val) : i = i' :=
  funext fun a => Fin.ext (match a with | ⟨0, _⟩ => h0 | ⟨1, _⟩ => h1 | ⟨2, _⟩ => h2 | ⟨3, _⟩ => h3)

theorem idx3 {a b c : ℕ} {i i' : (⟨3, ![a, b, c]⟩ : Shape).Idx} (h0 : (i 0).val = (i' 0).val) (h1 : (i 1).val = (i' 1).val)
    (h2 : (i 2).val = (i' 2).val) : i = i' :=
  funext fun a => Fin.ext (match a with | ⟨0, _⟩ => h0 | ⟨1, _⟩ => h1 | ⟨2, _⟩ => h2)

theorem dot_apply (x0 : Vec Ideal S8x1024x2304 .bf16) (x1 : Vec Ideal S8x2304x1024 .bf16) (b h : Fin 8) (q j : Fin 2304) :
    val_main_v6 (F := Ideal) x0 x1 (ix4 b h q j)
      = ∑ d : Fin 128, x1 (ix3 b j ⟨128 * h.val + d.val, by omega⟩) * x0 (ix3 b ⟨128 * h.val + d.val, by omega⟩ q) := by
  rw [val_main_v6_apply]
  refine Finset.sum_congr rfl fun d _ => ?_
  rw [mul_comm]
  exact congrArg₂ (· * ·) ((congrArg _ (idx4 rfl rfl rfl rfl)).trans (k_apply x1 b j h d))
    ((congrArg _ (idx4 rfl rfl rfl rfl)).trans (q_apply x0 b h d q))

/-- The factor the scores carry from one base of the exponential to the other. -/
theorem log_two (i : S8x8x2304x2304.Idx) : val_main_v8 (F := Ideal) i = ((Real.log 2 : ℝ) : EReal) := by
  rw [val_main_v8_apply, val_main_v7_apply, val_main_cst_apply]
  have h2 : (FloatOps.ofBits (F := Ideal) .f32 0x40000000#32 : EReal) = ((2 : ℝ) : EReal) := by
    show Ideal.ofBits .f32 0x40000000#32 = _
    simp [Ideal.ofBits, Ideal.ieee, -EReal.coe_mul]; norm_num
  rw [h2, Ideal.hostUnary_log_def]
  exact (Ideal.log_coe (r := 2)).trans (if_neg (not_le.mpr two_pos))

/-- The mask admits the keys up to the query. -/
theorem mask_apply (b h : Fin 8) (q j : Fin 2304) :
    val_main_call0_v1 (F := Ideal) (ix4 b h q j) = if j.val ≤ q.val then 1#1 else 0#1 := by
  rw [val_main_call0_v1_apply, val_main_v15_apply, val_main_v13_apply, val_main_v14_apply, val_main_v11_apply,
    val_main_v12_apply, val_main_v10_apply, val_main_v10_apply]
  show IntOp.cmpi .sle (BitVec.ofNat 32 j.val) (BitVec.ofNat 32 q.val) = _
  have hj := j.isLt
  have hq := q.isLt
  have ht : ∀ n < 2304, (BitVec.ofNat 32 n).toInt = n := fun n hn => by
    rw [BitVec.toInt_eq_toNat_cond, BitVec.toNat_ofNat, Nat.mod_eq_of_lt (by omega), if_pos (by omega)]
  have hb : (BitVec.ofNat 32 j.val).sle (BitVec.ofNat 32 q.val) = decide (j.val ≤ q.val) := by
    rw [Bool.eq_iff_iff, BitVec.sle_iff_toInt_le, ht _ hj, ht _ hq, decide_eq_true_iff]
    omega
  show BitVec.ofBool ((BitVec.ofNat 32 j.val).sle (BitVec.ofNat 32 q.val)) = _
  rw [hb]
  by_cases hl : j.val ≤ q.val
  · rw [if_pos hl, decide_eq_true hl]; rfl
  · rw [if_neg hl, decide_eq_false hl]; rfl

theorem masked_apply (x0 : Vec Ideal S8x1024x2304 .bf16) (x1 : Vec Ideal S8x2304x1024 .bf16) (b h : Fin 8) (q j : Fin 2304) :
    val_main_v16 (F := Ideal) x0 x1 (ix4 b h q j) = score x0 x1 b h q j.val * ((Real.log 2 : ℝ) : EReal) := by
  rw [val_main_v16_apply, val_main_v9_apply, mask_apply, dot_apply, log_two, val_main_call0_v2_apply,
    val_main_call0_v0_apply, val_main_cst_0_apply, score, dif_pos j.isLt]
  by_cases hq : j.val ≤ q.val
  · rw [if_pos hq, if_pos hq]; rfl
  · rw [if_neg hq, if_neg hq, EReal.bot_mul_coe_of_pos (Real.log_pos one_lt_two)]
    exact Attn.neg_inf

theorem max_apply (x0 : Vec Ideal S8x1024x2304 .bf16) (x1 : Vec Ideal S8x2304x1024 .bf16) (b h : Fin 8) (q : Fin 2304) :
    val_main_v17 (F := Ideal) x0 x1 (ix3 b h q) = peak (score x0 x1 b h q) 2304 * ((Real.log 2 : ℝ) : EReal) := by
  unfold val_main_v17
  rw [Host.reduce_eq_fold_single FloatOps.maximumf _ _ Gen.reducesTo_S8x8x2304x2304_S8x8x2304_d3 (by decide) Gen.h_S_ (ix3 b h q),
    ← sup_scaled]
  have hi : val_main_cst_1 (F := Ideal) (Shape.Idx.first Gen.h_S_) = (⊥ : EReal) := Attn.neg_inf
  rw [hi]
  refine Attn.fold_max_sup (n := 2304) _ _ fun j => ?_
  exact (congrArg (val_main_v16 (F := Ideal) x0 x1) (idx4 (i' := ix4 b h q j) rfl rfl rfl rfl)).trans (masked_apply x0 x1 b h q j)

variable (x0 : Vec Ideal S8x1024x2304 .bf16) (x1 : Vec Ideal S8x2304x1024 .bf16) (x2 : Vec Ideal S8x512x2304 .bf16) (b h : Fin 8) (q : Fin 2304)

theorem exp_apply (he : ∀ j, score x0 x1 b h q j ≠ ⊤) (j : Fin 2304) :
    val_main_v21 (F := Ideal) x0 x1 (ix4 b h q j) = weight (score x0 x1 b h q) 2304 j.val := by
  rw [val_main_v21_apply, val_main_v20_apply, masked_apply, val_main_v19_apply, val_main_v18_apply]
  have hi : idx_main_v18 (idx_main_v19 (ix4 b h q j)) = ix3 b h q := idx3 rfl rfl rfl
  rw [hi, max_apply x0 x1 b h q]
  exact exp_scaled (le_peak_of_lt _ j.isLt) (peak_ne_top _ he _)

theorem sum_apply (he : ∀ j, score x0 x1 b h q j ≠ ⊤) :
    val_main_v22 (F := Ideal) x0 x1 (ix3 b h q) = total (score x0 x1 b h q) 2304 := by
  rw [val_main_v22_apply, total, Finset.sum_range]
  have hi : val_main_cst_2 (F := Ideal) (Shape.Idx.first Gen.h_S_) = (0 : EReal) := by
    show Ideal.ofBits .f32 0x00000000#32 = _
    simp [Ideal.ofBits, Ideal.ieee]
  rw [hi, zero_add]
  refine Finset.sum_congr rfl fun j _ => ?_
  have hx : idx_main_v22 (ix3 b h q) j = ix4 b h q j := idx4 rfl rfl rfl rfl
  rw [hx, exp_apply x0 x1 b h q he j]

theorem soft_apply (he : ∀ j, score x0 x1 b h q j ≠ ⊤) (j : Fin 2304) :
    val_main_v25 (F := Ideal) x0 x1 (ix4 b h q j)
      = Ideal.div (weight (score x0 x1 b h q) 2304 j.val) (total (score x0 x1 b h q) 2304) := by
  rw [val_main_v25_apply, exp_apply x0 x1 b h q he, val_main_v24_apply, val_main_v23_apply]
  have hi : idx_main_v23 (idx_main_v24 (ix4 b h q j)) = ix3 b h q := idx3 rfl rfl rfl
  rw [hi, sum_apply x0 x1 b h q he]
  rfl

/-- The reference's output. -/
theorem out_apply (he : ∀ j, score x0 x1 b h q j ≠ ⊤) (d : Fin 64) :
    val_main_v29 (F := Ideal) x0 x1 x2 (ix3 b q ⟨64 * h.val + d.val, by omega⟩)
      = ∑ j ∈ Finset.range 2304, value x2 b h d j
          * Ideal.div (weight (score x0 x1 b h q) 2304 j) (total (score x0 x1 b h q) 2304) := by
  rw [val_main_v29_apply, val_main_v28_apply, val_main_v27_apply, val_main_v26_apply, Finset.sum_range]
  refine Finset.sum_congr rfl fun j _ => ?_
  have e0 : ((b.val * 2304 + q.val) * 512 + (64 * h.val + d.val)) / 1179648 = b.val := by omega
  have e1 : ((b.val * 2304 + q.val) * 512 + (64 * h.val + d.val)) / 512 % 2304 = q.val := by omega
  have e2 : ((b.val * 2304 + q.val) * 512 + (64 * h.val + d.val)) / 64 % 8 = h.val := by omega
  have e3 : ((b.val * 2304 + q.val) * 512 + (64 * h.val + d.val)) % 64 = d.val := by omega
  have hl : lidx_main_v26 (idx_main_v27 (idx_main_v28 (ix3 b q ⟨64 * h.val + d.val, by omega⟩))) j = ix4 b h d j :=
    idx4 e0 e2 e3 rfl
  have hr : ridx_main_v26 (idx_main_v27 (idx_main_v28 (ix3 b q ⟨64 * h.val + d.val, by omega⟩))) j = ix4 b h q j :=
    idx4 e0 e2 e1 rfl
  rw [hl, hr, v_apply, soft_apply x0 x1 b h q he j]

/-- Keys of bottom score past the first `n` change nothing in the normalised sum. -/
theorem normal_pad (v e : ℕ → EReal) (n r : ℕ) (hb : ∀ k, e (n + k) = ⊥) (ht : total e n ≠ 0) :
    (∑ j ∈ Finset.range (n + r), v j * Ideal.div (weight e (n + r) j) (total e (n + r)))
      = ∑ j ∈ Finset.range n, v j * Ideal.div (weight e n j) (total e n) := by
  rw [Finset.sum_range_add, total_pad e n r hb, Finset.sum_eq_zero (s := Finset.range r), add_zero]
  · exact Finset.sum_congr rfl fun j _ => by rw [weight_pad e n r hb j]
  · intro k _
    rw [weight_bot e _ _ (hb k), Ideal.div, if_neg ht, zero_mul, mul_zero]

/-- Only the keys up to any bound past the query matter. -/
theorem out_apply_upto (he : ∀ j, score x0 x1 b h q j ≠ ⊤) (h0 : score x0 x1 b h q 0 ≠ ⊥) (d : Fin 64) (n r : ℕ) (hq : q.val < n)
    (hn : 2304 = n + r) :
    val_main_v29 (F := Ideal) x0 x1 x2 (ix3 b q ⟨64 * h.val + d.val, by omega⟩)
      = ∑ j ∈ Finset.range n, value x2 b h d j
          * Ideal.div (weight (score x0 x1 b h q) n j) (total (score x0 x1 b h q) n) := by
  rw [out_apply x0 x1 x2 b h q he d, hn]
  refine normal_pad _ _ n r (fun k => ?_) (total_pos _ he n 0 (by omega) h0)
  unfold score
  split
  · rw [if_neg (by omega)]
  · rfl

end Cert.Proof.Ref

end
-- ==== Proof.Finite.lean ====
/- What the precondition gives: every entry of the queries and the keys is a real number, so a score is never the top,
   and the first key's score, which no query masks, is not the bottom. -/
module

public import proofs.«01_k».proof.Proof.Ref
public import proofs.«01_k».proof.Proof.Gen.Pre_finite

@[expose] public section

set_option maxRecDepth 16384

noncomputable section

namespace Cert.Proof.Ref

open Idealize.ShloMosaic Cert.ReferenceIdeal

theorem abs_lt_top (x : EReal) (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

theorem real_of_pre [Cert.Pre_finite.Facts] (x0 : Vec Ideal S8x1024x2304 .bf16) (x1 : Vec Ideal S8x2304x1024 .bf16) (x2 : Vec Ideal S8x512x2304 .bf16)
    (h0 : (Cert.Pre_finite.fn (F := Ideal) x0 x1 x2).1 = fun _ => 1#1) (h1 : (Cert.Pre_finite.fn (F := Ideal) x0 x1 x2).2 = fun _ => 1#1) :
    (∀ i, ∃ r : ℝ, x0 i = (r : EReal)) ∧ ∀ i, ∃ r : ℝ, x1 i = (r : EReal) :=
  ⟨fun i => abs_lt_top _ (congrFun h0 i), fun i => abs_lt_top _ (congrFun h1 i)⟩

theorem sum_real {n : ℕ} (f g : Fin n → EReal) (hf : ∀ d, ∃ r : ℝ, f d = r) (hg : ∀ d, ∃ r : ℝ, g d = r) :
    ∃ r : ℝ, ∑ d, f d * g d = r := by
  choose a ha using hf
  choose b hb using hg
  refine ⟨∑ d, a d * b d, ?_⟩
  rw [Finset.sum_congr rfl fun d _ => show f d * g d = ((a d * b d : ℝ) : EReal) by rw [ha, hb, EReal.coe_mul]]
  exact (map_sum (⟨⟨fun r : ℝ => (r : EReal), EReal.coe_zero⟩, EReal.coe_add⟩ : ℝ →+ EReal) _ _).symm

variable (x0 : Vec Ideal S8x1024x2304 .bf16) (x1 : Vec Ideal S8x2304x1024 .bf16)
  (hq : ∀ i, ∃ r : ℝ, x0 i = (r : EReal)) (hk : ∀ i, ∃ r : ℝ, x1 i = (r : EReal)) (b h : Fin 8) (q : Fin 2304)

include hq hk

theorem score_ne_top (j : ℕ) : score x0 x1 b h q j ≠ ⊤ := by
  unfold score
  split
  · split
    · obtain ⟨r, hr⟩ := sum_real (n := 128) _ _ (fun d => hk (ix3 b ⟨j, by assumption⟩ ⟨128 * h.val + d.val, by omega⟩))
        (fun d => hq (ix3 b ⟨128 * h.val + d.val, by omega⟩ q))
      rw [hr]; exact EReal.coe_ne_top r
    · exact bot_ne_top
  · exact bot_ne_top

theorem first_ne_bot : score x0 x1 b h q 0 ≠ ⊥ := by
  unfold score
  rw [dif_pos (by omega), if_pos (by omega)]
  obtain ⟨r, hr⟩ := sum_real (n := 128) _ _ (fun d => hk (ix3 b ⟨0, by omega⟩ ⟨128 * h.val + d.val, by omega⟩))
    (fun d => hq (ix3 b ⟨128 * h.val + d.val, by omega⟩ q))
  rw [hr]; exact EReal.coe_ne_bot r

end Cert.Proof.Ref

end
-- ==== Proof.Cover.lean ====
/- The kernel's blocks put together: its result array is the reference's. -/
module

public import proofs.«01_k».proof.Proof.Written
public import proofs.«01_k».proof.Proof.Finite
public import proofs.«01_k».proof.Proof.Gen.KernelIdeal.Value
public import Idealize.ShloMosaic.Lib.Pipeline.ValueKit

@[expose] public section

set_option maxRecDepth 16384

noncomputable section

namespace Cert.Proof.Attn

open Idealize.ShloMosaic Idealize.ShloMosaic.TcCoe Idealize.SL.Sem Cert.KernelIdeal Cert.KernelIdeal.Gen Cert.Proof.Online

section Blocks

variable (a0 : Vec Ideal S8x1024x2304 .bf16) (a1 : Vec Ideal S8x2304x1024 .bf16) (a2 : Vec Ideal S8x512x2304 .bf16)
  (x0 : Vec Ideal S1x1024x256 .bf16) (x1 : Vec Ideal S1x2304x1024 .bf16) (x2 : Vec Ideal S1x512x2304 .bf16)
  (n : Fin 8) (p : ℕ) (hp : p < 9)

/-- A block's scores are its sequence's, the queries counted from the block's first. -/
theorem sc_eq (h0 : ∀ (r : Fin 1024) (c : Fin 256), x0 (ix3 0 r c) = a0 (ix3 n r ⟨256 * p + c.val, by omega⟩))
    (h1 : ∀ (j : Fin 2304) (r : Fin 1024), x1 (ix3 0 j r) = a1 (ix3 n j r)) (h : Fin 8) (c : Fin 256) :
    sc x0 x1 p h c = Ref.score a0 a1 n h ⟨256 * p + c.val, by omega⟩ := by
  funext j
  unfold sc Ref.score
  split
  · split
    · exact Finset.sum_congr rfl fun d _ => congrArg₂ (· * ·) (h1 _ _) (h0 _ _)
    · rfl
  · rfl

theorem vl_eq (h2 : ∀ (r : Fin 512) (j : Fin 2304), x2 (ix3 0 r j) = a2 (ix3 n r j)) (h : Fin 8) (d : Fin 64) :
    vl x2 h d = Ref.value a2 n h d := by
  funext j
  unfold vl Ref.value
  split
  · exact h2 _ _
  · rfl

end Blocks

/-- Where each window's block lies. -/
theorem place0 : ∀ t : Fin cfg0.N, win0_0.index t = ![(grid0.coords t 0).val, 0, (grid0.coords t 1).val] :=
  (by decide +kernel : ∀ t : Fin grid0.N, _)
theorem place1 : ∀ t : Fin cfg0.N, win0_1.index t = ![(grid0.coords t 0).val, 0, 0] :=
  (by decide +kernel : ∀ t : Fin grid0.N, _)
theorem place2 : ∀ t : Fin cfg0.N, win0_2.index t = ![(grid0.coords t 0).val, 0, 0] :=
  (by decide +kernel : ∀ t : Fin grid0.N, _)
theorem place3 : ∀ t : Fin cfg0.N, win0_3.index t = ![(grid0.coords t 0).val, (grid0.coords t 1).val, 0] :=
  (by decide +kernel : ∀ t : Fin grid0.N, _)

variable (m : (ℓ : Loc nD τ sig) → Buf (Elt Ideal) ℓ) (c : Dev nD)

theorem block0 (t : Fin cfg0.N) (r : Fin 1024) (k : Fin 256) :
    iblk m c 0 t (ix3 0 r k) = m ((c : Thread nD τ).loc main_arg0)
      (ix3 ⟨(grid0.coords t 0).val, (grid0.coords t 0).isLt⟩ r ⟨256 * (grid0.coords t 1).val + k.val, by
        have : (grid0.coords t 1).val < 9 := (grid0.coords t 1).isLt
        omega⟩) := by
  blk_simp [iblk]
  rw [V_main_arg0]
  refine congrArg _ ?_
  blk_ext [place0]

theorem block1 (t : Fin cfg0.N) (j : Fin 2304) (r : Fin 1024) :
    iblk m c 1 t (ix3 0 j r) = m ((c : Thread nD τ).loc main_arg1)
      (ix3 ⟨(grid0.coords t 0).val, (grid0.coords t 0).isLt⟩ j r) := by
  blk_simp [iblk]
  rw [V_main_arg1]
  refine congrArg _ ?_
  blk_ext [place1]

theorem block2 (t : Fin cfg0.N) (r : Fin 512) (j : Fin 2304) :
    iblk m c 2 t (ix3 0 r j) = m ((c : Thread nD τ).loc main_arg2)
      (ix3 ⟨(grid0.coords t 0).val, (grid0.coords t 0).isLt⟩ r j) := by
  blk_simp [iblk]
  rw [V_main_arg2]
  refine congrArg _ ?_
  blk_ext [place2]

/-- The reference's result on the kernel's arguments. -/
abbrev result : Vec Ideal S8x2304x512 .bf16 :=
  Cert.ReferenceIdeal.Read.val_main_v29 (F := Ideal) (m ((c : Thread nD τ).loc main_arg0)) (m ((c : Thread nD τ).loc main_arg1))
    (m ((c : Thread nD τ).loc main_arg2))

/-- An entry of the block a grid point leaves is the reference's entry. -/
theorem entry_eq (hq : ∀ i, ∃ r : ℝ, m ((c : Thread nD τ).loc main_arg0) i = (r : EReal))
    (hk : ∀ i, ∃ r : ℝ, m ((c : Thread nD τ).loc main_arg1) i = (r : EReal)) (t : Fin cfg0.N) (k : Fin 256) (h : Fin 8) (d : Fin 64)
    (hp : (grid0.coords t 1).val < 9) :
    outsAt0 m c t (ix3 0 k ⟨64 * h.val + d.val, by omega⟩)
      = result m c (ix3 ⟨(grid0.coords t 0).val, (grid0.coords t 0).isLt⟩ ⟨256 * (grid0.coords t 1).val + k.val, by omega⟩
          ⟨64 * h.val + d.val, by omega⟩) := by
  have hs := fun h k => sc_eq (m ((c : Thread nD τ).loc main_arg0)) (m ((c : Thread nD τ).loc main_arg1)) (iblk m c 0 t) (iblk m c 1 t)
    ⟨(grid0.coords t 0).val, (grid0.coords t 0).isLt⟩ (grid0.coords t 1).val hp (block0 m c t) (block1 m c t) h k
  have e : outsAt0 m c t (ix3 0 k ⟨64 * h.val + d.val, by omega⟩)
      = ∑ j ∈ Finset.range (256 * (grid0.coords t 1).val + 256), vl (iblk m c 2 t) h d j
          * Ideal.div (weight (sc (iblk m c 0 t) (iblk m c 1 t) (grid0.coords t 1).val h k) (256 * (grid0.coords t 1).val + 256) j)
            (total (sc (iblk m c 0 t) (iblk m c 1 t) (grid0.coords t 1).val h k) (256 * (grid0.coords t 1).val + 256)) :=
    out_softmax c (grid0.coords t) (ms0_0 t) (hs0_0 t) (ms0_1 t) (hs0_1 t) (ms0_2 t) (hs0_2 t) (ms0_3 t) (hs0_3 t)
      (iblk m c 0 t) (iblk m c 1 t) (iblk m c 2 t) (fun h k j => by rw [hs]; exact Ref.score_ne_top _ _ hq hk _ _ _ _)
      (fun h k => by rw [hs]; exact Ref.first_ne_bot _ _ hq hk _ _ _) (ix3 0 k ⟨64 * h.val + d.val, by omega⟩) h d rfl
  rw [e, hs, vl_eq (m ((c : Thread nD τ).loc main_arg2)) (iblk m c 2 t) _ (block2 m c t)]
  exact (Ref.out_apply_upto _ _ _ _ _ _ (Ref.score_ne_top _ _ hq hk _ _ _) (Ref.first_ne_bot _ _ hq hk _ _ _) _ _
    (2304 - (256 * (grid0.coords t 1).val + 256)) (by show 256 * (grid0.coords t 1).val + k.val < _; omega) (by omega)).symm

/-- The array after the run is the reference's result. -/
theorem array_eq (hq : ∀ i, ∃ r : ℝ, m ((c : Thread nD τ).loc main_arg0) i = (r : EReal))
    (hk : ∀ i, ∃ r : ℝ, m ((c : Thread nD τ).loc main_arg1) i = (r : EReal)) :
    (dats m 0 c).arrAt 3 cfg0.N = result m c := by
  refine (dats m 0 c).arrAt_eq_of_covers 3 _ (by decide +kernel) fun t hf y => ?_
  blk_simp
  rw [after0_3]
  have hp : (grid0.coords t 1).val < 9 := (grid0.coords t 1).isLt
  have h2 : (y 2).val < 512 := (y 2).isLt
  have h1 : (y 1).val < 256 := (y 1).isLt
  have h0 : (y 0).val < 1 := (y 0).isLt
  have hd : 64 * ((y 2).val / 64) + (y 2).val % 64 = (y 2).val := by omega
  have hy : (y : S1x256x512.Idx) = ix3 0 ⟨(y 1).val, h1⟩ ⟨64 * ((y 2).val / 64) + (y 2).val % 64, by omega⟩ :=
    Ref.idx3 (by show (y 0).val = 0; omega) rfl hd.symm
  refine (congrArg (outsAt0 m c t) hy).trans ((entry_eq m c hq hk t ⟨(y 1).val, h1⟩ ⟨(y 2).val / 64, by omega⟩ ⟨(y 2).val % 64, by omega⟩ hp).trans ?_)
  refine congrArg _ ?_
  blk_ext [place3, hd]

end Cert.Proof.Attn

end
-- ==== Proof.ProjBody.lean ====
/- The projection's body: what each of its stores holds, entry by entry. -/
module

public import proofs.«01_k».proof.Proof.Row
public import proofs.«01_k».proof.Proof.Gen.Kernel2Ideal.Value
public import Idealize.ShloMosaic.Lib.Pipeline.ValueKit
public import Idealize.ShloMosaic.Lib.Pointwise

@[expose] public section

set_option maxRecDepth 16384

noncomputable section

namespace Cert.Proof.Proj

open Idealize.ShloMosaic Idealize.ShloMosaic.TcCoe Idealize.SL.Sem Cert.Kernel2Ideal Cert.Kernel2Ideal.Gen Cert.Proof.Row

variable (x0 : Vec Ideal S384x1024 .f32) (x1 : Vec Ideal S1x1024 .f32) (x2 : Vec Ideal S1024x5632 .bf16) (x3 : Vec Ideal S1024x128 .bf16)

theorem normed_apply (r : Fin 384) (k : Fin 1024) :
    k0_pay4 x0 x1 (ix2 r k) = normed (fun j => x0 (ix2 r j)) (fun j => x1 (ix2 0 j)) k := by
  unfold k0_pay4 normed
  pointwise []

/-- A product of the normed rows with 512 columns. -/
theorem wide_apply (h : FVec Ideal S384x1024 .bf16) (w : FVec Ideal S1024x512 .bf16) (r : Fin 384) (c : Fin 512) :
    matmul dot_S384x1024_S1024x512_S384x512_1_0_0_1_n_n none h (shapeCast S1024x512 w shapeCasts_S1024x512_S1024x512)
        (constant S384x512 .f32 0x00000000#32) (ix2 r c)
      = ∑ k : Fin 1024, h (ix2 r k) * w (ix2 k c) := by
  pointwise []

theorem narrow_apply (h : FVec Ideal S384x1024 .bf16) (w : FVec Ideal S1024x128 .bf16) (r : Fin 384) (c : Fin 128) :
    matmul dot_S384x1024_S1024x128_S384x128_1_0_0_1_n_n none h (shapeCast S1024x128 w shapeCasts_S1024x128_S1024x128)
        (constant S384x128 .f32 0x00000000#32) (ix2 r c)
      = ∑ k : Fin 1024, h (ix2 r k) * w (ix2 k c) := by
  pointwise []

/-- Column `n` of the wide weight. -/
def wideCol (n : ℕ) (k : Fin 1024) : EReal := if h : n < 5632 then x2 (ix2 k ⟨n, h⟩) else 0

/-- What the body makes of row `r` and column `n` of the wide weight. -/
def wide (r : Fin 384) (n : ℕ) : EReal := proj (fun j => x0 (ix2 r j)) (fun j => x1 (ix2 0 j)) (wideCol x2 n)

theorem row_read : (View.ld x0 r0_0 : Vec Ideal S384x1024 .f32) = x0 := by
  funext j
  exact congrArg x0 (funext fun a => Fin.ext (by match a with | ⟨0, _⟩ => simp [Rect.emb_apply] | ⟨1, _⟩ => simp [Rect.emb_apply]))

theorem gain_read : (View.ld x1 r0_1 : Vec Ideal S1x1024 .f32) = x1 := by
  funext j
  exact congrArg x1 (funext fun a => Fin.ext (by match a with | ⟨0, _⟩ => simp [Rect.emb_apply] | ⟨1, _⟩ => simp [Rect.emb_apply]))

theorem small_read : (View.ld x3 r0_19 : Vec Ideal S1024x128 .bf16) = x3 := by
  funext j
  exact congrArg x3 (funext fun a => Fin.ext (by match a with | ⟨0, _⟩ => simp [Rect.emb_apply] | ⟨1, _⟩ => simp [Rect.emb_apply]))

theorem col_read (n : ℕ) (inb : ∀ x, (![0, n] : Fin 2 → ℕ) x + S1024x512.size x ≤ S1024x5632.size x) (k : Fin 1024) (c : Fin 512) :
    View.ld x2 (Rect.unit (s := S1024x5632) ![0, n] S1024x512.size inb) (ix2 k c) = wideCol x2 (n + c.val) k := by
  have hn : n + 512 ≤ 5632 := inb 1
  unfold wideCol
  rw [dif_pos (by omega)]
  exact congrArg x2 (funext fun a => Fin.ext (by match a with | ⟨0, _⟩ => simp [Rect.emb_apply, ix2] | ⟨1, _⟩ => simp [Rect.emb_apply, ix2]))

/-- One store of 512 columns. -/
theorem piece_apply (n : ℕ) (inb : ∀ x, (![0, n] : Fin 2 → ℕ) x + S1024x512.size x ≤ S1024x5632.size x) (r : Fin 384) (c : Fin 512) :
    k0_pay5 (F := Ideal) (View.ld x0 r0_0) (View.ld x1 r0_1) (View.ld x2 (Rect.unit (s := S1024x5632) ![0, n] S1024x512.size inb)) (ix2 r c)
      = wide x0 x1 x2 r (n + c.val) := by
  refine (wide_apply _ _ r c).trans ?_
  rw [row_read, gain_read]
  exact Finset.sum_congr rfl fun k _ => congrArg₂ (· * ·) (normed_apply x0 x1 r k) (col_read x2 n inb k c)

/-- Such a store, at the place it has in a buffer of `w` columns. -/
theorem placed (w o n : ℕ) (inb : ∀ x, (![0, n] : Fin 2 → ℕ) x + S1024x512.size x ≤ S1024x5632.size x)
    (ino : ∀ x, (![0, o] : Fin 2 → ℕ) x + S384x512.size x ≤ (⟨2, ![384, w]⟩ : Shape).size x) (b : ℕ) (hb : n = b + o)
    (p : FVec Ideal S384x512 .f32)
    (hp : p = k0_pay5 (F := Ideal) (View.ld x0 r0_0) (View.ld x1 r0_1) (View.ld x2 (Rect.unit (s := S1024x5632) ![0, n] S1024x512.size inb))) (j : S384x512.Idx) :
    p j = wide x0 x1 x2 ((Rect.unit (s := (⟨2, ![384, w]⟩ : Shape)) ![0, o] S384x512.size ino).emb j 0)
      (b + ((Rect.unit (s := (⟨2, ![384, w]⟩ : Shape)) ![0, o] S384x512.size ino).emb j 1).val) := by
  obtain ⟨r, c, rfl⟩ : ∃ r c, j = ix2 r c := ⟨j 0, j 1, by funext x; fin_cases x <;> rfl⟩
  rw [hp, piece_apply, hb]
  congr 1
  · exact Fin.ext (by simp [Rect.emb_apply, ix2]; rfl)
  · simp [Rect.emb_apply, ix2, Nat.add_assoc]; rfl

theorem out4 (y : S384x1536.Idx) : out0_4 x0 x1 x2 x3 y = wide x0 x1 x2 (y 0) (0 + (y 1).val) := by
  refine View.canon_apply_of_pieces (Val := Elt Ideal) (fun y : S384x1536.Idx => (wide x0 x1 x2 (y 0) (0 + (y 1).val))) _ ?_ y (cover0_4 _ _ _ y)
  intro pc hpc j
  rcases List.mem_cons.mp hpc with rfl | hpc
  · exact placed x0 x1 x2 1536 1024 1024 (by decide) (by decide) 0 rfl _ rfl j
  rcases List.mem_cons.mp hpc with rfl | hpc
  · exact placed x0 x1 x2 1536 512 512 (by decide) (by decide) 0 rfl _ rfl j
  rcases List.mem_cons.mp hpc with rfl | hpc
  · exact placed x0 x1 x2 1536 0 0 (by decide) (by decide) 0 rfl _ rfl j
  exact absurd hpc List.not_mem_nil

theorem out5 (y : S384x512.Idx) : out0_5 x0 x1 x2 x3 y = wide x0 x1 x2 (y 0) (1536 + (y 1).val) := by
  refine View.canon_apply_of_pieces (Val := Elt Ideal) (fun y : S384x512.Idx => (wide x0 x1 x2 (y 0) (1536 + (y 1).val))) _ ?_ y (cover0_5 _ y)
  intro pc hpc j
  rcases List.mem_cons.mp hpc with rfl | hpc
  · exact placed x0 x1 x2 512 0 1536 (by decide) (by decide) 1536 rfl _ rfl j
  exact absurd hpc List.not_mem_nil

theorem out6 (y : S384x512.Idx) : out0_6 x0 x1 x2 x3 y = wide x0 x1 x2 (y 0) (2048 + (y 1).val) := by
  refine View.canon_apply_of_pieces (Val := Elt Ideal) (fun y : S384x512.Idx => (wide x0 x1 x2 (y 0) (2048 + (y 1).val))) _ ?_ y (cover0_6 _ y)
  intro pc hpc j
  rcases List.mem_cons.mp hpc with rfl | hpc
  · exact placed x0 x1 x2 512 0 2048 (by decide) (by decide) 2048 rfl _ rfl j
  exact absurd hpc List.not_mem_nil

theorem out7 (y : S384x512.Idx) : out0_7 x0 x1 x2 x3 y = wide x0 x1 x2 (y 0) (2560 + (y 1).val) := by
  refine View.canon_apply_of_pieces (Val := Elt Ideal) (fun y : S384x512.Idx => (wide x0 x1 x2 (y 0) (2560 + (y 1).val))) _ ?_ y (cover0_7 _ y)
  intro pc hpc j
  rcases List.mem_cons.mp hpc with rfl | hpc
  · exact placed x0 x1 x2 512 0 2560 (by decide) (by decide) 2560 rfl _ rfl j
  exact absurd hpc List.not_mem_nil

theorem out8 (y : S384x512.Idx) : out0_8 x0 x1 x2 x3 y = wide x0 x1 x2 (y 0) (3072 + (y 1).val) := by
  refine View.canon_apply_of_pieces (Val := Elt Ideal) (fun y : S384x512.Idx => (wide x0 x1 x2 (y 0) (3072 + (y 1).val))) _ ?_ y (cover0_8 _ y)
  intro pc hpc j
  rcases List.mem_cons.mp hpc with rfl | hpc
  · exact placed x0 x1 x2 512 0 3072 (by decide) (by decide) 3072 rfl _ rfl j
  exact absurd hpc List.not_mem_nil

theorem out9 (y : S384x1024.Idx) : out0_9 x0 x1 x2 x3 y = wide x0 x1 x2 (y 0) (3584 + (y 1).val) := by
  refine View.canon_apply_of_pieces (Val := Elt Ideal) (fun y : S384x1024.Idx => (wide x0 x1 x2 (y 0) (3584 + (y 1).val))) _ ?_ y (cover0_9 _ _ y)
  intro pc hpc j
  rcases List.mem_cons.mp hpc with rfl | hpc
  · exact placed x0 x1 x2 1024 512 4096 (by decide) (by decide) 3584 rfl _ rfl j
  rcases List.mem_cons.mp hpc with rfl | hpc
  · exact placed x0 x1 x2 1024 0 3584 (by decide) (by decide) 3584 rfl _ rfl j
  exact absurd hpc List.not_mem_nil

theorem out10 (y : S384x1024.Idx) : out0_10 x0 x1 x2 x3 y = wide x0 x1 x2 (y 0) (4608 + (y 1).val) := by
  refine View.canon_apply_of_pieces (Val := Elt Ideal) (fun y : S384x1024.Idx => (wide x0 x1 x2 (y 0) (4608 + (y 1).val))) _ ?_ y (cover0_10 _ _ y)
  intro pc hpc j
  rcases List.mem_cons.mp hpc with rfl | hpc
  · exact placed x0 x1 x2 1024 512 5120 (by decide) (by decide) 4608 rfl _ rfl j
  rcases List.mem_cons.mp hpc with rfl | hpc
  · exact placed x0 x1 x2 1024 0 4608 (by decide) (by decide) 4608 rfl _ rfl j
  exact absurd hpc List.not_mem_nil

theorem out11 (r : Fin 384) (c : Fin 128) :
    out0_11 x0 x1 x2 x3 (ix2 r c) = proj (fun j => x0 (ix2 r j)) (fun j => x1 (ix2 0 j)) (fun k => x3 (ix2 k c)) := by
  refine View.canon_apply_of_pieces (Val := Elt Ideal) (fun y : S384x128.Idx => (proj (fun j => x0 (ix2 (y 0) j)) (fun j => x1 (ix2 0 j)) (fun k => x3 (ix2 k (y 1)))))
    _ ?_ (ix2 r c) (cover0_11 _ (ix2 r c))
  intro pc hpc j
  rcases List.mem_cons.mp hpc with rfl | hpc
  · obtain ⟨r, c, rfl⟩ : ∃ r c, j = ix2 r c := ⟨j 0, j 1, by funext x; fin_cases x <;> rfl⟩
    have he : r0_20.emb (ix2 r c) = (ix2 r c : S384x128.Idx) :=
      funext fun a => Fin.ext (by match a with | ⟨0, _⟩ => simp [Rect.emb_apply] | ⟨1, _⟩ => simp [Rect.emb_apply])
    rw [he]
    refine (narrow_apply _ _ r c).trans ?_
    rw [small_read, k0_pay16, row_read, gain_read]
    exact Finset.sum_congr rfl fun k _ => congrArg (· * _) (normed_apply x0 x1 r k)
  exact absurd hpc List.not_mem_nil

end Cert.Proof.Proj

end
-- ==== Proof.ProjHost.lean ====
/- What the operations before the call leave in the call's arguments. -/
module

public import proofs.«01_k».proof.Proof.ProjBody
public import proofs.«01_k».proof.Proof.Gen.Reference2Ideal.Read
public import Idealize.ShloMosaic.Lib.StableHlo.ReadAt

@[expose] public section

set_option maxRecDepth 16384

noncomputable section

namespace Cert.Proof.Proj

open Idealize.ShloMosaic Idealize.ShloMosaic.TcCoe Idealize.SL.Sem Cert.Kernel2Ideal Cert.Kernel2Ideal.Gen Cert.Proof.Row

variable (m : (ℓ : Loc nD τ sig) → Buf (Elt Ideal) ℓ) (c : Dev nD)

/-- The rows are the reference's rows. -/
theorem rows_eq : V m c main_v21 = Cert.Reference2Ideal.Read.val_main_v3 (F := Ideal)
    (m ((c : Thread nD τ).loc main_arg0)) (m ((c : Thread nD τ).loc main_arg1)) := by
  unfold V
  after_results
  rfl

theorem gain_eq (k : Fin 1024) : V m c main_v20 (ix2 0 k) = m ((c : Thread nD τ).loc main_arg2) (ix2 0 k) := by
  unfold V
  after_reads_at

/-- The column of the weight that column `n` of the wide weight copies. -/
def src (n : ℕ) : ℕ := if n < 2048 then n else if n < 3584 then n + 8 else n + 16

theorem wide_eq (k : Fin 1024) (n : Fin 5632) (n' : Fin 5648) (h : n'.val = src n.val) :
    V m c main_v12 (ix2 k n) = m ((c : Thread nD τ).loc main_arg3) (ix3 0 k n') := by
  unfold V
  after_reads_at
  have hn := n.isLt
  unfold src at h
  split_ifs at h ⊢
  all_goals first | (exfalso; omega) | skip
  all_goals after_reads_at
  all_goals
    refine congrArg (fun q : Fin 5648 => m (c, Proc.tc.devRef main_arg3) (ix3 0 k q)) (Fin.ext ?_)
    dsimp only
    split_ifs at h <;> omega

/-- The column of the weight that column `n` of the narrow weight copies, where it copies one. -/
def srcSmall (n : ℕ) : ℕ := if n < 8 then n + 2048 else n + 3584

theorem small_eq (k : Fin 1024) (n : Fin 128) (n' : Fin 5648) (hn : n.val < 16) (h : n'.val = srcSmall n.val) :
    V m c main_v18 (ix2 k n) = m ((c : Thread nD τ).loc main_arg3) (ix3 0 k n') := by
  unfold V
  after_reads_at
  unfold srcSmall at h
  split_ifs at h ⊢
  all_goals first | (exfalso; omega) | skip
  all_goals after_reads_at
  all_goals
    refine congrArg (fun q : Fin 5648 => m (c, Proc.tc.devRef main_arg3) (ix3 0 k q)) (Fin.ext ?_)
    dsimp only
    first | omega | (split_ifs at h <;> omega)

theorem small_zero (k : Fin 1024) (n : Fin 128) (hn : ¬n.val < 16) : V m c main_v18 (ix2 k n) = (0 : EReal) := by
  unfold V
  after_reads_at
  split_ifs
  all_goals first | (exfalso; omega) | skip
  all_goals after_reads_at

end Cert.Proof.Proj

end
-- ==== Proof.Proj.lean ====
/- The projection's blocks put together: its arrays are the reference's results. -/
module

public import proofs.«01_k».proof.Proof.ProjHost
public import proofs.«01_k».proof.Proof.ProjRef
public import proofs.«01_k».proof.Proof.Gen.Kernel2.Frame
public import proofs.«01_k».proof.Proof.Gen.Reference2Ideal.Run

@[expose] public section

set_option maxRecDepth 16384

noncomputable section

namespace Cert.Proof.Proj

open Idealize.ShloMosaic Idealize.ShloMosaic.TcCoe Idealize.SL.Sem Cert.Kernel2Ideal Cert.Kernel2Ideal.Gen Cert.Proof.Row
open Cert.Proof.ProjRef (row idx2)

theorem place0 : ∀ t : Fin cfg0.N, win0_0.index t = ![(grid0.coords t 0).val, 0] :=
  (by decide +kernel : ∀ t : Fin grid0.N, _)
theorem place1 : ∀ t : Fin cfg0.N, win0_1.index t = ![0, 0] :=
  (by decide +kernel : ∀ t : Fin grid0.N, _)
theorem place2 : ∀ t : Fin cfg0.N, win0_2.index t = ![0, 0] :=
  (by decide +kernel : ∀ t : Fin grid0.N, _)
theorem place3 : ∀ t : Fin cfg0.N, win0_3.index t = ![0, 0] :=
  (by decide +kernel : ∀ t : Fin grid0.N, _)
theorem place4 : ∀ t : Fin cfg0.N, win0_4.index t = ![(grid0.coords t 0).val, 0] :=
  (by decide +kernel : ∀ t : Fin grid0.N, _)
theorem place5 : ∀ t : Fin cfg0.N, win0_5.index t = ![(grid0.coords t 0).val, 0] :=
  (by decide +kernel : ∀ t : Fin grid0.N, _)
theorem place6 : ∀ t : Fin cfg0.N, win0_6.index t = ![(grid0.coords t 0).val, 0] :=
  (by decide +kernel : ∀ t : Fin grid0.N, _)
theorem place7 : ∀ t : Fin cfg0.N, win0_7.index t = ![(grid0.coords t 0).val, 0] :=
  (by decide +kernel : ∀ t : Fin grid0.N, _)
theorem place8 : ∀ t : Fin cfg0.N, win0_8.index t = ![(grid0.coords t 0).val, 0] :=
  (by decide +kernel : ∀ t : Fin grid0.N, _)
theorem place9 : ∀ t : Fin cfg0.N, win0_9.index t = ![(grid0.coords t 0).val, 0] :=
  (by decide +kernel : ∀ t : Fin grid0.N, _)
theorem place10 : ∀ t : Fin cfg0.N, win0_10.index t = ![(grid0.coords t 0).val, 0] :=
  (by decide +kernel : ∀ t : Fin grid0.N, _)
theorem place11 : ∀ t : Fin cfg0.N, win0_11.index t = ![(grid0.coords t 0).val, 0] :=
  (by decide +kernel : ∀ t : Fin grid0.N, _)

variable (m : (ℓ : Loc nD τ sig) → Buf (Elt Ideal) ℓ) (c : Dev nD)

abbrev a0 : Vec Ideal S8x2048x1024 .f32 := m ((c : Thread nD τ).loc main_arg0)
abbrev a1 : Vec Ideal S16x1024 .f32 := m ((c : Thread nD τ).loc main_arg1)
abbrev a2 : Vec Ideal S1x1024 .f32 := m ((c : Thread nD τ).loc main_arg2)
abbrev a3 : Vec Ideal S1x1024x5648 .f32 := m ((c : Thread nD τ).loc main_arg3)

/-- The row of the array that row `r` of the block at grid point `t` is. -/
def at' (t : Fin cfg0.N) (r : Fin 384) : Fin 16512 := ⟨384 * (grid0.coords t 0).val + r.val, by
  have : (grid0.coords t 0).val < 43 := (grid0.coords t 0).isLt
  omega⟩

theorem block0 (t : Fin cfg0.N) (r : Fin 384) (k : Fin 1024) : iblk m c 0 t (ix2 r k) = row (a0 m c) (a1 m c) (at' t r) k := by
  have e := congrFun (rows_eq m c) (ix2 (at' t r) k)
  refine Eq.trans ?_ e
  blk_simp [iblk]
  refine congrArg _ ?_
  blk_ext [place0, at']

theorem block1 (t : Fin cfg0.N) (k : Fin 1024) : iblk m c 1 t (ix2 0 k) = a2 m c (ix2 0 k) := by
  refine Eq.trans ?_ (gain_eq m c k)
  blk_simp [iblk]
  refine congrArg _ ?_
  blk_ext [place1]

theorem block2 (t : Fin cfg0.N) (k : Fin 1024) (n : Fin 5632) : iblk m c 2 t (ix2 k n) = V m c main_v12 (ix2 k n) := by
  blk_simp [iblk]
  refine congrArg _ ?_
  blk_ext [place2]

theorem block3 (t : Fin cfg0.N) (k : Fin 1024) (n : Fin 128) : iblk m c 3 t (ix2 k n) = V m c main_v18 (ix2 k n) := by
  blk_simp [iblk]
  refine congrArg _ ?_
  blk_ext [place3]

/-- What the body makes of a row and a wide column, of the arguments. -/
theorem wide_block (t : Fin cfg0.N) (r : Fin 384) (n : ℕ) (n' : Fin 5648) (hn : n < 5632) (h : n'.val = src n) :
    wide (iblk m c 0 t) (iblk m c 1 t) (iblk m c 2 t) r n
      = proj (row (a0 m c) (a1 m c) (at' t r)) (fun k => a2 m c (ix2 0 k)) (fun k => a3 m c (ix3 0 k n')) := by
  unfold wide
  refine proj_congr (fun k => block0 m c t r k) (fun k => block1 m c t k) fun k => ?_
  unfold wideCol
  rw [dif_pos hn]
  exact (block2 m c t k ⟨n, hn⟩).trans (wide_eq m c k ⟨n, hn⟩ n' h)

theorem array4 : (dats m 0 c).arrAt 4 cfg0.N = Cert.Reference2Ideal.Read.val_main_v20 (F := Ideal) (a0 m c) (a1 m c) (a2 m c) (a3 m c) := by
  refine (dats m 0 c).arrAt_eq_of_covers 4 _ (by decide +kernel) fun t hf y => ?_
  blk_simp
  rw [after0_4]
  have h1 : (y 1).val < 1536 := (y 1).isLt
  have h0 : (y 0).val < 384 := (y 0).isLt
  refine (out4 (iblk m c 0 t) (iblk m c 1 t) (iblk m c 2 t) (iblk m c 3 t) y).trans ?_
  refine (wide_block m c t ⟨(y 0).val, h0⟩ (0 + (y 1).val) ⟨0 + (y 1).val, by omega⟩ (by omega)
    (by unfold src; dsimp only; split_ifs <;> omega)).trans ?_
  refine (ProjRef.cols20 (a0 m c) (a1 m c) (a2 m c) (a3 m c) (at' t ⟨(y 0).val, h0⟩) ⟨(y 1).val, h1⟩ _ rfl).symm.trans ?_
  refine congrArg _ ?_
  blk_ext [place4, at']

theorem array5 : (dats m 0 c).arrAt 5 cfg0.N = Cert.Reference2Ideal.Read.val_main_v21 (F := Ideal) (a0 m c) (a1 m c) (a2 m c) (a3 m c) := by
  refine (dats m 0 c).arrAt_eq_of_covers 5 _ (by decide +kernel) fun t hf y => ?_
  blk_simp
  rw [after0_5]
  have h1 : (y 1).val < 512 := (y 1).isLt
  have h0 : (y 0).val < 384 := (y 0).isLt
  refine (out5 (iblk m c 0 t) (iblk m c 1 t) (iblk m c 2 t) (iblk m c 3 t) y).trans ?_
  refine (wide_block m c t ⟨(y 0).val, h0⟩ (1536 + (y 1).val) ⟨1536 + (y 1).val, by omega⟩ (by omega)
    (by unfold src; dsimp only; split_ifs <;> omega)).trans ?_
  refine (ProjRef.cols21 (a0 m c) (a1 m c) (a2 m c) (a3 m c) (at' t ⟨(y 0).val, h0⟩) ⟨(y 1).val, h1⟩ _ rfl).symm.trans ?_
  refine congrArg _ ?_
  blk_ext [place5, at']

theorem array6 : (dats m 0 c).arrAt 6 cfg0.N = Cert.Reference2Ideal.Read.val_main_v24 (F := Ideal) (a0 m c) (a1 m c) (a2 m c) (a3 m c) := by
  refine (dats m 0 c).arrAt_eq_of_covers 6 _ (by decide +kernel) fun t hf y => ?_
  blk_simp
  rw [after0_6]
  have h1 : (y 1).val < 512 := (y 1).isLt
  have h0 : (y 0).val < 384 := (y 0).isLt
  refine (out6 (iblk m c 0 t) (iblk m c 1 t) (iblk m c 2 t) (iblk m c 3 t) y).trans ?_
  refine (wide_block m c t ⟨(y 0).val, h0⟩ (2048 + (y 1).val) ⟨2056 + (y 1).val, by omega⟩ (by omega)
    (by unfold src; dsimp only; split_ifs <;> omega)).trans ?_
  refine (ProjRef.cols24 (a0 m c) (a1 m c) (a2 m c) (a3 m c) (at' t ⟨(y 0).val, h0⟩) ⟨(y 1).val, h1⟩ _ rfl).symm.trans ?_
  refine congrArg _ ?_
  blk_ext [place6, at']

theorem array7 : (dats m 0 c).arrAt 7 cfg0.N = Cert.Reference2Ideal.Read.val_main_v25 (F := Ideal) (a0 m c) (a1 m c) (a2 m c) (a3 m c) := by
  refine (dats m 0 c).arrAt_eq_of_covers 7 _ (by decide +kernel) fun t hf y => ?_
  blk_simp
  rw [after0_7]
  have h1 : (y 1).val < 512 := (y 1).isLt
  have h0 : (y 0).val < 384 := (y 0).isLt
  refine (out7 (iblk m c 0 t) (iblk m c 1 t) (iblk m c 2 t) (iblk m c 3 t) y).trans ?_
  refine (wide_block m c t ⟨(y 0).val, h0⟩ (2560 + (y 1).val) ⟨2568 + (y 1).val, by omega⟩ (by omega)
    (by unfold src; dsimp only; split_ifs <;> omega)).trans ?_
  refine (ProjRef.cols25 (a0 m c) (a1 m c) (a2 m c) (a3 m c) (at' t ⟨(y 0).val, h0⟩) ⟨(y 1).val, h1⟩ _ rfl).symm.trans ?_
  refine congrArg _ ?_
  blk_ext [place7, at']

theorem array8 : (dats m 0 c).arrAt 8 cfg0.N = Cert.Reference2Ideal.Read.val_main_v26 (F := Ideal) (a0 m c) (a1 m c) (a2 m c) (a3 m c) := by
  refine (dats m 0 c).arrAt_eq_of_covers 8 _ (by decide +kernel) fun t hf y => ?_
  blk_simp
  rw [after0_8]
  have h1 : (y 1).val < 512 := (y 1).isLt
  have h0 : (y 0).val < 384 := (y 0).isLt
  refine (out8 (iblk m c 0 t) (iblk m c 1 t) (iblk m c 2 t) (iblk m c 3 t) y).trans ?_
  refine (wide_block m c t ⟨(y 0).val, h0⟩ (3072 + (y 1).val) ⟨3080 + (y 1).val, by omega⟩ (by omega)
    (by unfold src; dsimp only; split_ifs <;> omega)).trans ?_
  refine (ProjRef.cols26 (a0 m c) (a1 m c) (a2 m c) (a3 m c) (at' t ⟨(y 0).val, h0⟩) ⟨(y 1).val, h1⟩ _ rfl).symm.trans ?_
  refine congrArg _ ?_
  blk_ext [place8, at']

theorem array9 : (dats m 0 c).arrAt 9 cfg0.N = Cert.Reference2Ideal.Read.val_main_v28 (F := Ideal) (a0 m c) (a1 m c) (a2 m c) (a3 m c) := by
  refine (dats m 0 c).arrAt_eq_of_covers 9 _ (by decide +kernel) fun t hf y => ?_
  blk_simp
  rw [after0_9]
  have h1 : (y 1).val < 1024 := (y 1).isLt
  have h0 : (y 0).val < 384 := (y 0).isLt
  refine (out9 (iblk m c 0 t) (iblk m c 1 t) (iblk m c 2 t) (iblk m c 3 t) y).trans ?_
  refine (wide_block m c t ⟨(y 0).val, h0⟩ (3584 + (y 1).val) ⟨3600 + (y 1).val, by omega⟩ (by omega)
    (by unfold src; dsimp only; split_ifs <;> omega)).trans ?_
  refine (ProjRef.cols28 (a0 m c) (a1 m c) (a2 m c) (a3 m c) (at' t ⟨(y 0).val, h0⟩) ⟨(y 1).val, h1⟩ _ rfl).symm.trans ?_
  refine congrArg _ ?_
  blk_ext [place9, at']

theorem array10 : (dats m 0 c).arrAt 10 cfg0.N = Cert.Reference2Ideal.Read.val_main_v29 (F := Ideal) (a0 m c) (a1 m c) (a2 m c) (a3 m c) := by
  refine (dats m 0 c).arrAt_eq_of_covers 10 _ (by decide +kernel) fun t hf y => ?_
  blk_simp
  rw [after0_10]
  have h1 : (y 1).val < 1024 := (y 1).isLt
  have h0 : (y 0).val < 384 := (y 0).isLt
  refine (out10 (iblk m c 0 t) (iblk m c 1 t) (iblk m c 2 t) (iblk m c 3 t) y).trans ?_
  refine (wide_block m c t ⟨(y 0).val, h0⟩ (4608 + (y 1).val) ⟨4624 + (y 1).val, by omega⟩ (by omega)
    (by unfold src; dsimp only; split_ifs <;> omega)).trans ?_
  refine (ProjRef.cols29 (a0 m c) (a1 m c) (a2 m c) (a3 m c) (at' t ⟨(y 0).val, h0⟩) ⟨(y 1).val, h1⟩ _ rfl).symm.trans ?_
  refine congrArg _ ?_
  blk_ext [place10, at']

/-- What the body makes of a row and a narrow column is the reference's entry. -/
theorem small_block (t : Fin cfg0.N) (r : Fin 384) (n : Fin 128) :
    proj (fun j => iblk m c 0 t (ix2 r j)) (fun j => iblk m c 1 t (ix2 0 j)) (fun k => iblk m c 3 t (ix2 k n))
      = Cert.Reference2Ideal.Read.val_main_v31 (F := Ideal) (a0 m c) (a1 m c) (a2 m c) (a3 m c) (ix2 (at' t r) n) := by
  by_cases hn : n.val < 16
  · have hb : srcSmall n.val < 5648 := by unfold srcSmall; split_ifs <;> omega
    rw [ProjRef.small_apply _ _ _ _ (at' t r) n hn ⟨srcSmall n.val, hb⟩ rfl]
    exact proj_congr (fun k => block0 m c t r k) (fun k => block1 m c t k) fun k =>
      (block3 m c t k n).trans (small_eq m c k n _ hn rfl)
  · rw [ProjRef.small_zero _ _ _ _ (at' t r) n hn]
    refine Finset.sum_eq_zero fun k _ => ?_
    exact (congrArg (_ * ·) ((block3 m c t k n).trans (small_zero m c k n hn))).trans (mul_zero _)

theorem array11 : (dats m 0 c).arrAt 11 cfg0.N = Cert.Reference2Ideal.Read.val_main_v31 (F := Ideal) (a0 m c) (a1 m c) (a2 m c) (a3 m c) := by
  refine (dats m 0 c).arrAt_eq_of_covers 11 _ (by decide +kernel) fun t hf y => ?_
  blk_simp
  rw [after0_11]
  have h1 : (y 1).val < 128 := (y 1).isLt
  have h0 : (y 0).val < 384 := (y 0).isLt
  have hy : (y : S384x128.Idx) = ix2 ⟨(y 0).val, h0⟩ ⟨(y 1).val, h1⟩ := idx2 rfl rfl
  refine (congrArg _ hy).trans ((out11 (iblk m c 0 t) (iblk m c 1 t) (iblk m c 2 t) (iblk m c 3 t) ⟨(y 0).val, h0⟩ ⟨(y 1).val, h1⟩).trans ?_)
  refine (?_ : _ = Cert.Reference2Ideal.Read.val_main_v31 (F := Ideal) (a0 m c) (a1 m c) (a2 m c) (a3 m c)
    (ix2 (at' t ⟨(y 0).val, h0⟩) ⟨(y 1).val, h1⟩)).trans ?_
  · exact small_block m c t ⟨(y 0).val, h0⟩ ⟨(y 1).val, h1⟩
  refine congrArg _ ?_
  blk_ext [place11, at']

end Cert.Proof.Proj

end
-- ==== Proof.Combine.lean ====
/- The call that adds the experts' rows to the stream: its array is the reference's result. -/
module

public import proofs.«01_k».proof.Proof.ProjRef
public import proofs.«01_k».proof.Proof.Gen.Kernel4Ideal.Value
public import proofs.«01_k».proof.Proof.Gen.Reference4Ideal.Read
public import Idealize.ShloMosaic.Lib.Pipeline.ValueKit
public import Idealize.ShloMosaic.Lib.Pointwise
public import Idealize.ShloMosaic.Lib.VecWindow
public import Idealize.ShloMosaic.Lib.WholeRead

@[expose] public section

set_option maxRecDepth 16384

noncomputable section

namespace Cert.Proof.Combine

open Idealize.ShloMosaic Idealize.ShloMosaic.TcCoe Idealize.SL.Sem Cert.Kernel4Ideal Cert.Kernel4Ideal.Gen
open Idealize.ShloMosaic.Tactic
open Cert.Proof.ProjRef (idx2 idx3)

/-! ## The stored value, entry by entry -/

/-- A row's entry with four weighted entries added to it, one after the other. -/
def mixed (x : EReal) (w y : Fin 4 → EReal) : EReal := x + w 0 * y 0 + w 1 * y 1 + w 2 * y 2 + w 3 * y 3

theorem mixed_eq (x : EReal) (w y : Fin 4 → EReal) : mixed x w y = x + ∑ k, w k * y k := by
  rw [Fin.sum_univ_four]
  simp only [mixed, add_assoc]

/-- The four columns of weights, and the four rows. -/
theorem stored_apply (w : Vec Ideal S384x128 .f32) (x : Vec Ideal S384x1024 .f32) (y0 y1 y2 y3 : Vec Ideal S1x384x1024 .f32) (r : Fin 384) (n : Fin 1024) :
    k0_pay1 w x y0 y1 y2 y3 (ix2 r n)
      = mixed (x (ix2 r n)) ![w (ix2 r 0), w (ix2 r 1), w (ix2 r 2), w (ix2 r 3)]
          ![y0 (ix3 0 r n), y1 (ix3 0 r n), y2 (ix3 0 r n), y3 (ix3 0 r n)] := by
  unfold k0_pay1 mixed
  pointwise []

/-! ## Where the blocks lie -/

theorem place0 : ∀ t : Fin cfg0.N, win0_0.index t = ![t.val, 0] := (by decide +kernel : ∀ t : Fin grid0.N, _)
theorem place1 : ∀ t : Fin cfg0.N, win0_1.index t = ![0, t.val, 0] := (by decide +kernel : ∀ t : Fin grid0.N, _)
theorem place2 : ∀ t : Fin cfg0.N, win0_2.index t = ![t.val, 0] := (by decide +kernel : ∀ t : Fin grid0.N, _)
theorem place3 : ∀ t : Fin cfg0.N, win0_3.index t = ![t.val, 0] := (by decide +kernel : ∀ t : Fin grid0.N, _)

variable (m : (ℓ : Loc nD τ sig) → Buf (Elt Ideal) ℓ) (c : Dev nD)

abbrev a0 : Vec Ideal S16512x1024 .f32 := m ((c : Thread nD τ).loc main_arg0)
abbrev a1 : Vec Ideal S4x16544x1024 .f32 := m ((c : Thread nD τ).loc main_arg1)
abbrev a2 : Vec Ideal S16512x128 .f32 := m ((c : Thread nD τ).loc main_arg2)

/-- The row of the array that row `r` of block `t` is. -/
def at' (t : Fin cfg0.N) (r : Fin 384) : Fin 16512 := ⟨384 * t.val + r.val, by
  have : t.val < 43 := t.isLt
  omega⟩

theorem wide_at (t : Fin cfg0.N) (r : Fin 384) : 384 * t.val + r.val < 16544 := by
  have : t.val < 43 := t.isLt
  omega

/-- An entry of a block of rows, in the array. -/
theorem row_entry {w : ℕ} (t : Fin cfg0.N) (r : Fin 384) (k : Fin w) (i : (⟨2, ![16512, w]⟩ : Shape).Idx) {X : Fin 2 → ℕ} (h : X = ![t.val, 0])
    (h0 : (i 0).val = X 0 * 384 + 1 * r.val) (h1 : (i 1).val = X 1 * w + 1 * k.val) : i = ix2 (at' t r) k := by
  subst h
  exact idx2 (h0.trans (show t.val * 384 + 1 * r.val = 384 * t.val + r.val by omega)) (h1.trans (show 0 * w + 1 * k.val = k.val by omega))

/-- An entry of a block of four slabs, in the array. -/
theorem slab_entry (t : Fin cfg0.N) (s : Fin 4) (r : Fin 384) (n : Fin 1024) (i : S4x16544x1024.Idx) {X : Fin 3 → ℕ} (h : X = ![0, t.val, 0])
    (h0 : (i 0).val = X 0 * 4 + 1 * s.val) (h1 : (i 1).val = X 1 * 384 + 1 * r.val) (h2 : (i 2).val = X 2 * 1024 + 1 * n.val) :
    i = ix3 s ⟨384 * t.val + r.val, wide_at t r⟩ n := by
  subst h
  exact idx3 (h0.trans (show 0 * 4 + 1 * s.val = s.val by omega)) (h1.trans (show t.val * 384 + 1 * r.val = 384 * t.val + r.val by omega))
    (h2.trans (show 0 * 1024 + 1 * n.val = n.val by omega))

theorem block0 (t : Fin cfg0.N) (r : Fin 384) (k : Fin 1024) : iblk m c 0 t (ix2 r k) = a0 m c (ix2 (at' t r) k) :=
  congrArg (a0 m c) (row_entry t r k (((cfg0.win 0).blk t).view.emb (ix2 r k)) (place0 t) rfl rfl)

theorem block1 (t : Fin cfg0.N) (s : Fin 4) (r : Fin 384) (n : Fin 1024) :
    X0_1 m c t (ix3 s r n) = a1 m c (ix3 s ⟨384 * t.val + r.val, wide_at t r⟩ n) := by
  unfold X0_1 Pipeline.Window.fill
  rw [dif_pos (moved0_1 t _)]
  exact congrArg (a1 m c) (slab_entry t s r n (((cfg0.win 1).blk t).view.emb _) (place1 t) rfl rfl rfl)

theorem block2 (t : Fin cfg0.N) (r : Fin 384) (k : Fin 128) : iblk m c 2 t (ix2 r k) = a2 m c (ix2 (at' t r) k) :=
  congrArg (a2 m c) (row_entry t r k (((cfg0.win 2).blk t).view.emb (ix2 r k)) (place2 t) rfl rfl)

/-! ## The array -/

/-- The reference's result, entry by entry. -/
theorem entry (x0 : Vec Ideal S16512x1024 .f32) (x1 : Vec Ideal S4x16544x1024 .f32) (x2 : Vec Ideal S16512x128 .f32) (r : Fin 16512) (n : Fin 1024) :
    Cert.Reference4Ideal.Read.val_main_v3 (F := Ideal) x0 x1 x2 (ix2 r n)
      = x0 (ix2 r n) + ∑ k : Fin 4, x2 (ix2 r ⟨k.val, by omega⟩) * x1 (ix3 k ⟨r.val, by omega⟩ n) := by
  rw [Cert.Reference4Ideal.Read.val_main_v3_apply, Cert.Reference4Ideal.Read.val_main_v2_apply]
  refine congrArg (fun s => x0 (ix2 r n) + s) (Finset.sum_congr rfl fun k _ => ?_)
  rw [Cert.Reference4Ideal.Read.val_main_v0_apply, Cert.Reference4Ideal.Read.val_main_v1_apply]
  exact congrArg₂ (fun i j => x2 i * x1 j) (idx2 rfl rfl) (idx3 rfl rfl rfl)

/-- One of a block's four slabs. -/
def slab (x : Vec Ideal S4x384x1024 .f32) (s : Fin 4) : Vec Ideal S1x384x1024 .f32 :=
  fun y => x (ix3 s ⟨(y 1).val, (y 1).isLt⟩ ⟨(y 2).val, (y 2).isLt⟩)

theorem pay_congr {w w' : Vec Ideal S384x128 .f32} {x x' : Vec Ideal S384x1024 .f32} {y0 y0' y1 y1' y2 y2' y3 y3' : Vec Ideal S1x384x1024 .f32}
    (hw : w = w') (hx : x = x') (h0 : y0 = y0') (h1 : y1 = y1') (h2 : y2 = y2') (h3 : y3 = y3') :
    k0_pay1 w x y0 y1 y2 y3 = k0_pay1 w' x' y0' y1' y2' y3' := by subst hw hx h0 h1 h2 h3; rfl

/-- A load of a whole block of rows. -/
theorem rows_load {w : ℕ} {M : Memref sig .tc .vmem ⟨2, ![384, w]⟩ .f32} (h : M.IsWhole) (x : Vec Ideal ⟨2, ![384, w]⟩ .f32)
    (inb : ∀ a, (![0, 0] : Fin 2 → ℕ) a + (⟨2, ![384, w]⟩ : Shape).size a ≤ (⟨2, ![384, w]⟩ : Shape).size a) :
    M.view.readAt (Elt Ideal) (Rect.unit (s := ⟨2, ![384, w]⟩) ![0, 0] (⟨2, ![384, w]⟩ : Shape).size inb).toLoadRect (h.unread x) = x :=
  funext fun y => (h.readAt_unread x _ y).trans (congrArg x
    (idx2 (show 0 + 1 * (y 0).val = (y 0).val by omega) (show 0 + 1 * (y 1).val = (y 1).val by omega)))

/-- A load of one slab. -/
theorem slab_load {M : Memref sig .tc .vmem S4x384x1024 .f32} (h : M.IsWhole) (x : Vec Ideal S4x384x1024 .f32) (s : Fin 4) {off : Fin 3 → ℕ}
    (e : off = ![s.val, 0, 0]) (inb : ∀ a, off a + S1x384x1024.size a ≤ S4x384x1024.size a) :
    M.view.readAt (Elt Ideal) (Rect.unit (s := S4x384x1024) off S1x384x1024.size inb).toLoadRect (h.unread x) = slab x s := by
  subst e
  refine funext fun y => (h.readAt_unread x _ y).trans (congrArg x ?_)
  have hy : (y 0).val < 1 := (y 0).isLt
  exact idx3 (show s.val + 1 * (y 0).val = s.val by omega) (show 0 + 1 * (y 1).val = (y 1).val by omega) (show 0 + 1 * (y 2).val = (y 2).val by omega)

/-- What the body leaves in the output's block. -/
theorem body_eq (i : grid0.Coords) (arg1 : Memref sig .tc .vmem S384x1024 .f32) (harg1 : arg1.IsWhole) (arg2 : Memref sig .tc .vmem S4x384x1024 .f32) (harg2 : arg2.IsWhole)
    (arg3 : Memref sig .tc .vmem S384x128 .f32) (harg3 : arg3.IsWhole) (arg4 : Memref sig .tc .vmem S384x1024 .f32) (harg4 : arg4.IsWhole)
    (x0 : Vec Ideal S384x1024 .f32) (x1 : Vec Ideal S4x384x1024 .f32) (x2 : Vec Ideal S384x128 .f32) :
    out0_A_3 c i arg1 harg1 arg2 harg2 arg3 harg3 arg4 harg4 x0 x1 x2 = k0_pay1 x2 x0 (slab x1 0) (slab x1 1) (slab x1 2) (slab x1 3) := by
  unfold out0_A_3
  refine (View.read_writes_full (Val := Elt Ideal) VO0_3 _ _ _ _).trans ?_
  refine pay_congr ?_ ?_ ?_ ?_ ?_ ?_
  · exact rows_load harg3 x2 _
  · exact rows_load harg1 x0 _
  · exact slab_load harg2 x1 0 rfl _
  · exact slab_load harg2 x1 1 rfl _
  · exact slab_load harg2 x1 2 rfl _
  · exact slab_load harg2 x1 3 rfl _

/-- What a point leaves in its block. -/
theorem out_eq (t : Fin cfg0.N) :
    outsAt0 m c t = k0_pay1 (iblk m c 2 t) (iblk m c 0 t) (slab (X0_1 m c t) 0) (slab (X0_1 m c t) 1) (slab (X0_1 m c t) 2) (slab (X0_1 m c t) 3) :=
  body_eq c _ _ _ _ _ _ _ _ _ _ _ _

/-- The same, entry by entry. -/
theorem out_apply (t : Fin cfg0.N) (r : Fin 384) (n : Fin 1024) :
    outsAt0 m c t (ix2 r n)
      = mixed (iblk m c 0 t (ix2 r n)) ![iblk m c 2 t (ix2 r 0), iblk m c 2 t (ix2 r 1), iblk m c 2 t (ix2 r 2), iblk m c 2 t (ix2 r 3)]
          ![X0_1 m c t (ix3 0 r n), X0_1 m c t (ix3 1 r n), X0_1 m c t (ix3 2 r n), X0_1 m c t (ix3 3 r n)] :=
  (congrFun (out_eq m c t) (ix2 r n)).trans (stored_apply _ _ _ _ _ _ r n)

/-- The reference's result at the arrays. -/
abbrev result : Vec Ideal S16512x1024 .f32 := Cert.Reference4Ideal.Read.val_main_v3 (F := Ideal) (a0 m c) (a1 m c) (a2 m c)

/-- What a point leaves in its block is its part of the result. -/
theorem result_apply (t : Fin cfg0.N) (r : Fin 384) (n : Fin 1024) : outsAt0 m c t (ix2 r n) = result m c (ix2 (at' t r) n) := by
  rw [out_apply, mixed_eq]
  refine Eq.trans ?_ (entry (a0 m c) (a1 m c) (a2 m c) (at' t r) n).symm
  rw [block0]
  refine congrArg (fun s => a0 m c (ix2 (at' t r) n) + s) (Finset.sum_congr rfl fun k _ => ?_)
  match k with
  | ⟨0, _⟩ => exact congrArg₂ (· * ·) (block2 m c t r 0) (block1 m c t 0 r n)
  | ⟨1, _⟩ => exact congrArg₂ (· * ·) (block2 m c t r 1) (block1 m c t 1 r n)
  | ⟨2, _⟩ => exact congrArg₂ (· * ·) (block2 m c t r 2) (block1 m c t 2 r n)
  | ⟨3, _⟩ => exact congrArg₂ (· * ·) (block2 m c t r 3) (block1 m c t 3 r n)

/-- Where an entry of the output's block lies. -/
theorem placed (t : Fin cfg0.N) (r : Fin 384) (n : Fin 1024) : ((cfg0.win 3).blk t).view.emb (ix2 r n) = ix2 (at' t r) n :=
  row_entry t r n _ (place3 t) rfl rfl

theorem flush3 : ∀ t : Fin cfg0.N, (cfg0.win 3).flush t = true := (by decide +kernel : ∀ t : Fin grid0.N, _)

/-- The blocks cover the array. -/
theorem covers (i : S16512x1024.Idx) : ∃ t : Fin cfg0.N, (cfg0.win 3).flush t = true ∧ i ∈ ((cfg0.win 3).blk t).view.set := by
  have h0 : (i 0).val < 16512 := (i 0).isLt
  have h1 : (i 1).val < 1024 := (i 1).isLt
  have ht : (i 0).val / 384 < 43 := by omega
  refine ⟨(⟨(i 0).val / 384, ht⟩ : Fin 43), flush3 _, ?_⟩
  have e : i = ix2 (at' (⟨(i 0).val / 384, ht⟩ : Fin 43) ⟨(i 0).val % 384, by omega⟩) ⟨(i 1).val, h1⟩ :=
    idx2 (show (i 0).val = 384 * ((i 0).val / 384) + (i 0).val % 384 by omega) rfl
  have e' := e.trans (placed (⟨(i 0).val / 384, ht⟩ : Fin 43) ⟨(i 0).val % 384, by omega⟩ ⟨(i 1).val, h1⟩).symm
  exact (congrArg (fun x => x ∈ ((cfg0.win 3).blk (⟨(i 0).val / 384, ht⟩ : Fin 43)).view.set) e').mpr (View.emb_mem_set _ _)

/-- The array the call leaves is the reference's result. -/
theorem array : (dats m 0 c).arrAt 3 cfg0.N = result m c := by
  refine (dats m 0 c).arrAt_eq_of_emb 3 _ (fun t hf (y : S384x1024.Idx) => ?_) covers
  have h1 : (y 1).val < 1024 := (y 1).isLt
  have h0 : (y 0).val < 384 := (y 0).isLt
  have hy : y = ix2 (⟨(y 0).val, h0⟩ : Fin 384) (⟨(y 1).val, h1⟩ : Fin 1024) := idx2 rfl rfl
  generalize (⟨(y 0).val, h0⟩ : Fin 384) = r at hy
  generalize (⟨(y 1).val, h1⟩ : Fin 1024) = n at hy
  subst hy
  refine Eq.trans ?_ ((result_apply m c t r n).trans (congrArg (result m c) (placed t r n).symm))
  exact congrFun (after0_3 m c t) (ix2 r n)

end Cert.Proof.Combine

end
-- ==== Proof.Whole.lean ====
/- Where an entry of a block lies when the block is at the array's start, with no program. -/
module

public import proofs.«01_k».proof.Proof.ProjRef

@[expose] public section

noncomputable section

namespace Cert.Proof.Whole

open Idealize.ShloMosaic
open Cert.Proof.ProjRef (idx2 idx3)

/-- A block of the array's own size. -/
theorem at_start {a b : ℕ} (r : Fin a) (k : Fin b) (i : (⟨2, ![a, b]⟩ : Shape).Idx) {X : Fin 2 → ℕ} (h : X = ![0, 0])
    (h0 : (i 0).val = X 0 * a + 1 * r.val) (h1 : (i 1).val = X 1 * b + 1 * k.val) : i = ix2 r k := by
  subst h
  exact idx2 (h0.trans (show 0 * a + 1 * r.val = r.val by omega)) (h1.trans (show 0 * b + 1 * k.val = k.val by omega))

/-- One page of an array of pages. -/
theorem at_page {p a b : ℕ} (s : Fin p) (r : Fin a) (k : Fin b) (i : (⟨3, ![p, a, b]⟩ : Shape).Idx) {X : Fin 3 → ℕ} (h : X = ![s.val, 0, 0])
    (h0 : (i 0).val = X 0 * 1 + 1 * 0) (h1 : (i 1).val = X 1 * a + 1 * r.val) (h2 : (i 2).val = X 2 * b + 1 * k.val) : i = ix3 s r k := by
  subst h
  exact idx3 (h0.trans (show s.val * 1 + 1 * 0 = s.val by omega)) (h1.trans (show 0 * a + 1 * r.val = r.val by omega))
    (h2.trans (show 0 * b + 1 * k.val = k.val by omega))

end Cert.Proof.Whole

end
-- ==== Proof.Keys.lean ====
/- The prompt group's normed keys: the array the call leaves is the reference's result. -/
module

public import proofs.«01_k».proof.Proof.Whole
public import proofs.«01_k».proof.Proof.Finite
public import proofs.«01_k».proof.Proof.Gen.Kernel9Ideal.Value
public import proofs.«01_k».proof.Proof.Gen.Reference9Ideal.Read
public import proofs.«01_k».proof.Proof.Gen.Pre_finite_keys
public import Idealize.ShloMosaic.Lib.Pipeline.ValueKit
public import Idealize.ShloMosaic.Lib.Pointwise
public import Idealize.ShloMosaic.Lib.VecWindow
public import Idealize.ShloMosaic.Lib.WholeRead
public import Idealize.ShloMosaic.Lib.StableHlo.ReadAt

@[expose] public section

set_option maxRecDepth 16384

noncomputable section

namespace Cert.Proof.Keys

open Idealize.ShloMosaic Idealize.ShloMosaic.TcCoe Idealize.SL.Sem Cert.Kernel9Ideal Cert.Kernel9Ideal.Gen
open Idealize.ShloMosaic.Tactic
open Cert.Proof.ProjRef (idx2 idx3)

/-! ## The norm of one head's keys -/

/-- The key `own` of a head whose keys are `x`, normed. -/
def normed (x : Fin 64 → EReal) (own g : EReal) : EReal :=
  own * Ideal.rsqrt ((∑ j, x j * x j) * Ideal.ofBits .f32 0x3C800000#32 + Ideal.ofBits .f32 0x358637BD#32) * g

theorem normed_congr {x x' : Fin 64 → EReal} {o o' g g' : EReal} (hx : ∀ j, x j = x' j) (ho : o = o') (hg : g = g') :
    normed x o g = normed x' o' g' := by
  rw [funext hx, ho, hg]

/-- The sum over a block of two heads of the entries of one head. -/
theorem sum_head (f : Fin 128 → EReal) (l : Fin 128) :
    ∑ c : Fin 128, f c * (if c.val / 64 = l.val / 64 then 1 else 0) = ∑ j : Fin 64, f ⟨64 * (l.val / 64) + j.val, by omega⟩ := by
  have h := Fintype.sum_equiv (finProdFinEquiv (m := 2) (n := 64)) (fun p => f (finProdFinEquiv p) * (if (finProdFinEquiv p).val / 64 = l.val / 64 then 1 else 0))
    (fun c : Fin (2 * 64) => f c * (if c.val / 64 = l.val / 64 then 1 else 0)) fun _ => rfl
  refine h.symm.trans ?_
  rw [Fintype.sum_prod_type, Fin.sum_univ_two]
  have e0 : ∀ j : Fin 64, (finProdFinEquiv ((0 : Fin 2), j)).val = j.val := fun j => by simp [finProdFinEquiv]
  have e1 : ∀ j : Fin 64, (finProdFinEquiv ((1 : Fin 2), j)).val = 64 + j.val := fun j => by simp [finProdFinEquiv]; omega
  rcases (show l.val / 64 = 0 ∨ l.val / 64 = 1 by omega) with hl | hl
  · have z : ∑ j : Fin 64, f (finProdFinEquiv ((1 : Fin 2), j)) * (if (finProdFinEquiv ((1 : Fin 2), j)).val / 64 = l.val / 64 then (1 : EReal) else 0) = 0 :=
      Finset.sum_eq_zero fun j _ => by rw [if_neg (by rw [e1, hl]; omega), mul_zero]
    rw [z, add_zero]
    refine Finset.sum_congr rfl fun j _ => ?_
    rw [if_pos (by rw [e0, hl]; omega), mul_one]
    exact congrArg f (Fin.ext ((e0 j).trans (show j.val = 64 * (l.val / 64) + j.val by omega)))
  · have z : ∑ j : Fin 64, f (finProdFinEquiv ((0 : Fin 2), j)) * (if (finProdFinEquiv ((0 : Fin 2), j)).val / 64 = l.val / 64 then (1 : EReal) else 0) = 0 :=
      Finset.sum_eq_zero fun j _ => by rw [if_neg (by rw [e0, hl]; omega), mul_zero]
    rw [z, zero_add]
    refine Finset.sum_congr rfl fun j _ => ?_
    rw [if_pos (by rw [e1, hl]; omega), mul_one]
    exact congrArg f (Fin.ext ((e1 j).trans (show 64 + j.val = 64 * (l.val / 64) + j.val by omega)))

/-- The quotient by 64 is the product with its reciprocal. -/
theorem div_64 (x : EReal) : Ideal.div x (Ideal.ofBits .f32 0x42800000#32) = x * Ideal.ofBits .f32 0x3C800000#32 := by
  have h : Ideal.ofBits .f32 0x42800000#32 = ((64 : ℝ) : EReal) := by simp [Ideal.ofBits, Ideal.ieee, -EReal.coe_mul]; norm_num
  have h' : Ideal.ofBits .f32 0x3C800000#32 = ((1 / 64 : ℝ) : EReal) := by simp [Ideal.ofBits, Ideal.ieee, -EReal.coe_mul]; norm_num
  rw [h, h']
  exact Ideal.div_coe (by norm_num) x

/-! ## The body -/

section body

theorem group_row : ∀ r l : Fin 128, k0_pay3 (ix2 r l) = BitVec.ofNat 32 (r.val / 64) := by
  have h : ∀ r : Fin 128, k0_pay3 (ix2 r 0) = BitVec.ofNat 32 (r.val / 64) := by decide +kernel
  exact fun r l => h r

theorem group_col : ∀ r l : Fin 128, select (andi k0_pay5 (cmpi .ne k0_pay6 k0_pay7)) (subi k0_pay4 (broadcast S128x128 1#32)) k0_pay4 (ix2 r l)
    = BitVec.ofNat 32 (l.val / 64) := by
  have h : ∀ l : Fin 128, select (andi k0_pay5 (cmpi .ne k0_pay6 k0_pay7)) (subi k0_pay4 (broadcast S128x128 1#32)) k0_pay4 (ix2 (0 : Fin 128) l)
    = BitVec.ofNat 32 (l.val / 64) := by decide +kernel
  exact fun r l => h l

/-- The matrix that adds up the entries of a head. -/
abbrev same : FVec Ideal S128x128 .bf16 := k0_pay8 (F := Ideal) k0_pay3 k0_pay4 k0_pay5 k0_pay6 k0_pay7

theorem same_apply (r l : Fin 128) : same (ix2 r l) = if r.val / 64 = l.val / 64 then (1 : EReal) else 0 := by
  have hb : (BitVec.ofNat 32 (r.val / 64) = BitVec.ofNat 32 (l.val / 64)) ↔ r.val / 64 = l.val / 64 := by
    rcases (show r.val / 64 = 0 ∨ r.val / 64 = 1 by omega) with h | h <;> rcases (show l.val / 64 = 0 ∨ l.val / 64 = 1 by omega) with h' | h' <;>
      rw [h, h'] <;> decide
  have e : same (ix2 r l) = if BitVec.ofBool (decide (k0_pay3 (ix2 r l) = select (andi k0_pay5 (cmpi .ne k0_pay6 k0_pay7)) (subi k0_pay4 (broadcast S128x128 1#32)) k0_pay4 (ix2 r l))) = 1#1
      then Ideal.ofBits .f32 0x3F800000#32 else Ideal.ofBits .f32 0x00000000#32 := rfl
  have h1 : Ideal.ofBits .f32 0x3F800000#32 = (1 : EReal) := by
    rw [← EReal.coe_one]; simp [Ideal.ofBits, Ideal.ieee, -EReal.coe_mul, -EReal.coe_one]; norm_num
  have h0 : Ideal.ofBits .f32 0x00000000#32 = (0 : EReal) := by simp [Ideal.ofBits, Ideal.ieee]
  rw [e, group_row, group_col, h1, h0]
  by_cases h : r.val / 64 = l.val / 64
  · rw [if_pos h, if_pos (by rw [decide_eq_true (hb.mpr h)]; rfl)]
  · rw [if_neg h, if_neg (by rw [decide_eq_false (fun q => h (hb.mp q))]; decide)]

variable (v : Vec Ideal S1x2064x128 .f32) (g : Vec Ideal S1x128 .f32)

/-- What the call leaves in the block of keys. -/
abbrev stored : FVec Ideal S1x2064x128 .f32 :=
  k0_pay16 same (k0_pay10 v) (k0_pay11 g) (k0_pay13 v) (k0_pay14 v) (constant S2064x128 .f32 0x00000000#32)

theorem stored_entry (s : FVec Ideal S128x128 .bf16) (r : Fin 2064) (l : Fin 128) :
    k0_pay16 s (k0_pay10 v) (k0_pay11 g) (k0_pay13 v) (k0_pay14 v) (constant S2064x128 .f32 0x00000000#32) (ix3 0 r l)
      = v (ix3 0 r l) * Ideal.rsqrt (((∑ c : Fin 128, v (ix3 0 r c) * v (ix3 0 r c) * s (ix2 c l))
          + ∑ c : Fin 128, (v (ix3 0 r c) * v (ix3 0 r c) - v (ix3 0 r c) * v (ix3 0 r c)) * s (ix2 c l)) * Ideal.ofBits .f32 0x3C800000#32
          + Ideal.ofBits .f32 0x358637BD#32) * g (ix2 0 l) := by
  unfold k0_pay16 k0_pay15 k0_pay14 k0_pay13 k0_pay12 k0_pay11 k0_pay10
  pointwise []

theorem stored_apply (hv : ∀ i, ∃ x : ℝ, v i = x) (r : Fin 2064) (l : Fin 128) :
    stored v g (ix3 0 r l) = normed (fun j => v (ix3 0 r ⟨64 * (l.val / 64) + j.val, by omega⟩)) (v (ix3 0 r l)) (g (ix2 0 l)) := by
  refine (stored_entry v g same r l).trans ?_
  have z : ∑ c : Fin 128, (v (ix3 0 r c) * v (ix3 0 r c) - v (ix3 0 r c) * v (ix3 0 r c)) * same (ix2 c l) = 0 :=
    Finset.sum_eq_zero fun c _ => by
      obtain ⟨x, hx⟩ := hv (ix3 0 r c)
      have h : ((x : EReal) * x - x * x) = 0 := by rw [← EReal.coe_mul, ← EReal.coe_sub, sub_self, EReal.coe_zero]
      rw [hx, h, zero_mul]
  have s : ∑ c : Fin 128, v (ix3 0 r c) * v (ix3 0 r c) * same (ix2 c l) = _ :=
    (Finset.sum_congr rfl fun c _ => congrArg (v (ix3 0 r c) * v (ix3 0 r c) * ·) (same_apply c l)).trans
      (sum_head (fun c => v (ix3 0 r c) * v (ix3 0 r c)) l)
  rw [z, add_zero, s]
  rfl

/-- A load of the whole block of keys. -/
theorem key_load {M : Memref sig .tc .vmem S1x2064x128 .f32} (h : M.IsWhole) (x : Vec Ideal S1x2064x128 .f32)
    (inb : ∀ a, (![0, 0, 0] : Fin 3 → ℕ) a + S1x2064x128.size a ≤ S1x2064x128.size a) :
    M.view.readAt (Elt Ideal) (Rect.unit (s := S1x2064x128) ![0, 0, 0] S1x2064x128.size inb).toLoadRect (h.unread x) = x :=
  funext fun y => (h.readAt_unread x _ y).trans (congrArg x
    (idx3 (show 0 + 1 * (y 0).val = (y 0).val by omega) (show 0 + 1 * (y 1).val = (y 1).val by omega) (show 0 + 1 * (y 2).val = (y 2).val by omega)))

/-- A load of the whole gain. -/
theorem gain_load {M : Memref sig .tc .vmem S1x128 .f32} (h : M.IsWhole) (x : Vec Ideal S1x128 .f32)
    (inb : ∀ a, (![0, 0] : Fin 2 → ℕ) a + S1x128.size a ≤ S1x128.size a) :
    M.view.readAt (Elt Ideal) (Rect.unit (s := S1x128) ![0, 0] S1x128.size inb).toLoadRect (h.unread x) = x :=
  funext fun y => (h.readAt_unread x _ y).trans (congrArg x
    (idx2 (show 0 + 1 * (y 0).val = (y 0).val by omega) (show 0 + 1 * (y 1).val = (y 1).val by omega)))

theorem stored_congr {v v' : Vec Ideal S1x2064x128 .f32} {g g' : Vec Ideal S1x128 .f32} (hv : v = v') (hg : g = g') : stored v g = stored v' g' := by
  subst hv hg; rfl

/-- What the body leaves in the block of keys. -/
theorem body_eq (c : Dev nD) (i : grid0.Coords) (arg2 : Memref sig .tc .vmem S1x2064x128 .f32) (harg2 : arg2.IsWhole)
    (arg3 : Memref sig .tc .vmem S1x2064x128 .f32) (harg3 : arg3.IsWhole) (arg4 : Memref sig .tc .vmem S1x2064x128 .f32) (harg4 : arg4.IsWhole)
    (arg5 : Memref sig .tc .vmem S1x2064x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x256x2304 .bf16) (harg8 : arg8.IsWhole)
    (arg9 : Memref sig .tc .vmem S1x2304x256 .bf16) (harg9 : arg9.IsWhole) (arg10 : Memref sig .tc .vmem S1x128x2304 .bf16) (harg10 : arg10.IsWhole)
    (arg11 : Memref sig .tc .vmem S1x2064x128 .f32) (harg11 : arg11.IsWhole)
    (x0 : Vec Ideal S1x2064x128 .f32) (x1 : Vec Ideal S1x2064x128 .f32) (x2 : Vec Ideal S1x2064x128 .f32) (x3 : Vec Ideal S1x2064x128 .f32)
    (x4 : Vec Ideal S1x128 .f32) (x5 : Vec Ideal S1x128 .f32) :
    out0_A_9 c i arg2 harg2 arg3 harg3 arg4 harg4 arg5 harg5 arg6 harg6 arg7 harg7 arg8 harg8 arg9 harg9 arg10 harg10 arg11 harg11 x0 x1 x2 x3 x4 x5
      = stored x1 x5 := by
  unfold out0_A_9
  refine (View.read_writes_full (Val := Elt Ideal) VO0_9 _ _ _ _).trans ?_
  exact stored_congr (key_load harg3 x1 _) (gain_load harg7 x5 _)

end body

/-! ## The reference -/

section reference

open Cert.Reference9Ideal.Read

variable (x1 : Vec Ideal S8x2064x512 .f32) (x5 : Vec Ideal S1x64 .f32)

theorem idx4 {a b c d : ℕ} {i : (⟨4, ![a, b, c, d]⟩ : Shape).Idx} {p : Fin a} {q : Fin b} {r : Fin c} {s : Fin d} (h0 : (i 0).val = p.val)
    (h1 : (i 1).val = q.val) (h2 : (i 2).val = r.val) (h3 : (i 3).val = s.val) : i = ix4 p q r s :=
  funext fun x => Fin.ext (match x with | ⟨0, _⟩ => h0 | ⟨1, _⟩ => h1 | ⟨2, _⟩ => h2 | ⟨3, _⟩ => h3)

theorem split_apply (s : Fin 8) (r : Fin 2064) (h : Fin 8) (j : Fin 64) :
    val_main_v0 (F := Ideal) x1 (ix4 s r h j) = x1 (ix3 s r ⟨64 * h.val + j.val, by omega⟩) := by
  rw [val_main_v0_apply]
  exact congrArg x1 (idx3 (show (((s.val * 2064 + r.val) * 8 + h.val) * 64 + j.val) / 1056768 = s.val by omega)
    (show (((s.val * 2064 + r.val) * 8 + h.val) * 64 + j.val) / 512 % 2064 = r.val by omega)
    (show (((s.val * 2064 + r.val) * 8 + h.val) * 64 + j.val) % 512 = 64 * h.val + j.val by omega))

theorem sq_apply (s : Fin 8) (r : Fin 2064) (h : Fin 8) :
    val_main_v2 (F := Ideal) x1 (ix3 s r h) = ∑ j : Fin 64, x1 (ix3 s r ⟨64 * h.val + j.val, by omega⟩) * x1 (ix3 s r ⟨64 * h.val + j.val, by omega⟩) := by
  rw [val_main_v2_apply]
  have hi : val_main_cst (F := Ideal) (Shape.Idx.first Cert.Reference9Ideal.Gen.h_S_) = (0 : EReal) := by
    show Ideal.ofBits .f32 0x00000000#32 = _
    simp [Ideal.ofBits, Ideal.ieee]
  rw [hi, zero_add]
  refine Finset.sum_congr rfl fun j _ => ?_
  have hj : idx_main_v2 (ix3 s r h) j = ix4 s r h j := idx4 rfl rfl rfl rfl
  rw [val_main_v1_apply, hj, split_apply]
  rfl

/-- The reference's result, entry by entry. -/
theorem entry (s : Fin 8) (r : Fin 2064) (n : Fin 512) :
    val_main_v15 (F := Ideal) x1 x5 (ix3 s r n)
      = normed (fun j => x1 (ix3 s r ⟨64 * (n.val / 64) + j.val, by omega⟩)) (x1 (ix3 s r n)) (x5 (ix2 0 ⟨n.val % 64, by omega⟩)) := by
  have hi : idx_main_v15 (ix3 s r n) = ix4 s r (⟨n.val / 64, by omega⟩ : Fin 8) (⟨n.val % 64, by omega⟩ : Fin 64) :=
    idx4 (show ((s.val * 2064 + r.val) * 512 + n.val) / 1056768 = s.val by omega)
      (show ((s.val * 2064 + r.val) * 512 + n.val) / 512 % 2064 = r.val by omega)
      (show ((s.val * 2064 + r.val) * 512 + n.val) / 64 % 8 = n.val / 64 by omega)
      (show ((s.val * 2064 + r.val) * 512 + n.val) % 64 = n.val % 64 by omega)
  rw [val_main_v15_apply, hi]
  generalize hh : (⟨n.val / 64, by omega⟩ : Fin 8) = h
  generalize hj : (⟨n.val % 64, by omega⟩ : Fin 64) = j
  have ho : (⟨64 * h.val + j.val, by omega⟩ : Fin 512) = n := Fin.ext (by subst hh hj; show 64 * (n.val / 64) + n.val % 64 = n.val; omega)
  have h3 : idx_main_v3 (idx_main_v9 (ix4 s r h j)) = ix3 s r h := idx3 rfl rfl rfl
  have hg : idx_main_v11 (idx_main_v12 (idx_main_v13 (ix4 s r h j))) = ix2 0 j := idx2 rfl (show j.val % 64 = j.val by omega)
  rw [val_main_v14_apply, val_main_v10_apply, val_main_v9_apply, val_main_v8_apply, val_main_v7_apply, val_main_v6_apply,
    val_main_cst_1_apply, val_main_v5_apply, val_main_v4_apply, val_main_cst_0_apply, val_main_v3_apply, val_main_v13_apply,
    val_main_v12_apply, val_main_v11_apply, Ideal.hostUnary_rsqrt_def, Ideal.hostDivf_def, h3, hg, sq_apply, split_apply, ho]
  subst hh
  show _ * Ideal.rsqrt (Ideal.div _ (Ideal.ofBits .f32 0x42800000#32) + _) * _ = _
  rw [div_64]
  rfl

end reference

/-! ## The array -/

variable (m : (ℓ : Loc nD τ sig) → Buf (Elt Ideal) ℓ) (c : Dev nD)

abbrev a1 : Vec Ideal S8x2064x512 .f32 := m ((c : Thread nD τ).loc main_arg1)
abbrev a5 : Vec Ideal S1x64 .f32 := m ((c : Thread nD τ).loc main_arg5)

/-- The gain of a head, twice. -/
theorem gain_eq (l : Fin 128) : V m c main_v9 (ix2 0 l) = a5 m c (ix2 0 ⟨l.val % 64, by omega⟩) := by
  unfold V
  after_reads_at

theorem place1 : ∀ t : Fin cfg0.N, win0_1.index t = ![t.val / 4, 0, t.val % 4] := (by decide +kernel : ∀ t : Fin grid0.N, _)
theorem place5 : ∀ t : Fin cfg0.N, win0_5.index t = ![0, 0] := (by decide +kernel : ∀ t : Fin grid0.N, _)
theorem place9 : ∀ t : Fin cfg0.N, win0_9.index t = ![t.val / 4, 0, t.val % 4] := (by decide +kernel : ∀ t : Fin grid0.N, _)
theorem flush9 : ∀ t : Fin cfg0.N, (cfg0.win 9).flush t = true := (by decide +kernel : ∀ t : Fin grid0.N, _)

/-- The sequence of point `t`. -/
def seq (t : Fin 32) : Fin 8 := ⟨t.val / 4, by omega⟩
/-- Column `l` of the two heads of point `t`. -/
def col (t : Fin 32) (l : Fin 128) : Fin 512 := ⟨128 * (t.val % 4) + l.val, by omega⟩

/-- Where an entry of a block of two heads lies. -/
theorem at_pair (t : Fin 32) (r : Fin 2064) (l : Fin 128) (i : S8x2064x512.Idx) {X : Fin 3 → ℕ} (h : X = ![t.val / 4, 0, t.val % 4])
    (h0 : (i 0).val = X 0 * 1 + 1 * 0) (h1 : (i 1).val = X 1 * 2064 + 1 * r.val) (h2 : (i 2).val = X 2 * 128 + 1 * l.val) :
    i = ix3 (seq t) r (col t l) := by
  subst h
  exact idx3 (h0.trans (show t.val / 4 * 1 + 1 * 0 = t.val / 4 by omega)) (h1.trans (show 0 * 2064 + 1 * r.val = r.val by omega))
    (h2.trans (show t.val % 4 * 128 + 1 * l.val = 128 * (t.val % 4) + l.val by omega))

theorem block1 (t : Fin cfg0.N) (r : Fin 2064) (l : Fin 128) : iblk m c 1 t (ix3 0 r l) = a1 m c (ix3 (seq t) r (col t l)) :=
  congrArg (a1 m c) (at_pair t r l (((cfg0.win 1).blk t).view.emb (ix3 0 r l)) (place1 t) rfl rfl rfl)

theorem block5 (t : Fin cfg0.N) (l : Fin 128) : iblk m c 5 t (ix2 0 l) = a5 m c (ix2 0 ⟨l.val % 64, by omega⟩) :=
  (congrArg (V m c main_v9) (Whole.at_start 0 l (((cfg0.win 5).blk t).view.emb (ix2 0 l)) (place5 t) rfl rfl)).trans (gain_eq m c l)

/-- The reference's result at the arrays. -/
abbrev result : Vec Ideal S8x2064x512 .f32 := Cert.Reference9Ideal.Read.val_main_v15 (F := Ideal) (a1 m c) (a5 m c)

/-- What a point leaves in its block. -/
theorem out_eq (t : Fin cfg0.N) : (dats m 0 c).after 9 t = stored (iblk m c 1 t) (iblk m c 5 t) := by
  rw [after0_9]
  unfold outsAt0
  dsimp only
  exact body_eq c _ _ _ _ _ _ _ _ _ _ _ _ _ _ _ _ _ _ _ _ _ _ _ _ _ _ _

/-- Where an entry of the output's block lies. -/
theorem placed (t : Fin cfg0.N) (r : Fin 2064) (l : Fin 128) : ((cfg0.win 9).blk t).view.emb (ix3 0 r l) = ix3 (seq t) r (col t l) :=
  at_pair t r l _ (place9 t) rfl rfl rfl

/-- The blocks cover the array. -/
theorem covers (i : S8x2064x512.Idx) : ∃ t : Fin cfg0.N, (cfg0.win 9).flush t = true ∧ i ∈ ((cfg0.win 9).blk t).view.set := by
  have h0 : (i 0).val < 8 := (i 0).isLt
  have h1 : (i 1).val < 2064 := (i 1).isLt
  have h2 : (i 2).val < 512 := (i 2).isLt
  obtain ⟨t, ht⟩ : ∃ t : Fin 32, t.val = 4 * (i 0).val + (i 2).val / 128 := ⟨⟨4 * (i 0).val + (i 2).val / 128, by omega⟩, rfl⟩
  refine ⟨t, flush9 _, ?_⟩
  have e : i = ix3 (seq t) ⟨(i 1).val, h1⟩ (col t ⟨(i 2).val % 128, by omega⟩) :=
    idx3 (show (i 0).val = t.val / 4 by omega) rfl (show (i 2).val = 128 * (t.val % 4) + (i 2).val % 128 by omega)
  have e' := e.trans (placed t ⟨(i 1).val, h1⟩ ⟨(i 2).val % 128, by omega⟩).symm
  exact (congrArg (fun x => x ∈ ((cfg0.win 9).blk t).view.set) e').mpr (View.emb_mem_set _ _)

section finite

variable (hk : ∀ i, ∃ x : ℝ, a1 m c i = x)

include hk

/-- What a point leaves in its block is its part of the result. -/
theorem result_apply (t : Fin cfg0.N) (r : Fin 2064) (l : Fin 128) :
    (dats m 0 c).after 9 t (ix3 0 r l) = result m c (ix3 (seq t) r (col t l)) := by
  refine (congrFun (out_eq m c t) (ix3 0 r l)).trans ?_
  refine (stored_apply (iblk m c 1 t) (iblk m c 5 t) (fun i => hk (((cfg0.win 1).blk t).view.emb i)) r l).trans ?_
  refine Eq.trans ?_ (entry (a1 m c) (a5 m c) (seq t) r (col t l)).symm
  refine normed_congr (fun j => (block1 m c t r _).trans ?_) (block1 m c t r l) ((block5 m c t l).trans ?_)
  · exact congrArg (fun q => a1 m c (ix3 (seq t) r q)) (Fin.ext (by
      show 128 * (t.val % 4) + (64 * (l.val / 64) + j.val) = 64 * ((128 * (t.val % 4) + l.val) / 64) + j.val
      omega))
  · exact congrArg (fun q => a5 m c (ix2 0 q)) (Fin.ext (by
      show l.val % 64 = (128 * (t.val % 4) + l.val) % 64
      omega))

/-- The array of keys the call leaves is the reference's result. -/
theorem array : (dats m 0 c).arrAt 9 cfg0.N = result m c := by
  refine (dats m 0 c).arrAt_eq_of_emb 9 _ (fun t hf (y : S1x2064x128.Idx) => ?_) covers
  have h0 : (y 0).val < 1 := (y 0).isLt
  have h1 : (y 1).val < 2064 := (y 1).isLt
  have h2 : (y 2).val < 128 := (y 2).isLt
  have hy : y = ix3 0 (⟨(y 1).val, h1⟩ : Fin 2064) (⟨(y 2).val, h2⟩ : Fin 128) := idx3 (show (y 0).val = 0 by omega) rfl rfl
  generalize (⟨(y 1).val, h1⟩ : Fin 2064) = r at hy
  generalize (⟨(y 2).val, h2⟩ : Fin 128) = n at hy
  subst hy
  exact (result_apply m c hk t r n).trans (congrArg (result m c) (placed t r n).symm)

end finite

/-- What the precondition gives: every key entry is a real number. -/
theorem real_of_pre [Cert.Pre_finite_keys.Facts] (x0 x1 x2 : Vec Ideal S8x2064x512 .f32) (x3 : Vec Ideal S8x2304x128 .f32) (x4 x5 : Vec Ideal S1x64 .f32)
    (h : Cert.Pre_finite_keys.fn (F := Ideal) x0 x1 x2 x3 x4 x5 = fun _ => 1#1) (i : S8x2064x512.Idx) : ∃ x : ℝ, x1 i = (x : EReal) :=
  Ref.abs_lt_top _ (congrFun h i)

end Cert.Proof.Keys

end
-- ==== Proof.CombineSample.lean ====
/- The same call for the sample group: its array is the reference's result. -/
module

public import proofs.«01_k».proof.Proof.Combine
public import proofs.«01_k».proof.Proof.Whole
public import proofs.«01_k».proof.Proof.Gen.Kernel6Ideal.Value
public import proofs.«01_k».proof.Proof.Gen.Reference6Ideal.Read

@[expose] public section

set_option maxRecDepth 16384

noncomputable section

namespace Cert.Proof.CombineSample

open Idealize.ShloMosaic Idealize.ShloMosaic.TcCoe Idealize.SL.Sem Cert.Kernel6Ideal Cert.Kernel6Ideal.Gen
open Cert.Proof.ProjRef (idx2 idx3)
open Cert.Proof.Combine (mixed mixed_eq)
open Cert.Proof.Whole (at_start)

/-- What the body leaves in the output's block, entry by entry. -/
theorem out_apply (x0 : Vec Ideal S32x1024 .f32) (x1 : Vec Ideal S4x32x1024 .f32) (x2 : Vec Ideal S32x128 .f32) (r : Fin 32) (n : Fin 1024) :
    out0_3 x0 x1 x2 (ix2 r n)
      = mixed (x0 (ix2 r n)) ![x2 (ix2 r 0), x2 (ix2 r 1), x2 (ix2 r 2), x2 (ix2 r 3)] ![x1 (ix3 0 r n), x1 (ix3 1 r n), x1 (ix3 2 r n), x1 (ix3 3 r n)] := by
  have hr : 0 + 1 * r.val = r.val := by omega
  have hn : 0 + 1 * n.val = n.val := by omega
  unfold out0_3
  refine (Value.canon3_eq _ _ _ _ _ _ (ix2 r n)).trans ?_
  refine congrArg₂ (· + ·) (congrArg₂ (· + ·) (congrArg₂ (· + ·) (congrArg₂ (· + ·) ?_ (congrArg₂ (· * ·) ?_ ?_)) (congrArg₂ (· * ·) ?_ ?_))
    (congrArg₂ (· * ·) ?_ ?_)) (congrArg₂ (· * ·) ?_ ?_)
  · exact congrArg x0 (idx2 hr hn)
  · exact congrArg x2 (idx2 hr rfl)
  · exact congrArg x1 (idx3 rfl hr hn)
  · exact congrArg x2 (idx2 hr rfl)
  · exact congrArg x1 (idx3 rfl hr hn)
  · exact congrArg x2 (idx2 hr rfl)
  · exact congrArg x1 (idx3 rfl hr hn)
  · exact congrArg x2 (idx2 hr rfl)
  · exact congrArg x1 (idx3 rfl hr hn)

theorem place0 : ∀ t : Fin cfg0.N, win0_0.index t = ![0, 0] := (by decide +kernel : ∀ t : Fin grid0.N, _)
theorem place1 : ∀ t : Fin cfg0.N, win0_1.index t = ![0, 516, 0] := (by decide +kernel : ∀ t : Fin grid0.N, _)
theorem place2 : ∀ t : Fin cfg0.N, win0_2.index t = ![0, 0] := (by decide +kernel : ∀ t : Fin grid0.N, _)
theorem place3 : ∀ t : Fin cfg0.N, win0_3.index t = ![0, 0] := (by decide +kernel : ∀ t : Fin grid0.N, _)
theorem flush3 : ∀ t : Fin cfg0.N, (cfg0.win 3).flush t = true := (by decide +kernel : ∀ t : Fin grid0.N, _)

variable (m : (ℓ : Loc nD τ sig) → Buf (Elt Ideal) ℓ) (c : Dev nD)

abbrev a0 : Vec Ideal S32x1024 .f32 := m ((c : Thread nD τ).loc main_arg0)
abbrev a1 : Vec Ideal S4x16544x1024 .f32 := m ((c : Thread nD τ).loc main_arg1)
abbrev a2 : Vec Ideal S32x128 .f32 := m ((c : Thread nD τ).loc main_arg2)

theorem block0 (t : Fin cfg0.N) (r : Fin 32) (k : Fin 1024) : iblk m c 0 t (ix2 r k) = a0 m c (ix2 r k) :=
  congrArg (a0 m c) (at_start r k (((cfg0.win 0).blk t).view.emb (ix2 r k)) (place0 t) rfl rfl)

/-- The last 32 rows of the slabs. -/
theorem slab_entry (s : Fin 4) (r : Fin 32) (n : Fin 1024) (i : S4x16544x1024.Idx) {X : Fin 3 → ℕ} (h : X = ![0, 516, 0])
    (h0 : (i 0).val = X 0 * 4 + 1 * s.val) (h1 : (i 1).val = X 1 * 32 + 1 * r.val) (h2 : (i 2).val = X 2 * 1024 + 1 * n.val) :
    i = ix3 s ⟨16512 + r.val, by omega⟩ n := by
  subst h
  exact idx3 (h0.trans (show 0 * 4 + 1 * s.val = s.val by omega)) (h1.trans (show 516 * 32 + 1 * r.val = 16512 + r.val by omega))
    (h2.trans (show 0 * 1024 + 1 * n.val = n.val by omega))

theorem block1 (t : Fin cfg0.N) (s : Fin 4) (r : Fin 32) (n : Fin 1024) : iblk m c 1 t (ix3 s r n) = a1 m c (ix3 s ⟨16512 + r.val, by omega⟩ n) :=
  congrArg (a1 m c) (slab_entry s r n (((cfg0.win 1).blk t).view.emb (ix3 s r n)) (place1 t) rfl rfl rfl)

theorem block2 (t : Fin cfg0.N) (r : Fin 32) (k : Fin 128) : iblk m c 2 t (ix2 r k) = a2 m c (ix2 r k) :=
  congrArg (a2 m c) (at_start r k (((cfg0.win 2).blk t).view.emb (ix2 r k)) (place2 t) rfl rfl)

/-- The reference's result, entry by entry. -/
theorem entry (x0 : Vec Ideal S32x1024 .f32) (x1 : Vec Ideal S4x16544x1024 .f32) (x2 : Vec Ideal S32x128 .f32) (r : Fin 32) (n : Fin 1024) :
    Cert.Reference6Ideal.Read.val_main_v3 (F := Ideal) x0 x1 x2 (ix2 r n)
      = x0 (ix2 r n) + ∑ k : Fin 4, x2 (ix2 r ⟨k.val, by omega⟩) * x1 (ix3 k ⟨16512 + r.val, by omega⟩ n) := by
  rw [Cert.Reference6Ideal.Read.val_main_v3_apply, Cert.Reference6Ideal.Read.val_main_v2_apply]
  refine congrArg (fun s => x0 (ix2 r n) + s) (Finset.sum_congr rfl fun k _ => ?_)
  rw [Cert.Reference6Ideal.Read.val_main_v0_apply, Cert.Reference6Ideal.Read.val_main_v1_apply]
  exact congrArg₂ (fun i j => x2 i * x1 j) (idx2 rfl rfl) (idx3 rfl rfl rfl)

/-- The reference's result at the arrays. -/
abbrev result : Vec Ideal S32x1024 .f32 := Cert.Reference6Ideal.Read.val_main_v3 (F := Ideal) (a0 m c) (a1 m c) (a2 m c)

/-- What the one point leaves in its block is the result. -/
theorem result_apply (t : Fin cfg0.N) (r : Fin 32) (n : Fin 1024) : (dats m 0 c).after 3 t (ix2 r n) = result m c (ix2 r n) := by
  refine (congrFun (after0_3 m c t) (ix2 r n)).trans ?_
  refine (out_apply (iblk m c 0 t) (iblk m c 1 t) (iblk m c 2 t) r n).trans ?_
  rw [mixed_eq]
  refine Eq.trans ?_ (entry (a0 m c) (a1 m c) (a2 m c) r n).symm
  refine congrArg₂ (· + ·) (block0 m c t r n) (Finset.sum_congr rfl fun k _ => ?_)
  match k with
  | ⟨0, _⟩ => exact congrArg₂ (· * ·) (block2 m c t r 0) (block1 m c t 0 r n)
  | ⟨1, _⟩ => exact congrArg₂ (· * ·) (block2 m c t r 1) (block1 m c t 1 r n)
  | ⟨2, _⟩ => exact congrArg₂ (· * ·) (block2 m c t r 2) (block1 m c t 2 r n)
  | ⟨3, _⟩ => exact congrArg₂ (· * ·) (block2 m c t r 3) (block1 m c t 3 r n)

/-- Where an entry of the output's block lies. -/
theorem placed (t : Fin cfg0.N) (r : Fin 32) (n : Fin 1024) : ((cfg0.win 3).blk t).view.emb (ix2 r n) = ix2 r n :=
  at_start r n _ (place3 t) rfl rfl

/-- The call's one point. -/
def point : Fin cfg0.N := (0 : Fin 1)

theorem covers (i : S32x1024.Idx) : ∃ t : Fin cfg0.N, (cfg0.win 3).flush t = true ∧ i ∈ ((cfg0.win 3).blk t).view.set := by
  refine ⟨point, flush3 _, ?_⟩
  have e : i = ix2 (⟨(i 0).val, (i 0).isLt⟩ : Fin 32) (⟨(i 1).val, (i 1).isLt⟩ : Fin 1024) := idx2 rfl rfl
  have e' := e.trans (placed point ⟨(i 0).val, (i 0).isLt⟩ ⟨(i 1).val, (i 1).isLt⟩).symm
  exact (congrArg (fun x => x ∈ ((cfg0.win 3).blk point).view.set) e').mpr (View.emb_mem_set _ _)

/-- The array the call leaves is the reference's result. -/
theorem array : (dats m 0 c).arrAt 3 cfg0.N = result m c := by
  refine (dats m 0 c).arrAt_eq_of_emb 3 _ (fun t hf (y : S32x1024.Idx) => ?_) covers
  have h1 : (y 1).val < 1024 := (y 1).isLt
  have h0 : (y 0).val < 32 := (y 0).isLt
  have hy : y = ix2 (⟨(y 0).val, h0⟩ : Fin 32) (⟨(y 1).val, h1⟩ : Fin 1024) := idx2 rfl rfl
  generalize (⟨(y 0).val, h0⟩ : Fin 32) = r at hy
  generalize (⟨(y 1).val, h1⟩ : Fin 1024) = n at hy
  subst hy
  exact (result_apply m c t r n).trans (congrArg (result m c) (placed t r n).symm)

end Cert.Proof.CombineSample

end
-- ==== Proof.ProjSample.lean ====
/- The projection's call for the sample group: its columns of values are the reference's result. -/
module

public import proofs.«01_k».proof.Proof.Whole
public import proofs.«01_k».proof.Proof.Gen.Kernel7Ideal.Value
public import proofs.«01_k».proof.Proof.Gen.Reference7Ideal.Read
public import Idealize.ShloMosaic.Lib.Pipeline.ValueKit
public import Idealize.ShloMosaic.Lib.Pointwise
public import Idealize.ShloMosaic.Lib.StableHlo.ReadAt

@[expose] public section

set_option maxRecDepth 16384

noncomputable section

namespace Cert.Proof.ProjSample

open Idealize.ShloMosaic Idealize.ShloMosaic.TcCoe Idealize.SL.Sem Cert.Kernel7Ideal Cert.Kernel7Ideal.Gen Cert.Proof.Row
open Cert.Proof.ProjRef (idx2 idx3)
open Cert.Proof.Whole (at_start)

/-! ## The body -/

section body

variable (x0 : Vec Ideal S32x1024 .f32) (x1 : Vec Ideal S1x1024 .f32) (x2 : Vec Ideal S1024x5632 .bf16) (x3 : Vec Ideal S1024x128 .bf16)

theorem normed_apply (r : Fin 32) (k : Fin 1024) :
    k0_pay4 x0 x1 (ix2 r k) = normed (fun j => x0 (ix2 r j)) (fun j => x1 (ix2 0 j)) k := by
  unfold k0_pay4 normed
  pointwise []

/-- A product of the normed rows with 512 columns. -/
theorem wide_apply (h : FVec Ideal S32x1024 .bf16) (w : FVec Ideal S1024x512 .bf16) (r : Fin 32) (n : Fin 512) :
    k0_pay12 h w (ix2 r n) = ∑ k : Fin 1024, h (ix2 r k) * w (ix2 k n) := by
  unfold k0_pay12
  pointwise []

theorem row_read : (View.ld x0 r0_0 : Vec Ideal S32x1024 .f32) = x0 :=
  funext fun j => congrArg x0 (idx2 (show 0 + 1 * (j 0).val = (j 0).val by omega) (show 0 + 1 * (j 1).val = (j 1).val by omega))

theorem gain_read : (View.ld x1 r0_1 : Vec Ideal S1x1024 .f32) = x1 :=
  funext fun j => congrArg x1 (idx2 (show 0 + 1 * (j 0).val = (j 0).val by omega) (show 0 + 1 * (j 1).val = (j 1).val by omega))

theorem col_read (k : Fin 1024) (n : Fin 512) : View.ld x2 r0_12 (ix2 k n) = x2 (ix2 k ⟨3072 + n.val, by omega⟩) :=
  congrArg x2 (idx2 (show 0 + 1 * k.val = k.val by omega) (show 3072 + 1 * n.val = 3072 + n.val by omega))

/-- What the body leaves in the block of values, entry by entry. -/
theorem out_apply (r : Fin 32) (n : Fin 512) :
    out0_8 x0 x1 x2 x3 (ix2 r n)
      = proj (fun j => x0 (ix2 r j)) (fun j => x1 (ix2 0 j)) (fun k => x2 (ix2 k ⟨3072 + n.val, by omega⟩)) := by
  unfold out0_8
  refine View.canon_apply_of_pieces (Val := Elt Ideal)
    (fun y : S32x512.Idx => proj (fun j => x0 (ix2 (y 0) j)) (fun j => x1 (ix2 0 j)) (fun k => x2 (ix2 k ⟨3072 + (y 1).val, by
      have : (y 1).val < 512 := (y 1).isLt
      omega⟩))) _ ?_ (ix2 r n) (cover0_8 _ (ix2 r n))
  intro pc hpc j
  rcases List.mem_cons.mp hpc with rfl | hpc
  · obtain ⟨r, n, rfl⟩ : ∃ r n, j = ix2 r n := ⟨j 0, j 1, by funext x; fin_cases x <;> rfl⟩
    have he : r0_9.emb (ix2 r n) = (ix2 r n : S32x512.Idx) :=
      idx2 (show 0 + 1 * r.val = r.val by omega) (show 0 + 1 * n.val = n.val by omega)
    rw [he]
    refine (wide_apply _ _ r n).trans ?_
    rw [k0_pay16, row_read, gain_read]
    exact Finset.sum_congr rfl fun k _ => congrArg₂ (· * ·) (normed_apply x0 x1 r k) (col_read x2 k n)
  exact absurd hpc List.not_mem_nil

end body

/-! ## What the operations before the call leave in its arguments -/

variable (m : (ℓ : Loc nD τ sig) → Buf (Elt Ideal) ℓ) (c : Dev nD)

abbrev a0 : Vec Ideal S32x1x1024 .f32 := m ((c : Thread nD τ).loc main_arg0)
abbrev a1 : Vec Ideal S1x1024 .f32 := m ((c : Thread nD τ).loc main_arg1)
abbrev a2 : Vec Ideal S1x1024x5648 .f32 := m ((c : Thread nD τ).loc main_arg2)

theorem rows_eq : V m c main_v18 = Cert.Reference7Ideal.Read.val_main_v0 (F := Ideal) (a0 m c) := by
  unfold V
  after_results
  rfl

theorem gain_eq (k : Fin 1024) : V m c main_v17 (ix2 0 k) = a1 m c (ix2 0 k) := by
  unfold V
  after_reads_at

/-- The columns of values lie eight columns earlier than in the weight. -/
theorem wide_eq (k : Fin 1024) (n : Fin 512) :
    V m c main_v9 (ix2 k ⟨3072 + n.val, by omega⟩) = a2 m c (ix3 0 k ⟨3080 + n.val, by omega⟩) := by
  unfold V
  after_reads_at
  split_ifs
  all_goals first | (exfalso; omega) | skip
  all_goals after_reads_at
  all_goals
    refine congrArg (fun q : Fin 5648 => m (c, Proc.tc.devRef main_arg2) (ix3 0 k q)) (Fin.ext ?_)
    dsimp only
    omega

theorem place0 : ∀ t : Fin cfg0.N, win0_0.index t = ![0, 0] := (by decide +kernel : ∀ t : Fin grid0.N, _)
theorem place1 : ∀ t : Fin cfg0.N, win0_1.index t = ![0, 0] := (by decide +kernel : ∀ t : Fin grid0.N, _)
theorem place2 : ∀ t : Fin cfg0.N, win0_2.index t = ![0, 0] := (by decide +kernel : ∀ t : Fin grid0.N, _)
theorem place8 : ∀ t : Fin cfg0.N, win0_8.index t = ![0, 0] := (by decide +kernel : ∀ t : Fin grid0.N, _)
theorem flush8 : ∀ t : Fin cfg0.N, (cfg0.win 8).flush t = true := (by decide +kernel : ∀ t : Fin grid0.N, _)

/-- Row `r` of the group. -/
abbrev row (r : Fin 32) (k : Fin 1024) : EReal := Cert.Reference7Ideal.Read.val_main_v0 (F := Ideal) (a0 m c) (ix2 r k)

theorem block0 (t : Fin cfg0.N) (r : Fin 32) (k : Fin 1024) : iblk m c 0 t (ix2 r k) = row m c r k :=
  (congrArg (V m c main_v18) (at_start r k (((cfg0.win 0).blk t).view.emb (ix2 r k)) (place0 t) rfl rfl)).trans (congrFun (rows_eq m c) (ix2 r k))

theorem block1 (t : Fin cfg0.N) (k : Fin 1024) : iblk m c 1 t (ix2 0 k) = a1 m c (ix2 0 k) :=
  (congrArg (V m c main_v17) (at_start 0 k (((cfg0.win 1).blk t).view.emb (ix2 0 k)) (place1 t) rfl rfl)).trans (gain_eq m c k)

theorem block2 (t : Fin cfg0.N) (k : Fin 1024) (n : Fin 5632) : iblk m c 2 t (ix2 k n) = V m c main_v9 (ix2 k n) :=
  congrArg (V m c main_v9) (at_start k n (((cfg0.win 2).blk t).view.emb (ix2 k n)) (place2 t) rfl rfl)

/-! ## The reference -/

section reference

open Cert.Reference7Ideal.Read

variable (x0 : Vec Ideal S32x1x1024 .f32) (x1 : Vec Ideal S1x1024 .f32) (x2 : Vec Ideal S1x1024x5648 .f32)

theorem sq_apply (r : Fin 32) :
    val_main_v2 (F := Ideal) x0 (ix1 r) = ∑ j, val_main_v0 (F := Ideal) x0 (ix2 r j) * val_main_v0 (F := Ideal) x0 (ix2 r j) := by
  rw [val_main_v2_apply]
  have hi : val_main_cst (F := Ideal) (Shape.Idx.first Cert.Reference7Ideal.Gen.h_S_) = (0 : EReal) := by
    show Ideal.ofBits .f32 0x00000000#32 = _
    simp [Ideal.ofBits, Ideal.ieee]
  rw [hi, zero_add]
  refine Finset.sum_congr rfl fun j _ => ?_
  rw [val_main_v1_apply]
  exact congrArg (fun i => val_main_v0 (F := Ideal) x0 i * val_main_v0 (F := Ideal) x0 i) (idx2 rfl rfl)

theorem ref_normed (r : Fin 32) (k : Fin 1024) :
    val_main_v14 (F := Ideal) x0 x1 (ix2 r k) = normed (fun j => val_main_v0 (F := Ideal) x0 (ix2 r j)) (fun k => x1 (ix2 0 k)) k := by
  rw [val_main_v14_apply, val_main_v10_apply, val_main_v9_apply, val_main_v8_apply, val_main_v7_apply, val_main_v6_apply,
    val_main_cst_1_apply, val_main_v5_apply, val_main_v4_apply, val_main_cst_0_apply, val_main_v3_apply, val_main_v13_apply,
    val_main_v12_apply, val_main_v11_apply, Ideal.hostUnary_rsqrt_def]
  have h5 : idx_main_v3 (idx_main_v9 (ix2 r k)) = ix1 r := funext fun a => Fin.ext (match a with | ⟨0, _⟩ => rfl)
  have hg : idx_main_v11 (idx_main_v12 (idx_main_v13 (ix2 r k))) = ix2 0 k := idx2 (by simp) (by simp)
  rw [h5, hg, sq_apply]
  rfl

/-- The reference's result, entry by entry. -/
theorem entry (r : Fin 32) (n : Fin 512) :
    val_main_v17 (F := Ideal) x0 x1 x2 (ix2 r n)
      = proj (fun j => val_main_v0 (F := Ideal) x0 (ix2 r j)) (fun k => x1 (ix2 0 k)) (fun k => x2 (ix3 0 k ⟨3080 + n.val, by omega⟩)) := by
  have hi : idx_main_v17 (ix2 r n) = ix2 r ⟨3080 + n.val, by omega⟩ := idx2 rfl rfl
  rw [val_main_v17_apply, hi, val_main_v16_apply]
  refine Finset.sum_congr rfl fun k _ => ?_
  have hl : lidx_main_v16 (ix2 r (⟨3080 + n.val, by omega⟩ : Fin 5648)) k = ix2 r k := idx2 rfl rfl
  have hr : idx_main_v15 (ridx_main_v16 (ix2 r (⟨3080 + n.val, by omega⟩ : Fin 5648)) k) = ix3 0 k ⟨3080 + n.val, by omega⟩ := idx3 rfl
    (by simp [ix2, ix3]; try omega) (by simp [ix2, ix3]; try omega)
  rw [val_main_v15_apply, hl, hr, ref_normed]

end reference

/-! ## The array -/

/-- The reference's result at the arrays. -/
abbrev result : Vec Ideal S32x512 .f32 := Cert.Reference7Ideal.Read.val_main_v17 (F := Ideal) (a0 m c) (a1 m c) (a2 m c)

/-- What the one point leaves in its block is the result. -/
theorem result_apply (t : Fin cfg0.N) (r : Fin 32) (n : Fin 512) : (dats m 0 c).after 8 t (ix2 r n) = result m c (ix2 r n) := by
  refine (congrFun (after0_8 m c t) (ix2 r n)).trans ?_
  refine (out_apply (iblk m c 0 t) (iblk m c 1 t) (iblk m c 2 t) (iblk m c 3 t) r n).trans ?_
  refine Eq.trans ?_ (entry (a0 m c) (a1 m c) (a2 m c) r n).symm
  exact proj_congr (fun k => block0 m c t r k) (fun k => block1 m c t k) fun k => (block2 m c t k _).trans (wide_eq m c k n)

/-- Where an entry of the output's block lies. -/
theorem placed (t : Fin cfg0.N) (r : Fin 32) (n : Fin 512) : ((cfg0.win 8).blk t).view.emb (ix2 r n) = ix2 r n :=
  at_start r n _ (place8 t) rfl rfl

/-- The call's one point. -/
def point : Fin cfg0.N := (0 : Fin 1)

theorem covers (i : S32x512.Idx) : ∃ t : Fin cfg0.N, (cfg0.win 8).flush t = true ∧ i ∈ ((cfg0.win 8).blk t).view.set := by
  refine ⟨point, flush8 _, ?_⟩
  have e : i = ix2 (⟨(i 0).val, (i 0).isLt⟩ : Fin 32) (⟨(i 1).val, (i 1).isLt⟩ : Fin 512) := idx2 rfl rfl
  have e' := e.trans (placed point ⟨(i 0).val, (i 0).isLt⟩ ⟨(i 1).val, (i 1).isLt⟩).symm
  exact (congrArg (fun x => x ∈ ((cfg0.win 8).blk point).view.set) e').mpr (View.emb_mem_set _ _)

/-- The array of values the call leaves is the reference's result. -/
theorem array : (dats m 0 c).arrAt 8 cfg0.N = result m c := by
  refine (dats m 0 c).arrAt_eq_of_emb 8 _ (fun t hf (y : S32x512.Idx) => ?_) covers
  have h1 : (y 1).val < 512 := (y 1).isLt
  have h0 : (y 0).val < 32 := (y 0).isLt
  have hy : y = ix2 (⟨(y 0).val, h0⟩ : Fin 32) (⟨(y 1).val, h1⟩ : Fin 512) := idx2 rfl rfl
  generalize (⟨(y 0).val, h0⟩ : Fin 32) = r at hy
  generalize (⟨(y 1).val, h1⟩ : Fin 512) = n at hy
  subst hy
  exact (result_apply m c t r n).trans (congrArg (result m c) (placed t r n).symm)

end Cert.Proof.ProjSample

end
-- ==== Proof.ConvState.lean ====
/- The decoding step's convolution state: the array the call leaves is the reference's result. -/
module

public import proofs.«01_k».proof.Proof.Whole
public import proofs.«01_k».proof.Proof.Gen.Kernel8Ideal.Value
public import proofs.«01_k».proof.Proof.Gen.Reference8Ideal.Read
public import Idealize.ShloMosaic.Lib.Pipeline.ValueKit
public import Idealize.ShloMosaic.Lib.Pointwise
public import Idealize.ShloMosaic.Lib.WholeRead
public import Idealize.ShloMosaic.Lib.StableHlo.ReadAt

@[expose] public section

set_option maxRecDepth 16384

noncomputable section

namespace Cert.Proof.ConvState

open Idealize.ShloMosaic Idealize.ShloMosaic.TcCoe Idealize.SL.Sem Cert.Kernel8Ideal Cert.Kernel8Ideal.Gen
open Idealize.ShloMosaic.Tactic
open Cert.Proof.ProjRef (idx2 idx3)
open Cert.Proof.Whole (at_page)

/-- The state of page `s` after the step: the last two rows of the state before it, then the step's row. -/
def shifted {p : ℕ} (x : Vec Ideal ⟨3, ![p, 1, 1536]⟩ .f32) (s : Vec Ideal ⟨3, ![p, 3, 1536]⟩ .f32) (q : Fin p) (r : Fin 3) (n : Fin 1536) : EReal :=
  if h : r.val < 2 then s (ix3 q ⟨r.val + 1, by omega⟩ n) else x (ix3 q 0 n)

theorem shifted_kept (x : Vec Ideal S1x1x1536 .f32) (s : Vec Ideal S1x3x1536 .f32) (r : Fin 3) (n : Fin 1536) (h : r.val < 2) :
    shifted x s 0 r n = s (ix3 0 ⟨r.val + 1, by omega⟩ n) := by
  unfold shifted
  exact dif_pos h

theorem shifted_added (x : Vec Ideal S1x1x1536 .f32) (s : Vec Ideal S1x3x1536 .f32) (n : Fin 1536) : shifted x s 0 2 n = x (ix3 0 0 n) := by
  unfold shifted
  exact dif_neg (by decide)

/-! ## The body -/

section body

/-- The rows kept. -/
theorem kept (v : Vec Ideal S1x3x1536 .f32) (r : Fin 2) (n : Fin 1536) : k0_pay4 v (ix3 0 r n) = v (ix3 0 ⟨r.val + 1, by omega⟩ n) := by
  unfold k0_pay4 k0_pay2
  pointwise []
  exact congrArg v (idx3 rfl (show 1 + r.val = r.val + 1 by omega) rfl)

/-- The row added. -/
theorem added (v : Vec Ideal S1x1x1536 .f32) (n : Fin 1536) : k0_pay5 v (ix3 0 0 n) = v (ix3 0 0 n) := by
  unfold k0_pay5 k0_pay1
  pointwise []

/-- A load of the step's whole block. -/
theorem step_load {M : Memref sig .tc .vmem S1x1x1536 .f32} (h : M.IsWhole) (x : Vec Ideal S1x1x1536 .f32)
    (inb : ∀ a, (![0, 0, 0] : Fin 3 → ℕ) a + S1x1x1536.size a ≤ S1x1x1536.size a) :
    M.view.readAt (Elt Ideal) (Rect.unit (s := S1x1x1536) ![0, 0, 0] S1x1x1536.size inb).toLoadRect (h.unread x) = x :=
  funext fun y => (h.readAt_unread x _ y).trans (congrArg x
    (idx3 (show 0 + 1 * (y 0).val = (y 0).val by omega) (show 0 + 1 * (y 1).val = (y 1).val by omega) (show 0 + 1 * (y 2).val = (y 2).val by omega)))

/-- A load of the state's whole block. -/
theorem state_load {M : Memref sig .tc .vmem S1x3x1536 .f32} (h : M.IsWhole) (x : Vec Ideal S1x3x1536 .f32)
    (inb : ∀ a, (![0, 0, 0] : Fin 3 → ℕ) a + S1x3x1536.size a ≤ S1x3x1536.size a) :
    M.view.readAt (Elt Ideal) (Rect.unit (s := S1x3x1536) ![0, 0, 0] S1x3x1536.size inb).toLoadRect (h.unread x) = x :=
  funext fun y => (h.readAt_unread x _ y).trans (congrArg x
    (idx3 (show 0 + 1 * (y 0).val = (y 0).val by omega) (show 0 + 1 * (y 1).val = (y 1).val by omega) (show 0 + 1 * (y 2).val = (y 2).val by omega)))

/-- The two stores: the last row, then the rows before it. -/
def stores (x : Vec Ideal S1x1x1536 .f32) (s : Vec Ideal S1x3x1536 .f32) : List (View.Piece (Elt Ideal) S1x3x1536 .f32) :=
  [⟨Rect.unit (s := S1x3x1536) ![0, 2, 0] S1x1x1536.size inb_S1x3x1536_S1x1x1536_0_2_0, k0_pay5 x⟩,
    ⟨Rect.unit (s := S1x3x1536) ![0, 0, 0] S1x2x1536.size inb_S1x3x1536_S1x2x1536_0_0_0, k0_pay4 s⟩]

/-- What the two stores leave. -/
theorem stored (x : Vec Ideal S1x1x1536 .f32) (s : Vec Ideal S1x3x1536 .f32) (y : S1x3x1536.Idx) (hc : ∃ pc ∈ stores x s, y ∈ pc.1.set) :
    View.canon (stores x s) y = shifted x s 0 (y 1) (y 2) := by
  refine View.canon_apply_of_pieces (Val := Elt Ideal) (fun y : S1x3x1536.Idx => shifted x s 0 (y 1) (y 2)) _ ?_ y hc
  intro pc hpc j
  rcases List.mem_cons.mp hpc with rfl | hpc
  · obtain ⟨n, rfl⟩ : ∃ n : Fin 1536, j = (ix3 0 0 n : S1x1x1536.Idx) :=
      ⟨j 2, idx3 (show (j 0).val = 0 by have : (j 0).val < 1 := (j 0).isLt; omega) (show (j 1).val = 0 by have : (j 1).val < 1 := (j 1).isLt; omega) rfl⟩
    refine (added x n).trans ?_
    have he : (Rect.unit (s := S1x3x1536) ![0, 2, 0] S1x1x1536.size inb_S1x3x1536_S1x1x1536_0_2_0).emb (ix3 0 0 n : S1x1x1536.Idx)
        = (ix3 0 2 n : S1x3x1536.Idx) := idx3 rfl rfl (show 0 + 1 * n.val = n.val by omega)
    refine Eq.trans ?_ (congrArg (fun i : S1x3x1536.Idx => shifted x s 0 (i 1) (i 2)) he.symm)
    exact (shifted_added x s n).symm
  rcases List.mem_cons.mp hpc with rfl | hpc
  · obtain ⟨r, n, rfl⟩ : ∃ (r : Fin 2) (n : Fin 1536), j = (ix3 0 r n : S1x2x1536.Idx) :=
      ⟨j 1, j 2, idx3 (show (j 0).val = 0 by have : (j 0).val < 1 := (j 0).isLt; omega) rfl rfl⟩
    refine (kept s r n).trans ?_
    have he : (Rect.unit (s := S1x3x1536) ![0, 0, 0] S1x2x1536.size inb_S1x3x1536_S1x2x1536_0_0_0).emb (ix3 0 r n : S1x2x1536.Idx)
        = (ix3 0 ⟨r.val, by omega⟩ n : S1x3x1536.Idx) :=
      idx3 rfl (show 0 + 1 * r.val = r.val by omega) (show 0 + 1 * n.val = n.val by omega)
    refine Eq.trans ?_ (congrArg (fun i : S1x3x1536.Idx => shifted x s 0 (i 1) (i 2)) he.symm)
    exact (shifted_kept x s ⟨r.val, by omega⟩ n r.isLt).symm
  exact absurd hpc List.not_mem_nil

theorem stores_congr {x x' : Vec Ideal S1x1x1536 .f32} {s s' : Vec Ideal S1x3x1536 .f32} (hx : x = x') (hs : s = s') : stores x s = stores x' s' := by
  subst hx hs; rfl

/-- What the body leaves in the state's block. -/
theorem body_eq (c : Dev nD) (i : grid0.Coords) (arg1 : Memref sig .tc .vmem S1x1x1536 .f32) (harg1 : arg1.IsWhole)
    (arg2 : Memref sig .tc .vmem S1x3x1536 .f32) (harg2 : arg2.IsWhole) (arg3 : Memref sig .tc .vmem S1x1x128 .f32) (harg3 : arg3.IsWhole)
    (arg4 : Memref sig .tc .vmem S4x1536 .f32) (harg4 : arg4.IsWhole) (arg5 : Memref sig .tc .vmem S1x128 .f32) (harg5 : arg5.IsWhole)
    (arg6 : Memref sig .tc .vmem S1x128 .f32) (harg6 : arg6.IsWhole) (arg7 : Memref sig .tc .vmem S1x4x128x128 .f32) (harg7 : arg7.IsWhole)
    (arg8 : Memref sig .tc .vmem S1x1x512 .f32) (harg8 : arg8.IsWhole) (arg9 : Memref sig .tc .vmem S1x4x128x128 .f32) (harg9 : arg9.IsWhole)
    (arg10 : Memref sig .tc .vmem S1x3x1536 .f32) (harg10 : arg10.IsWhole)
    (x0 : Vec Ideal S1x1x1536 .f32) (x1 : Vec Ideal S1x3x1536 .f32) (x2 : Vec Ideal S1x1x128 .f32) (x3 : Vec Ideal S4x1536 .f32)
    (x4 : Vec Ideal S1x128 .f32) (x5 : Vec Ideal S1x128 .f32) (x6 : Vec Ideal S1x4x128x128 .f32) (y : S1x3x1536.Idx) :
    out0_A_9 c i arg1 harg1 arg2 harg2 arg3 harg3 arg4 harg4 arg5 harg5 arg6 harg6 arg7 harg7 arg8 harg8 arg9 harg9 arg10 harg10 x0 x1 x2 x3 x4 x5 x6 y
      = shifted x0 x1 0 (y 1) (y 2) := by
  have hc := cover0_A_9 c i arg1 harg1 arg2 harg2 arg3 harg3 arg4 harg4 arg5 harg5 arg6 harg6 arg7 harg7 arg8 harg8 arg9 harg9 arg10 harg10 x0 x1 x2 x3 x4 x5 x6
  have hs : (kernelRun0_A c i arg1 harg1 arg2 harg2 arg3 harg3 arg4 harg4 arg5 harg5 arg6 harg6 arg7 harg7 arg8 harg8 arg9 harg9 arg10 harg10 x0 x1 x2 x3 x4 x5 x6).2.2.1
      = stores x0 x1 := Eq.trans rfl (stores_congr (step_load harg1 x0 _) (state_load harg2 x1 _))
  unfold out0_A_9
  rw [hs] at hc ⊢
  exact (congrFun (View.read_writes_eq_canon _ _ _ hc) y).trans (stored x0 x1 y (hc y))

end body

/-! ## The reference -/

/-- The reference's result, entry by entry. -/
theorem entry (x0 : Vec Ideal S32x1x1536 .f32) (x1 : Vec Ideal S32x3x1536 .f32) (s : Fin 32) (r : Fin 3) (n : Fin 1536) :
    Cert.Reference8Ideal.Read.val_main_v1 (F := Ideal) x0 x1 (ix3 s r n) = shifted x0 x1 s r n := by
  have hi : Cert.Reference8Ideal.Read.idx_main_v1 (ix3 s r n) = ix3 s ⟨1 + r.val, by omega⟩ n := idx3 rfl rfl rfl
  rw [Cert.Reference8Ideal.Read.val_main_v1_apply, hi]
  unfold Cert.Reference8Ideal.Read.val_main_v0 shifted
  by_cases h : r.val < 2
  · rw [dif_pos h]
    exact concatenate_pair_apply_left (t := Cert.Reference8Ideal.S32x4x1536) 1 x1 x0 _ _ rfl (ix3 s (⟨r.val + 1, by omega⟩ : Fin 3) n) fun a =>
      match a with
      | ⟨0, _⟩ => rfl
      | ⟨1, _⟩ => show r.val + 1 = 1 + r.val by omega
      | ⟨2, _⟩ => rfl
  · rw [dif_neg h]
    exact concatenate_pair_apply_right (t := Cert.Reference8Ideal.S32x4x1536) 1 x1 x0 _ _ rfl rfl (ix3 s (0 : Fin 1) n) (fun a ha =>
      match a, ha with
      | ⟨0, _⟩, _ => rfl
      | ⟨1, _⟩, ha => absurd rfl ha
      | ⟨2, _⟩, _ => rfl) (show 0 + 3 = 1 + r.val by omega)

/-! ## The array -/

variable (m : (ℓ : Loc nD τ sig) → Buf (Elt Ideal) ℓ) (c : Dev nD)

abbrev a0 : Vec Ideal S32x1x1536 .f32 := m ((c : Thread nD τ).loc main_arg0)
abbrev a1 : Vec Ideal S32x3x1536 .f32 := m ((c : Thread nD τ).loc main_arg1)

theorem place0 : ∀ t : Fin cfg0.N, win0_0.index t = ![t.val, 0, 0] := (by decide +kernel : ∀ t : Fin grid0.N, _)
theorem place1 : ∀ t : Fin cfg0.N, win0_1.index t = ![t.val, 0, 0] := (by decide +kernel : ∀ t : Fin grid0.N, _)
theorem place9 : ∀ t : Fin cfg0.N, win0_9.index t = ![t.val, 0, 0] := (by decide +kernel : ∀ t : Fin grid0.N, _)
theorem flush9 : ∀ t : Fin cfg0.N, (cfg0.win 9).flush t = true := (by decide +kernel : ∀ t : Fin grid0.N, _)

/-- The sequence point `t` steps. -/
def seq (t : Fin cfg0.N) : Fin 32 := t

theorem block0 (t : Fin cfg0.N) (n : Fin 1536) : iblk m c 0 t (ix3 0 0 n) = a0 m c (ix3 (seq t) 0 n) :=
  congrArg (a0 m c) (at_page (seq t) 0 n (((cfg0.win 0).blk t).view.emb (ix3 0 0 n)) (place0 t) rfl rfl rfl)

theorem block1 (t : Fin cfg0.N) (r : Fin 3) (n : Fin 1536) : iblk m c 1 t (ix3 0 r n) = a1 m c (ix3 (seq t) r n) :=
  congrArg (a1 m c) (at_page (seq t) r n (((cfg0.win 1).blk t).view.emb (ix3 0 r n)) (place1 t) rfl rfl rfl)

/-- The reference's result at the arrays. -/
abbrev result : Vec Ideal S32x3x1536 .f32 := Cert.Reference8Ideal.Read.val_main_v1 (F := Ideal) (a0 m c) (a1 m c)

/-- What a point leaves in its block. -/
theorem out_eq (t : Fin cfg0.N) (y : S1x3x1536.Idx) :
    (dats m 0 c).after 9 t y = shifted (iblk m c 0 t) (iblk m c 1 t) 0 (y 1) (y 2) := by
  rw [after0_9]
  unfold outsAt0
  dsimp only
  exact body_eq c _ _ _ _ _ _ _ _ _ _ _ _ _ _ _ _ _ _ _ _ _ _ _ _ _ _ _ _ y

/-- What a point leaves in its block is its part of the result. -/
theorem result_apply (t : Fin cfg0.N) (r : Fin 3) (n : Fin 1536) : (dats m 0 c).after 9 t (ix3 0 r n) = result m c (ix3 (seq t) r n) := by
  refine (out_eq m c t (ix3 0 r n)).trans ?_
  refine Eq.trans ?_ (entry (a0 m c) (a1 m c) (seq t) r n).symm
  show shifted (iblk m c 0 t) (iblk m c 1 t) 0 r n = _
  unfold shifted
  by_cases h : r.val < 2
  · rw [dif_pos h, dif_pos h]; exact block1 m c t _ n
  · rw [dif_neg h, dif_neg h]; exact block0 m c t n

/-- Where an entry of the output's block lies. -/
theorem placed (t : Fin cfg0.N) (r : Fin 3) (n : Fin 1536) : ((cfg0.win 9).blk t).view.emb (ix3 0 r n) = ix3 (seq t) r n :=
  at_page (seq t) r n _ (place9 t) rfl rfl rfl

/-- The blocks cover the array. -/
theorem covers (i : S32x3x1536.Idx) : ∃ t : Fin cfg0.N, (cfg0.win 9).flush t = true ∧ i ∈ ((cfg0.win 9).blk t).view.set := by
  have h0 : (i 0).val < 32 := (i 0).isLt
  have h1 : (i 1).val < 3 := (i 1).isLt
  have h2 : (i 2).val < 1536 := (i 2).isLt
  refine ⟨(⟨(i 0).val, h0⟩ : Fin 32), flush9 _, ?_⟩
  have e : i = ix3 (seq (⟨(i 0).val, h0⟩ : Fin 32)) ⟨(i 1).val, h1⟩ ⟨(i 2).val, h2⟩ := idx3 rfl rfl rfl
  have e' := e.trans (placed (⟨(i 0).val, h0⟩ : Fin 32) ⟨(i 1).val, h1⟩ ⟨(i 2).val, h2⟩).symm
  exact (congrArg (fun x => x ∈ ((cfg0.win 9).blk (⟨(i 0).val, h0⟩ : Fin 32)).view.set) e').mpr (View.emb_mem_set _ _)

/-- The array of states the call leaves is the reference's result. -/
theorem array : (dats m 0 c).arrAt 9 cfg0.N = result m c := by
  refine (dats m 0 c).arrAt_eq_of_emb 9 _ (fun t hf (y : S1x3x1536.Idx) => ?_) covers
  have h0 : (y 0).val < 1 := (y 0).isLt
  have h1 : (y 1).val < 3 := (y 1).isLt
  have h2 : (y 2).val < 1536 := (y 2).isLt
  have hy : y = ix3 0 (⟨(y 1).val, h1⟩ : Fin 3) (⟨(y 2).val, h2⟩ : Fin 1536) := idx3 (show (y 0).val = 0 by omega) rfl rfl
  generalize (⟨(y 1).val, h1⟩ : Fin 3) = r at hy
  generalize (⟨(y 2).val, h2⟩ : Fin 1536) = n at hy
  subst hy
  exact (result_apply m c t r n).trans (congrArg (result m c) (placed t r n).symm)

end Cert.Proof.ConvState

end
-- ==== Proof.Logf.lean ====
/- The call for the forget gates: the array of their logarithms is the reference's result. -/
module

public import proofs.«01_k».proof.Proof.ProjRef
public import proofs.«01_k».proof.Proof.Gen.Kernel5Ideal.Value
public import proofs.«01_k».proof.Proof.Gen.Reference5Ideal.Read
public import Idealize.ShloMosaic.Lib.Pipeline.ValueKit
public import Idealize.ShloMosaic.Lib.Pointwise
public import Idealize.ShloMosaic.Lib.VecWindow
public import Idealize.ShloMosaic.Lib.WholeRead

@[expose] public section

set_option maxRecDepth 16384

noncomputable section

namespace Cert.Proof.Logf

open Idealize.ShloMosaic Idealize.ShloMosaic.TcCoe Idealize.SL.Sem Cert.Kernel5Ideal Cert.Kernel5Ideal.Gen
open Idealize.ShloMosaic.Tactic
open Cert.Proof.ProjRef (idx2 idx3)

/-! ## The logarithm of the logistic function, two ways -/

/-- As the kernel takes it: the smaller of `y` and zero, less a correction. -/
def gate (y : EReal) : EReal := min y 0 - Ideal.log1p (Ideal.exp (0 - max y (-y)))

/-- The correction is a real number. -/
theorem correction_real (z : EReal) (h : z ≠ ⊤) : ∃ l : ℝ, Ideal.log1p (Ideal.exp z) = (l : EReal) := by
  have key : ∀ e : ℝ, 0 ≤ e → ∃ l : ℝ, Ideal.log1p ((e : ℝ) : EReal) = (l : EReal) := fun e he => by
    refine ⟨Real.log (1 + e), ?_⟩
    have h1 : (1 : EReal) + ((e : ℝ) : EReal) = ((1 + e : ℝ) : EReal) := by push_cast; rfl
    unfold Ideal.log1p
    rw [h1]
    show (if (1 + e : ℝ) ≤ 0 then (⊥ : EReal) else (Real.log (1 + e) : EReal)) = _
    rw [if_neg (by linarith)]
  induction z using EReal.rec with
  | bot => exact key 0 le_rfl
  | top => exact absurd rfl h
  | coe r => exact key (Real.exp r) (Real.exp_pos r).le

theorem away_ne_top (y : EReal) : -max y (-y) ≠ ⊤ := by
  intro h
  have h' : max y (-y) = ⊥ := by rw [← neg_neg (max y (-y)), h]; rfl
  have h1 : y = ⊥ := le_bot_iff.mp (h' ▸ le_max_left y (-y))
  have h2 : -y = ⊥ := le_bot_iff.mp (h' ▸ le_max_right y (-y))
  rw [h1] at h2
  exact absurd h2 (by decide)

theorem neg_max_neg (y : EReal) : -max (-y) 0 = min y 0 := by
  rcases le_total y 0 with h | h
  · rw [max_eq_left (by simpa using EReal.neg_le_neg_iff.mpr h), min_eq_left h, neg_neg]
  · rw [max_eq_right (by simpa using EReal.neg_le_neg_iff.mpr h), min_eq_right h, neg_zero]

/-- As the reference takes it: the negation of the softplus of `-y`. -/
theorem gate_eq (y : EReal) : -(max (-y) 0 + Ideal.log1p (Ideal.exp (-max (-y) y))) = gate y := by
  obtain ⟨l, hl⟩ := correction_real _ (away_ne_top y)
  unfold gate
  rw [zero_sub, max_comm (-y) y, hl, EReal.neg_add (.inr (EReal.coe_ne_top l)) (.inr (EReal.coe_ne_bot l)), neg_max_neg]

/-! ## The stored value, entry by entry -/

theorem stored_apply (x : Vec Ideal S1x2064x128 .f32) (b : Vec Ideal S1x128 .f32) (r : Fin 2064) (n : Fin 128) :
    k0_pay3 x b (ix3 0 r n) = gate (x (ix3 0 r n) + b (ix2 0 n)) := by
  unfold k0_pay3 k0_pay2 gate
  pointwise []
  rfl

/-! ## Where the blocks lie -/

theorem place0 : ∀ t : Fin cfg0.N, win0_0.index t = ![t.val, 0, 0] := (by decide +kernel : ∀ t : Fin grid0.N, _)
theorem place1 : ∀ t : Fin cfg0.N, win0_1.index t = ![0, 0] := (by decide +kernel : ∀ t : Fin grid0.N, _)
theorem place2 : ∀ t : Fin cfg0.N, win0_2.index t = ![t.val, 0, 0] := (by decide +kernel : ∀ t : Fin grid0.N, _)
theorem flush2 : ∀ t : Fin cfg0.N, (cfg0.win 2).flush t = true := (by decide +kernel : ∀ t : Fin grid0.N, _)

variable (m : (ℓ : Loc nD τ sig) → Buf (Elt Ideal) ℓ) (c : Dev nD)

abbrev a0 : Vec Ideal S8x2064x128 .f32 := m ((c : Thread nD τ).loc main_arg0)
abbrev a1 : Vec Ideal S1x128 .f32 := m ((c : Thread nD τ).loc main_arg1)

/-- The sequence a point works on. -/
abbrev seq (t : Fin cfg0.N) : Fin 8 := t

/-- An entry of a sequence's block, in the array of all. -/
theorem seq_entry (t : Fin cfg0.N) (r : Fin 2064) (n : Fin 128) (i : S8x2064x128.Idx) {X : Fin 3 → ℕ} (h : X = ![t.val, 0, 0])
    (h0 : (i 0).val = X 0 * 1 + 1 * 0) (h1 : (i 1).val = X 1 * 2064 + 1 * r.val) (h2 : (i 2).val = X 2 * 128 + 1 * n.val) : i = ix3 (seq t) r n := by
  subst h
  exact idx3 (h0.trans (show t.val * 1 + 1 * 0 = t.val by omega)) (h1.trans (show 0 * 2064 + 1 * r.val = r.val by omega))
    (h2.trans (show 0 * 128 + 1 * n.val = n.val by omega))

theorem bias_entry (n : Fin 128) (i : S1x128.Idx) {X : Fin 2 → ℕ} (h : X = ![0, 0])
    (h0 : (i 0).val = X 0 * 1 + 1 * 0) (h1 : (i 1).val = X 1 * 128 + 1 * n.val) : i = ix2 0 n := by
  subst h
  exact idx2 (h0.trans (show 0 * 1 + 1 * 0 = 0 by omega)) (h1.trans (show 0 * 128 + 1 * n.val = n.val by omega))

theorem block0 (t : Fin cfg0.N) (r : Fin 2064) (n : Fin 128) : iblk m c 0 t (ix3 0 r n) = a0 m c (ix3 (seq t) r n) :=
  congrArg (a0 m c) (seq_entry t r n (((cfg0.win 0).blk t).view.emb (ix3 0 r n)) (place0 t) rfl rfl rfl)

theorem block1 (t : Fin cfg0.N) (n : Fin 128) : iblk m c 1 t (ix2 0 n) = a1 m c (ix2 0 n) :=
  congrArg (a1 m c) (bias_entry n (((cfg0.win 1).blk t).view.emb (ix2 0 n)) (place1 t) rfl rfl)

/-! ## The array -/

/-- A load of a sequence's whole block. -/
theorem seq_load {M : Memref sig .tc .vmem S1x2064x128 .f32} (h : M.IsWhole) (x : Vec Ideal S1x2064x128 .f32)
    (inb : ∀ a, (![0, 0, 0] : Fin 3 → ℕ) a + S1x2064x128.size a ≤ S1x2064x128.size a) :
    M.view.readAt (Elt Ideal) (Rect.unit (s := S1x2064x128) ![0, 0, 0] S1x2064x128.size inb).toLoadRect (h.unread x) = x :=
  funext fun y => (h.readAt_unread x _ y).trans (congrArg x
    (idx3 (show 0 + 1 * (y 0).val = (y 0).val by omega) (show 0 + 1 * (y 1).val = (y 1).val by omega) (show 0 + 1 * (y 2).val = (y 2).val by omega)))

/-- A load of the whole bias. -/
theorem bias_load {M : Memref sig .tc .vmem S1x128 .f32} (h : M.IsWhole) (x : Vec Ideal S1x128 .f32)
    (inb : ∀ a, (![0, 0] : Fin 2 → ℕ) a + S1x128.size a ≤ S1x128.size a) :
    M.view.readAt (Elt Ideal) (Rect.unit (s := S1x128) ![0, 0] S1x128.size inb).toLoadRect (h.unread x) = x :=
  funext fun y => (h.readAt_unread x _ y).trans (congrArg x
    (idx2 (show 0 + 1 * (y 0).val = (y 0).val by omega) (show 0 + 1 * (y 1).val = (y 1).val by omega)))

theorem pay_congr {x x' : Vec Ideal S1x2064x128 .f32} {b b' : Vec Ideal S1x128 .f32} (hx : x = x') (hb : b = b') : k0_pay3 x b = k0_pay3 x' b' := by
  subst hx hb; rfl

/-- What the body leaves in the first output's block. -/
theorem body_eq (i : grid0.Coords) (arg1 : Memref sig .tc .vmem S1x2064x128 .f32) (harg1 : arg1.IsWhole) (arg2 : Memref sig .tc .vmem S1x128 .f32) (harg2 : arg2.IsWhole)
    (arg3 : Memref sig .tc .vmem S1x2064x128 .f32) (harg3 : arg3.IsWhole) (arg4 : Memref sig .tc .vmem S1x2304x128 .f32) (harg4 : arg4.IsWhole)
    (arg5 : Memref sig .tc .vmem S2304x128 .f32) (harg5 : arg5.IsWhole) (x0 : Vec Ideal S1x2064x128 .f32) (x1 : Vec Ideal S1x128 .f32) :
    out0_A_2 c i arg1 harg1 arg2 harg2 arg3 harg3 arg4 harg4 arg5 harg5 x0 x1 = k0_pay3 x0 x1 := by
  unfold out0_A_2
  refine (View.read_writes_full (Val := Elt Ideal) VO0_2 _ _ _ _).trans ?_
  exact pay_congr (seq_load harg1 x0 _) (bias_load harg2 x1 _)

/-- The reference's result, entry by entry. -/
theorem entry (x0 : Vec Ideal S8x2064x128 .f32) (x1 : Vec Ideal S1x128 .f32) (s : Fin 8) (r : Fin 2064) (n : Fin 128) :
    Cert.Reference5Ideal.Read.val_main_v4 (F := Ideal) x0 x1 (ix3 s r n) = gate (x0 (ix3 s r n) + x1 (ix2 0 n)) := by
  have hy : Cert.Reference5Ideal.Read.val_main_v3 (F := Ideal) x0 x1 (ix3 s r n) = x0 (ix3 s r n) + x1 (ix2 0 n) := by
    rw [Cert.Reference5Ideal.Read.val_main_v3_apply, Cert.Reference5Ideal.Read.val_main_v2_apply, Cert.Reference5Ideal.Read.val_main_v1_apply,
      Cert.Reference5Ideal.Read.val_main_v0_apply]
    exact congrArg (fun i => x0 (ix3 s r n) + x1 i) (idx2 rfl (show n.val % 128 = n.val by omega))
  rw [← gate_eq, ← hy]
  generalize hY : Cert.Reference5Ideal.Read.val_main_v3 (F := Ideal) x0 x1 (ix3 s r n) = Y
  have h0 : Cert.Reference5Ideal.Read.val_main_call0_v0 (F := Ideal) x0 x1 (ix3 s r n) = -Y := by
    rw [Cert.Reference5Ideal.Read.val_main_call0_v0_apply, hY]; rfl
  have hz : (FloatOps.ofBits (F := Ideal) .f32 0x00000000#32 : EReal) = 0 := by simp
  have hd : Cert.Reference5Ideal.Read.val_main_call0_call0_v3 (F := Ideal) x0 x1 (ix3 s r n) = -Y := by
    rw [Cert.Reference5Ideal.Read.val_main_call0_call0_v3_apply, h0, Cert.Reference5Ideal.Read.val_main_call0_call0_v2_apply,
      Cert.Reference5Ideal.Read.val_main_call0_call0_cst_apply, hz]
    exact sub_zero (-Y)
  have hs : Cert.Reference5Ideal.Read.val_main_call0_call0_v4 (F := Ideal) x0 x1 (ix3 s r n) = 0#1 := by
    rw [Cert.Reference5Ideal.Read.val_main_call0_call0_v4_apply, hd]
    show BitVec.ofBool (decide (-Y ≠ -Y)) = 0#1
    simp
  rw [Cert.Reference5Ideal.Read.val_main_v4_apply, Cert.Reference5Ideal.Read.val_main_call0_v1_apply, hs,
    Cert.Reference5Ideal.Read.val_main_call0_call0_v11_apply, Cert.Reference5Ideal.Read.val_main_call0_call0_v1_apply, h0,
    Cert.Reference5Ideal.Read.val_main_call0_call0_v0_apply, Cert.Reference5Ideal.Read.val_main_call0_call0_cst_apply, hz,
    Cert.Reference5Ideal.Read.val_main_call0_call0_v10_apply, Cert.Reference5Ideal.Read.val_main_call0_call0_v9_apply,
    Cert.Reference5Ideal.Read.val_main_call0_call0_v8_apply, Cert.Reference5Ideal.Read.val_main_call0_call0_v7_apply, hd]
  show -(max (-Y) 0 + Ideal.log1p (Ideal.exp (-max (-Y) (- -Y)))) = _
  rw [neg_neg]

/-- The reference's result at the arrays. -/
abbrev result : Vec Ideal S8x2064x128 .f32 := Cert.Reference5Ideal.Read.val_main_v4 (F := Ideal) (a0 m c) (a1 m c)

/-- What a point leaves in its block. -/
theorem out_eq (t : Fin cfg0.N) : (dats m 0 c).after 2 t = k0_pay3 (iblk m c 0 t) (iblk m c 1 t) := by
  rw [after0_2]
  unfold outsAt0
  dsimp only
  exact body_eq c _ _ _ _ _ _ _ _ _ _ _ _ _

/-- What a point leaves in its block is its part of the result. -/
theorem result_apply (t : Fin cfg0.N) (r : Fin 2064) (n : Fin 128) :
    (dats m 0 c).after 2 t (ix3 0 r n) = result m c (ix3 (seq t) r n) := by
  refine (congrFun (out_eq m c t) (ix3 0 r n)).trans ?_
  refine (stored_apply _ _ r n).trans ?_
  rw [block0, block1]
  exact (entry (a0 m c) (a1 m c) (seq t) r n).symm

/-- Where an entry of the output's block lies. -/
theorem placed (t : Fin cfg0.N) (r : Fin 2064) (n : Fin 128) : ((cfg0.win 2).blk t).view.emb (ix3 0 r n) = ix3 (seq t) r n :=
  seq_entry t r n _ (place2 t) rfl rfl rfl

/-- The blocks cover the array. -/
theorem covers (i : S8x2064x128.Idx) : ∃ t : Fin cfg0.N, (cfg0.win 2).flush t = true ∧ i ∈ ((cfg0.win 2).blk t).view.set := by
  have h0 : (i 0).val < 8 := (i 0).isLt
  have h1 : (i 1).val < 2064 := (i 1).isLt
  have h2 : (i 2).val < 128 := (i 2).isLt
  refine ⟨(⟨(i 0).val, h0⟩ : Fin 8), flush2 _, ?_⟩
  have e : i = ix3 (seq (⟨(i 0).val, h0⟩ : Fin 8)) ⟨(i 1).val, h1⟩ ⟨(i 2).val, h2⟩ := idx3 rfl rfl rfl
  have e' := e.trans (placed (⟨(i 0).val, h0⟩ : Fin 8) ⟨(i 1).val, h1⟩ ⟨(i 2).val, h2⟩).symm
  exact (congrArg (fun x => x ∈ ((cfg0.win 2).blk (⟨(i 0).val, h0⟩ : Fin 8)).view.set) e').mpr (View.emb_mem_set _ _)

/-- The array the call leaves is the reference's result. -/
theorem array : (dats m 0 c).arrAt 2 cfg0.N = result m c := by
  refine (dats m 0 c).arrAt_eq_of_emb 2 _ (fun t hf (y : S1x2064x128.Idx) => ?_) covers
  have h0 : (y 0).val < 1 := (y 0).isLt
  have h1 : (y 1).val < 2064 := (y 1).isLt
  have h2 : (y 2).val < 128 := (y 2).isLt
  have hy : y = ix3 0 (⟨(y 1).val, h1⟩ : Fin 2064) (⟨(y 2).val, h2⟩ : Fin 128) := idx3 (show (y 0).val = 0 by omega) rfl rfl
  generalize (⟨(y 1).val, h1⟩ : Fin 2064) = r at hy
  generalize (⟨(y 2).val, h2⟩ : Fin 128) = n at hy
  subst hy
  exact (result_apply m c t r n).trans (congrArg (result m c) (placed t r n).symm)

end Cert.Proof.Logf

end
-- ==== Proof.lean ====
module

public import proofs.«01_k».proof.Defs
public import proofs.«01_k».proof.Proof.Gen.Kernel3.Flash.Runs
public import proofs.«01_k».proof.Proof.Gen.Kernel3Ideal.Flash.Runs
public import proofs.«01_k».proof.Proof.Gen.Kernel3Ideal.Launch
public import proofs.«01_k».proof.Proof.Gen.Reference3Ideal.Read
public import proofs.«01_k».proof.Proof.Gen.Reference3Ideal.Run
public import proofs.«01_k».proof.Proof.Gen.Pre_routed
public import proofs.«01_k».proof.Proof.MoeRun
public import proofs.«01_k».proof.Proof.MoeRunBits
public import proofs.«01_k».proof.Proof.MoeValue
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Cover
public import proofs.«01_k».proof.Proof.Proj
public import proofs.«01_k».proof.Proof.Combine
public import proofs.«01_k».proof.Proof.Gen.Kernel9
public import proofs.«01_k».proof.Proof.Gen.Kernel9Ideal
public import proofs.«01_k».proof.Proof.Gen.Kernel9Ideal.Value
public import proofs.«01_k».proof.Proof.Gen.Kernel9.Frame
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.Gen.Pre_finite_keys
public import proofs.«01_k».proof.Proof.Keys
public import proofs.«01_k».proof.Proof.CombineSample
public import proofs.«01_k».proof.Proof.ProjSample
public import proofs.«01_k».proof.Proof.ConvState
public import proofs.«01_k».proof.Proof.Logf
public import proofs.«01_k».proof.Proof.Gen.Kernel2
public import proofs.«01_k».proof.Proof.Gen.Kernel2Ideal
public import proofs.«01_k».proof.Proof.Gen.Reference2Ideal
public import proofs.«01_k».proof.Proof.Gen.Kernel4
public import proofs.«01_k».proof.Proof.Gen.Kernel4Ideal
public import proofs.«01_k».proof.Proof.Gen.Kernel4Ideal.Value
public import proofs.«01_k».proof.Proof.Gen.Kernel4.Frame
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal
public import proofs.«01_k».proof.Proof.Gen.Kernel5Ideal.Value
public import proofs.«01_k».proof.Proof.Gen.Kernel5.Frame
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6Ideal
public import proofs.«01_k».proof.Proof.Gen.Kernel6Ideal.Value
public import proofs.«01_k».proof.Proof.Gen.Kernel6.Frame
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7Ideal
public import proofs.«01_k».proof.Proof.Gen.Kernel7Ideal.Value
public import proofs.«01_k».proof.Proof.Gen.Kernel7.Frame
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8Ideal
public import proofs.«01_k».proof.Proof.Gen.Kernel8Ideal.Value
public import proofs.«01_k».proof.Proof.Gen.Kernel8.Frame
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import Idealize.ShloMosaic.Lib.Quiescent
public import Idealize.ShloMosaic.Adequacy
public import Idealize.ShloMosaic.Init

@[expose] public section

noncomputable section

namespace Cert.Proof

open Idealize.ShloMosaic Idealize.SL.Sem

/-- The reference leaves its arguments and has no semaphore to leave. -/
theorem reference_frame : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run (F := Ideal) m g)

/-- The two programs on equal arguments leave equal results. -/
theorem algebra : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  refine ⟨fun c => Attn.result m c, ?_, ?_⟩
  · refine (θ_run _ _ _).mono (fun r h c => ⟨(h c).1.trans ?_, (h c).2⟩) (Cert.KernelIdeal.Value.run_blocks (F := Ideal) m g)
    have hr := @Ref.real_of_pre Cert.Pre_finite.Gen.facts _ _ _ (hpre c).1 (hpre c).2
    exact Attn.array_eq m c hr.1 hr.2
  · refine (θ_run _ _ _).mono (fun r h c => ⟨(h c).1.trans ?_, (h c).2⟩) (Cert.ReferenceIdeal.Value.run (F := Ideal) m' g')
    rw [Cert.ReferenceIdeal.Read.val_main_v29_eq, (hargs c).1, (hargs c).2.1, (hargs c).2.2]

/-- The same of the projection's reference. -/
theorem projection_frame : Cert.quiescent_Reference2Ideal (hReference2Ideal := Cert.Reference2Ideal.Gen.facts) := fun m g _ =>
  (θ_run _ _ _).mono (fun r h => ⟨fun c => (h c).2.2.2.2.2.2.2.2, sem_eq_zero_of_no_sems (by decide) r.2⟩) (Cert.Reference2Ideal.Value.run (F := Ideal) m g)

/-- The two projections on equal arguments leave equal results. -/
theorem projection : Cert.algebraic_Kernel2Ideal_Reference2Ideal (hKernel2Ideal := Cert.Kernel2Ideal.Gen.facts)
    (hReference2Ideal := Cert.Reference2Ideal.Gen.facts) := by
  intro m g m' g' _ hargs
  refine ⟨fun c => Cert.Reference2Ideal.Read.val_main_v20 (F := Ideal) (Proj.a0 m c) (Proj.a1 m c) (Proj.a2 m c) (Proj.a3 m c),
    fun c => Cert.Reference2Ideal.Read.val_main_v21 (F := Ideal) (Proj.a0 m c) (Proj.a1 m c) (Proj.a2 m c) (Proj.a3 m c),
    fun c => Cert.Reference2Ideal.Read.val_main_v24 (F := Ideal) (Proj.a0 m c) (Proj.a1 m c) (Proj.a2 m c) (Proj.a3 m c),
    fun c => Cert.Reference2Ideal.Read.val_main_v25 (F := Ideal) (Proj.a0 m c) (Proj.a1 m c) (Proj.a2 m c) (Proj.a3 m c),
    fun c => Cert.Reference2Ideal.Read.val_main_v26 (F := Ideal) (Proj.a0 m c) (Proj.a1 m c) (Proj.a2 m c) (Proj.a3 m c),
    fun c => Cert.Reference2Ideal.Read.val_main_v28 (F := Ideal) (Proj.a0 m c) (Proj.a1 m c) (Proj.a2 m c) (Proj.a3 m c),
    fun c => Cert.Reference2Ideal.Read.val_main_v29 (F := Ideal) (Proj.a0 m c) (Proj.a1 m c) (Proj.a2 m c) (Proj.a3 m c),
    fun c => Cert.Reference2Ideal.Read.val_main_v31 (F := Ideal) (Proj.a0 m c) (Proj.a1 m c) (Proj.a2 m c) (Proj.a3 m c), ?_, ?_⟩
  · refine (θ_run _ _ _).mono (fun r h c => ?_) (Cert.Kernel2Ideal.Value.run_blocks (F := Ideal) m g)
    obtain ⟨h4, h5, h6, h7, h8, h9, h10, h11, hk⟩ := h c
    exact ⟨h4.trans (Proj.array4 m c), h5.trans (Proj.array5 m c), h6.trans (Proj.array6 m c), h7.trans (Proj.array7 m c),
      h8.trans (Proj.array8 m c), h9.trans (Proj.array9 m c), h10.trans (Proj.array10 m c), h11.trans (Proj.array11 m c), hk⟩
  · refine (θ_run _ _ _).mono (fun r h c => ?_) (Cert.Reference2Ideal.Value.run (F := Ideal) m' g')
    obtain ⟨h0, h1, h2, h3, h4, h5, h6, h7, hk⟩ := h c
    obtain ⟨e0, e1, e2, e3⟩ := hargs c
    refine ⟨h0.trans ?_, h1.trans ?_, h2.trans ?_, h3.trans ?_, h4.trans ?_, h5.trans ?_, h6.trans ?_, h7.trans ?_, hk⟩
    · rw [Cert.Reference2Ideal.Read.val_main_v20_eq, e0, e1, e2, e3]
    · rw [Cert.Reference2Ideal.Read.val_main_v21_eq, e0, e1, e2, e3]
    · rw [Cert.Reference2Ideal.Read.val_main_v24_eq, e0, e1, e2, e3]
    · rw [Cert.Reference2Ideal.Read.val_main_v25_eq, e0, e1, e2, e3]
    · rw [Cert.Reference2Ideal.Read.val_main_v26_eq, e0, e1, e2, e3]
    · rw [Cert.Reference2Ideal.Read.val_main_v28_eq, e0, e1, e2, e3]
    · rw [Cert.Reference2Ideal.Read.val_main_v29_eq, e0, e1, e2, e3]
    · rw [Cert.Reference2Ideal.Read.val_main_v31_eq, e0, e1, e2, e3]

/-- The same of the experts' reference. -/
theorem experts_frame : Cert.quiescent_Reference3Ideal (hReference3Ideal := Cert.Reference3Ideal.Gen.facts) := fun m g _ =>
  (θ_run _ _ _).mono (fun r h => ⟨fun c => (h c).2, sem_eq_zero_of_no_sems (by decide) r.2⟩) (Cert.Reference3Ideal.Value.run (F := Ideal) m g)

/-- The experts' call and its reference on equal arguments, the tables in their ranges, leave equal results. -/
theorem experts : Cert.algebraic_Kernel3Ideal_Reference3Ideal (hKernel3Ideal := Cert.Kernel3Ideal.Gen.facts)
    (hReference3Ideal := Cert.Reference3Ideal.Gen.facts) (hPre_routed := Cert.Pre_routed.Gen.facts) := by
  intro m g m' g' hpre hargs
  obtain ⟨ch, hp⟩ := Cert.Kernel3Ideal.Moe.pinned_of_pre m hpre
  refine ⟨fun c => Cert.Kernel3Ideal.Moe.result ch m c, ?_, ?_⟩
  · refine (θ_run _ _ _).mono (fun r h c => ⟨?_, h.2 c⟩) (θ_run_and (Cert.Kernel3Ideal.Moe.run_main ch m g hp) (Cert.Kernel3Ideal.Moe.unchanged ch m g hp))
    exact ((h.1 c).1 (7 : Fin 8)).trans (Cert.Kernel3Ideal.Moe.array ch m g c)
  · refine (θ_run _ _ _).mono (fun r h c => ⟨(h c).1.trans ?_, (h c).2⟩) (Cert.Reference3Ideal.Value.run (F := Ideal) m' g')
    obtain ⟨e0, e1, e2, e3, e4, e5, e6, e7, e8⟩ := hargs c
    rw [Cert.Reference3Ideal.Read.val_main_v73_eq, e0, e1, e2, e3, e4, e5, e6, e7, e8, hp.1 c, hp.2 c]

/-- The same of the reference for the experts' rows added to the stream. -/
theorem combine_frame : Cert.quiescent_Reference4Ideal (hReference4Ideal := Cert.Reference4Ideal.Gen.facts) := fun m g _ =>
  (θ_run _ _ _).mono (fun r h => ⟨fun c => (h c).2, sem_eq_zero_of_no_sems (by decide) r.2⟩) (Cert.Reference4Ideal.Value.run (F := Ideal) m g)

/-- The call that adds the experts' rows to the stream and its reference on equal arguments leave equal results. -/
theorem combine : Cert.algebraic_Kernel4Ideal_Reference4Ideal (hKernel4Ideal := Cert.Kernel4Ideal.Gen.facts)
    (hReference4Ideal := Cert.Reference4Ideal.Gen.facts) := by
  intro m g m' g' _ hargs
  refine ⟨fun c => Combine.result m c, ?_, ?_⟩
  · exact (θ_run _ _ _).mono (fun r h c => ⟨(h c).1.trans (Combine.array m c), (h c).2⟩) (Cert.Kernel4Ideal.Value.run_blocks (F := Ideal) m g)
  · refine (θ_run _ _ _).mono (fun r h c => ⟨(h c).1.trans ?_, (h c).2⟩) (Cert.Reference4Ideal.Value.run (F := Ideal) m' g')
    obtain ⟨e0, e1, e2⟩ := hargs c
    rw [Cert.Reference4Ideal.Read.val_main_v3_eq, e0, e1, e2]

/-- The same of the gates' reference. -/
theorem gates_frame : Cert.quiescent_Reference5Ideal (hReference5Ideal := Cert.Reference5Ideal.Gen.facts) := fun m g _ =>
  (θ_run _ _ _).mono (fun r h => ⟨fun c => (h c).2, sem_eq_zero_of_no_sems (by decide) r.2⟩) (Cert.Reference5Ideal.Value.run (F := Ideal) m g)

/-- The gates' call and its reference on equal arguments leave equal results. -/
theorem gates : Cert.algebraic_Kernel5Ideal_Reference5Ideal (hKernel5Ideal := Cert.Kernel5Ideal.Gen.facts)
    (hReference5Ideal := Cert.Reference5Ideal.Gen.facts) := by
  intro m g m' g' _ hargs
  refine ⟨fun c => Logf.result m c, ?_, ?_⟩
  · exact (θ_run _ _ _).mono (fun r h c => ⟨(h c).1.trans (Logf.array m c), (h c).2.2⟩) (Cert.Kernel5Ideal.Value.run_blocks (F := Ideal) m g)
  · refine (θ_run _ _ _).mono (fun r h c => ⟨(h c).1.trans ?_, (h c).2⟩) (Cert.Reference5Ideal.Value.run (F := Ideal) m' g')
    obtain ⟨e0, e1⟩ := hargs c
    rw [Cert.Reference5Ideal.Read.val_main_v4_eq, e0, e1]

/-- The same of the reference for the sample group's rows. -/
theorem combine_sample_frame : Cert.quiescent_Reference6Ideal (hReference6Ideal := Cert.Reference6Ideal.Gen.facts) := fun m g _ =>
  (θ_run _ _ _).mono (fun r h => ⟨fun c => (h c).2, sem_eq_zero_of_no_sems (by decide) r.2⟩) (Cert.Reference6Ideal.Value.run (F := Ideal) m g)

/-- The call that adds the experts' rows to the sample group's stream and its reference on equal arguments leave equal results. -/
theorem combine_sample : Cert.algebraic_Kernel6Ideal_Reference6Ideal (hKernel6Ideal := Cert.Kernel6Ideal.Gen.facts)
    (hReference6Ideal := Cert.Reference6Ideal.Gen.facts) := by
  intro m g m' g' _ hargs
  refine ⟨fun c => CombineSample.result m c, ?_, ?_⟩
  · exact (θ_run _ _ _).mono (fun r h c => ⟨(h c).1.trans (CombineSample.array m c), (h c).2⟩) (Cert.Kernel6Ideal.Value.run_blocks (F := Ideal) m g)
  · refine (θ_run _ _ _).mono (fun r h c => ⟨(h c).1.trans ?_, (h c).2⟩) (Cert.Reference6Ideal.Value.run (F := Ideal) m' g')
    obtain ⟨e0, e1, e2⟩ := hargs c
    rw [Cert.Reference6Ideal.Read.val_main_v3_eq, e0, e1, e2]

/-- The same of the reference for the sample group's values. -/
theorem values_sample_frame : Cert.quiescent_Reference7Ideal (hReference7Ideal := Cert.Reference7Ideal.Gen.facts) := fun m g _ =>
  (θ_run _ _ _).mono (fun r h => ⟨fun c => (h c).2, sem_eq_zero_of_no_sems (by decide) r.2⟩) (Cert.Reference7Ideal.Value.run (F := Ideal) m g)

/-- The projection of the sample group and its reference on equal arguments leave equal values. -/
theorem values_sample : Cert.algebraic_Kernel7Ideal_Reference7Ideal (hKernel7Ideal := Cert.Kernel7Ideal.Gen.facts)
    (hReference7Ideal := Cert.Reference7Ideal.Gen.facts) := by
  intro m g m' g' _ hargs
  refine ⟨fun c => ProjSample.result m c, ?_, ?_⟩
  · refine (θ_run _ _ _).mono (fun r h c => ?_) (Cert.Kernel7Ideal.Value.run_blocks (F := Ideal) m g)
    obtain ⟨-, -, -, -, h8, -, -, -, hk⟩ := h c
    exact ⟨h8.trans (ProjSample.array m c), hk⟩
  · refine (θ_run _ _ _).mono (fun r h c => ⟨(h c).1.trans ?_, (h c).2⟩) (Cert.Reference7Ideal.Value.run (F := Ideal) m' g')
    obtain ⟨e0, e1, e2⟩ := hargs c
    rw [Cert.Reference7Ideal.Read.val_main_v17_eq, e0, e1, e2]

/-- The same of the reference for the convolution state. -/
theorem conv_state_frame : Cert.quiescent_Reference8Ideal (hReference8Ideal := Cert.Reference8Ideal.Gen.facts) := fun m g _ =>
  (θ_run _ _ _).mono (fun r h => ⟨fun c => (h c).2, sem_eq_zero_of_no_sems (by decide) r.2⟩) (Cert.Reference8Ideal.Value.run (F := Ideal) m g)

/-- The decoding step and its reference on equal arguments leave equal convolution states. -/
theorem conv_state : Cert.algebraic_Kernel8Ideal_Reference8Ideal (hKernel8Ideal := Cert.Kernel8Ideal.Gen.facts)
    (hReference8Ideal := Cert.Reference8Ideal.Gen.facts) := by
  intro m g m' g' _ hargs
  refine ⟨fun c => ConvState.result m c, ?_, ?_⟩
  · exact (θ_run _ _ _).mono (fun r h c => ⟨(h c).2.2.1.trans (ConvState.array m c), (h c).2.2.2⟩)
      (Cert.Kernel8Ideal.Value.run_blocks (F := Ideal) m g)
  · refine (θ_run _ _ _).mono (fun r h c => ⟨(h c).1.trans ?_, (h c).2⟩) (Cert.Reference8Ideal.Value.run (F := Ideal) m' g')
    obtain ⟨e0, e1, -⟩ := hargs c
    rw [Cert.Reference8Ideal.Read.val_main_v1_eq, e0, e1]

/-- The same of the reference for the normed keys. -/
theorem keys_frame : Cert.quiescent_Reference9Ideal (hReference9Ideal := Cert.Reference9Ideal.Gen.facts) := fun m g _ =>
  (θ_run _ _ _).mono (fun r h => ⟨fun c => (h c).2, sem_eq_zero_of_no_sems (by decide) r.2⟩) (Cert.Reference9Ideal.Value.run (F := Ideal) m g)

/-- The call that prepares the attention and its reference on equal arguments, the keys finite, leave equal normed keys. -/
theorem keys : Cert.algebraic_Kernel9Ideal_Reference9Ideal_pre_finite_keys (hKernel9Ideal := Cert.Kernel9Ideal.Gen.facts)
    (hReference9Ideal := Cert.Reference9Ideal.Gen.facts) (hPre_finite_keys := Cert.Pre_finite_keys.Gen.facts) := by
  intro m g m' g' hpre hargs
  refine ⟨fun c => Keys.result m c, ?_, ?_⟩
  · refine (θ_run _ _ _).mono (fun r h c => ⟨(h c).2.2.2.1.trans ?_, (h c).2.2.2.2⟩) (Cert.Kernel9Ideal.Value.run_blocks (F := Ideal) m g)
    exact Keys.array m c (@Keys.real_of_pre Cert.Pre_finite_keys.Gen.facts _ _ _ _ _ _ (hpre c))
  · refine (θ_run _ _ _).mono (fun r h c => ⟨(h c).1.trans ?_, (h c).2⟩) (Cert.Reference9Ideal.Value.run (F := Ideal) m' g')
    obtain ⟨-, e1, -, -, -, e5⟩ := hargs c
    rw [Cert.Reference9Ideal.Read.val_main_v15_eq, e1, e5]

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Kernel7.Gen.facts, Cert.Kernel7Ideal.Gen.facts,
  Cert.Reference7Ideal.Gen.facts, Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Pre_finite.Gen.facts, Cert.Pre_routed.Gen.facts, Cert.Pre_finite_keys.Gen.facts,
  fun m g _ => Cert.Kernel.Gen.frame m g,
  fun m g _ => Cert.KernelIdeal.Gen.frame m g,
  fun m g _ => Cert.KernelIdeal.Gen.frame m g,
  reference_frame,
  fun m g _ => reference_frame m g trivial,
  fun m g _ => Cert.Kernel2.Gen.frame m g,
  fun m g _ => Cert.Kernel2Ideal.Gen.frame m g,
  projection_frame,
  fun m g h => (Cert.Kernel3.Moe.pinned_of_pre m h).elim fun ch hp => Cert.Kernel3.Moe.frame ch m g hp,
  fun m g h => (Cert.Kernel3Ideal.Moe.pinned_of_pre m h).elim fun ch hp => Cert.Kernel3Ideal.Moe.frame ch m g hp,
  experts_frame,
  fun m g _ => experts_frame m g trivial,
  fun m g _ => Cert.Kernel4.Gen.frame m g,
  fun m g _ => Cert.Kernel4Ideal.Gen.frame m g,
  combine_frame,
  fun m g _ => Cert.Kernel5.Gen.frame m g,
  fun m g _ => Cert.Kernel5Ideal.Gen.frame m g,
  gates_frame,
  fun m g _ => Cert.Kernel6.Gen.frame m g,
  fun m g _ => Cert.Kernel6Ideal.Gen.frame m g,
  combine_sample_frame,
  fun m g _ => Cert.Kernel7.Gen.frame m g,
  fun m g _ => Cert.Kernel7Ideal.Gen.frame m g,
  values_sample_frame,
  fun m g _ => Cert.Kernel8.Gen.frame m g,
  fun m g _ => Cert.Kernel8Ideal.Gen.frame m g,
  conv_state_frame,
  fun m g _ => Cert.Kernel9.Gen.frame m g,
  fun m g _ => Cert.Kernel9Ideal.Gen.frame m g,
  fun m g _ => Cert.Kernel9Ideal.Gen.frame m g,
  keys_frame,
  fun m g _ => keys_frame m g trivial,
  trivial,
  algebra,
  trivial,
  projection,
  trivial,
  experts,
  trivial,
  combine,
  trivial,
  gates,
  trivial,
  combine_sample,
  trivial,
  values_sample,
  trivial,
  conv_state,
  trivial,
  keys⟩

end Cert.Proof

end
